-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_v166) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)) (v4 : (c : Dev Cert.Kernel13Ideal.nD) → Buf (Elt Ideal) ((c.tc : Thread Cert.Kernel13Ideal.nD Cert.Kernel13Ideal.τ).loc Cert.Kernel13Ideal.main_v3_4)) (v5 : (c : Dev Cert.Kernel13Ideal.nD) → Buf (Elt Ideal) ((c.tc : Thread Cert.Kernel13Ideal.nD Cert.Kernel13Ideal.τ).loc Cert.Kernel13Ideal.main_v3_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_v3_4) = v4 c
          ∧ r.2.mem ((c.tc : Thread Cert.Kernel13Ideal.nD Cert.Kernel13Ideal.τ).loc Cert.Kernel13Ideal.main_v3_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_v57) = v2 c
          ∧ r.2.mem ((c.tc : Thread Cert.Reference13Ideal.nD Cert.Reference13Ideal.τ).loc Cert.Reference13Ideal.main_v58) = v3 c
          ∧ r.2.mem ((c.tc : Thread Cert.Reference13Ideal.nD Cert.Reference13Ideal.τ).loc Cert.Reference13Ideal.main_v59) = v4 c
          ∧ r.2.mem ((c.tc : Thread Cert.Reference13Ideal.nD Cert.Reference13Ideal.τ).loc Cert.Reference13Ideal.main_v60) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v32) = v0 c
          ∧ r.2.mem ((c.tc : Thread Cert.Reference14Ideal.nD Cert.Reference14Ideal.τ).loc Cert.Reference14Ideal.main_v33) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S8320x7168 : Shape := ⟨2, ![8320, 7168]⟩
abbrev S32x128x512 : Shape := ⟨3, ![32, 128, 512]⟩
abbrev S32x30x2048 : Shape := ⟨3, ![32, 30, 2048]⟩
abbrev S16 : Shape := ⟨1, ![16]⟩
abbrev S128 : Shape := ⟨1, ![128]⟩
abbrev S4096 : Shape := ⟨1, ![4096]⟩
abbrev S31x2048 : Shape := ⟨2, ![31, 2048]⟩
abbrev S2048 : Shape := ⟨1, ![2048]⟩
abbrev S_ : Shape := ⟨0, ![]⟩
abbrev S1 : Shape := ⟨1, ![1]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S1x112 : Shape := ⟨2, ![1, 112]⟩
abbrev S32x7168 : Shape := ⟨2, ![32, 7168]⟩
abbrev S32x1x7168 : Shape := ⟨3, ![32, 1, 7168]⟩
abbrev S1x4096 : Shape := ⟨2, ![1, 4096]⟩
abbrev S1x2048 : Shape := ⟨2, ![1, 2048]⟩
abbrev S32x1x4096 : Shape := ⟨3, ![32, 1, 4096]⟩
abbrev S1x1x7168 : Shape := ⟨3, ![1, 1, 7168]⟩
abbrev S1x128x512 : Shape := ⟨3, ![1, 128, 512]⟩
abbrev S1x30x2048 : Shape := ⟨3, ![1, 30, 2048]⟩
abbrev S1x1x4096 : Shape := ⟨3, ![1, 1, 4096]⟩
abbrev S8x1 : Shape := ⟨2, ![8, 1]⟩
abbrev S128x128 : Shape := ⟨2, ![128, 128]⟩
abbrev S1x1x128 : Shape := ⟨3, ![1, 1, 128]⟩
abbrev S1x128x128 : Shape := ⟨3, ![1, 128, 128]⟩
abbrev S8x128 : Shape := ⟨2, ![8, 128]⟩
abbrev S8 : Shape := ⟨1, ![8]⟩
abbrev S1x1x2048 : Shape := ⟨3, ![1, 1, 2048]⟩
abbrev S30x2048 : Shape := ⟨2, ![30, 2048]⟩
abbrev S1x29x2048 : Shape := ⟨3, ![1, 29, 2048]⟩
abbrev S29x2048 : Shape := ⟨2, ![29, 2048]⟩

abbrev nBuf : Space → Nat
  | .hbm => 53
  | .vmem => 26
  | .smem => 1
  | _ => 0

abbrev bufTy : (tb : Table) → Fin (tcTables nBuf tb) → BufTy
  | .hbm, ⟨0, _⟩ => ⟨S8320x7168, .f32⟩
  | .hbm, ⟨1, _⟩ => ⟨S32x128x512, .f32⟩
  | .hbm, ⟨2, _⟩ => ⟨S32x128x512, .f32⟩
  | .hbm, ⟨3, _⟩ => ⟨S32x30x2048, .f32⟩
  | .hbm, ⟨4, _⟩ => ⟨S16, .f32⟩
  | .hbm, ⟨5, _⟩ => ⟨S128, .f32⟩
  | .hbm, ⟨6, _⟩ => ⟨S128, .f32⟩
  | .hbm, ⟨7, _⟩ => ⟨S4096, .f32⟩
  | .hbm, ⟨8, _⟩ => ⟨S31x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .i32⟩
  | .hbm, ⟨13, _⟩ => ⟨S1, .i32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S1, .f32⟩
  | .hbm, ⟨23, _⟩ => ⟨S1x1, .f32⟩
  | .hbm, ⟨24, _⟩ => ⟨S1x16, .f32⟩
  | .hbm, ⟨25, _⟩ => ⟨S1x16, .f32⟩
  | .hbm, ⟨26, _⟩ => ⟨S1x16, .f32⟩
  | .hbm, ⟨27, _⟩ => ⟨S1x16, .f32⟩
  | .hbm, ⟨28, _⟩ => ⟨S1x16, .f32⟩
  | .hbm, ⟨29, _⟩ => ⟨S_, .f32⟩
  | .hbm, ⟨30, _⟩ => ⟨S1x96, .f32⟩
  | .hbm, ⟨31, _⟩ => ⟨S1x128, .f32⟩
  | .hbm, ⟨32, _⟩ => ⟨S_, .f32⟩
  | .hbm, ⟨33, _⟩ => ⟨S1x16, .f32⟩
  | .hbm, ⟨34, _⟩ => ⟨S_, .f32⟩
  | .hbm, ⟨35, _⟩ => ⟨S1x96, .f32⟩
  | .hbm, ⟨36, _⟩ => ⟨S1x128, .f32⟩
  | .hbm, ⟨37, _⟩ => ⟨S1x16, .f32⟩
  | .hbm, ⟨38, _⟩ => ⟨S_, .f32⟩
  | .hbm, ⟨39, _⟩ => ⟨S1x112, .f32⟩
  | .hbm, ⟨40, _⟩ => ⟨S1x128, .f32⟩
  | .hbm, ⟨41, _⟩ => ⟨S32x7168, .f32⟩
  | .hbm, ⟨42, _⟩ => ⟨S32x1x7168, .f32⟩
  | .hbm, ⟨43, _⟩ => ⟨S1x128, .f32⟩
  | .hbm, ⟨44, _⟩ => ⟨S1x128, .f32⟩
  | .hbm, ⟨45, _⟩ => ⟨S1x4096, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S32x1x4096, .f32⟩
  | .hbm, ⟨50, _⟩ => ⟨S32x128x512, .f32⟩
  | .hbm, ⟨51, _⟩ => ⟨S32x128x512, .f32⟩
  | .hbm, ⟨52, _⟩ => ⟨S32x30x2048, .f32⟩
  | .local _ .vmem, ⟨0, _⟩ => ⟨S1x1x7168, .f32⟩
  | .local _ .vmem, ⟨1, _⟩ => ⟨S1x1x7168, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x30x2048, .f32⟩
  | .local _ .vmem, ⟨7, _⟩ => ⟨S1x30x2048, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x4096, .f32⟩
  | .local _ .vmem, ⟨14, _⟩ => ⟨S31x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x1x4096, .f32⟩
  | .local _ .vmem, ⟨19, _⟩ => ⟨S1x1x4096, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x30x2048, .f32⟩
  | .local _ .vmem, ⟨25, _⟩ => ⟨S1x30x2048, .f32⟩
  | .local _ .smem, ⟨0, _⟩ => ⟨S16, .f32⟩
  | _, _ => ⟨S8320x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v30_2 : Ref sig .tc := ⟨.hbm, 51, rfl⟩
abbrev main_v30_3 : Ref sig .tc := ⟨.hbm, 52, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x30x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S31x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x30x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S8320x7168 : Shape := ⟨2, ![8320, 7168]⟩
abbrev S32x128x512 : Shape := ⟨3, ![32, 128, 512]⟩
abbrev S32x30x2048 : Shape := ⟨3, ![32, 30, 2048]⟩
abbrev S16 : Shape := ⟨1, ![16]⟩
abbrev S128 : Shape := ⟨1, ![128]⟩
abbrev S4096 : Shape := ⟨1, ![4096]⟩
abbrev S31x2048 : Shape := ⟨2, ![31, 2048]⟩
abbrev S2048 : Shape := ⟨1, ![2048]⟩
abbrev S1 : Shape := ⟨1, ![1]⟩
abbrev S_ : Shape := ⟨0, ![]⟩
abbrev S32x7168 : Shape := ⟨2, ![32, 7168]⟩
abbrev S32x1x7168 : Shape := ⟨3, ![32, 1, 7168]⟩
abbrev S32x128x4x128 : Shape := ⟨4, ![32, 128, 4, 128]⟩
abbrev S32x1x2048 : Shape := ⟨3, ![32, 1, 2048]⟩
abbrev S32x1x16x128 : Shape := ⟨4, ![32, 1, 16, 128]⟩
abbrev S32x1x512 : Shape := ⟨3, ![32, 1, 512]⟩
abbrev S32x1x4x128 : Shape := ⟨4, ![32, 1, 4, 128]⟩
abbrev S32x1x4096 : Shape := ⟨3, ![32, 1, 4096]⟩
abbrev S32x1x16 : Shape := ⟨3, ![32, 1, 16]⟩
abbrev S32x1x16x1 : Shape := ⟨4, ![32, 1, 16, 1]⟩
abbrev S1x1x1x128 : Shape := ⟨4, ![1, 1, 1, 128]⟩
abbrev S1x1 : Shape := ⟨2, ![1, 1]⟩
abbrev S1x16 : Shape := ⟨2, ![1, 16]⟩
abbrev S1x1x16 : Shape := ⟨3, ![1, 1, 16]⟩
abbrev S32x1x16x16 : Shape := ⟨4, ![32, 1, 16, 16]⟩
abbrev S1x1x1x16 : Shape := ⟨4, ![1, 1, 1, 16]⟩
abbrev S32x1x16x96 : Shape := ⟨4, ![32, 1, 16, 96]⟩
abbrev S32x1x4x4x128 : Shape := ⟨5, ![32, 1, 4, 4, 128]⟩
abbrev S32x1x4 : Shape := ⟨3, ![32, 1, 4]⟩
abbrev S32x1x4x1 : Shape := ⟨4, ![32, 1, 4, 1]⟩
abbrev S32x1x4x16 : Shape := ⟨4, ![32, 1, 4, 16]⟩
abbrev S32x1x4x96 : Shape := ⟨4, ![32, 1, 4, 96]⟩
abbrev S32x129x4x128 : Shape := ⟨4, ![32, 129, 4, 128]⟩
abbrev S129 : Shape := ⟨1, ![129]⟩
abbrev S1x129 : Shape := ⟨2, ![1, 129]⟩
abbrev S32x4x129x1x4 : Shape := ⟨5, ![32, 4, 129, 1, 4]⟩
abbrev S32x4x4x1x129 : Shape := ⟨5, ![32, 4, 4, 1, 129]⟩
abbrev S1x1x1x1x129 : Shape := ⟨5, ![1, 1, 1, 1, 129]⟩
abbrev S4x4 : Shape := ⟨2, ![4, 4]⟩
abbrev S4x4x1x1 : Shape := ⟨4, ![4, 4, 1, 1]⟩
abbrev S32x4x4x1 : Shape := ⟨4, ![32, 4, 4, 1]⟩
abbrev S32x4x4x1x1 : Shape := ⟨5, ![32, 4, 4, 1, 1]⟩
abbrev S1x4x4x1x1 : Shape := ⟨5, ![1, 4, 4, 1, 1]⟩
abbrev S32x4x128x4x1 : Shape := ⟨5, ![32, 4, 128, 4, 1]⟩
abbrev S1x1x4096 : Shape := ⟨3, ![1, 1, 4096]⟩
abbrev S32x31x2048 : Shape := ⟨3, ![32, 31, 2048]⟩
abbrev S1x31x2048 : Shape := ⟨3, ![1, 31, 2048]⟩
abbrev S32x2048 : Shape := ⟨2, ![32, 2048]⟩
abbrev S1x1x2048 : Shape := ⟨3, ![1, 1, 2048]⟩
abbrev S32x1 : Shape := ⟨2, ![32, 1]⟩
abbrev S32x1x1 : Shape := ⟨3, ![32, 1, 1]⟩

abbrev nBuf : Space → Nat
  | .hbm => 250
  | .vmem => 0
  | .smem => 0
  | _ => 0

abbrev hbmTy0_0 (i : Nat) : BufTy := match i % 128 with
  | 0 => ⟨S8320x7168, .f32⟩
  | 1 => ⟨S32x128x512, .f32⟩
  | 2 => ⟨S32x128x512, .f32⟩
  | 3 => ⟨S32x30x2048, .f32⟩
  | 4 => ⟨S16, .f32⟩
  | 5 => ⟨S128, .f32⟩
  | 6 => ⟨S128, .f32⟩
  | 7 => ⟨S4096, .f32⟩
  | 8 => ⟨S31x2048, .f32⟩
  | 9 => ⟨S2048, .f32⟩
  | 10 => ⟨S2048, .f32⟩
  | 11 => ⟨S2048, .f32⟩
  | 12 => ⟨S1, .i32⟩
  | 13 => ⟨S_, .i32⟩
  | 14 => ⟨S1, .i32⟩
  | 15 => ⟨S1, .i32⟩
  | 16 => ⟨S32x7168, .f32⟩
  | 17 => ⟨S32x1x7168, .f32⟩
  | 18 => ⟨S32x128x4x128, .f32⟩
  | 19 => ⟨S32x128x4x128, .f32⟩
  | 20 => ⟨S32x1x2048, .f32⟩
  | 21 => ⟨S32x1x16x128, .f32⟩
  | 22 => ⟨S32x1x512, .f32⟩
  | 23 => ⟨S32x1x4x128, .f32⟩
  | 24 => ⟨S32x1x512, .f32⟩
  | 25 => ⟨S32x1x4x128, .f32⟩
  | 26 => ⟨S32x1x4096, .f32⟩
  | 27 => ⟨S32x1x16x128, .f32⟩
  | 28 => ⟨S_, .f32⟩
  | 29 => ⟨S32x1x16, .f32⟩
  | 30 => ⟨S32x1x16x1, .f32⟩
  | 31 => ⟨S_, .f32⟩
  | 32 => ⟨S32x1x16x1, .f32⟩
  | 33 => ⟨S32x1x16x1, .f32⟩
  | 34 => ⟨S_, .f32⟩
  | 35 => ⟨S32x1x16x1, .f32⟩
  | 36 => ⟨S32x1x16x1, .f32⟩
  | 37 => ⟨S32x1x16x1, .f32⟩
  | 38 => ⟨S32x1x16x128, .f32⟩
  | 39 => ⟨S32x1x16x128, .f32⟩
  | 40 => ⟨S1x1x1x128, .f32⟩
  | 41 => ⟨S32x1x16x128, .f32⟩
  | 42 => ⟨S32x1x16x128, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S1, .f32⟩
  | 52 => ⟨S1x1, .f32⟩
  | 53 => ⟨S1x16, .f32⟩
  | 54 => ⟨S1x16, .f32⟩
  | 55 => ⟨S1x16, .f32⟩
  | 56 => ⟨S1x16, .f32⟩
  | 57 => ⟨S1x1x16, .f32⟩
  | 58 => ⟨S1x16, .f32⟩
  | 59 => ⟨S1x1x16, .f32⟩
  | 60 => ⟨S32x1x16x16, .f32⟩
  | 61 => ⟨S32x1x16x16, .f32⟩
  | 62 => ⟨S1x1x1x16, .f32⟩
  | 63 => ⟨S32x1x16x16, .f32⟩
  | 64 => ⟨S32x1x16x16, .f32⟩
  | 65 => ⟨S1x1x1x16, .f32⟩
  | 66 => ⟨S32x1x16x16, .f32⟩
  | 67 => ⟨S32x1x16x16, .f32⟩
  | 68 => ⟨S32x1x16x16, .f32⟩
  | 69 => ⟨S1x1x1x16, .f32⟩
  | 70 => ⟨S32x1x16x16, .f32⟩
  | 71 => ⟨S32x1x16x16, .f32⟩
  | 72 => ⟨S1x1x1x16, .f32⟩
  | 73 => ⟨S32x1x16x16, .f32⟩
  | 74 => ⟨S32x1x16x16, .f32⟩
  | 75 => ⟨S32x1x16x16, .f32⟩
  | 76 => ⟨S32x1x16x96, .f32⟩
  | 77 => ⟨S32x1x16x128, .f32⟩
  | 78 => ⟨S32x1x4x4x128, .f32⟩
  | 79 => ⟨S32x1x4x128, .f32⟩
  | 80 => ⟨S_, .f32⟩
  | 81 => ⟨S32x1x4, .f32⟩
  | 82 => ⟨S32x1x4x1, .f32⟩
  | 83 => ⟨S_, .f32⟩
  | 84 => ⟨S32x1x4x1, .f32⟩
  | 85 => ⟨S32x1x4x1, .f32⟩
  | 86 => ⟨S_, .f32⟩
  | 87 => ⟨S32x1x4x1, .f32⟩
  | 88 => ⟨S32x1x4x1, .f32⟩
  | 89 => ⟨S32x1x4x1, .f32⟩
  | 90 => ⟨S32x1x4x128, .f32⟩
  | 91 => ⟨S32x1x4x128, .f32⟩
  | 92 => ⟨S1x1x1x128, .f32⟩
  | 93 => ⟨S32x1x4x128, .f32⟩
  | 94 => ⟨S32x1x4x128, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S1, .f32⟩
  | 104 => ⟨S1x1, .f32⟩
  | 105 => ⟨S1x16, .f32⟩
  | 106 => ⟨S1x16, .f32⟩
  | 107 => ⟨S1x16, .f32⟩
  | 108 => ⟨S1x16, .f32⟩
  | 109 => ⟨S1x1x16, .f32⟩
  | 110 => ⟨S1x16, .f32⟩
  | 111 => ⟨S1x1x16, .f32⟩
  | 112 => ⟨S32x1x4x16, .f32⟩
  | 113 => ⟨S32x1x4x16, .f32⟩
  | 114 => ⟨S1x1x1x16, .f32⟩
  | 115 => ⟨S32x1x4x16, .f32⟩
  | 116 => ⟨S32x1x4x16, .f32⟩
  | 117 => ⟨S1x1x1x16, .f32⟩
  | 118 => ⟨S32x1x4x16, .f32⟩
  | 119 => ⟨S32x1x4x16, .f32⟩
  | 120 => ⟨S32x1x4x16, .f32⟩
  | 121 => ⟨S1x1x1x16, .f32⟩
  | 122 => ⟨S32x1x4x16, .f32⟩
  | 123 => ⟨S32x1x4x16, .f32⟩
  | 124 => ⟨S1x1x1x16, .f32⟩
  | 125 => ⟨S32x1x4x16, .f32⟩
  | 126 => ⟨S32x1x4x16, .f32⟩
  | 127 => ⟨S32x1x4x16, .f32⟩
  | _ => ⟨S8320x7168, .f32⟩

abbrev hbmTy0_1 (i : Nat) : BufTy := match i % 128 with
  | 0 => ⟨S32x1x4x96, .f32⟩
  | 1 => ⟨S32x1x4x128, .f32⟩
  | 2 => ⟨S32x129x4x128, .f32⟩
  | 3 => ⟨S32x129x4x128, .f32⟩
  | 4 => ⟨S_, .i32⟩
  | 5 => ⟨S_, .i32⟩
  | 6 => ⟨S_, .i32⟩
  | 7 => ⟨S129, .i32⟩
  | 8 => ⟨S129, .i32⟩
  | 9 => ⟨S129, .i32⟩
  | 10 => ⟨S1x1, .i32⟩
  | 11 => ⟨S1x129, .i32⟩
  | 12 => ⟨S1x129, .i32⟩
  | 13 => ⟨S1x129, .i32⟩
  | 14 => ⟨S_, .i32⟩
  | 15 => ⟨S1x129, .i32⟩
  | 16 => ⟨S1x129, .i1⟩
  | 17 => ⟨S_, .i32⟩
  | 18 => ⟨S1x129, .i32⟩
  | 19 => ⟨S1x129, .i1⟩
  | 20 => ⟨S1x129, .i1⟩
  | 21 => ⟨S32x4x129x1x4, .f32⟩
  | 22 => ⟨S32x4x4x1x129, .f32⟩
  | 23 => ⟨S_, .f32⟩
  | 24 => ⟨S32x4x4x1x129, .f32⟩
  | 25 => ⟨S32x4x4x1x129, .f32⟩
  | 26 => ⟨S1x1x1x1x129, .i1⟩
  | 27 => ⟨S_, .f32⟩
  | 28 => ⟨S_, .f32⟩
  | 29 => ⟨S32x4x4x1x129, .i1⟩
  | 30 => ⟨S32x4x4x1x129, .f32⟩
  | 31 => ⟨S32x4x4x1x129, .f32⟩
  | 32 => ⟨S4x4, .f32⟩
  | 33 => ⟨S4x4x1x1, .f32⟩
  | 34 => ⟨S_, .f32⟩
  | 35 => ⟨S32x4x4x1, .f32⟩
  | 36 => ⟨S32x4x4x1x1, .f32⟩
  | 37 => ⟨S1x4x4x1x1, .f32⟩
  | 38 => ⟨S32x4x4x1x1, .f32⟩
  | 39 => ⟨S32x4x4x1x1, .f32⟩
  | 40 => ⟨S32x4x4x1x129, .f32⟩
  | 41 => ⟨S32x4x4x1x129, .f32⟩
  | 42 => ⟨S32x4x4x1x129, .f32⟩
  | 43 => ⟨S_, .f32⟩
  | 44 => ⟨S32x4x4x1, .f32⟩
  | 45 => ⟨S32x4x4x1x1, .f32⟩
  | 46 => ⟨S1x4x4x1x1, .f32⟩
  | 47 => ⟨S32x4x4x1x1, .f32⟩
  | 48 => ⟨S32x4x4x1x1, .f32⟩
  | 49 => ⟨S32x4x4x1x1, .f32⟩
  | 50 => ⟨S32x4x4x1x1, .f32⟩
  | 51 => ⟨S32x4x4x1x129, .f32⟩
  | 52 => ⟨S32x4x4x1x129, .f32⟩
  | 53 => ⟨S32x4x128x4x1, .f32⟩
  | 54 => ⟨S32x1x4x4x128, .f32⟩
  | 55 => ⟨S32x1x2048, .f32⟩
  | 56 => ⟨S32x128x4x128, .f32⟩
  | 57 => ⟨S32x128x4x128, .f32⟩
  | 58 => ⟨S1x1x4096, .f32⟩
  | 59 => ⟨S32x1x4096, .f32⟩
  | 60 => ⟨S32x1x4096, .f32⟩
  | 61 => ⟨S32x1x2048, .f32⟩
  | 62 => ⟨S32x1x2048, .f32⟩
  | 63 => ⟨S32x1x2048, .f32⟩
  | 64 => ⟨S32x1x2048, .f32⟩
  | 65 => ⟨S_, .f32⟩
  | 66 => ⟨S32x1x2048, .f32⟩
  | 67 => ⟨S32x1x2048, .f32⟩
  | 68 => ⟨S_, .f32⟩
  | 69 => ⟨S32x1x2048, .f32⟩
  | 70 => ⟨S32x1x2048, .f32⟩
  | 71 => ⟨S32x1x2048, .f32⟩
  | 72 => ⟨S32x31x2048, .f32⟩
  | 73 => ⟨S32x30x2048, .f32⟩
  | 74 => ⟨S1x31x2048, .f32⟩
  | 75 => ⟨S32x31x2048, .f32⟩
  | 76 => ⟨S32x31x2048, .f32⟩
  | 77 => ⟨S_, .f32⟩
  | 78 => ⟨S32x2048, .f32⟩
  | 79 => ⟨S32x1x2048, .f32⟩
  | 80 => ⟨S1x1x2048, .f32⟩
  | 81 => ⟨S32x1x2048, .f32⟩
  | 82 => ⟨S32x1x2048, .f32⟩
  | 83 => ⟨S_, .f32⟩
  | 84 => ⟨S32x1, .f32⟩
  | 85 => ⟨S32x1x1, .f32⟩
  | 86 => ⟨S_, .f32⟩
  | 87 => ⟨S32x1x1, .f32⟩
  | 88 => ⟨S32x1x1, .f32⟩
  | 89 => ⟨S32x1x2048, .f32⟩
  | 90 => ⟨S32x1x2048, .f32⟩
  | 91 => ⟨S32x1x2048, .f32⟩
  | 92 => ⟨S_, .f32⟩
  | 93 => ⟨S32x1, .f32⟩
  | 94 => ⟨S32x1x1, .f32⟩
  | 95 => ⟨S_, .f32⟩
  | 96 => ⟨S32x1x1, .f32⟩
  | 97 => ⟨S32x1x1, .f32⟩
  | 98 => ⟨S_, .f32⟩
  | 99 => ⟨S32x1x1, .f32⟩
  | 100 => ⟨S32x1x1, .f32⟩
  | 101 => ⟨S32x1x1, .f32⟩
  | 102 => ⟨S32x1x2048, .f32⟩
  | 103 => ⟨S32x1x2048, .f32⟩
  | 104 => ⟨S1x1x2048, .f32⟩
  | 105 => ⟨S32x1x2048, .f32⟩
  | 106 => ⟨S32x1x2048, .f32⟩
  | 107 => ⟨S1x1x2048, .f32⟩
  | 108 => ⟨S32x1x2048, .f32⟩
  | 109 => ⟨S32x1x2048, .f32⟩
  | 110 => ⟨S32x1x2048, .f32⟩
  | 111 => ⟨S32x1x2048, .f32⟩
  | 112 => ⟨S_, .f32⟩
  | 113 => ⟨S32x1x2048, .f32⟩
  | 114 => ⟨S32x1x2048, .f32⟩
  | 115 => ⟨S_, .f32⟩
  | 116 => ⟨S32x1x2048, .f32⟩
  | 117 => ⟨S32x1x2048, .f32⟩
  | 118 => ⟨S32x1x2048, .f32⟩
  | 119 => ⟨S32x1x4096, .f32⟩
  | 120 => ⟨S32x128x512, .f32⟩
  | 121 => ⟨S32x128x512, .f32⟩
  | _ => ⟨S8320x7168, .f32⟩

abbrev hbmTy (i : Nat) : BufTy := match i / 128 with
  | 0 => hbmTy0_0 i
  | 1 => hbmTy0_1 i
  | _ => ⟨S8320x7168, .f32⟩

abbrev bufTy : (tb : Table) → Fin (tcTables nBuf tb) → BufTy
  | .hbm, ⟨i, _⟩ => hbmTy i
  | _, _ => ⟨S8320x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_4 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_7 : Ref sig .tc := ⟨.hbm, 97, rfl⟩
abbrev main_v76 : Ref sig .tc := ⟨.hbm, 98, rfl⟩
abbrev main_v77 : Ref sig .tc := ⟨.hbm, 99, rfl⟩
abbrev main_cst_8 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_c_9 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_c_10 : Ref sig .tc := ⟨.hbm, 142, rfl⟩
abbrev main_v118 : Ref sig .tc := ⟨.hbm, 143, rfl⟩
abbrev main_v119 : Ref sig .tc := ⟨.hbm, 144, rfl⟩
abbrev main_c_11 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_12 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_13 : Ref sig .tc := ⟨.hbm, 155, rfl⟩
abbrev main_call0_v0 : Ref sig .tc := ⟨.hbm, 156, rfl⟩
abbrev main_call0_v1 : Ref sig .tc := ⟨.hbm, 157, rfl⟩
abbrev main_call0_v2 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_14 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_15 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_cst_16 : Ref sig .tc := ⟨.hbm, 193, rfl⟩
abbrev main_v160 : Ref sig .tc := ⟨.hbm, 194, rfl⟩
abbrev main_v161 : Ref sig .tc := ⟨.hbm, 195, rfl⟩
abbrev main_cst_17 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_cst_18 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_19 : Ref sig .tc := ⟨.hbm, 211, rfl⟩
abbrev main_v175 : Ref sig .tc := ⟨.hbm, 212, rfl⟩
abbrev main_v176 : Ref sig .tc := ⟨.hbm, 213, rfl⟩
abbrev main_cst_20 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_cst_21 : Ref sig .tc := ⟨.hbm, 220, rfl⟩
abbrev main_v182 : Ref sig .tc := ⟨.hbm, 221, rfl⟩
abbrev main_v183 : Ref sig .tc := ⟨.hbm, 222, rfl⟩
abbrev main_cst_22 : Ref sig .tc := ⟨.hbm, 223, rfl⟩
abbrev main_v184 : Ref sig .tc := ⟨.hbm, 224, rfl⟩
abbrev main_v185 : Ref sig .tc := ⟨.hbm, 225, rfl⟩
abbrev main_cst_23 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_call1_v0 : Ref sig .tc := ⟨.hbm, 238, rfl⟩
abbrev main_call1_v1 : Ref sig .tc := ⟨.hbm, 239, rfl⟩
abbrev main_call1_cst : Ref sig .tc := ⟨.hbm, 240, rfl⟩
abbrev main_call1_v2 : Ref sig .tc := ⟨.hbm, 241, rfl⟩
abbrev main_call1_v3 : Ref sig .tc := ⟨.hbm, 242, rfl⟩
abbrev main_call1_cst_0 : Ref sig .tc := ⟨.hbm, 243, rfl⟩
abbrev main_call1_v4 : Ref sig .tc := ⟨.hbm, 244, rfl⟩
abbrev main_call1_v5 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩

abbrev nD : Nat := 1
abbrev τ : Topo := Topo.v7x

variable {F : FTy → Type} [FloatOps F]
-- ==== Kernel2.lean ====
abbrev S8320x4096 : Shape := ⟨2, ![8320, 4096]⟩
abbrev S2x2x4096x22016 : Shape := ⟨4, ![2, 2, 4096, 22016]⟩
abbrev S2x2x11008x4096 : Shape := ⟨4, ![2, 2, 11008, 4096]⟩
abbrev S8320x11008 : Shape := ⟨2, ![8320, 11008]⟩
abbrev S11008x4096 : Shape := ⟨2, ![11008, 4096]⟩
abbrev S1040x4096 : Shape := ⟨2, ![1040, 4096]⟩
abbrev S1x1x4096x256 : Shape := ⟨4, ![1, 1, 4096, 256]⟩
abbrev S1x1x32x4096 : Shape := ⟨4, ![1, 1, 32, 4096]⟩
abbrev S1040x256 : Shape := ⟨2, ![1040, 256]⟩
abbrev S32x4096 : Shape := ⟨2, ![32, 4096]⟩
abbrev S4096x512 : Shape := ⟨2, ![4096, 512]⟩
abbrev S4096x256 : Shape := ⟨2, ![4096, 256]⟩
abbrev S1040x512 : Shape := ⟨2, ![1040, 512]⟩

abbrev nBuf : Space → Nat
  | .hbm => 5
  | .vmem => 13
  | .smem => 0
  | _ => 0

abbrev bufTy : (tb : Table) → Fin (tcTables nBuf tb) → BufTy
  | .hbm, ⟨0, _⟩ => ⟨S8320x4096, .bf16⟩
  | .hbm, ⟨1, _⟩ => ⟨S2x2x4096x22016, .f32⟩
  | .hbm, ⟨2, _⟩ => ⟨S2x2x11008x4096, .f32⟩
  | .hbm, ⟨3, _⟩ => ⟨S8320x11008, .bf16⟩
  | .hbm, ⟨4, _⟩ => ⟨S11008x4096, .bf16⟩
  | .local _ .vmem, ⟨0, _⟩ => ⟨S1040x4096, .bf16⟩
  | .local _ .vmem, ⟨1, _⟩ => ⟨S1040x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x32x4096, .f32⟩
  | .local _ .vmem, ⟨7, _⟩ => ⟨S1x1x32x4096, .f32⟩
  | .local _ .vmem, ⟨8, _⟩ => ⟨S1040x256, .bf16⟩
  | .local _ .vmem, ⟨9, _⟩ => ⟨S1040x256, .bf16⟩
  | .local _ .vmem, ⟨10, _⟩ => ⟨S32x4096, .bf16⟩
  | .local _ .vmem, ⟨11, _⟩ => ⟨S32x4096, .bf16⟩
  | .local _ .vmem, ⟨12, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_2 (i : grid0.Coords) : Fin 4 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1040x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8320x4096 : Shape := ⟨2, ![8320, 4096]⟩
abbrev S2x2x4096x22016 : Shape := ⟨4, ![2, 2, 4096, 22016]⟩
abbrev S2x2x11008x4096 : Shape := ⟨4, ![2, 2, 11008, 4096]⟩
abbrev S1x1x4096x22016 : Shape := ⟨4, ![1, 1, 4096, 22016]⟩
abbrev S4096x22016 : Shape := ⟨2, ![4096, 22016]⟩
abbrev S8320x22016 : Shape := ⟨2, ![8320, 22016]⟩
abbrev S8320x11008 : Shape := ⟨2, ![8320, 11008]⟩
abbrev S_ : Shape := ⟨0, ![]⟩
abbrev S1x1x11008x4096 : Shape := ⟨4, ![1, 1, 11008, 4096]⟩
abbrev S11008x4096 : Shape := ⟨2, ![11008, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x2x4096x22016, .f32⟩
  | .hbm, ⟨2, _⟩ => ⟨S2x2x11008x4096, .f32⟩
  | .hbm, ⟨3, _⟩ => ⟨S8320x4096, .f32⟩
  | .hbm, ⟨4, _⟩ => ⟨S1x1x4096x22016, .f32⟩
  | .hbm, ⟨5, _⟩ => ⟨S4096x22016, .f32⟩
  | .hbm, ⟨6, _⟩ => ⟨S8320x22016, .f32⟩
  | .hbm, ⟨7, _⟩ => ⟨S8320x11008, .f32⟩
  | .hbm, ⟨8, _⟩ => ⟨S8320x11008, .f32⟩
  | .hbm, ⟨9, _⟩ => ⟨S8320x11008, .f32⟩
  | .hbm, ⟨10, _⟩ => ⟨S8320x11008, .f32⟩
  | .hbm, ⟨11, _⟩ => ⟨S_, .f32⟩
  | .hbm, ⟨12, _⟩ => ⟨S8320x11008, .f32⟩
  | .hbm, ⟨13, _⟩ => ⟨S8320x11008, .f32⟩
  | .hbm, ⟨14, _⟩ => ⟨S_, .f32⟩
  | .hbm, ⟨15, _⟩ => ⟨S8320x11008, .f32⟩
  | .hbm, ⟨16, _⟩ => ⟨S8320x11008, .f32⟩
  | .hbm, ⟨17, _⟩ => ⟨S8320x11008, .f32⟩
  | .hbm, ⟨18, _⟩ => ⟨S8320x11008, .f32⟩
  | .hbm, ⟨19, _⟩ => ⟨S8320x11008, .bf16⟩
  | .hbm, ⟨20, _⟩ => ⟨S1x1x11008x4096, .f32⟩
  | .hbm, ⟨21, _⟩ => ⟨S11008x4096, .f32⟩
  | .hbm, ⟨22, _⟩ => ⟨S11008x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel3.lean ====
abbrev S8320x11008 : Shape := ⟨2, ![8320, 11008]⟩
abbrev S11008x4096 : Shape := ⟨2, ![11008, 4096]⟩
abbrev S8320x4096 : Shape := ⟨2, ![8320, 4096]⟩
abbrev S8192x4096 : Shape := ⟨2, ![8192, 4096]⟩
abbrev S32x4096 : Shape := ⟨2, ![32, 4096]⟩
abbrev S520x11008 : Shape := ⟨2, ![520, 11008]⟩
abbrev S11008x512 : Shape := ⟨2, ![11008, 512]⟩
abbrev S520x512 : Shape := ⟨2, ![520, 512]⟩
abbrev S32x512 : Shape := ⟨2, ![32, 512]⟩

abbrev nBuf : Space → Nat
  | .hbm => 5
  | .vmem => 10
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .bf16⟩
  | .hbm, ⟨2, _⟩ => ⟨S8320x4096, .f32⟩
  | .hbm, ⟨3, _⟩ => ⟨S8192x4096, .f32⟩
  | .hbm, ⟨4, _⟩ => ⟨S32x4096, .f32⟩
  | .local _ .vmem, ⟨0, _⟩ => ⟨S520x11008, .bf16⟩
  | .local _ .vmem, ⟨1, _⟩ => ⟨S520x11008, .bf16⟩
  | .local _ .vmem, ⟨2, _⟩ => ⟨S11008x512, .bf16⟩
  | .local _ .vmem, ⟨3, _⟩ => ⟨S11008x512, .bf16⟩
  | .local _ .vmem, ⟨4, _⟩ => ⟨S520x512, .f32⟩
  | .local _ .vmem, ⟨5, _⟩ => ⟨S520x512, .f32⟩
  | .local _ .vmem, ⟨6, _⟩ => ⟨S520x512, .f32⟩
  | .local _ .vmem, ⟨7, _⟩ => ⟨S520x512, .f32⟩
  | .local _ .vmem, ⟨8, _⟩ => ⟨S32x512, .f32⟩
  | .local _ .vmem, ⟨9, _⟩ => ⟨S32x512, .f32⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c15_i32 : BitVec 32 := 15#32
  let v8 : BitVec 1 := Scalar.cmpi .eq arg1 c15_i32
  let v9 : BitVec 32 := Scalar.extui v8
  let c0_i32 : BitVec 32 := 0#32
  let v10 : BitVec 1 := Scalar.cmpi .ne v9 c0_i32
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S520x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S520x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S520x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8320x11008 : Shape := ⟨2, ![8320, 11008]⟩
abbrev S11008x4096 : Shape := ⟨2, ![11008, 4096]⟩
abbrev S8320x4096 : Shape := ⟨2, ![8320, 4096]⟩
abbrev S_ : Shape := ⟨0, ![]⟩
abbrev S8192x4096 : Shape := ⟨2, ![8192, 4096]⟩
abbrev S32x4096 : Shape := ⟨2, ![32, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .bf16⟩
  | .hbm, ⟨2, _⟩ => ⟨S8320x4096, .f32⟩
  | .hbm, ⟨3, _⟩ => ⟨S8320x11008, .f32⟩
  | .hbm, ⟨4, _⟩ => ⟨S11008x4096, .f32⟩
  | .hbm, ⟨5, _⟩ => ⟨S8320x4096, .f32⟩
  | .hbm, ⟨6, _⟩ => ⟨S_, .f32⟩
  | .hbm, ⟨7, _⟩ => ⟨S8320x4096, .f32⟩
  | .hbm, ⟨8, _⟩ => ⟨S8320x4096, .f32⟩
  | .hbm, ⟨9, _⟩ => ⟨S8320x4096, .f32⟩
  | .hbm, ⟨10, _⟩ => ⟨S8192x4096, .f32⟩
  | .hbm, ⟨11, _⟩ => ⟨S32x4096, .f32⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S8320x4096 : Shape := ⟨2, ![8320, 4096]⟩
abbrev S32x16384 : Shape := ⟨2, ![32, 16384]⟩
abbrev S16x512x2048 : Shape := ⟨3, ![16, 512, 2048]⟩
abbrev S16x2048x256 : Shape := ⟨3, ![16, 2048, 256]⟩
abbrev S16x1x1024 : Shape := ⟨3, ![16, 1, 1024]⟩
abbrev S16x1x256 : Shape := ⟨3, ![16, 1, 256]⟩
abbrev S32x4096 : Shape := ⟨2, ![32, 4096]⟩
abbrev S32x256 : Shape := ⟨2, ![32, 256]⟩
abbrev S32x1024 : Shape := ⟨2, ![32, 1024]⟩
abbrev S1x256x2048 : Shape := ⟨3, ![1, 256, 2048]⟩
abbrev S1x2048x256 : Shape := ⟨3, ![1, 2048, 256]⟩
abbrev S1x1x1024 : Shape := ⟨3, ![1, 1, 1024]⟩
abbrev S1x1x256 : Shape := ⟨3, ![1, 1, 256]⟩
abbrev S256x2048 : Shape := ⟨2, ![256, 2048]⟩
abbrev S32x2048 : Shape := ⟨2, ![32, 2048]⟩
abbrev S1x1024 : Shape := ⟨2, ![1, 1024]⟩
abbrev S2048x256 : Shape := ⟨2, ![2048, 256]⟩
abbrev S1x256 : Shape := ⟨2, ![1, 256]⟩

abbrev nBuf : Space → Nat
  | .hbm => 11
  | .vmem => 22
  | .smem => 0
  | _ => 0

abbrev bufTy : (tb : Table) → Fin (tcTables nBuf tb) → BufTy
  | .hbm, ⟨0, _⟩ => ⟨S8320x4096, .f32⟩
  | .hbm, ⟨1, _⟩ => ⟨S32x16384, .f32⟩
  | .hbm, ⟨2, _⟩ => ⟨S32x16384, .f32⟩
  | .hbm, ⟨3, _⟩ => ⟨S16x512x2048, .bf16⟩
  | .hbm, ⟨4, _⟩ => ⟨S16x2048x256, .bf16⟩
  | .hbm, ⟨5, _⟩ => ⟨S16x1x1024, .f32⟩
  | .hbm, ⟨6, _⟩ => ⟨S16x1x1024, .f32⟩
  | .hbm, ⟨7, _⟩ => ⟨S16x1x256, .f32⟩
  | .hbm, ⟨8, _⟩ => ⟨S32x4096, .bf16⟩
  | .hbm, ⟨9, _⟩ => ⟨S32x16384, .f32⟩
  | .hbm, ⟨10, _⟩ => ⟨S32x16384, .f32⟩
  | .local _ .vmem, ⟨0, _⟩ => ⟨S32x256, .f32⟩
  | .local _ .vmem, ⟨1, _⟩ => ⟨S32x256, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S1x256x2048, .bf16⟩
  | .local _ .vmem, ⟨7, _⟩ => ⟨S1x256x2048, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x256, .f32⟩
  | .local _ .vmem, ⟨15, _⟩ => ⟨S1x1x256, .f32⟩
  | .local _ .vmem, ⟨16, _⟩ => ⟨S32x256, .bf16⟩
  | .local _ .vmem, ⟨17, _⟩ => ⟨S32x256, .bf16⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c256_i32 : BitVec 32 := 256#32
  let c0_i32 : BitVec 32 := 0#32
  ![c256_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8320x4096 : Shape := ⟨2, ![8320, 4096]⟩
abbrev S32x16384 : Shape := ⟨2, ![32, 16384]⟩
abbrev S16x512x2048 : Shape := ⟨3, ![16, 512, 2048]⟩
abbrev S16x2048x256 : Shape := ⟨3, ![16, 2048, 256]⟩
abbrev S16x1x1024 : Shape := ⟨3, ![16, 1, 1024]⟩
abbrev S16x1x256 : Shape := ⟨3, ![16, 1, 256]⟩
abbrev S32x4096 : Shape := ⟨2, ![32, 4096]⟩
abbrev S32x16x256 : Shape := ⟨3, ![32, 16, 256]⟩
abbrev S16x256x1024 : Shape := ⟨3, ![16, 256, 1024]⟩
abbrev S16x1024x32 : Shape := ⟨3, ![16, 1024, 32]⟩
abbrev S32x16x1024 : Shape := ⟨3, ![32, 16, 1024]⟩
abbrev S16x1024 : Shape := ⟨2, ![16, 1024]⟩
abbrev S16x256 : Shape := ⟨2, ![16, 256]⟩
abbrev S1x16x1024 : Shape := ⟨3, ![1, 16, 1024]⟩
abbrev S32x16x2048 : Shape := ⟨3, ![32, 16, 2048]⟩
abbrev S16x256x32 : Shape := ⟨3, ![16, 256, 32]⟩
abbrev S1x16x256 : Shape := ⟨3, ![1, 16, 256]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S32x16384, .f32⟩
  | .hbm, ⟨2, _⟩ => ⟨S32x16384, .f32⟩
  | .hbm, ⟨3, _⟩ => ⟨S16x512x2048, .bf16⟩
  | .hbm, ⟨4, _⟩ => ⟨S16x2048x256, .bf16⟩
  | .hbm, ⟨5, _⟩ => ⟨S16x1x1024, .f32⟩
  | .hbm, ⟨6, _⟩ => ⟨S16x1x1024, .f32⟩
  | .hbm, ⟨7, _⟩ => ⟨S16x1x256, .f32⟩
  | .hbm, ⟨8, _⟩ => ⟨S32x4096, .f32⟩
  | .hbm, ⟨9, _⟩ => ⟨S32x16x256, .f32⟩
  | .hbm, ⟨10, _⟩ => ⟨S16x512x2048, .f32⟩
  | .hbm, ⟨11, _⟩ => ⟨S16x2048x256, .f32⟩
  | .hbm, ⟨12, _⟩ => ⟨S16x256x1024, .f32⟩
  | .hbm, ⟨13, _⟩ => ⟨S16x1024x32, .f32⟩
  | .hbm, ⟨14, _⟩ => ⟨S32x16x1024, .f32⟩
  | .hbm, ⟨15, _⟩ => ⟨S16x256x1024, .f32⟩
  | .hbm, ⟨16, _⟩ => ⟨S16x1024x32, .f32⟩
  | .hbm, ⟨17, _⟩ => ⟨S32x16x1024, .f32⟩
  | .hbm, ⟨18, _⟩ => ⟨S16x1024, .f32⟩
  | .hbm, ⟨19, _⟩ => ⟨S16x1024, .f32⟩
  | .hbm, ⟨20, _⟩ => ⟨S16x256, .f32⟩
  | .hbm, ⟨21, _⟩ => ⟨S32x16x1024, .f32⟩
  | .hbm, ⟨22, _⟩ => ⟨S32x16x1024, .f32⟩
  | .hbm, ⟨23, _⟩ => ⟨S1x16x1024, .f32⟩
  | .hbm, ⟨24, _⟩ => ⟨S32x16x1024, .f32⟩
  | .hbm, ⟨25, _⟩ => ⟨S32x16x1024, .f32⟩
  | .hbm, ⟨26, _⟩ => ⟨S1x16x1024, .f32⟩
  | .hbm, ⟨27, _⟩ => ⟨S32x16x1024, .f32⟩
  | .hbm, ⟨28, _⟩ => ⟨S32x16x1024, .f32⟩
  | .hbm, ⟨29, _⟩ => ⟨S32x16x1024, .f32⟩
  | .hbm, ⟨30, _⟩ => ⟨S32x16x1024, .f32⟩
  | .hbm, ⟨31, _⟩ => ⟨S1x16x1024, .f32⟩
  | .hbm, ⟨32, _⟩ => ⟨S32x16x1024, .f32⟩
  | .hbm, ⟨33, _⟩ => ⟨S32x16x1024, .f32⟩
  | .hbm, ⟨34, _⟩ => ⟨S1x16x1024, .f32⟩
  | .hbm, ⟨35, _⟩ => ⟨S32x16x1024, .f32⟩
  | .hbm, ⟨36, _⟩ => ⟨S32x16x1024, .f32⟩
  | .hbm, ⟨37, _⟩ => ⟨S32x16x1024, .f32⟩
  | .hbm, ⟨38, _⟩ => ⟨S32x16x1024, .f32⟩
  | .hbm, ⟨39, _⟩ => ⟨S32x16x2048, .f32⟩
  | .hbm, ⟨40, _⟩ => ⟨S16x256x32, .f32⟩
  | .hbm, ⟨41, _⟩ => ⟨S32x16x256, .f32⟩
  | .hbm, ⟨42, _⟩ => ⟨S1x16x256, .f32⟩
  | .hbm, ⟨43, _⟩ => ⟨S32x16x256, .f32⟩
  | .hbm, ⟨44, _⟩ => ⟨S32x16x256, .f32⟩
  | .hbm, ⟨45, _⟩ => ⟨S32x16x256, .f32⟩
  | .hbm, ⟨46, _⟩ => ⟨S32x16x256, .f32⟩
  | .hbm, ⟨47, _⟩ => ⟨S32x16x256, .f32⟩
  | .hbm, ⟨48, _⟩ => ⟨S_, .f32⟩
  | .hbm, ⟨49, _⟩ => ⟨S32x16x256, .f32⟩
  | .hbm, ⟨50, _⟩ => ⟨S32x16x256, .f32⟩
  | .hbm, ⟨51, _⟩ => ⟨S32x16x256, .f32⟩
  | .hbm, ⟨52, _⟩ => ⟨S_, .f32⟩
  | .hbm, ⟨53, _⟩ => ⟨S32x16x256, .f32⟩
  | .hbm, ⟨54, _⟩ => ⟨S32x16x256, .f32⟩
  | .hbm, ⟨55, _⟩ => ⟨S32x16x256, .f32⟩
  | .hbm, ⟨56, _⟩ => ⟨S_, .f32⟩
  | .hbm, ⟨57, _⟩ => ⟨S32x16x256, .f32⟩
  | .hbm, ⟨58, _⟩ => ⟨S32x16x256, .f32⟩
  | .hbm, ⟨59, _⟩ => ⟨S_, .f32⟩
  | .hbm, ⟨60, _⟩ => ⟨S32x16x256, .f32⟩
  | .hbm, ⟨61, _⟩ => ⟨S32x16x256, .f32⟩
  | .hbm, ⟨62, _⟩ => ⟨S32x16x256, .f32⟩
  | .hbm, ⟨63, _⟩ => ⟨S32x16x256, .bf16⟩
  | .hbm, ⟨64, _⟩ => ⟨S32x4096, .bf16⟩
  | .hbm, ⟨65, _⟩ => ⟨S32x16384, .f32⟩
  | .hbm, ⟨66, _⟩ => ⟨S32x16384, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_0 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel5.lean ====
abbrev S8320x11008 : Shape := ⟨2, ![8320, 11008]⟩
abbrev S11008x4096 : Shape := ⟨2, ![11008, 4096]⟩
abbrev S8320x4096 : Shape := ⟨2, ![8320, 4096]⟩
abbrev S2x2x4096x22016 : Shape := ⟨4, ![2, 2, 4096, 22016]⟩
abbrev S4096x22016 : Shape := ⟨2, ![4096, 22016]⟩
abbrev S520x11008 : Shape := ⟨2, ![520, 11008]⟩
abbrev S11008x512 : Shape := ⟨2, ![11008, 512]⟩
abbrev S520x512 : Shape := ⟨2, ![520, 512]⟩
abbrev S1x1x32x22016 : Shape := ⟨4, ![1, 1, 32, 22016]⟩
abbrev S32x22016 : Shape := ⟨2, ![32, 22016]⟩

abbrev nBuf : Space → Nat
  | .hbm => 6
  | .vmem => 12
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .bf16⟩
  | .hbm, ⟨2, _⟩ => ⟨S8320x4096, .f32⟩
  | .hbm, ⟨3, _⟩ => ⟨S2x2x4096x22016, .f32⟩
  | .hbm, ⟨4, _⟩ => ⟨S8320x4096, .f32⟩
  | .hbm, ⟨5, _⟩ => ⟨S4096x22016, .bf16⟩
  | .local _ .vmem, ⟨0, _⟩ => ⟨S520x11008, .bf16⟩
  | .local _ .vmem, ⟨1, _⟩ => ⟨S520x11008, .bf16⟩
  | .local _ .vmem, ⟨2, _⟩ => ⟨S11008x512, .bf16⟩
  | .local _ .vmem, ⟨3, _⟩ => ⟨S11008x512, .bf16⟩
  | .local _ .vmem, ⟨4, _⟩ => ⟨S520x512, .f32⟩
  | .local _ .vmem, ⟨5, _⟩ => ⟨S520x512, .f32⟩
  | .local _ .vmem, ⟨6, _⟩ => ⟨S1x1x32x22016, .f32⟩
  | .local _ .vmem, ⟨7, _⟩ => ⟨S1x1x32x22016, .f32⟩
  | .local _ .vmem, ⟨8, _⟩ => ⟨S520x512, .f32⟩
  | .local _ .vmem, ⟨9, _⟩ => ⟨S520x512, .f32⟩
  | .local _ .vmem, ⟨10, _⟩ => ⟨S32x22016, .bf16⟩
  | .local _ .vmem, ⟨11, _⟩ => ⟨S32x22016, .bf16⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c1_i32 : BitVec 32 := 1#32
  let c0_i32_0 : BitVec 32 := 0#32
  let c0_i32_1 : BitVec 32 := 0#32
  ![c0_i32.toNat, c1_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S520x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S520x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x22016 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S520x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x22016 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8320x11008 : Shape := ⟨2, ![8320, 11008]⟩
abbrev S11008x4096 : Shape := ⟨2, ![11008, 4096]⟩
abbrev S8320x4096 : Shape := ⟨2, ![8320, 4096]⟩
abbrev S2x2x4096x22016 : Shape := ⟨4, ![2, 2, 4096, 22016]⟩
abbrev S_ : Shape := ⟨0, ![]⟩
abbrev S1x1x4096x22016 : Shape := ⟨4, ![1, 1, 4096, 22016]⟩
abbrev S4096x22016 : Shape := ⟨2, ![4096, 22016]⟩

abbrev nBuf : Space → Nat
  | .hbm => 14
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .bf16⟩
  | .hbm, ⟨2, _⟩ => ⟨S8320x4096, .f32⟩
  | .hbm, ⟨3, _⟩ => ⟨S2x2x4096x22016, .f32⟩
  | .hbm, ⟨4, _⟩ => ⟨S8320x11008, .f32⟩
  | .hbm, ⟨5, _⟩ => ⟨S11008x4096, .f32⟩
  | .hbm, ⟨6, _⟩ => ⟨S8320x4096, .f32⟩
  | .hbm, ⟨7, _⟩ => ⟨S_, .f32⟩
  | .hbm, ⟨8, _⟩ => ⟨S8320x4096, .f32⟩
  | .hbm, ⟨9, _⟩ => ⟨S8320x4096, .f32⟩
  | .hbm, ⟨10, _⟩ => ⟨S8320x4096, .f32⟩
  | .hbm, ⟨11, _⟩ => ⟨S1x1x4096x22016, .f32⟩
  | .hbm, ⟨12, _⟩ => ⟨S4096x22016, .f32⟩
  | .hbm, ⟨13, _⟩ => ⟨S4096x22016, .bf16⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S8320x4096 : Shape := ⟨2, ![8320, 4096]⟩
abbrev S4096x22016 : Shape := ⟨2, ![4096, 22016]⟩
abbrev S2x2x11008x4096 : Shape := ⟨4, ![2, 2, 11008, 4096]⟩
abbrev S8320x11008 : Shape := ⟨2, ![8320, 11008]⟩
abbrev S11008x4096 : Shape := ⟨2, ![11008, 4096]⟩
abbrev S2080x4096 : Shape := ⟨2, ![2080, 4096]⟩
abbrev S4096x256 : Shape := ⟨2, ![4096, 256]⟩
abbrev S1x1x64x4096 : Shape := ⟨4, ![1, 1, 64, 4096]⟩
abbrev S2080x256 : Shape := ⟨2, ![2080, 256]⟩
abbrev S64x4096 : Shape := ⟨2, ![64, 4096]⟩

abbrev nBuf : Space → Nat
  | .hbm => 5
  | .vmem => 12
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .bf16⟩
  | .hbm, ⟨2, _⟩ => ⟨S2x2x11008x4096, .f32⟩
  | .hbm, ⟨3, _⟩ => ⟨S8320x11008, .bf16⟩
  | .hbm, ⟨4, _⟩ => ⟨S11008x4096, .bf16⟩
  | .local _ .vmem, ⟨0, _⟩ => ⟨S2080x4096, .bf16⟩
  | .local _ .vmem, ⟨1, _⟩ => ⟨S2080x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x1x64x4096, .f32⟩
  | .local _ .vmem, ⟨7, _⟩ => ⟨S1x1x64x4096, .f32⟩
  | .local _ .vmem, ⟨8, _⟩ => ⟨S2080x256, .bf16⟩
  | .local _ .vmem, ⟨9, _⟩ => ⟨S2080x256, .bf16⟩
  | .local _ .vmem, ⟨10, _⟩ => ⟨S64x4096, .bf16⟩
  | .local _ .vmem, ⟨11, _⟩ => ⟨S64x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c1_i32 : BitVec 32 := 1#32
  let c0_i32_0 : BitVec 32 := 0#32
  let c0_i32_1 : BitVec 32 := 0#32
  ![c0_i32.toNat, c1_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2080x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2080x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8320x4096 : Shape := ⟨2, ![8320, 4096]⟩
abbrev S4096x22016 : Shape := ⟨2, ![4096, 22016]⟩
abbrev S2x2x11008x4096 : Shape := ⟨4, ![2, 2, 11008, 4096]⟩
abbrev S8320x22016 : Shape := ⟨2, ![8320, 22016]⟩
abbrev S8320x11008 : Shape := ⟨2, ![8320, 11008]⟩
abbrev S_ : Shape := ⟨0, ![]⟩
abbrev S1x1x11008x4096 : Shape := ⟨4, ![1, 1, 11008, 4096]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .bf16⟩
  | .hbm, ⟨2, _⟩ => ⟨S2x2x11008x4096, .f32⟩
  | .hbm, ⟨3, _⟩ => ⟨S8320x4096, .f32⟩
  | .hbm, ⟨4, _⟩ => ⟨S4096x22016, .f32⟩
  | .hbm, ⟨5, _⟩ => ⟨S8320x22016, .f32⟩
  | .hbm, ⟨6, _⟩ => ⟨S8320x11008, .f32⟩
  | .hbm, ⟨7, _⟩ => ⟨S8320x11008, .f32⟩
  | .hbm, ⟨8, _⟩ => ⟨S8320x11008, .f32⟩
  | .hbm, ⟨9, _⟩ => ⟨S8320x11008, .f32⟩
  | .hbm, ⟨10, _⟩ => ⟨S_, .f32⟩
  | .hbm, ⟨11, _⟩ => ⟨S8320x11008, .f32⟩
  | .hbm, ⟨12, _⟩ => ⟨S8320x11008, .f32⟩
  | .hbm, ⟨13, _⟩ => ⟨S_, .f32⟩
  | .hbm, ⟨14, _⟩ => ⟨S8320x11008, .f32⟩
  | .hbm, ⟨15, _⟩ => ⟨S8320x11008, .f32⟩
  | .hbm, ⟨16, _⟩ => ⟨S8320x11008, .f32⟩
  | .hbm, ⟨17, _⟩ => ⟨S8320x11008, .f32⟩
  | .hbm, ⟨18, _⟩ => ⟨S8320x11008, .bf16⟩
  | .hbm, ⟨19, _⟩ => ⟨S1x1x11008x4096, .f32⟩
  | .hbm, ⟨20, _⟩ => ⟨S11008x4096, .f32⟩
  | .hbm, ⟨21, _⟩ => ⟨S11008x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel7.lean ====
abbrev S8320x4096 : Shape := ⟨2, ![8320, 4096]⟩
abbrev S1x4096x7168 : Shape := ⟨3, ![1, 4096, 7168]⟩
abbrev S8320x7168 : Shape := ⟨2, ![8320, 7168]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S1x4096x7168, .f32⟩
  | .hbm, ⟨2, _⟩ => ⟨S8320x7168, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8320x4096 : Shape := ⟨2, ![8320, 4096]⟩
abbrev S1x4096x7168 : Shape := ⟨3, ![1, 4096, 7168]⟩
abbrev S4096x7168 : Shape := ⟨2, ![4096, 7168]⟩
abbrev S8320x7168 : Shape := ⟨2, ![8320, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x7168, .f32⟩
  | .hbm, ⟨2, _⟩ => ⟨S8320x4096, .f32⟩
  | .hbm, ⟨3, _⟩ => ⟨S4096x7168, .f32⟩
  | .hbm, ⟨4, _⟩ => ⟨S8320x7168, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8320x4096 : Shape := ⟨2, ![8320, 4096]⟩
abbrev S1x4096x4096 : Shape := ⟨3, ![1, 4096, 4096]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .hbm, ⟨3, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | .local _ .vmem, ⟨8, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8320x4096 : Shape := ⟨2, ![8320, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .hbm, ⟨3, _⟩ => ⟨S8320x4096, .f32⟩
  | .hbm, ⟨4, _⟩ => ⟨S4096x4096, .f32⟩
  | .hbm, ⟨5, _⟩ => ⟨S8320x4096, .f32⟩
  | .hbm, ⟨6, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8320x4096 : Shape := ⟨2, ![8320, 4096]⟩
abbrev S1x4096x4096 : Shape := ⟨3, ![1, 4096, 4096]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8320x4096 : Shape := ⟨2, ![8320, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .hbm, ⟨3, _⟩ => ⟨S4096x4096, .f32⟩
  | .hbm, ⟨4, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8320x4096 : Shape := ⟨2, ![8320, 4096]⟩
abbrev S1x4096x4096 : Shape := ⟨3, ![1, 4096, 4096]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 3
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .bf16⟩
  | .local _ .vmem, ⟨5, _⟩ => ⟨S1040x512, .bf16⟩
  | .local _ .vmem, ⟨6, _⟩ => ⟨S1040x512, .bf16⟩
  | .local _ .vmem, ⟨7, _⟩ => ⟨S1040x512, .bf16⟩
  | .local _ .vmem, ⟨8, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8320x4096 : Shape := ⟨2, ![8320, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .hbm, ⟨3, _⟩ => ⟨S4096x4096, .f32⟩
  | .hbm, ⟨4, _⟩ => ⟨S8320x4096, .f32⟩
  | .hbm, ⟨5, _⟩ => ⟨S8320x4096, .f32⟩
  | .hbm, ⟨6, _⟩ => ⟨S8320x4096, .f32⟩
  | .hbm, ⟨7, _⟩ => ⟨S_, .f32⟩
  | .hbm, ⟨8, _⟩ => ⟨S8320x4096, .f32⟩
  | .hbm, ⟨9, _⟩ => ⟨S8320x4096, .f32⟩
  | .hbm, ⟨10, _⟩ => ⟨S_, .f32⟩
  | .hbm, ⟨11, _⟩ => ⟨S8320x4096, .f32⟩
  | .hbm, ⟨12, _⟩ => ⟨S8320x4096, .f32⟩
  | .hbm, ⟨13, _⟩ => ⟨S8320x4096, .f32⟩
  | .hbm, ⟨14, _⟩ => ⟨S8320x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S8320x4096 : Shape := ⟨2, ![8320, 4096]⟩
abbrev S4096 : Shape := ⟨1, ![4096]⟩
abbrev S1x4096 : Shape := ⟨2, ![1, 4096]⟩
abbrev S416x4096 : Shape := ⟨2, ![416, 4096]⟩
abbrev S416 : Shape := ⟨1, ![416]⟩
abbrev S416x1 : Shape := ⟨2, ![416, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8320x4096, .bf16⟩
  | .local _ .vmem, ⟨0, _⟩ => ⟨S416x4096, .f32⟩
  | .local _ .vmem, ⟨1, _⟩ => ⟨S416x4096, .f32⟩
  | .local _ .vmem, ⟨2, _⟩ => ⟨S1x4096, .f32⟩
  | .local _ .vmem, ⟨3, _⟩ => ⟨S416x4096, .bf16⟩
  | .local _ .vmem, ⟨4, _⟩ => ⟨S416x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8320x4096, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x4096, .f32⟩
  | .hbm, ⟨14, _⟩ => ⟨S8320x4096, .f32⟩
  | .hbm, ⟨15, _⟩ => ⟨S1x4096, .f32⟩
  | .hbm, ⟨16, _⟩ => ⟨S8320x4096, .f32⟩
  | .hbm, ⟨17, _⟩ => ⟨S8320x4096, .f32⟩
  | .hbm, ⟨18, _⟩ => ⟨S8320x4096, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8192x4096 : Shape := ⟨2, ![8192, 4096]⟩
abbrev S32x4096 : Shape := ⟨2, ![32, 4096]⟩
abbrev S4096 : Shape := ⟨1, ![4096]⟩
abbrev S1x4096 : Shape := ⟨2, ![1, 4096]⟩
abbrev S8320x4096 : Shape := ⟨2, ![8320, 4096]⟩
abbrev S128x4096 : Shape := ⟨2, ![128, 4096]⟩
abbrev S128 : Shape := ⟨1, ![128]⟩
abbrev S128x1 : Shape := ⟨2, ![128, 1]⟩
abbrev S96x4096 : Shape := ⟨2, ![96, 4096]⟩
abbrev S32 : Shape := ⟨1, ![32]⟩
abbrev S32x1 : Shape := ⟨2, ![32, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S32x4096, .f32⟩
  | .hbm, ⟨2, _⟩ => ⟨S4096, .f32⟩
  | .hbm, ⟨3, _⟩ => ⟨S1x4096, .f32⟩
  | .hbm, ⟨4, _⟩ => ⟨S8320x4096, .f32⟩
  | .hbm, ⟨5, _⟩ => ⟨S8320x4096, .bf16⟩
  | .local _ .vmem, ⟨0, _⟩ => ⟨S128x4096, .f32⟩
  | .local _ .vmem, ⟨1, _⟩ => ⟨S128x4096, .f32⟩
  | .local _ .vmem, ⟨2, _⟩ => ⟨S32x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v2 : BitVec 1 := Scalar.cmpi .slt arg0 c64_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c64_i32_1 : BitVec 32 := 64#32
  let v5 : BitVec 1 := Scalar.cmpi .eq arg0 c64_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8192x4096 : Shape := ⟨2, ![8192, 4096]⟩
abbrev S32x4096 : Shape := ⟨2, ![32, 4096]⟩
abbrev S4096 : Shape := ⟨1, ![4096]⟩
abbrev S_ : Shape := ⟨0, ![]⟩
abbrev S96x4096 : Shape := ⟨2, ![96, 4096]⟩
abbrev S8320x4096 : Shape := ⟨2, ![8320, 4096]⟩
abbrev S8320 : Shape := ⟨1, ![8320]⟩
abbrev S8320x1 : Shape := ⟨2, ![8320, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32x4096, .f32⟩
  | .hbm, ⟨2, _⟩ => ⟨S4096, .f32⟩
  | .hbm, ⟨3, _⟩ => ⟨S_, .f32⟩
  | .hbm, ⟨4, _⟩ => ⟨S96x4096, .f32⟩
  | .hbm, ⟨5, _⟩ => ⟨S8320x4096, .f32⟩
  | .hbm, ⟨6, _⟩ => ⟨S8320x4096, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x4096, .f32⟩
  | .hbm, ⟨18, _⟩ => ⟨S8320x4096, .f32⟩
  | .hbm, ⟨19, _⟩ => ⟨S1x4096, .f32⟩
  | .hbm, ⟨20, _⟩ => ⟨S8320x4096, .f32⟩
  | .hbm, ⟨21, _⟩ => ⟨S8320x4096, .f32⟩
  | .hbm, ⟨22, _⟩ => ⟨S8320x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel13.lean ====
abbrev S256x64 : Shape := ⟨2, ![256, 64]⟩
abbrev S256 : Shape := ⟨1, ![256]⟩
abbrev S256x64x16 : Shape := ⟨3, ![256, 64, 16]⟩
abbrev S256x16x64 : Shape := ⟨3, ![256, 16, 64]⟩
abbrev S256x1 : Shape := ⟨2, ![256, 1]⟩
abbrev S1x64 : Shape := ⟨2, ![1, 64]⟩
abbrev S1x16x64 : Shape := ⟨3, ![1, 16, 64]⟩
abbrev S16x64 : Shape := ⟨2, ![16, 64]⟩

abbrev nBuf : Space → Nat
  | .hbm => 14
  | .vmem => 13
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256, .f32⟩
  | .hbm, ⟨3, _⟩ => ⟨S256x64x16, .f32⟩
  | .hbm, ⟨4, _⟩ => ⟨S256x64x16, .f32⟩
  | .hbm, ⟨5, _⟩ => ⟨S256x16x64, .f32⟩
  | .hbm, ⟨6, _⟩ => ⟨S256x16x64, .f32⟩
  | .hbm, ⟨7, _⟩ => ⟨S256x1, .f32⟩
  | .hbm, ⟨8, _⟩ => ⟨S256x64, .f32⟩
  | .hbm, ⟨9, _⟩ => ⟨S256x64, .f32⟩
  | .hbm, ⟨10, _⟩ => ⟨S256x16x64, .f32⟩
  | .hbm, ⟨11, _⟩ => ⟨S256x16x64, .f32⟩
  | .hbm, ⟨12, _⟩ => ⟨S256x16x64, .f32⟩
  | .hbm, ⟨13, _⟩ => ⟨S256x16x64, .f32⟩
  | .local _ .vmem, ⟨0, _⟩ => ⟨S256x64, .f32⟩
  | .local _ .vmem, ⟨1, _⟩ => ⟨S256x64, .f32⟩
  | .local _ .vmem, ⟨2, _⟩ => ⟨S256x1, .f32⟩
  | .local _ .vmem, ⟨3, _⟩ => ⟨S256x16x64, .f32⟩
  | .local _ .vmem, ⟨4, _⟩ => ⟨S256x16x64, .f32⟩
  | .local _ .vmem, ⟨5, _⟩ => ⟨S256x64, .f32⟩
  | .local _ .vmem, ⟨6, _⟩ => ⟨S256x64, .f32⟩
  | .local _ .vmem, ⟨7, _⟩ => ⟨S256x16x64, .f32⟩
  | .local _ .vmem, ⟨8, _⟩ => ⟨S256x16x64, .f32⟩
  | .local _ .vmem, ⟨9, _⟩ => ⟨S256x16x64, .f32⟩
  | .local _ .vmem, ⟨10, _⟩ => ⟨S256x16x64, .f32⟩
  | .local _ .vmem, ⟨11, _⟩ => ⟨S256x64, .f32⟩
  | .local _ .vmem, ⟨12, _⟩ => ⟨S256x64, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v35 : BitVec 32 := Scalar.addi c0_i32 c256_i32
  let c1_i32 : BitVec 32 := 1#32
  ⟨c0_i32, v35, c1_i32⟩
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let v36 : Index := Scalar.indexCast arg13
  let c0_14 : Index := 0#32
  ![v36.toNat, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v40 : Index := Scalar.indexCast arg13
  let c0_16 : Index := 0#32
  let c0_17 : Index := 0#32
  ![v40.toNat, 0, 0]
abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference13Ideal.lean ====
abbrev S256x64 : Shape := ⟨2, ![256, 64]⟩
abbrev S256 : Shape := ⟨1, ![256]⟩
abbrev S256x64x16 : Shape := ⟨3, ![256, 64, 16]⟩
abbrev S256x1 : Shape := ⟨2, ![256, 1]⟩
abbrev S_ : Shape := ⟨0, ![]⟩
abbrev S256x64x1 : Shape := ⟨3, ![256, 64, 1]⟩
abbrev S256x16x64 : Shape := ⟨3, ![256, 16, 64]⟩

abbrev nBuf : Space → Nat
  | .hbm => 68
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256, .f32⟩
  | .hbm, ⟨3, _⟩ => ⟨S256x64x16, .f32⟩
  | .hbm, ⟨4, _⟩ => ⟨S256x64x16, .f32⟩
  | .hbm, ⟨5, _⟩ => ⟨S256, .f32⟩
  | .hbm, ⟨6, _⟩ => ⟨S256x1, .f32⟩
  | .hbm, ⟨7, _⟩ => ⟨S256x64, .f32⟩
  | .hbm, ⟨8, _⟩ => ⟨S256x64, .f32⟩
  | .hbm, ⟨9, _⟩ => ⟨S256x64, .f32⟩
  | .hbm, ⟨10, _⟩ => ⟨S256x64, .f32⟩
  | .hbm, ⟨11, _⟩ => ⟨S256x64, .f32⟩
  | .hbm, ⟨12, _⟩ => ⟨S256x64, .f32⟩
  | .hbm, ⟨13, _⟩ => ⟨S256x64, .f32⟩
  | .hbm, ⟨14, _⟩ => ⟨S256x64, .f32⟩
  | .hbm, ⟨15, _⟩ => ⟨S256x64, .f32⟩
  | .hbm, ⟨16, _⟩ => ⟨S256x64, .f32⟩
  | .hbm, ⟨17, _⟩ => ⟨S256x64, .f32⟩
  | .hbm, ⟨18, _⟩ => ⟨S256x64, .f32⟩
  | .hbm, ⟨19, _⟩ => ⟨S256x64, .f32⟩
  | .hbm, ⟨20, _⟩ => ⟨S256x64, .f32⟩
  | .hbm, ⟨21, _⟩ => ⟨S256x64, .f32⟩
  | .hbm, ⟨22, _⟩ => ⟨S256x64, .f32⟩
  | .hbm, ⟨23, _⟩ => ⟨S256x64, .f32⟩
  | .hbm, ⟨24, _⟩ => ⟨S_, .f32⟩
  | .hbm, ⟨25, _⟩ => ⟨S256x64, .f32⟩
  | .hbm, ⟨26, _⟩ => ⟨S256x64, .f32⟩
  | .hbm, ⟨27, _⟩ => ⟨S256x64, .f32⟩
  | .hbm, ⟨28, _⟩ => ⟨S256x64, .f32⟩
  | .hbm, ⟨29, _⟩ => ⟨S256x64, .f32⟩
  | .hbm, ⟨30, _⟩ => ⟨S256x64, .f32⟩
  | .hbm, ⟨31, _⟩ => ⟨S256x64x1, .f32⟩
  | .hbm, ⟨32, _⟩ => ⟨S256x64, .f32⟩
  | .hbm, ⟨33, _⟩ => ⟨S_, .f32⟩
  | .hbm, ⟨34, _⟩ => ⟨S256x64, .f32⟩
  | .hbm, ⟨35, _⟩ => ⟨S256x64, .f32⟩
  | .hbm, ⟨36, _⟩ => ⟨S256x64, .f32⟩
  | .hbm, ⟨37, _⟩ => ⟨S256x64, .f32⟩
  | .hbm, ⟨38, _⟩ => ⟨S256x64, .f32⟩
  | .hbm, ⟨39, _⟩ => ⟨S256x64x1, .f32⟩
  | .hbm, ⟨40, _⟩ => ⟨S256x64x16, .f32⟩
  | .hbm, ⟨41, _⟩ => ⟨S256x64x16, .f32⟩
  | .hbm, ⟨42, _⟩ => ⟨S256x64x16, .f32⟩
  | .hbm, ⟨43, _⟩ => ⟨S256x64x16, .f32⟩
  | .hbm, ⟨44, _⟩ => ⟨S256x64x16, .f32⟩
  | .hbm, ⟨45, _⟩ => ⟨S256x64x16, .f32⟩
  | .hbm, ⟨46, _⟩ => ⟨S256x64x16, .f32⟩
  | .hbm, ⟨47, _⟩ => ⟨S256x64x16, .f32⟩
  | .hbm, ⟨48, _⟩ => ⟨S256x64x16, .f32⟩
  | .hbm, ⟨49, _⟩ => ⟨S256x64x16, .f32⟩
  | .hbm, ⟨50, _⟩ => ⟨S256x64x1, .f32⟩
  | .hbm, ⟨51, _⟩ => ⟨S256x64x16, .f32⟩
  | .hbm, ⟨52, _⟩ => ⟨S256x64x16, .f32⟩
  | .hbm, ⟨53, _⟩ => ⟨S256x64x1, .f32⟩
  | .hbm, ⟨54, _⟩ => ⟨S256x64x16, .f32⟩
  | .hbm, ⟨55, _⟩ => ⟨S256x64x16, .f32⟩
  | .hbm, ⟨56, _⟩ => ⟨S256x64x16, .f32⟩
  | .hbm, ⟨57, _⟩ => ⟨S256x64x1, .f32⟩
  | .hbm, ⟨58, _⟩ => ⟨S256x64x16, .f32⟩
  | .hbm, ⟨59, _⟩ => ⟨S256x64x16, .f32⟩
  | .hbm, ⟨60, _⟩ => ⟨S256x64x1, .f32⟩
  | .hbm, ⟨61, _⟩ => ⟨S256x64x16, .f32⟩
  | .hbm, ⟨62, _⟩ => ⟨S256x64x16, .f32⟩
  | .hbm, ⟨63, _⟩ => ⟨S256x64x16, .f32⟩
  | .hbm, ⟨64, _⟩ => ⟨S256x16x64, .f32⟩
  | .hbm, ⟨65, _⟩ => ⟨S256x16x64, .f32⟩
  | .hbm, ⟨66, _⟩ => ⟨S256x16x64, .f32⟩
  | .hbm, ⟨67, _⟩ => ⟨S256x16x64, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩

abbrev nD : Nat := 1
abbrev τ : Topo := Topo.v7x

variable {F : FTy → Type} [FloatOps F]
-- ==== Kernel14.lean ====
abbrev S256x16x64 : Shape := ⟨3, ![256, 16, 64]⟩
abbrev S4096x64 : Shape := ⟨2, ![4096, 64]⟩
abbrev S16x512x2048 : Shape := ⟨3, ![16, 512, 2048]⟩
abbrev S16x2048x256 : Shape := ⟨3, ![16, 2048, 256]⟩
abbrev S256x64 : Shape := ⟨2, ![256, 64]⟩
abbrev S1x512x2048 : Shape := ⟨3, ![1, 512, 2048]⟩
abbrev S1x2048x256 : Shape := ⟨3, ![1, 2048, 256]⟩
abbrev S64x1024 : Shape := ⟨2, ![64, 1024]⟩
abbrev S256x1024 : Shape := ⟨2, ![256, 1024]⟩
abbrev S1x256x1024 : Shape := ⟨3, ![1, 256, 1024]⟩
abbrev S1024x64 : Shape := ⟨2, ![1024, 64]⟩
abbrev S1024x256 : Shape := ⟨2, ![1024, 256]⟩
abbrev S1x1024x256 : Shape := ⟨3, ![1, 1024, 256]⟩

abbrev nBuf : Space → Nat
  | .hbm => 14
  | .vmem => 16
  | .smem => 0
  | _ => 0

abbrev bufTy : (tb : Table) → Fin (tcTables nBuf tb) → BufTy
  | .hbm, ⟨0, _⟩ => ⟨S256x16x64, .f32⟩
  | .hbm, ⟨1, _⟩ => ⟨S256x16x64, .f32⟩
  | .hbm, ⟨2, _⟩ => ⟨S256x16x64, .f32⟩
  | .hbm, ⟨3, _⟩ => ⟨S256x16x64, .f32⟩
  | .hbm, ⟨4, _⟩ => ⟨S256x16x64, .f32⟩
  | .hbm, ⟨5, _⟩ => ⟨S256x16x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S16x512x2048, .bf16⟩
  | .hbm, ⟨13, _⟩ => ⟨S16x2048x256, .bf16⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S1x512x2048, .bf16⟩
  | .local _ .vmem, ⟨13, _⟩ => ⟨S1x512x2048, .bf16⟩
  | .local _ .vmem, ⟨14, _⟩ => ⟨S1x2048x256, .bf16⟩
  | .local _ .vmem, ⟨15, _⟩ => ⟨S1x2048x256, .bf16⟩
  | _, _ => ⟨S256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S256x16x64 : Shape := ⟨3, ![256, 16, 64]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16x1 : Shape := ⟨5, ![1, 16, 1, 16, 1]⟩
abbrev S16x16x16x1x64 : Shape := ⟨5, ![16, 16, 16, 1, 64]⟩
abbrev S_ : Shape := ⟨0, ![]⟩
abbrev S16x16x16x16x64 : Shape := ⟨5, ![16, 16, 16, 16, 64]⟩
abbrev S16x256x1024 : Shape := ⟨3, ![16, 256, 1024]⟩
abbrev S16x256x2048 : Shape := ⟨3, ![16, 256, 2048]⟩
abbrev S16x512x2048 : Shape := ⟨3, ![16, 512, 2048]⟩
abbrev S16x2048x256 : Shape := ⟨3, ![16, 2048, 256]⟩

abbrev nBuf : Space → Nat
  | .hbm => 70
  | .vmem => 0
  | .smem => 0
  | _ => 0

abbrev bufTy : (tb : Table) → Fin (tcTables nBuf tb) → BufTy
  | .hbm, ⟨0, _⟩ => ⟨S256x16x64, .f32⟩
  | .hbm, ⟨1, _⟩ => ⟨S256x16x64, .f32⟩
  | .hbm, ⟨2, _⟩ => ⟨S256x16x64, .f32⟩
  | .hbm, ⟨3, _⟩ => ⟨S256x16x64, .f32⟩
  | .hbm, ⟨4, _⟩ => ⟨S256x16x64, .f32⟩
  | .hbm, ⟨5, _⟩ => ⟨S256x16x64, .f32⟩
  | .hbm, ⟨6, _⟩ => ⟨S16, .i32⟩
  | .hbm, ⟨7, _⟩ => ⟨S16x1, .i32⟩
  | .hbm, ⟨8, _⟩ => ⟨S16, .i32⟩
  | .hbm, ⟨9, _⟩ => ⟨S1x16, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S1x16x1x16x1, .i1⟩
  | .hbm, ⟨14, _⟩ => ⟨S16x16x16x1x64, .f32⟩
  | .hbm, ⟨15, _⟩ => ⟨S_, .f32⟩
  | .hbm, ⟨16, _⟩ => ⟨S_, .f32⟩
  | .hbm, ⟨17, _⟩ => ⟨S16x16x16x16x64, .i1⟩
  | .hbm, ⟨18, _⟩ => ⟨S16x16x16x16x64, .f32⟩
  | .hbm, ⟨19, _⟩ => ⟨S16x16x16x16x64, .f32⟩
  | .hbm, ⟨20, _⟩ => ⟨S16x16x16x16x64, .f32⟩
  | .hbm, ⟨21, _⟩ => ⟨S16x256x1024, .f32⟩
  | .hbm, ⟨22, _⟩ => ⟨S16x16x16x1x64, .f32⟩
  | .hbm, ⟨23, _⟩ => ⟨S_, .f32⟩
  | .hbm, ⟨24, _⟩ => ⟨S_, .f32⟩
  | .hbm, ⟨25, _⟩ => ⟨S16x16x16x16x64, .i1⟩
  | .hbm, ⟨26, _⟩ => ⟨S16x16x16x16x64, .f32⟩
  | .hbm, ⟨27, _⟩ => ⟨S16x16x16x16x64, .f32⟩
  | .hbm, ⟨28, _⟩ => ⟨S16x16x16x16x64, .f32⟩
  | .hbm, ⟨29, _⟩ => ⟨S16x256x1024, .f32⟩
  | .hbm, ⟨30, _⟩ => ⟨S16x256x2048, .f32⟩
  | .hbm, ⟨31, _⟩ => ⟨S16x16x16x1x64, .f32⟩
  | .hbm, ⟨32, _⟩ => ⟨S_, .f32⟩
  | .hbm, ⟨33, _⟩ => ⟨S_, .f32⟩
  | .hbm, ⟨34, _⟩ => ⟨S16x16x16x16x64, .i1⟩
  | .hbm, ⟨35, _⟩ => ⟨S16x16x16x16x64, .f32⟩
  | .hbm, ⟨36, _⟩ => ⟨S16x16x16x16x64, .f32⟩
  | .hbm, ⟨37, _⟩ => ⟨S16x16x16x16x64, .f32⟩
  | .hbm, ⟨38, _⟩ => ⟨S16x256x1024, .f32⟩
  | .hbm, ⟨39, _⟩ => ⟨S16x16x16x1x64, .f32⟩
  | .hbm, ⟨40, _⟩ => ⟨S_, .f32⟩
  | .hbm, ⟨41, _⟩ => ⟨S_, .f32⟩
  | .hbm, ⟨42, _⟩ => ⟨S16x16x16x16x64, .i1⟩
  | .hbm, ⟨43, _⟩ => ⟨S16x16x16x16x64, .f32⟩
  | .hbm, ⟨44, _⟩ => ⟨S16x16x16x16x64, .f32⟩
  | .hbm, ⟨45, _⟩ => ⟨S16x16x16x16x64, .f32⟩
  | .hbm, ⟨46, _⟩ => ⟨S16x256x1024, .f32⟩
  | .hbm, ⟨47, _⟩ => ⟨S16x256x2048, .f32⟩
  | .hbm, ⟨48, _⟩ => ⟨S16x512x2048, .f32⟩
  | .hbm, ⟨49, _⟩ => ⟨S16x16x16x1x64, .f32⟩
  | .hbm, ⟨50, _⟩ => ⟨S_, .f32⟩
  | .hbm, ⟨51, _⟩ => ⟨S_, .f32⟩
  | .hbm, ⟨52, _⟩ => ⟨S16x16x16x16x64, .i1⟩
  | .hbm, ⟨53, _⟩ => ⟨S16x16x16x16x64, .f32⟩
  | .hbm, ⟨54, _⟩ => ⟨S16x16x16x16x64, .f32⟩
  | .hbm, ⟨55, _⟩ => ⟨S16x16x16x16x64, .f32⟩
  | .hbm, ⟨56, _⟩ => ⟨S16x256x1024, .f32⟩
  | .hbm, ⟨57, _⟩ => ⟨S256x16x64, .f32⟩
  | .hbm, ⟨58, _⟩ => ⟨S16x16x16x1x64, .f32⟩
  | .hbm, ⟨59, _⟩ => ⟨S_, .f32⟩
  | .hbm, ⟨60, _⟩ => ⟨S_, .f32⟩
  | .hbm, ⟨61, _⟩ => ⟨S16x16x16x16x64, .i1⟩
  | .hbm, ⟨62, _⟩ => ⟨S16x16x16x16x64, .f32⟩
  | .hbm, ⟨63, _⟩ => ⟨S16x16x16x16x64, .f32⟩
  | .hbm, ⟨64, _⟩ => ⟨S16x16x16x16x64, .f32⟩
  | .hbm, ⟨65, _⟩ => ⟨S16x256x1024, .f32⟩
  | .hbm, ⟨66, _⟩ => ⟨S16x256x2048, .f32⟩
  | .hbm, ⟨67, _⟩ => ⟨S16x2048x256, .f32⟩
  | .hbm, ⟨68, _⟩ => ⟨S16x512x2048, .bf16⟩
  | .hbm, ⟨69, _⟩ => ⟨S16x2048x256, .bf16⟩
  | _, _ => ⟨S256x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩

abbrev nD : Nat := 1
abbrev τ : Topo := Topo.v7x

variable {F : FTy → Type} [FloatOps F]
-- ==== Proof.Scalars.lean ====
/- Scalar facts about the extended reals used by every value claim: the float literals the programs print, and the
   logistic function written with `tanh` and with `exp`. -/
module

public import Idealize.ShloMosaic.PureOps.Ideal.Laws
public import Idealize.ShloMosaic.Lib.Pointwise
public import Idealize.ShloMosaic.Lib.IdealHost

@[expose] public section

noncomputable section

namespace Cert.Scalars

open Idealize.ShloMosaic

/-- The word of one half is one half. -/
theorem bits_half : Ideal.ofBits .f32 0x3F000000#32 = ((1 / 2 : ℝ) : EReal) := by
  simp [Ideal.ofBits, Ideal.ieee, -EReal.coe_mul]; norm_num

/-- On the reals, `½ (1 + tanh (x / 2))` is `1 / (1 + exp (-x))`. -/
theorem logistic_real (r : ℝ) : (1 / 2) * (1 + Real.tanh ((1 / 2) * r)) = 1 / (1 + Real.exp (-r)) := by
  have h1 : Real.exp (-r) = Real.exp (-((1 / 2) * r)) * Real.exp (-((1 / 2) * r)) := by
    rw [← Real.exp_add]; congr 1; ring
  have h2 : Real.exp (-((1 / 2) * r)) = (Real.exp ((1 / 2) * r))⁻¹ := Real.exp_neg _
  have hp := Real.exp_pos ((1 / 2) * r)
  rw [Real.tanh_eq_sinh_div_cosh, Real.sinh_eq, Real.cosh_eq, h1, h2]
  field_simp
  ring

/-- The same at every extended real: the logistic function written with `tanh` is the one written with `exp`. -/
theorem logistic (x : EReal) :
    ((1 / 2 : ℝ) : EReal) * (1 + Ideal.tanh (((1 / 2 : ℝ) : EReal) * x)) = Ideal.div 1 (1 + Ideal.exp (-x)) := by
  induction x using EReal.rec with
  | bot =>
    rw [EReal.coe_mul_bot_of_pos (by norm_num), EReal.neg_bot, Ideal.tanh_bot, Ideal.exp_top]
    have e : (1 : EReal) + -1 = 0 := by
      rw [show (1 : EReal) = ((1 : ℝ) : EReal) from rfl, ← EReal.coe_neg, ← EReal.coe_add]; norm_num
    rw [e, mul_zero, EReal.add_top_of_ne_bot (by decide), Ideal.div, if_neg (by decide), EReal.inv_top, mul_zero]
  | top =>
    rw [EReal.coe_mul_top_of_pos (by norm_num), EReal.neg_top, Ideal.tanh_top, Ideal.exp_bot, add_zero, Ideal.div,
      if_neg one_ne_zero]
    rw [show (1 : EReal) = ((1 : ℝ) : EReal) from rfl, ← EReal.coe_add, ← EReal.coe_inv, ← EReal.coe_mul, ← EReal.coe_mul]
    norm_num
  | coe r =>
    rw [← EReal.coe_mul, ← EReal.coe_neg, Ideal.tanh_coe, Ideal.exp_coe, show (1 : EReal) = ((1 : ℝ) : EReal) from rfl,
      ← EReal.coe_add, ← EReal.coe_add, Ideal.div_coe (by positivity), ← EReal.coe_mul, ← EReal.coe_mul, logistic_real,
      one_mul]

end Cert.Scalars

end
-- ==== Proof.SampleRow.lean ====
/- The attention and convolution of the even layer, one decoding step for a row of the sample: what one row's block holds, index
   by index. -/
module

public import proofs.«01_k».proof.Proof.Scalars
public import proofs.«01_k».proof.Proof.Gen.KernelIdeal.Value
public import Idealize.ShloMosaic.Lib.Pointwise

@[expose] public section

set_option maxRecDepth 16384

noncomputable section

namespace Cert.SampleCore

open Cert.KernelIdeal Cert.KernelIdeal.Gen Idealize.ShloMosaic Idealize.ShloMosaic.TcCoe Idealize.SL.Sem

/-- The rows' numbers, as the kernel writes them. -/
abbrev rows8 : IVec S8x1 32 := iota Kind.tc S8x1 32 [0] iota_S8x1_d0_w32

/-- A head's row scaled by the root of its mean square and by the gain. -/
def nrm (x g : Fin 128 → EReal) (j : Fin 128) : EReal :=
  x j * Ideal.rsqrt (Ideal.div (∑ k, x k * x k) (Ideal.ofBits .f32 0x43000000#32) + Ideal.ofBits .f32 0x358637BD#32) * g j

/-- The rotation as the kernel takes it: three tables, two rolls of the row. -/
def rope3 (y c sp sm : Fin 128 → EReal) (j : Fin 128) : EReal :=
  y j * c j + y ⟨(j.val + 128 - 16) % 128, Nat.mod_lt _ (by decide)⟩ * sp j
    + y ⟨(j.val + 128 - 112) % 128, Nat.mod_lt _ (by decide)⟩ * sm j

/-- The score of a query row against a cached key. -/
def score (q : Fin 128 → EReal) (K : Fin 128 → Fin 128 → EReal) (t : Fin 128) : EReal :=
  (∑ j, q j * K t j) * Ideal.ofBits .f32 0x3DB504F3#32

/-- The score of a query row against the new key. -/
def self (q k : Fin 128 → EReal) : EReal := (∑ j, q j * k j) * Ideal.ofBits .f32 0x3DB504F3#32

/-- The largest of the scores and the sink. -/
def top (q : Fin 128 → EReal) (K : Fin 128 → Fin 128 → EReal) (k : Fin 128 → EReal) (s : EReal) : EReal :=
  max (max (Finset.fold max (Ideal.ofBits .f32 0xFF800000#32) (fun t => score q K t) Finset.univ) (self q k)) s

/-- The softmax's denominator, with the sink's share. -/
def den (q : Fin 128 → EReal) (K : Fin 128 → Fin 128 → EReal) (k : Fin 128 → EReal) (s : EReal) : EReal :=
  (∑ t, Ideal.exp (score q K t - top q K k s)) + Ideal.exp (self q k - top q K k s) + Ideal.exp (s - top q K k s)

/-- One head's output at a column. -/
def att (q : Fin 128 → EReal) (K V : Fin 128 → Fin 128 → EReal) (k v : Fin 128 → EReal) (s : EReal) (d : Fin 128) : EReal :=
  (∑ t, Ideal.div (Ideal.exp (score q K t - top q K k s)) (den q K k s) * V t d)
    + Ideal.div (Ideal.exp (self q k - top q K k s)) (den q K k s) * v d

/-- The normalised and rotated row of a head. -/
theorem pay9_apply (c sp sm g : FVec Ideal S1x128 .f32) (x : FVec Ideal S1x1x128 .f32) (j : Fin 128) :
    k0_pay9 (F := Ideal) c sp sm g x (ix2 0 j)
      = rope3 (nrm (fun j => x (ix3 0 0 j)) (fun j => g (ix2 0 j))) (fun j => c (ix2 0 j)) (fun j => sp (ix2 0 j)) (fun j => sm (ix2 0 j)) j := by
  pointwise [k0_pay9, k0_pay8, k0_pay4, k0_pay5, k0_pay6, rope3, nrm]

/-- The same row, cut as the fourth head of a group is. -/
theorem pay22_apply (c sp sm g : FVec Ideal S1x128 .f32) (x : FVec Ideal S1x1x128 .f32) (j : Fin 128) :
    k0_pay22 (F := Ideal) (k0_pay4 c) (k0_pay5 sp) (k0_pay6 sm) (k0_pay7 g) x (ix2 0 j)
      = rope3 (nrm (fun j => x (ix3 0 0 j)) (fun j => g (ix2 0 j))) (fun j => c (ix2 0 j)) (fun j => sp (ix2 0 j)) (fun j => sm (ix2 0 j)) j := by
  pointwise [k0_pay22, k0_pay7, k0_pay4, k0_pay5, k0_pay6, rope3, nrm]

/-- A group's eight rows, four of them its heads. -/
def grp (k : FVec Ideal S1x128 .f32) (ko vo : FVec Ideal S1x128x128 .f32) (v : FVec Ideal S1x1x128 .f32)
    (q0 q1 q2 q3 : FVec Ideal S1x128 .f32) (s0 s1 s2 s3 : EReal) : FVec Ideal S8x128 .f32 :=
  k0_pay30 (k0_pay12 vo) (k0_pay25 (k0_pay10 v)) (k0_pay26 k (k0_pay20 rows8 q0 q1 q2) (k0_pay21 rows8) q3) (k0_pay27 rows8 s0 s1 s2 s3)
    (k0_pay28 rows8 k (k0_pay11 ko) (k0_pay20 rows8 q0 q1 q2) (k0_pay21 rows8) q3 s0 s1 s2 s3)
    (k0_pay29 rows8 k (k0_pay11 ko) (k0_pay20 rows8 q0 q1 q2) (k0_pay21 rows8) q3 s0 s1 s2 s3)

/-- The row a group takes the queries from. -/
def qrow (q0 q1 q2 q3 : FVec Ideal S1x128 .f32) (r : Fin 4) (j : Fin 128) : EReal :=
  match r with
  | ⟨0, _⟩ => q0 (ix2 0 j)
  | ⟨1, _⟩ => q1 (ix2 0 j)
  | ⟨2, _⟩ => q2 (ix2 0 j)
  | ⟨3, _⟩ => q3 (ix2 0 j)

/-- The sink of a group's row. -/
def srow (s0 s1 s2 s3 : EReal) (r : Fin 4) : EReal :=
  match r with
  | ⟨0, _⟩ => s0
  | ⟨1, _⟩ => s1
  | ⟨2, _⟩ => s2
  | ⟨3, _⟩ => s3

/-- The queries' rows, taken one by one. -/
theorem pay23_apply (q0 q1 q2 q3 : FVec Ideal S1x128 .f32) (r : Fin 4) (j : Fin 128) :
    (k0_pay23 (F := Ideal) (k0_pay20 rows8 q0 q1 q2) (k0_pay21 rows8) q3 (ix2 ⟨r.val, by omega⟩ j) : EReal) = qrow q0 q1 q2 q3 r j := by
  match r with
  | ⟨0, _⟩ => pointwise [k0_pay23, k0_pay20, k0_pay21, rows8, qrow]; rfl
  | ⟨1, _⟩ => pointwise [k0_pay23, k0_pay20, k0_pay21, rows8, qrow]; rfl
  | ⟨2, _⟩ => pointwise [k0_pay23, k0_pay20, k0_pay21, rows8, qrow]; rfl
  | ⟨3, _⟩ => pointwise [k0_pay23, k0_pay20, k0_pay21, rows8, qrow]

/-- The sinks, taken one by one. -/
theorem pay27_apply (s0 s1 s2 s3 : EReal) (r : Fin 4) :
    (k0_pay27 (F := Ideal) rows8 s0 s1 s2 s3 (ix2 ⟨r.val, by omega⟩ 0) : EReal) = srow s0 s1 s2 s3 r := by
  match r with
  | ⟨0, _⟩ => pointwise [k0_pay27, rows8, srow]; rfl
  | ⟨1, _⟩ => pointwise [k0_pay27, rows8, srow]; rfl
  | ⟨2, _⟩ => pointwise [k0_pay27, rows8, srow]; rfl
  | ⟨3, _⟩ => pointwise [k0_pay27, rows8, srow]

/-- The scores against the cache. -/
theorem pay24_apply (ko : FVec Ideal S1x128x128 .f32) (q0 q1 q2 q3 : FVec Ideal S1x128 .f32) (r : Fin 4) (t : Fin 128) :
    (k0_pay24 (F := Ideal) (k0_pay11 ko) (k0_pay20 rows8 q0 q1 q2) (k0_pay21 rows8) q3 (ix2 ⟨r.val, by omega⟩ t) : EReal)
      = score (qrow q0 q1 q2 q3 r) (fun t j => ko (ix3 0 t j)) t := by
  simp only [score, ← pay23_apply]
  pointwise [k0_pay24, k0_pay11]

/-- The score against the new key. -/
theorem pay26_apply (k q0 q1 q2 q3 : FVec Ideal S1x128 .f32) (r : Fin 4) :
    (k0_pay26 (F := Ideal) k (k0_pay20 rows8 q0 q1 q2) (k0_pay21 rows8) q3 (ix2 ⟨r.val, by omega⟩ 0) : EReal)
      = self (qrow q0 q1 q2 q3 r) (fun j => k (ix2 0 j)) := by
  simp only [self, ← pay23_apply]
  pointwise [k0_pay26]

/-- The largest score of a row. -/
theorem pay28_apply (k : FVec Ideal S1x128 .f32) (ko : FVec Ideal S1x128x128 .f32) (q0 q1 q2 q3 : FVec Ideal S1x128 .f32) (s0 s1 s2 s3 : EReal) (r : Fin 4) :
    (k0_pay28 (F := Ideal) rows8 k (k0_pay11 ko) (k0_pay20 rows8 q0 q1 q2) (k0_pay21 rows8) q3 s0 s1 s2 s3 (ix2 ⟨r.val, by omega⟩ 0) : EReal)
      = top (qrow q0 q1 q2 q3 r) (fun t j => ko (ix3 0 t j)) (fun j => k (ix2 0 j)) (srow s0 s1 s2 s3 r) := by
  simp only [top, ← pay24_apply, ← pay26_apply, ← pay27_apply]
  pointwise [k0_pay28]

/-- The exponentials of a row. -/
theorem pay29_apply (k : FVec Ideal S1x128 .f32) (ko : FVec Ideal S1x128x128 .f32) (q0 q1 q2 q3 : FVec Ideal S1x128 .f32) (s0 s1 s2 s3 : EReal) (r : Fin 4) (t : Fin 128) :
    (k0_pay29 (F := Ideal) rows8 k (k0_pay11 ko) (k0_pay20 rows8 q0 q1 q2) (k0_pay21 rows8) q3 s0 s1 s2 s3 (ix2 ⟨r.val, by omega⟩ t) : EReal)
      = Ideal.exp (score (qrow q0 q1 q2 q3 r) (fun t j => ko (ix3 0 t j)) t - top (qrow q0 q1 q2 q3 r) (fun t j => ko (ix3 0 t j)) (fun j => k (ix2 0 j)) (srow s0 s1 s2 s3 r)) := by
  simp only [← pay28_apply, ← pay24_apply]
  pointwise [k0_pay29]

/-- A group's rows, index by index. -/
theorem grp_apply (k : FVec Ideal S1x128 .f32) (ko vo : FVec Ideal S1x128x128 .f32) (v : FVec Ideal S1x1x128 .f32)
    (q0 q1 q2 q3 : FVec Ideal S1x128 .f32) (s0 s1 s2 s3 : EReal) (r : Fin 4) (d : Fin 128) :
    (grp k ko vo v q0 q1 q2 q3 s0 s1 s2 s3 (ix2 ⟨r.val, by omega⟩ d) : EReal)
      = att (qrow q0 q1 q2 q3 r) (fun t j => ko (ix3 0 t j)) (fun t j => vo (ix3 0 t j)) (fun j => k (ix2 0 j)) (fun j => v (ix3 0 0 j))
          (srow s0 s1 s2 s3 r) d := by
  pointwise [grp, k0_pay30, k0_pay12, k0_pay25, k0_pay10]
  simp only [pay29_apply, pay28_apply, pay26_apply, pay27_apply, att, den]

/-- Group 0 as the kernel computes it. -/
theorem grp0 (c sp sm qn kn : FVec Ideal S1x128 .f32) (z2048 z2560 z0 z128 z256 z384 : FVec Ideal S1x1x128 .f32) (ko0 vo0 : FVec Ideal S1x128x128 .f32) (s0 s1 s2 s3 : EReal) :
    (k0_pay30 (k0_pay12 vo0) (k0_pay25 (k0_pay10 z2560)) (k0_pay26 (k0_pay9 c sp sm kn z2048) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384)) (k0_pay27 rows8 s0 s1 s2 s3) (k0_pay28 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) (k0_pay29 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) : FVec Ideal S8x128 .f32)
      = grp (k0_pay9 c sp sm kn z2048) ko0 vo0 z2560 (k0_pay9 c sp sm qn z0) (k0_pay9 c sp sm qn z128) (k0_pay9 c sp sm qn z256)
          (k0_pay22 (k0_pay4 c) (k0_pay5 sp) (k0_pay6 sm) (k0_pay7 qn) z384) s0 s1 s2 s3 := rfl

/-- Group 1 as the kernel computes it. -/
theorem grp1 (c sp sm qn kn : FVec Ideal S1x128 .f32) (z2176 z2688 z512 z640 z768 z896 : FVec Ideal S1x1x128 .f32) (ko1 vo1 : FVec Ideal S1x128x128 .f32) (s4 s5 s6 s7 : EReal) :
    (k0_pay56 rows8 (k0_pay40 vo1) (k0_pay51 rows8 (k0_pay39 ko1) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) (k0_pay52 (k0_pay38 z2688)) (k0_pay53 rows8 (k0_pay37 (k0_pay4 c) (k0_pay5 sp) (k0_pay6 sm) (k0_pay8 kn) (k0_pay35 z2176) (k0_pay36 z2176)) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) k0_pay54 (k0_pay55 rows8) s4 s5 s6 s7 : FVec Ideal S8x128 .f32)
      = grp (k0_pay9 c sp sm kn z2176) ko1 vo1 z2688 (k0_pay9 c sp sm qn z512) (k0_pay9 c sp sm qn z640) (k0_pay9 c sp sm qn z768)
          (k0_pay22 (k0_pay4 c) (k0_pay5 sp) (k0_pay6 sm) (k0_pay7 qn) z896) s4 s5 s6 s7 := rfl

/-- Group 2 as the kernel computes it. -/
theorem grp2 (c sp sm qn kn : FVec Ideal S1x128 .f32) (z2304 z2816 z1024 z1152 z1280 z1408 : FVec Ideal S1x1x128 .f32) (ko2 vo2 : FVec Ideal S1x128x128 .f32) (s8 s9 s10 s11 : EReal) :
    (k0_pay85 (k0_pay64 vo2) (k0_pay79 (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay80 (k0_pay62 z2816)) (k0_pay81 (k0_pay61 (k0_pay4 c) (k0_pay5 sp) (k0_pay6 sm) (k0_pay8 kn) z2304) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay82 rows8 s8 s9 s10 s11) (k0_pay83 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) (k0_pay84 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) : FVec Ideal S8x128 .f32)
      = grp (k0_pay9 c sp sm kn z2304) ko2 vo2 z2816 (k0_pay9 c sp sm qn z1024) (k0_pay9 c sp sm qn z1152) (k0_pay9 c sp sm qn z1280)
          (k0_pay22 (k0_pay4 c) (k0_pay5 sp) (k0_pay6 sm) (k0_pay7 qn) z1408) s8 s9 s10 s11 := rfl

/-- Group 3 as the kernel computes it. -/
theorem grp3 (c sp sm qn kn : FVec Ideal S1x128 .f32) (z2432 z2944 z1536 z1664 z1792 z1920 : FVec Ideal S1x1x128 .f32) (ko3 vo3 : FVec Ideal S1x128x128 .f32) (s12 s13 s14 s15 : EReal) :
    (k0_pay114 rows8 (k0_pay93 vo3) (k0_pay109 rows8 (k0_pay92 ko3) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) (k0_pay110 (k0_pay91 z2944)) (k0_pay111 rows8 (k0_pay90 (k0_pay4 c) (k0_pay5 sp) (k0_pay6 sm) (k0_pay8 kn) z2432) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) k0_pay112 (k0_pay113 rows8) s12 s13 s14 s15 : FVec Ideal S8x128 .f32)
      = grp (k0_pay9 c sp sm kn z2432) ko3 vo3 z2944 (k0_pay9 c sp sm qn z1536) (k0_pay9 c sp sm qn z1664) (k0_pay9 c sp sm qn z1792)
          (k0_pay22 (k0_pay4 c) (k0_pay5 sp) (k0_pay6 sm) (k0_pay7 qn) z1920) s12 s13 s14 s15 := rfl

/-- Row 0 of a group's eight, as it is stored. -/
def head0 (X : FVec Ideal S8x128 .f32) : FVec Ideal S1x1x128 .f32 :=
  shapeCast S1x1x128 (extractStridedSlice S1x128 ![0, 0] X slices_S8x128_o0_0_S1x128) shapeCasts_S1x128_S1x1x128

theorem head0_apply (X : FVec Ideal S8x128 .f32) (d : Fin 128) : head0 X (ix3 0 0 d) = X (ix2 ⟨(⟨0, by omega⟩ : Fin 4).val, by omega⟩ d) := by
  pointwise [head0]

/-- Row 1 of a group's eight, as it is stored. -/
def head1 (X : FVec Ideal S8x128 .f32) : FVec Ideal S1x1x128 .f32 :=
  shapeCast S1x1x128 (extractStridedSlice S1x128 ![1, 0] X slices_S8x128_o1_0_S1x128) shapeCasts_S1x128_S1x1x128

theorem head1_apply (X : FVec Ideal S8x128 .f32) (d : Fin 128) : head1 X (ix3 0 0 d) = X (ix2 ⟨(⟨1, by omega⟩ : Fin 4).val, by omega⟩ d) := by
  pointwise [head1]

/-- Row 2 of a group's eight, as it is stored. -/
def head2 (X : FVec Ideal S8x128 .f32) : FVec Ideal S1x1x128 .f32 :=
  shapeCast S1x1x128 (extractStridedSlice S1x128 ![2, 0] X slices_S8x128_o2_0_S1x128) shapeCasts_S1x128_S1x1x128

theorem head2_apply (X : FVec Ideal S8x128 .f32) (d : Fin 128) : head2 X (ix3 0 0 d) = X (ix2 ⟨(⟨2, by omega⟩ : Fin 4).val, by omega⟩ d) := by
  pointwise [head2]

/-- Row 3 of a group's eight, as it is stored. -/
def head3 (X : FVec Ideal S8x128 .f32) : FVec Ideal S1x1x128 .f32 :=
  shapeCast S1x1x128 (extractStridedSlice S1x128 ![3, 0] X slices_S8x128_o3_0_S1x128) shapeCasts_S1x128_S1x1x128

theorem head3_apply (X : FVec Ideal S8x128 .f32) (d : Fin 128) : head3 X (ix3 0 0 d) = X (ix2 ⟨(⟨3, by omega⟩ : Fin 4).val, by omega⟩ d) := by
  pointwise [head3]

/-- What is stored for head 0: row 0 of group 0. -/
theorem stored0 (c sp sm qn kn : FVec Ideal S1x128 .f32) (z2048 z2560 z0 z128 z256 z384 : FVec Ideal S1x1x128 .f32) (ko0 vo0 : FVec Ideal S1x128x128 .f32) (s0 s1 s2 s3 : EReal) :
    (k0_pay31 (k0_pay12 vo0) (k0_pay25 (k0_pay10 z2560)) (k0_pay26 (k0_pay9 c sp sm kn z2048) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384)) (k0_pay27 rows8 s0 s1 s2 s3) (k0_pay28 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) (k0_pay29 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) : FVec Ideal S1x1x128 .f32)
      = head0 (grp (k0_pay9 c sp sm kn z2048) ko0 vo0 z2560 (k0_pay9 c sp sm qn z0) (k0_pay9 c sp sm qn z128) (k0_pay9 c sp sm qn z256)
          (k0_pay22 (k0_pay4 c) (k0_pay5 sp) (k0_pay6 sm) (k0_pay7 qn) z384) s0 s1 s2 s3) := rfl

/-- What is stored for head 1: row 1 of group 0. -/
theorem stored1 (c sp sm qn kn : FVec Ideal S1x128 .f32) (z2048 z2560 z0 z128 z256 z384 : FVec Ideal S1x1x128 .f32) (ko0 vo0 : FVec Ideal S1x128x128 .f32) (s0 s1 s2 s3 : EReal) :
    (k0_pay32 (k0_pay12 vo0) (k0_pay25 (k0_pay10 z2560)) (k0_pay26 (k0_pay9 c sp sm kn z2048) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384)) (k0_pay27 rows8 s0 s1 s2 s3) (k0_pay28 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) (k0_pay29 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) : FVec Ideal S1x1x128 .f32)
      = head1 (grp (k0_pay9 c sp sm kn z2048) ko0 vo0 z2560 (k0_pay9 c sp sm qn z0) (k0_pay9 c sp sm qn z128) (k0_pay9 c sp sm qn z256)
          (k0_pay22 (k0_pay4 c) (k0_pay5 sp) (k0_pay6 sm) (k0_pay7 qn) z384) s0 s1 s2 s3) := rfl

/-- What is stored for head 2: row 2 of group 0. -/
theorem stored2 (c sp sm qn kn : FVec Ideal S1x128 .f32) (z2048 z2560 z0 z128 z256 z384 : FVec Ideal S1x1x128 .f32) (ko0 vo0 : FVec Ideal S1x128x128 .f32) (s0 s1 s2 s3 : EReal) :
    (k0_pay33 (k0_pay12 vo0) (k0_pay25 (k0_pay10 z2560)) (k0_pay26 (k0_pay9 c sp sm kn z2048) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384)) (k0_pay27 rows8 s0 s1 s2 s3) (k0_pay28 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) (k0_pay29 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) : FVec Ideal S1x1x128 .f32)
      = head2 (grp (k0_pay9 c sp sm kn z2048) ko0 vo0 z2560 (k0_pay9 c sp sm qn z0) (k0_pay9 c sp sm qn z128) (k0_pay9 c sp sm qn z256)
          (k0_pay22 (k0_pay4 c) (k0_pay5 sp) (k0_pay6 sm) (k0_pay7 qn) z384) s0 s1 s2 s3) := rfl

/-- What is stored for head 3: row 3 of group 0. -/
theorem stored3 (c sp sm qn kn : FVec Ideal S1x128 .f32) (z2048 z2560 z0 z128 z256 z384 : FVec Ideal S1x1x128 .f32) (ko0 vo0 : FVec Ideal S1x128x128 .f32) (s0 s1 s2 s3 : EReal) :
    (k0_pay34 (k0_pay12 vo0) (k0_pay25 (k0_pay10 z2560)) (k0_pay26 (k0_pay9 c sp sm kn z2048) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384)) (k0_pay27 rows8 s0 s1 s2 s3) (k0_pay28 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) (k0_pay29 rows8 (k0_pay9 c sp sm kn z2048) (k0_pay11 ko0) (k0_pay20 rows8 (k0_pay17 (k0_pay6 sm) (k0_pay15 (k0_pay7 qn) z0) (k0_pay16 (k0_pay4 c) (k0_pay5 sp) (k0_pay7 qn) z0)) (k0_pay18 (k0_pay4 c) (k0_pay5 sp) (k0_pay6 sm) (k0_pay7 qn) z128) (k0_pay19 (k0_pay4 c) (k0_pay5 sp) (k0_pay6 sm) (k0_pay7 qn) z256)) (k0_pay21 rows8) (k0_pay22 (k0_pay4 c) (k0_pay5 sp) (k0_pay6 sm) (k0_pay7 qn) z384) s0 s1 s2 s3) : FVec Ideal S1x1x128 .f32)
      = head3 (grp (k0_pay9 c sp sm kn z2048) ko0 vo0 z2560 (k0_pay9 c sp sm qn z0) (k0_pay9 c sp sm qn z128) (k0_pay9 c sp sm qn z256)
          (k0_pay22 (k0_pay4 c) (k0_pay5 sp) (k0_pay6 sm) (k0_pay7 qn) z384) s0 s1 s2 s3) := rfl

/-- What is stored for head 4: row 0 of group 1. -/
theorem stored4 (c sp sm qn kn : FVec Ideal S1x128 .f32) (z2176 z2688 z512 z640 z768 z896 : FVec Ideal S1x1x128 .f32) (ko1 vo1 : FVec Ideal S1x128x128 .f32) (s4 s5 s6 s7 : EReal) :
    (k0_pay57 rows8 (k0_pay40 vo1) (k0_pay51 rows8 (k0_pay39 ko1) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) (k0_pay52 (k0_pay38 z2688)) (k0_pay53 rows8 (k0_pay37 (k0_pay4 c) (k0_pay5 sp) (k0_pay6 sm) (k0_pay8 kn) (k0_pay35 z2176) (k0_pay36 z2176)) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) k0_pay54 (k0_pay55 rows8) s4 s5 s6 s7 : FVec Ideal S1x1x128 .f32)
      = head0 (grp (k0_pay9 c sp sm kn z2176) ko1 vo1 z2688 (k0_pay9 c sp sm qn z512) (k0_pay9 c sp sm qn z640) (k0_pay9 c sp sm qn z768)
          (k0_pay22 (k0_pay4 c) (k0_pay5 sp) (k0_pay6 sm) (k0_pay7 qn) z896) s4 s5 s6 s7) := rfl

/-- What is stored for head 5: row 1 of group 1. -/
theorem stored5 (c sp sm qn kn : FVec Ideal S1x128 .f32) (z2176 z2688 z512 z640 z768 z896 : FVec Ideal S1x1x128 .f32) (ko1 vo1 : FVec Ideal S1x128x128 .f32) (s4 s5 s6 s7 : EReal) :
    (k0_pay58 (k0_pay56 rows8 (k0_pay40 vo1) (k0_pay51 rows8 (k0_pay39 ko1) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) (k0_pay52 (k0_pay38 z2688)) (k0_pay53 rows8 (k0_pay37 (k0_pay4 c) (k0_pay5 sp) (k0_pay6 sm) (k0_pay8 kn) (k0_pay35 z2176) (k0_pay36 z2176)) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) k0_pay54 (k0_pay55 rows8) s4 s5 s6 s7) : FVec Ideal S1x1x128 .f32)
      = head1 (grp (k0_pay9 c sp sm kn z2176) ko1 vo1 z2688 (k0_pay9 c sp sm qn z512) (k0_pay9 c sp sm qn z640) (k0_pay9 c sp sm qn z768)
          (k0_pay22 (k0_pay4 c) (k0_pay5 sp) (k0_pay6 sm) (k0_pay7 qn) z896) s4 s5 s6 s7) := rfl

/-- What is stored for head 6: row 2 of group 1. -/
theorem stored6 (c sp sm qn kn : FVec Ideal S1x128 .f32) (z2176 z2688 z512 z640 z768 z896 : FVec Ideal S1x1x128 .f32) (ko1 vo1 : FVec Ideal S1x128x128 .f32) (s4 s5 s6 s7 : EReal) :
    (k0_pay59 (k0_pay56 rows8 (k0_pay40 vo1) (k0_pay51 rows8 (k0_pay39 ko1) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) (k0_pay52 (k0_pay38 z2688)) (k0_pay53 rows8 (k0_pay37 (k0_pay4 c) (k0_pay5 sp) (k0_pay6 sm) (k0_pay8 kn) (k0_pay35 z2176) (k0_pay36 z2176)) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) k0_pay54 (k0_pay55 rows8) s4 s5 s6 s7) : FVec Ideal S1x1x128 .f32)
      = head2 (grp (k0_pay9 c sp sm kn z2176) ko1 vo1 z2688 (k0_pay9 c sp sm qn z512) (k0_pay9 c sp sm qn z640) (k0_pay9 c sp sm qn z768)
          (k0_pay22 (k0_pay4 c) (k0_pay5 sp) (k0_pay6 sm) (k0_pay7 qn) z896) s4 s5 s6 s7) := rfl

/-- What is stored for head 7: row 3 of group 1. -/
theorem stored7 (c sp sm qn kn : FVec Ideal S1x128 .f32) (z2176 z2688 z512 z640 z768 z896 : FVec Ideal S1x1x128 .f32) (ko1 vo1 : FVec Ideal S1x128x128 .f32) (s4 s5 s6 s7 : EReal) :
    (k0_pay60 (k0_pay56 rows8 (k0_pay40 vo1) (k0_pay51 rows8 (k0_pay39 ko1) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) (k0_pay52 (k0_pay38 z2688)) (k0_pay53 rows8 (k0_pay37 (k0_pay4 c) (k0_pay5 sp) (k0_pay6 sm) (k0_pay8 kn) (k0_pay35 z2176) (k0_pay36 z2176)) (k0_pay44 (k0_pay4 c) (k0_pay5 sp) (k0_pay6 sm) (k0_pay7 qn) z512) (k0_pay47 (k0_pay6 sm) (k0_pay45 (k0_pay7 qn) z640) (k0_pay46 (k0_pay4 c) (k0_pay5 sp) (k0_pay7 qn) z640) 112#32) (k0_pay48 (k0_pay4 c) (k0_pay5 sp) (k0_pay6 sm) (k0_pay7 qn) z768) (k0_pay49 (k0_pay4 c) (k0_pay5 sp) (k0_pay6 sm) (k0_pay7 qn) z896) (FloatOps.ofBits (F := Ideal) FTy.f32 0#32)) k0_pay54 (k0_pay55 rows8) s4 s5 s6 s7) : FVec Ideal S1x1x128 .f32)
      = head3 (grp (k0_pay9 c sp sm kn z2176) ko1 vo1 z2688 (k0_pay9 c sp sm qn z512) (k0_pay9 c sp sm qn z640) (k0_pay9 c sp sm qn z768)
          (k0_pay22 (k0_pay4 c) (k0_pay5 sp) (k0_pay6 sm) (k0_pay7 qn) z896) s4 s5 s6 s7) := rfl

/-- What is stored for head 8: row 0 of group 2. -/
theorem stored8 (c sp sm qn kn : FVec Ideal S1x128 .f32) (z2304 z2816 z1024 z1152 z1280 z1408 : FVec Ideal S1x1x128 .f32) (ko2 vo2 : FVec Ideal S1x128x128 .f32) (s8 s9 s10 s11 : EReal) :
    (k0_pay86 (k0_pay64 vo2) (k0_pay79 (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay80 (k0_pay62 z2816)) (k0_pay81 (k0_pay61 (k0_pay4 c) (k0_pay5 sp) (k0_pay6 sm) (k0_pay8 kn) z2304) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay82 rows8 s8 s9 s10 s11) (k0_pay83 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) (k0_pay84 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) : FVec Ideal S1x1x128 .f32)
      = head0 (grp (k0_pay9 c sp sm kn z2304) ko2 vo2 z2816 (k0_pay9 c sp sm qn z1024) (k0_pay9 c sp sm qn z1152) (k0_pay9 c sp sm qn z1280)
          (k0_pay22 (k0_pay4 c) (k0_pay5 sp) (k0_pay6 sm) (k0_pay7 qn) z1408) s8 s9 s10 s11) := rfl

/-- What is stored for head 9: row 1 of group 2. -/
theorem stored9 (c sp sm qn kn : FVec Ideal S1x128 .f32) (z2304 z2816 z1024 z1152 z1280 z1408 : FVec Ideal S1x1x128 .f32) (ko2 vo2 : FVec Ideal S1x128x128 .f32) (s8 s9 s10 s11 : EReal) :
    (k0_pay87 (k0_pay64 vo2) (k0_pay79 (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay80 (k0_pay62 z2816)) (k0_pay81 (k0_pay61 (k0_pay4 c) (k0_pay5 sp) (k0_pay6 sm) (k0_pay8 kn) z2304) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay82 rows8 s8 s9 s10 s11) (k0_pay83 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) (k0_pay84 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) : FVec Ideal S1x1x128 .f32)
      = head1 (grp (k0_pay9 c sp sm kn z2304) ko2 vo2 z2816 (k0_pay9 c sp sm qn z1024) (k0_pay9 c sp sm qn z1152) (k0_pay9 c sp sm qn z1280)
          (k0_pay22 (k0_pay4 c) (k0_pay5 sp) (k0_pay6 sm) (k0_pay7 qn) z1408) s8 s9 s10 s11) := rfl

/-- What is stored for head 10: row 2 of group 2. -/
theorem stored10 (c sp sm qn kn : FVec Ideal S1x128 .f32) (z2304 z2816 z1024 z1152 z1280 z1408 : FVec Ideal S1x1x128 .f32) (ko2 vo2 : FVec Ideal S1x128x128 .f32) (s8 s9 s10 s11 : EReal) :
    (k0_pay88 (k0_pay64 vo2) (k0_pay79 (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay80 (k0_pay62 z2816)) (k0_pay81 (k0_pay61 (k0_pay4 c) (k0_pay5 sp) (k0_pay6 sm) (k0_pay8 kn) z2304) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay82 rows8 s8 s9 s10 s11) (k0_pay83 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) (k0_pay84 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) : FVec Ideal S1x1x128 .f32)
      = head2 (grp (k0_pay9 c sp sm kn z2304) ko2 vo2 z2816 (k0_pay9 c sp sm qn z1024) (k0_pay9 c sp sm qn z1152) (k0_pay9 c sp sm qn z1280)
          (k0_pay22 (k0_pay4 c) (k0_pay5 sp) (k0_pay6 sm) (k0_pay7 qn) z1408) s8 s9 s10 s11) := rfl

/-- What is stored for head 11: row 3 of group 2. -/
theorem stored11 (c sp sm qn kn : FVec Ideal S1x128 .f32) (z2304 z2816 z1024 z1152 z1280 z1408 : FVec Ideal S1x1x128 .f32) (ko2 vo2 : FVec Ideal S1x128x128 .f32) (s8 s9 s10 s11 : EReal) :
    (k0_pay89 (k0_pay64 vo2) (k0_pay79 (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay80 (k0_pay62 z2816)) (k0_pay81 (k0_pay61 (k0_pay4 c) (k0_pay5 sp) (k0_pay6 sm) (k0_pay8 kn) z2304) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8)) (k0_pay82 rows8 s8 s9 s10 s11) (k0_pay83 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) (k0_pay84 rows8 (k0_pay61 (k0_pay4 c) (k0_pay5 sp) (k0_pay6 sm) (k0_pay8 kn) z2304) (k0_pay63 ko2) (k0_pay75 (k0_pay4 c) (k0_pay5 sp) (k0_pay6 sm) (k0_pay7 qn) z1408) (k0_pay76 (k0_pay6 sm) rows8 (k0_pay70 (k0_pay5 sp) (k0_pay6 sm) (k0_pay67 (k0_pay7 qn) z1024) (k0_pay68 (k0_pay4 c) (k0_pay7 qn) z1024) (k0_pay69 (k0_pay7 qn) z1024)) (k0_pay71 (k0_pay4 c) (k0_pay5 sp) (k0_pay6 sm) (k0_pay7 qn) z1152) (k0_pay73 (k0_pay4 c) (k0_pay5 sp) (k0_pay7 qn) z1280) (k0_pay74 (k0_pay7 qn) z1280)) (k0_pay77 rows8) s8 s9 s10 s11) : FVec Ideal S1x1x128 .f32)
      = head3 (grp (k0_pay9 c sp sm kn z2304) ko2 vo2 z2816 (k0_pay9 c sp sm qn z1024) (k0_pay9 c sp sm qn z1152) (k0_pay9 c sp sm qn z1280)
          (k0_pay22 (k0_pay4 c) (k0_pay5 sp) (k0_pay6 sm) (k0_pay7 qn) z1408) s8 s9 s10 s11) := rfl

/-- What is stored for head 12: row 0 of group 3. -/
theorem stored12 (c sp sm qn kn : FVec Ideal S1x128 .f32) (z2432 z2944 z1536 z1664 z1792 z1920 : FVec Ideal S1x1x128 .f32) (ko3 vo3 : FVec Ideal S1x128x128 .f32) (s12 s13 s14 s15 : EReal) :
    (k0_pay116 (k0_pay115 rows8 (k0_pay93 vo3) (k0_pay109 rows8 (k0_pay92 ko3) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) (k0_pay110 (k0_pay91 z2944)) (k0_pay111 rows8 (k0_pay90 (k0_pay4 c) (k0_pay5 sp) (k0_pay6 sm) (k0_pay8 kn) z2432) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) k0_pay112 (k0_pay113 rows8) s12 s13 s14 s15) : FVec Ideal S1x1x128 .f32)
      = head0 (grp (k0_pay9 c sp sm kn z2432) ko3 vo3 z2944 (k0_pay9 c sp sm qn z1536) (k0_pay9 c sp sm qn z1664) (k0_pay9 c sp sm qn z1792)
          (k0_pay22 (k0_pay4 c) (k0_pay5 sp) (k0_pay6 sm) (k0_pay7 qn) z1920) s12 s13 s14 s15) := rfl

/-- What is stored for head 13: row 1 of group 3. -/
theorem stored13 (c sp sm qn kn : FVec Ideal S1x128 .f32) (z2432 z2944 z1536 z1664 z1792 z1920 : FVec Ideal S1x1x128 .f32) (ko3 vo3 : FVec Ideal S1x128x128 .f32) (s12 s13 s14 s15 : EReal) :
    (k0_pay117 (k0_pay114 rows8 (k0_pay93 vo3) (k0_pay109 rows8 (k0_pay92 ko3) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) (k0_pay110 (k0_pay91 z2944)) (k0_pay111 rows8 (k0_pay90 (k0_pay4 c) (k0_pay5 sp) (k0_pay6 sm) (k0_pay8 kn) z2432) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) k0_pay112 (k0_pay113 rows8) s12 s13 s14 s15) : FVec Ideal S1x1x128 .f32)
      = head1 (grp (k0_pay9 c sp sm kn z2432) ko3 vo3 z2944 (k0_pay9 c sp sm qn z1536) (k0_pay9 c sp sm qn z1664) (k0_pay9 c sp sm qn z1792)
          (k0_pay22 (k0_pay4 c) (k0_pay5 sp) (k0_pay6 sm) (k0_pay7 qn) z1920) s12 s13 s14 s15) := rfl

/-- What is stored for head 14: row 2 of group 3. -/
theorem stored14 (c sp sm qn kn : FVec Ideal S1x128 .f32) (z2432 z2944 z1536 z1664 z1792 z1920 : FVec Ideal S1x1x128 .f32) (ko3 vo3 : FVec Ideal S1x128x128 .f32) (s12 s13 s14 s15 : EReal) :
    (k0_pay118 (k0_pay114 rows8 (k0_pay93 vo3) (k0_pay109 rows8 (k0_pay92 ko3) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) (k0_pay110 (k0_pay91 z2944)) (k0_pay111 rows8 (k0_pay90 (k0_pay4 c) (k0_pay5 sp) (k0_pay6 sm) (k0_pay8 kn) z2432) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) k0_pay112 (k0_pay113 rows8) s12 s13 s14 s15) : FVec Ideal S1x1x128 .f32)
      = head2 (grp (k0_pay9 c sp sm kn z2432) ko3 vo3 z2944 (k0_pay9 c sp sm qn z1536) (k0_pay9 c sp sm qn z1664) (k0_pay9 c sp sm qn z1792)
          (k0_pay22 (k0_pay4 c) (k0_pay5 sp) (k0_pay6 sm) (k0_pay7 qn) z1920) s12 s13 s14 s15) := rfl

/-- What is stored for head 15: row 3 of group 3. -/
theorem stored15 (c sp sm qn kn : FVec Ideal S1x128 .f32) (z2432 z2944 z1536 z1664 z1792 z1920 : FVec Ideal S1x1x128 .f32) (ko3 vo3 : FVec Ideal S1x128x128 .f32) (s12 s13 s14 s15 : EReal) :
    (k0_pay119 (k0_pay114 rows8 (k0_pay93 vo3) (k0_pay109 rows8 (k0_pay92 ko3) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) (k0_pay110 (k0_pay91 z2944)) (k0_pay111 rows8 (k0_pay90 (k0_pay4 c) (k0_pay5 sp) (k0_pay6 sm) (k0_pay8 kn) z2432) (k0_pay99 (k0_pay4 c) (k0_pay5 sp) (k0_pay6 sm) (k0_pay7 qn) z1536) (k0_pay103 (k0_pay6 sm) (k0_pay100 (k0_pay7 qn) z1664) (k0_pay101 (k0_pay4 c) (k0_pay7 qn) z1664) (k0_pay102 (k0_pay5 sp) (k0_pay7 qn) z1664)) (k0_pay104 (k0_pay4 c) (k0_pay5 sp) (k0_pay6 sm) (k0_pay7 qn) z1792) (k0_pay106 (k0_pay4 c) (k0_pay5 sp) (k0_pay7 qn) z1920) (k0_pay107 (k0_pay6 sm) (k0_pay7 qn) z1920)) k0_pay112 (k0_pay113 rows8) s12 s13 s14 s15) : FVec Ideal S1x1x128 .f32)
      = head3 (grp (k0_pay9 c sp sm kn z2432) ko3 vo3 z2944 (k0_pay9 c sp sm qn z1536) (k0_pay9 c sp sm qn z1664) (k0_pay9 c sp sm qn z1792)
          (k0_pay22 (k0_pay4 c) (k0_pay5 sp) (k0_pay6 sm) (k0_pay7 qn) z1920) s12 s13 s14 s15) := rfl

/-- Query head `h` of a row, normalised and rotated. -/
def qv (x1 : FVec Ideal S1x1x7168 .f32) (c sp sm qn : FVec Ideal S1x128 .f32) (h : ℕ) (hh : h < 16) (j : Fin 128) : EReal :=
  rope3 (nrm (fun j => x1 (ix3 0 0 ⟨128 * h + j.val, by omega⟩)) (fun j => qn (ix2 0 j))) (fun j => c (ix2 0 j)) (fun j => sp (ix2 0 j)) (fun j => sm (ix2 0 j)) j

/-- Key head `g` of a row, normalised and rotated. -/
def kv (x1 : FVec Ideal S1x1x7168 .f32) (c sp sm kn : FVec Ideal S1x128 .f32) (g : ℕ) (hg : g < 4) (j : Fin 128) : EReal :=
  rope3 (nrm (fun j => x1 (ix3 0 0 ⟨2048 + 128 * g + j.val, by omega⟩)) (fun j => kn (ix2 0 j))) (fun j => c (ix2 0 j)) (fun j => sp (ix2 0 j)) (fun j => sm (ix2 0 j)) j

/-- Value head `g` of a row. -/
def vv (x1 : FVec Ideal S1x1x7168 .f32) (g : ℕ) (hg : g < 4) (j : Fin 128) : EReal := x1 (ix3 0 0 ⟨2560 + 128 * g + j.val, by omega⟩)

/-- The attention's output for head `4 g + r` of a row. -/
def attK (x0 : FVec Ideal S16 .f32) (x1 : FVec Ideal S1x1x7168 .f32) (x2 x3 : FVec Ideal S1x128x512 .f32) (c sp sm qn kn : FVec Ideal S1x128 .f32)
    (g r : ℕ) (hg : g < 4) (hr : r < 4) (d : Fin 128) : EReal :=
  att (qv x1 c sp sm qn (4 * g + r) (by omega)) (fun t j => x2 (ix3 0 t ⟨128 * g + j.val, by omega⟩)) (fun t j => x3 (ix3 0 t ⟨128 * g + j.val, by omega⟩))
    (kv x1 c sp sm kn g hg) (vv x1 g hg) (x0 (ix1 ⟨4 * g + r, by omega⟩)) d

/-- A group's row is the attention of its head, when the group is given the row's pieces. -/
theorem grp_att (x0 : FVec Ideal S16 .f32) (x1 : FVec Ideal S1x1x7168 .f32) (x2 x3 : FVec Ideal S1x128x512 .f32) (c sp sm qn kn : FVec Ideal S1x128 .f32)
    (c' sp' sm' qn' kn' : FVec Ideal S1x128 .f32) (hc : c' = c) (hsp : sp' = sp) (hsm : sm' = sm) (hqn : qn' = qn) (hkn : kn' = kn)
    (g : ℕ) (hg : g < 4) (zk zv z0 z1 z2 z3 : FVec Ideal S1x1x128 .f32) (ko vo : FVec Ideal S1x128x128 .f32) (s0 s1 s2 s3 : EReal)
    (hk : ∀ j : Fin 128, zk (ix3 0 0 j) = x1 (ix3 0 0 ⟨2048 + 128 * g + j.val, by omega⟩))
    (hv : ∀ j : Fin 128, zv (ix3 0 0 j) = x1 (ix3 0 0 ⟨2560 + 128 * g + j.val, by omega⟩))
    (h0 : ∀ j : Fin 128, z0 (ix3 0 0 j) = x1 (ix3 0 0 ⟨128 * (4 * g + 0) + j.val, by omega⟩))
    (h1 : ∀ j : Fin 128, z1 (ix3 0 0 j) = x1 (ix3 0 0 ⟨128 * (4 * g + 1) + j.val, by omega⟩))
    (h2 : ∀ j : Fin 128, z2 (ix3 0 0 j) = x1 (ix3 0 0 ⟨128 * (4 * g + 2) + j.val, by omega⟩))
    (h3 : ∀ j : Fin 128, z3 (ix3 0 0 j) = x1 (ix3 0 0 ⟨128 * (4 * g + 3) + j.val, by omega⟩))
    (hko : ∀ t j : Fin 128, ko (ix3 0 t j) = x2 (ix3 0 t ⟨128 * g + j.val, by omega⟩))
    (hvo : ∀ t j : Fin 128, vo (ix3 0 t j) = x3 (ix3 0 t ⟨128 * g + j.val, by omega⟩))
    (e0 : s0 = x0 (ix1 ⟨4 * g + 0, by omega⟩)) (e1 : s1 = x0 (ix1 ⟨4 * g + 1, by omega⟩)) (e2 : s2 = x0 (ix1 ⟨4 * g + 2, by omega⟩))
    (e3 : s3 = x0 (ix1 ⟨4 * g + 3, by omega⟩)) (r : Fin 4) (d : Fin 128) :
    grp (k0_pay9 c' sp' sm' kn' zk) ko vo zv (k0_pay9 c' sp' sm' qn' z0) (k0_pay9 c' sp' sm' qn' z1) (k0_pay9 c' sp' sm' qn' z2)
        (k0_pay22 (k0_pay4 c') (k0_pay5 sp') (k0_pay6 sm') (k0_pay7 qn') z3) s0 s1 s2 s3 (ix2 ⟨r.val, by omega⟩ d)
      = attK x0 x1 x2 x3 c sp sm qn kn g r.val hg r.isLt d := by
  subst hc hsp hsm hqn hkn
  rw [grp_apply]
  have hq : qrow (k0_pay9 c' sp' sm' qn' z0) (k0_pay9 c' sp' sm' qn' z1) (k0_pay9 c' sp' sm' qn' z2)
      (k0_pay22 (k0_pay4 c') (k0_pay5 sp') (k0_pay6 sm') (k0_pay7 qn') z3) r = qv x1 c' sp' sm' qn' (4 * g + r.val) (by omega) := by
    funext j
    match r with
    | ⟨0, _⟩ => simp only [qrow, pay9_apply, h0, qv]
    | ⟨1, _⟩ => simp only [qrow, pay9_apply, h1, qv]
    | ⟨2, _⟩ => simp only [qrow, pay9_apply, h2, qv]
    | ⟨3, _⟩ => simp only [qrow, pay22_apply, h3, qv]
  have hs : srow s0 s1 s2 s3 r = x0 (ix1 ⟨4 * g + r.val, by omega⟩) := by
    match r with
    | ⟨0, _⟩ => exact e0
    | ⟨1, _⟩ => exact e1
    | ⟨2, _⟩ => exact e2
    | ⟨3, _⟩ => exact e3
  rw [hq, hs]
  simp only [pay9_apply, hk, hv, hko, hvo, attK]
  rfl

/-- The rows' numbers of a cache, as the kernel writes them. -/
abbrev rows128 : IVec S128x128 32 := iota Kind.tc S128x128 32 [0] iota_S128x128_d0_w32

/-- A cache moved up by one row, the new row last. -/
theorem pay13_apply (k : FVec Ideal S1x128 .f32) (ko : FVec Ideal S1x128x128 .f32) (a d : Fin 128) :
    k0_pay13 (F := Ideal) rows128 k ko (ix3 0 a d)
      = if a.val = 127 then k (ix2 0 d) else ko (ix3 0 ⟨(a.val + 1) % 128, Nat.mod_lt _ (by decide)⟩ d) := by
  have e : (⟨(a.val + 128 - 127) % 128, Nat.mod_lt _ (by decide)⟩ : Fin 128) = ⟨(a.val + 1) % 128, Nat.mod_lt _ (by decide)⟩ := Fin.ext (by show (a.val + 128 - 127) % 128 = (a.val + 1) % 128; omega)
  have hsel : ∀ x y : EReal, Scalar.select (IntOp.cmpi CmpIPredicate.eq (BitVec.ofNat 32 a.val) 127#32) x y = if a.val = 127 then x else y := by
    intro x y
    have : ∀ a : Fin 128, IntOp.cmpi CmpIPredicate.eq (BitVec.ofNat 32 a.val) 127#32 = if a.val = 127 then 1#1 else 0#1 := by decide +kernel
    rw [this]
    split <;> rfl
  pointwise [k0_pay13, k0_pay11, rows128]
  exact (hsel _ _).trans (by rw [e])

/-- The gated linear unit of the convolution's input. -/
def gluK (x1 : FVec Ideal S1x1x7168 .f32) (x10 : FVec Ideal S1x4096 .f32) (j : Fin 2048) : EReal :=
  (x1 (ix3 0 0 ⟨3072 + j.val, by omega⟩) + x10 (ix2 0 ⟨j.val, by omega⟩))
    * (Ideal.ofBits .f32 0x3F000000#32 * (Ideal.ofBits .f32 0x3F800000#32
        + Ideal.tanh (Ideal.ofBits .f32 0x3F000000#32 * (x1 (ix3 0 0 ⟨5120 + j.val, by omega⟩) + x10 (ix2 0 ⟨2048 + j.val, by omega⟩)))))

/-- The convolution's output for the new row, with its bias. -/
def convK (x1 : FVec Ideal S1x1x7168 .f32) (x10 : FVec Ideal S1x4096 .f32) (x4 : FVec Ideal S1x30x2048 .f32) (x11 : FVec Ideal S31x2048 .f32)
    (x12 : FVec Ideal S1x2048 .f32) (j : Fin 2048) : EReal :=
  (∑ t : Fin 30, x11 (ix2 ⟨t.val, by omega⟩ j) * x4 (ix3 0 t j)) + x11 (ix2 30 j) * gluK x1 x10 j + x12 (ix2 0 j)

/-- The mean of a row of 2048. -/
def mean (f : Fin 2048 → EReal) : EReal := Ideal.div (∑ j, f j) (Ideal.ofBits .f32 0x45000000#32)

/-- A row less its mean, scaled by the root of its variance, with a gain and a bias. -/
def lnorm (f g b : Fin 2048 → EReal) (j : Fin 2048) : EReal :=
  (f j - mean f) * Ideal.rsqrt (mean (fun j => (f j - mean f) * (f j - mean f)) + Ideal.ofBits .f32 0x358637BD#32) * g j + b j

/-- The row times its logistic, by `tanh`. -/
def siluT (y : EReal) : EReal :=
  y * (Ideal.ofBits .f32 0x3F000000#32 * (Ideal.ofBits .f32 0x3F800000#32 + Ideal.tanh (Ideal.ofBits .f32 0x3F000000#32 * y)))

theorem pay120_apply (a : FVec Ideal S1x1x2048 .f32) (ba : FVec Ideal S1x2048 .f32) (g : FVec Ideal S1x1x2048 .f32) (bg : FVec Ideal S1x2048 .f32) (j : Fin 2048) :
    k0_pay120 (F := Ideal) a ba g bg (ix2 0 j)
      = (a (ix3 0 0 j) + ba (ix2 0 j)) * (Ideal.ofBits .f32 0x3F000000#32 * (Ideal.ofBits .f32 0x3F800000#32
        + Ideal.tanh (Ideal.ofBits .f32 0x3F000000#32 * (g (ix3 0 0 j) + bg (ix2 0 j))))) := by
  pointwise [k0_pay120]

/-- The normalised row of the convolution, from the values the kernel reads. -/
theorem pay121_apply (gl : FVec Ideal S1x2048 .f32) (w : FVec Ideal S30x2048 .f32) (st : FVec Ideal S1x30x2048 .f32) (wl cb g b : FVec Ideal S1x2048 .f32) (j : Fin 2048) :
    k0_pay121 (F := Ideal) gl w st wl cb g b (ix2 0 j)
      = lnorm (fun j => (∑ t : Fin 30, w (ix2 t j) * st (ix3 0 t j)) + wl (ix2 0 j) * gl (ix2 0 j) + cb (ix2 0 j)) (fun j => g (ix2 0 j)) (fun j => b (ix2 0 j)) j := by
  pointwise [k0_pay121, lnorm, mean]

/-- What is stored of the convolution. -/
theorem pay1_apply (gl : FVec Ideal S1x2048 .f32) (w : FVec Ideal S30x2048 .f32) (st : FVec Ideal S1x30x2048 .f32) (wl cb g b : FVec Ideal S1x2048 .f32) (j : Fin 2048) :
    k0_pay1 (F := Ideal) (k0_pay121 gl w st wl cb g b) (k0_pay122 gl w st wl cb g b) k0_pay123 (ix3 0 0 j)
      = siluT (lnorm (fun j => (∑ t : Fin 30, w (ix2 t j) * st (ix3 0 t j)) + wl (ix2 0 j) * gl (ix2 0 j) + cb (ix2 0 j)) (fun j => g (ix2 0 j)) (fun j => b (ix2 0 j)) j) := by
  rw [← pay121_apply]
  pointwise [k0_pay1, k0_pay122, k0_pay123, siluT]

end Cert.SampleCore

end
-- ==== Proof.SampleBlock.lean ====
/-
  What a grid step of the attention and convolution call leaves in its four output blocks, as functions of the blocks it
  reads: each output's stores taken one by one.
-/
module

public import proofs.«01_k».proof.Proof.SampleRow
public import Idealize.ShloMosaic.Lib.Pointwise
public import Idealize.ShloMosaic.Lib.Pipeline.ValueKit.Tiles
public import Idealize.ShloMosaic.Lib.Pipeline.ValueKit.Geometry
public import Idealize.ShloMosaic.Lib.Pipeline.ValueKit.Acc

@[expose] public section

set_option maxRecDepth 16384

noncomputable section

namespace Cert.SampleCore

open Cert.KernelIdeal Cert.KernelIdeal.Gen Idealize.ShloMosaic Idealize.ShloMosaic.TcCoe Idealize.SL.Sem

/-! ## The four outputs of a step -/

/-- The first output: sixteen heads of attention, then the convolution. -/
def G15 (x0 : FVec Ideal S16 .f32) (x1 : FVec Ideal S1x1x7168 .f32) (x2 x3 : FVec Ideal S1x128x512 .f32) (x4 : FVec Ideal S1x30x2048 .f32)
    (c sp sm qn kn : FVec Ideal S1x128 .f32) (x10 : FVec Ideal S1x4096 .f32) (x11 : FVec Ideal S31x2048 .f32) (x12 x13 x14 : FVec Ideal S1x2048 .f32)
    (y : S1x1x4096.Idx) : EReal :=
  if h : (y 2).val < 2048 then
    attK x0 x1 x2 x3 c sp sm qn kn ((y 2).val / 512) ((y 2).val / 128 % 4) (by omega) (by omega) ⟨(y 2).val % 128, by omega⟩
  else
    siluT (lnorm (convK x1 x10 x4 x11 x12) (fun j => x13 (ix2 0 j)) (fun j => x14 (ix2 0 j)) ⟨(y 2).val - 2048, by have := (y 2).isLt; have e : S1x1x4096.size 2 = 4096 := rfl; omega⟩)

/-- The second output: the key cache with the row's key. -/
def G16 (x1 : FVec Ideal S1x1x7168 .f32) (x2 : FVec Ideal S1x128x512 .f32) (c sp sm kn : FVec Ideal S1x128 .f32) (y : S1x128x512.Idx) : EReal :=
  if (y 1).val = 127 then kv x1 c sp sm kn ((y 2).val / 128) (by have := (y 2).isLt; have e : S1x128x512.size 2 = 512 := rfl; omega) ⟨(y 2).val % 128, by omega⟩
  else x2 (ix3 0 ⟨((y 1).val + 1) % 128, by omega⟩ (y 2))

/-- The third output: the value cache with the row's value. -/
def G17 (x1 : FVec Ideal S1x1x7168 .f32) (x3 : FVec Ideal S1x128x512 .f32) (y : S1x128x512.Idx) : EReal :=
  if (y 1).val = 127 then vv x1 ((y 2).val / 128) (by have := (y 2).isLt; have e : S1x128x512.size 2 = 512 := rfl; omega) ⟨(y 2).val % 128, by omega⟩
  else x3 (ix3 0 ⟨((y 1).val + 1) % 128, by omega⟩ (y 2))

/-- The fourth output: the convolution's state with the row's gated unit. -/
def G18 (x1 : FVec Ideal S1x1x7168 .f32) (x4 : FVec Ideal S1x30x2048 .f32) (x10 : FVec Ideal S1x4096 .f32) (y : S1x30x2048.Idx) : EReal :=
  if h : (y 1).val < 29 then x4 (ix3 0 ⟨(y 1).val + 1, by omega⟩ (y 2)) else gluK x1 x10 (y 2)

/-! ## Places and loads -/

theorem emb_of {S : Shape} (off size : Fin S.rank → ℕ) (inb) (x : (Rect.unit off size inb).shape.Idx) (y : S.Idx) (h : ∀ a, (y a : ℕ) = off a + x a) :
    (Rect.unit off size inb).emb x = y :=
  funext fun a => Fin.ext ((ValueKit.rect_emb_unit_val off size inb x a).trans (h a).symm)

theorem ld_z {n k : ℕ} (x : (⟨3, ![1, 1, n]⟩ : Shape).Idx → EReal) (off : ℕ) (inb) (j : Fin k) (v : ℕ) (hv : v < n) (h : v = off + j.val) :
    View.ld (Val := Elt Ideal) (e' := .f32) x (Rect.unit (s := ⟨3, ![1, 1, n]⟩) ![0, 0, off] ![1, 1, k] inb) (ix3 0 0 j) = x (ix3 0 0 ⟨v, hv⟩) :=
  View.ld_unit_apply_of (Val := Elt Ideal) (e := .f32) x _ _ _ _ _ (fun a => match a with | ⟨0, _⟩ => rfl | ⟨1, _⟩ => rfl | ⟨2, _⟩ => h)

theorem ld_c {m n k : ℕ} (x : (⟨3, ![1, m, n]⟩ : Shape).Idx → EReal) (off : ℕ) (inb) (t : Fin m) (j : Fin k) (v : ℕ) (hv : v < n) (h : v = off + j.val) :
    View.ld (Val := Elt Ideal) (e' := .f32) x (Rect.unit (s := ⟨3, ![1, m, n]⟩) ![0, 0, off] ![1, m, k] inb) (ix3 0 t j) = x (ix3 0 t ⟨v, hv⟩) :=
  View.ld_unit_apply_of (Val := Elt Ideal) (e := .f32) x _ _ _ _ _ (fun a => match a with | ⟨0, _⟩ => rfl | ⟨1, _⟩ => (Nat.zero_add _).symm | ⟨2, _⟩ => h)

theorem ld_m {m n l k : ℕ} (x : (⟨2, ![m, n]⟩ : Shape).Idx → EReal) (o1 o2 : ℕ) (inb) (t : Fin l) (j : Fin k) (u v : ℕ) (hu : u < m) (hv : v < n) (h1 : u = o1 + t.val) (h : v = o2 + j.val) :
    View.ld (Val := Elt Ideal) (e' := .f32) x (Rect.unit (s := ⟨2, ![m, n]⟩) ![o1, o2] ![l, k] inb) (ix2 t j) = x (ix2 ⟨u, hu⟩ ⟨v, hv⟩) :=
  View.ld_unit_apply_of (Val := Elt Ideal) (e := .f32) x _ _ _ _ _ (fun a => match a with | ⟨0, _⟩ => h1 | ⟨1, _⟩ => h)

theorem ld_s (x : S16.Idx → EReal) (off : ℕ) (inb) (hf) (v : ℕ) (hv : v < 16) (h : v = off) :
    View.ld (Val := Elt Ideal) (e' := .f32) x (Rect.unit (s := S16) ![off] ![1] inb) (Shape.Idx.first hf) = x (ix1 ⟨v, hv⟩) :=
  View.ld_unit_apply_of (Val := Elt Ideal) (e := .f32) x _ _ _ _ _ (fun a => match a with | ⟨0, _⟩ => h)

theorem ld_w {S : Shape} (x : S.Idx → EReal) (off : Fin S.rank → ℕ) (inb) (h : ∀ a, off a = 0) :
    View.ld (Val := Elt Ideal) (e' := .f32) x (Rect.unit (s := S) off S.size inb) = x := View.ld_unit_lit' (Val := Elt Ideal) (e := .f32) inb x h

theorem idx_row {n : ℕ} (x : (⟨3, ![1, 1, n]⟩ : Shape).Idx) : x = ix3 0 0 (x 2) :=
  funext fun a => match a with | ⟨0, _⟩ => Subsingleton.elim (α := Fin 1) _ _ | ⟨1, _⟩ => Subsingleton.elim (α := Fin 1) _ _ | ⟨2, _⟩ => rfl

theorem idx_tab {m n : ℕ} (x : (⟨3, ![1, m, n]⟩ : Shape).Idx) : x = ix3 0 (x 1) (x 2) :=
  funext fun a => match a with | ⟨0, _⟩ => Subsingleton.elim (α := Fin 1) _ _ | ⟨1, _⟩ => rfl | ⟨2, _⟩ => rfl

/-! ## The first output -/

theorem lnorm_congr (f g b f' g' b' : Fin 2048 → EReal) (d : Fin 2048) (hf : ∀ j, f j = f' j) (hg : ∀ j, g j = g' j) (hb : ∀ j, b j = b' j) :
    lnorm f g b d = lnorm f' g' b' d := by
  rw [show f = f' from funext hf, show g = g' from funext hg, show b = b' from funext hb]

theorem attK_congr (x0 : FVec Ideal S16 .f32) (x1 : FVec Ideal S1x1x7168 .f32) (x2 x3 : FVec Ideal S1x128x512 .f32) (c sp sm qn kn : FVec Ideal S1x128 .f32)
    (g r g' r' : ℕ) (hg : g < 4) (hr : r < 4) (hg' : g' < 4) (hr' : r' < 4) (d d' : Fin 128) (eg : g = g') (er : r = r') (ed : d = d') :
    attK x0 x1 x2 x3 c sp sm qn kn g r hg hr d = attK x0 x1 x2 x3 c sp sm qn kn g' r' hg' hr' d' := by
  subst eg er ed; rfl

theorem G15_head (x0 : FVec Ideal S16 .f32) (x1 : FVec Ideal S1x1x7168 .f32) (x2 x3 : FVec Ideal S1x128x512 .f32) (x4 : FVec Ideal S1x30x2048 .f32)
    (c sp sm qn kn : FVec Ideal S1x128 .f32) (x10 : FVec Ideal S1x4096 .f32) (x11 : FVec Ideal S31x2048 .f32) (x12 x13 x14 : FVec Ideal S1x2048 .f32)
    (g r : ℕ) (hg : g < 4) (hr : r < 4) (d : Fin 128) (v : ℕ) (hv : v < 4096) (h : v = 128 * (4 * g + r) + d.val) :
    G15 x0 x1 x2 x3 x4 c sp sm qn kn x10 x11 x12 x13 x14 (ix3 0 0 ⟨v, hv⟩) = attK x0 x1 x2 x3 c sp sm qn kn g r hg hr d := by
  have hl : (ix3 (n0 := 1) (n1 := 1) (n2 := 4096) 0 0 ⟨v, hv⟩ 2).val < 2048 := by show v < 2048; omega
  unfold G15
  rw [dif_pos hl]
  exact attK_congr _ _ _ _ _ _ _ _ _ _ _ _ _ _ _ _ _ _ _ (by show v / 512 = g; omega) (by show v / 128 % 4 = r; omega) (Fin.ext (by show v % 128 = d.val; omega))

theorem G15_conv (x0 : FVec Ideal S16 .f32) (x1 : FVec Ideal S1x1x7168 .f32) (x2 x3 : FVec Ideal S1x128x512 .f32) (x4 : FVec Ideal S1x30x2048 .f32)
    (c sp sm qn kn : FVec Ideal S1x128 .f32) (x10 : FVec Ideal S1x4096 .f32) (x11 : FVec Ideal S31x2048 .f32) (x12 x13 x14 : FVec Ideal S1x2048 .f32)
    (d : Fin 2048) (v : ℕ) (hv : v < 4096) (h : v = 2048 + d.val) :
    G15 x0 x1 x2 x3 x4 c sp sm qn kn x10 x11 x12 x13 x14 (ix3 0 0 ⟨v, hv⟩)
      = siluT (lnorm (convK x1 x10 x4 x11 x12) (fun j => x13 (ix2 0 j)) (fun j => x14 (ix2 0 j)) d) := by
  have hl : ¬ (ix3 (n0 := 1) (n1 := 1) (n2 := 4096) 0 0 ⟨v, hv⟩ 2).val < 2048 := by show ¬ v < 2048; omega
  unfold G15
  rw [dif_neg hl]
  congr 1
  exact congrArg _ (Fin.ext (by show v - 2048 = d.val; omega))

/-- The gated unit of the row, from the values the kernel reads. -/
theorem glu_ld (x1 : FVec Ideal S1x1x7168 .f32) (x10 : FVec Ideal S1x4096 .f32) (i1 i2 i3 i4) (j : Fin 2048) :
    k0_pay120 (F := Ideal) (View.ld (Val := Elt Ideal) (e' := .f32) x1 (Rect.unit (s := S1x1x7168) ![0, 0, 3072] ![1, 1, 2048] i1))
      (View.ld (Val := Elt Ideal) (e' := .f32) x10 (Rect.unit (s := S1x4096) ![0, 0] ![1, 2048] i2))
      (View.ld (Val := Elt Ideal) (e' := .f32) x1 (Rect.unit (s := S1x1x7168) ![0, 0, 5120] ![1, 1, 2048] i3))
      (View.ld (Val := Elt Ideal) (e' := .f32) x10 (Rect.unit (s := S1x4096) ![0, 2048] ![1, 2048] i4)) (ix2 0 j) = gluK x1 x10 j := by
  refine (pay120_apply _ _ _ _ j).trans ?_
  rw [ld_z x1 3072 i1 j (3072 + j.val) (by omega) rfl, ld_z x1 5120 i3 j (5120 + j.val) (by omega) rfl,
    ld_m x10 0 0 i2 0 j 0 j.val (by omega) (by omega) rfl (by omega), ld_m x10 0 2048 i4 0 j 0 (2048 + j.val) (by omega) (by omega) rfl rfl]
  rfl

set_option maxHeartbeats 4000000 in
/-- The first output of a step. -/
theorem p15 (c : Dev nD) (i : grid0.Coords) (arg1 : Memref sig .tc .smem S16 .f32) (harg1 : arg1.IsWhole) (arg2 : Memref sig .tc .vmem S1x1x7168 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x30x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x4096 .f32) (harg11 : arg11.IsWhole) (arg12 : Memref sig .tc .vmem S31x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x1x4096 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x30x2048 .f32) (harg19 : arg19.IsWhole)
    (x0 : Vec Ideal S16 .f32) (x1 : Vec Ideal S1x1x7168 .f32) (x2 : Vec Ideal S1x128x512 .f32) (x3 : Vec Ideal S1x128x512 .f32) (x4 : Vec Ideal S1x30x2048 .f32) (x5 : Vec Ideal S1x128 .f32) (x6 : Vec Ideal S1x128 .f32) (x7 : Vec Ideal S1x128 .f32) (x8 : Vec Ideal S1x128 .f32) (x9 : Vec Ideal S1x128 .f32) (x10 : Vec Ideal S1x4096 .f32) (x11 : Vec Ideal S31x2048 .f32) (x12 : Vec Ideal S1x2048 .f32) (x13 : Vec Ideal S1x2048 .f32) (x14 : Vec Ideal S1x2048 .f32) (y : S1x1x4096.Idx) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = G15 x0 x1 x2 x3 x4 x5 x6 x7 x8 x9 x10 x11 x12 x13 x14 y := by
  refine View.read_writes_apply_of_pieces _ _ (G15 x0 x1 x2 x3 x4 x5 x6 x7 x8 x9 x10 x11 x12 x13 x14) _ (fun p hp x => ?_) y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A at hp
  dsimp only at hp
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 2048, x = ix3 0 0 d := ⟨x 2, idx_row (n := 2048) x⟩
    refine (pay1_apply _ _ _ _ _ _ _ d).trans ?_
    refine Eq.trans ?_ (congrArg (G15 x0 x1 x2 x3 x4 x5 x6 x7 x8 x9 x10 x11 x12 x13 x14) (emb_of (S := S1x1x4096) ![0, 0, 2048] S1x1x2048.size inb_S1x1x4096_S1x1x2048_0_0_2048 (ix3 0 0 d) (ix3 0 0 ⟨2048 + d.val, by omega⟩)
      (fun a => match a with | ⟨0, _⟩ => rfl | ⟨1, _⟩ => rfl | ⟨2, _⟩ => rfl))).symm
    refine Eq.trans ?_ (G15_conv _ _ _ _ _ _ _ _ _ _ _ _ _ _ _ d _ _ rfl).symm
    refine congrArg siluT (lnorm_congr _ _ _ _ _ _ d (fun j => ?_) (fun j => ?_) (fun j => ?_))
    · refine congrArg₂ (· + ·) (congrArg₂ (· + ·) (Finset.sum_congr rfl fun t _ => congrArg₂ (· * ·) ?_ ?_) (congrArg₂ (· * ·) ?_ ?_)) ?_
      · exact ld_m x11 0 0 _ t j t.val j.val (by omega) j.isLt (by omega) (by omega)
      · exact congrFun (ld_w x4 _ _ (by decide)) _
      · exact ld_m x11 30 0 _ 0 j 30 j.val (by omega) j.isLt rfl (by omega)
      · exact glu_ld x1 x10 _ _ _ _ j
      · exact congrFun (ld_w x12 _ _ (by decide)) _
    · exact congrFun (ld_w x13 _ _ (by decide)) _
    · exact congrFun (ld_w x14 _ _ (by decide)) _
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored15 _ _ _ _ _ _ _ _ _ _ _ _ _ _ _ _ _) _).trans ?_
    refine (head3_apply _ d).trans ?_
    refine Eq.trans ?_ (congrArg (G15 x0 x1 x2 x3 x4 x5 x6 x7 x8 x9 x10 x11 x12 x13 x14) (emb_of (S := S1x1x4096) ![0, 0, 1920] S1x1x128.size inb_S1x1x4096_S1x1x128_0_0_1920 (ix3 0 0 d) (ix3 0 0 ⟨1920 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 3 3 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 3 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 3 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored14 _ _ _ _ _ _ _ _ _ _ _ _ _ _ _ _ _) _).trans ?_
    refine (head2_apply _ d).trans ?_
    refine Eq.trans ?_ (congrArg (G15 x0 x1 x2 x3 x4 x5 x6 x7 x8 x9 x10 x11 x12 x13 x14) (emb_of (S := S1x1x4096) ![0, 0, 1792] S1x1x128.size inb_S1x1x4096_S1x1x128_0_0_1792 (ix3 0 0 d) (ix3 0 0 ⟨1792 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 3 2 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 3 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 2 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored13 _ _ _ _ _ _ _ _ _ _ _ _ _ _ _ _ _) _).trans ?_
    refine (head1_apply _ d).trans ?_
    refine Eq.trans ?_ (congrArg (G15 x0 x1 x2 x3 x4 x5 x6 x7 x8 x9 x10 x11 x12 x13 x14) (emb_of (S := S1x1x4096) ![0, 0, 1664] S1x1x128.size inb_S1x1x4096_S1x1x128_0_0_1664 (ix3 0 0 d) (ix3 0 0 ⟨1664 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 3 1 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 3 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 1 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored12 _ _ _ _ _ _ _ _ _ _ _ _ _ _ _ _ _) _).trans ?_
    refine (head0_apply _ d).trans ?_
    refine Eq.trans ?_ (congrArg (G15 x0 x1 x2 x3 x4 x5 x6 x7 x8 x9 x10 x11 x12 x13 x14) (emb_of (S := S1x1x4096) ![0, 0, 1536] S1x1x128.size inb_S1x1x4096_S1x1x128_0_0_1536 (ix3 0 0 d) (ix3 0 0 ⟨1536 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 3 0 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 3 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 0 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored11 _ _ _ _ _ _ _ _ _ _ _ _ _ _ _ _ _) _).trans ?_
    refine (head3_apply _ d).trans ?_
    refine Eq.trans ?_ (congrArg (G15 x0 x1 x2 x3 x4 x5 x6 x7 x8 x9 x10 x11 x12 x13 x14) (emb_of (S := S1x1x4096) ![0, 0, 1408] S1x1x128.size inb_S1x1x4096_S1x1x128_0_0_1408 (ix3 0 0 d) (ix3 0 0 ⟨1408 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 2 3 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 2 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 3 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored10 _ _ _ _ _ _ _ _ _ _ _ _ _ _ _ _ _) _).trans ?_
    refine (head2_apply _ d).trans ?_
    refine Eq.trans ?_ (congrArg (G15 x0 x1 x2 x3 x4 x5 x6 x7 x8 x9 x10 x11 x12 x13 x14) (emb_of (S := S1x1x4096) ![0, 0, 1280] S1x1x128.size inb_S1x1x4096_S1x1x128_0_0_1280 (ix3 0 0 d) (ix3 0 0 ⟨1280 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 2 2 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 2 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 2 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored9 _ _ _ _ _ _ _ _ _ _ _ _ _ _ _ _ _) _).trans ?_
    refine (head1_apply _ d).trans ?_
    refine Eq.trans ?_ (congrArg (G15 x0 x1 x2 x3 x4 x5 x6 x7 x8 x9 x10 x11 x12 x13 x14) (emb_of (S := S1x1x4096) ![0, 0, 1152] S1x1x128.size inb_S1x1x4096_S1x1x128_0_0_1152 (ix3 0 0 d) (ix3 0 0 ⟨1152 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 2 1 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 2 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 1 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored8 _ _ _ _ _ _ _ _ _ _ _ _ _ _ _ _ _) _).trans ?_
    refine (head0_apply _ d).trans ?_
    refine Eq.trans ?_ (congrArg (G15 x0 x1 x2 x3 x4 x5 x6 x7 x8 x9 x10 x11 x12 x13 x14) (emb_of (S := S1x1x4096) ![0, 0, 1024] S1x1x128.size inb_S1x1x4096_S1x1x128_0_0_1024 (ix3 0 0 d) (ix3 0 0 ⟨1024 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 2 0 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 2 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 0 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored7 _ _ _ _ _ _ _ _ _ _ _ _ _ _ _ _ _) _).trans ?_
    refine (head3_apply _ d).trans ?_
    refine Eq.trans ?_ (congrArg (G15 x0 x1 x2 x3 x4 x5 x6 x7 x8 x9 x10 x11 x12 x13 x14) (emb_of (S := S1x1x4096) ![0, 0, 896] S1x1x128.size inb_S1x1x4096_S1x1x128_0_0_896 (ix3 0 0 d) (ix3 0 0 ⟨896 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 1 3 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 1 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 3 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored6 _ _ _ _ _ _ _ _ _ _ _ _ _ _ _ _ _) _).trans ?_
    refine (head2_apply _ d).trans ?_
    refine Eq.trans ?_ (congrArg (G15 x0 x1 x2 x3 x4 x5 x6 x7 x8 x9 x10 x11 x12 x13 x14) (emb_of (S := S1x1x4096) ![0, 0, 768] S1x1x128.size inb_S1x1x4096_S1x1x128_0_0_768 (ix3 0 0 d) (ix3 0 0 ⟨768 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 1 2 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 1 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 2 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored5 _ _ _ _ _ _ _ _ _ _ _ _ _ _ _ _ _) _).trans ?_
    refine (head1_apply _ d).trans ?_
    refine Eq.trans ?_ (congrArg (G15 x0 x1 x2 x3 x4 x5 x6 x7 x8 x9 x10 x11 x12 x13 x14) (emb_of (S := S1x1x4096) ![0, 0, 640] S1x1x128.size inb_S1x1x4096_S1x1x128_0_0_640 (ix3 0 0 d) (ix3 0 0 ⟨640 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 1 1 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 1 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 1 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored4 _ _ _ _ _ _ _ _ _ _ _ _ _ _ _ _ _) _).trans ?_
    refine (head0_apply _ d).trans ?_
    refine Eq.trans ?_ (congrArg (G15 x0 x1 x2 x3 x4 x5 x6 x7 x8 x9 x10 x11 x12 x13 x14) (emb_of (S := S1x1x4096) ![0, 0, 512] S1x1x128.size inb_S1x1x4096_S1x1x128_0_0_512 (ix3 0 0 d) (ix3 0 0 ⟨512 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 1 0 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 1 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 0 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored3 _ _ _ _ _ _ _ _ _ _ _ _ _ _ _ _ _) _).trans ?_
    refine (head3_apply _ d).trans ?_
    refine Eq.trans ?_ (congrArg (G15 x0 x1 x2 x3 x4 x5 x6 x7 x8 x9 x10 x11 x12 x13 x14) (emb_of (S := S1x1x4096) ![0, 0, 384] S1x1x128.size inb_S1x1x4096_S1x1x128_0_0_384 (ix3 0 0 d) (ix3 0 0 ⟨384 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 0 3 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 0 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 3 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored2 _ _ _ _ _ _ _ _ _ _ _ _ _ _ _ _ _) _).trans ?_
    refine (head2_apply _ d).trans ?_
    refine Eq.trans ?_ (congrArg (G15 x0 x1 x2 x3 x4 x5 x6 x7 x8 x9 x10 x11 x12 x13 x14) (emb_of (S := S1x1x4096) ![0, 0, 256] S1x1x128.size inb_S1x1x4096_S1x1x128_0_0_256 (ix3 0 0 d) (ix3 0 0 ⟨256 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 0 2 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 0 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 2 d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored1 _ _ _ _ _ _ _ _ _ _ _ _ _ _ _ _ _) _).trans ?_
    refine (head1_apply _ d).trans ?_
    refine Eq.trans ?_ (congrArg (G15 x0 x1 x2 x3 x4 x5 x6 x7 x8 x9 x10 x11 x12 x13 x14) (emb_of (S := S1x1x4096) ![0, 0, 128] S1x1x128.size inb_S1x1x4096_S1x1x128_0_0_128 (ix3 0 0 d) (ix3 0 0 ⟨128 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 0 1 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 0 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 1 d
  obtain rfl := List.mem_singleton.1 hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 128, x = ix3 0 0 d := ⟨x 2, idx_row (n := 128) x⟩
    refine (congrFun (stored0 _ _ _ _ _ _ _ _ _ _ _ _ _ _ _ _ _) _).trans ?_
    refine (head0_apply _ d).trans ?_
    refine Eq.trans ?_ (congrArg (G15 x0 x1 x2 x3 x4 x5 x6 x7 x8 x9 x10 x11 x12 x13 x14) (emb_of (S := S1x1x4096) ![0, 0, 0] S1x1x128.size inb_S1x1x4096_S1x1x128_0_0_0 (ix3 0 0 d) (ix3 0 0 ⟨0 + d.val, by omega⟩)
      (fun a => match a with | ⟨0, _⟩ => rfl | ⟨1, _⟩ => rfl | ⟨2, _⟩ => rfl))).symm
    refine Eq.trans ?_ (G15_head _ _ _ _ _ _ _ _ _ _ _ _ _ _ _ 0 0 (by omega) (by omega) d _ _ (by omega)).symm
    exact grp_att x0 x1 x2 x3 x5 x6 x7 x8 x9 _ _ _ _ _ (ld_w x5 _ _ (by decide)) (ld_w x6 _ _ (by decide)) (ld_w x7 _ _ (by decide))
      (ld_w x8 _ _ (by decide)) (ld_w x9 _ _ (by decide)) 0 (by omega) _ _ _ _ _ _ _ _ _ _ _ _
      (fun j => ld_z x1 _ _ j _ _ (by omega)) (fun j => ld_z x1 _ _ j _ _ (by omega)) (fun j => ld_z x1 _ _ j _ _ (by omega))
      (fun j => ld_z x1 _ _ j _ _ (by omega)) (fun j => ld_z x1 _ _ j _ _ (by omega)) (fun j => ld_z x1 _ _ j _ _ (by omega))
      (fun t j => ld_c x2 _ _ t j _ _ (by omega)) (fun t j => ld_c x3 _ _ t j _ _ (by omega))
      (ld_s x0 _ _ _ _ _ rfl) (ld_s x0 _ _ _ _ _ rfl) (ld_s x0 _ _ _ _ _ rfl) (ld_s x0 _ _ _ _ _ rfl) 0 d

/-! ## The caches -/

theorem pay10_apply (z : FVec Ideal S1x1x128 .f32) (j : Fin 128) : k0_pay10 (F := Ideal) z (ix2 0 j) = z (ix3 0 0 j) := by pointwise [k0_pay10]

theorem kv_congr (x1 : FVec Ideal S1x1x7168 .f32) (c sp sm kn : FVec Ideal S1x128 .f32) (g g' : ℕ) (hg : g < 4) (hg' : g' < 4) (d d' : Fin 128) (eg : g = g') (ed : d = d') :
    kv x1 c sp sm kn g hg d = kv x1 c sp sm kn g' hg' d' := by subst eg ed; rfl

theorem vv_congr (x1 : FVec Ideal S1x1x7168 .f32) (g g' : ℕ) (hg : g < 4) (hg' : g' < 4) (d d' : Fin 128) (eg : g = g') (ed : d = d') :
    vv x1 g hg d = vv x1 g' hg' d' := by subst eg ed; rfl

/-- A head of the key cache as the kernel moves it, where it is stored. -/
theorem key_piece (x1 : FVec Ideal S1x1x7168 .f32) (x2 : FVec Ideal S1x128x512 .f32) (c sp sm kn c' sp' sm' kn' : FVec Ideal S1x128 .f32)
    (hc : c' = c) (hsp : sp' = sp) (hsm : sm' = sm) (hkn : kn' = kn) (g : ℕ) (hg : g < 4) (z : FVec Ideal S1x1x128 .f32) (ko : FVec Ideal S1x128x128 .f32)
    (hz : ∀ j : Fin 128, z (ix3 0 0 j) = x1 (ix3 0 0 ⟨2048 + 128 * g + j.val, by omega⟩))
    (hko : ∀ t j : Fin 128, ko (ix3 0 t j) = x2 (ix3 0 t ⟨128 * g + j.val, by omega⟩)) (t d : Fin 128) :
    k0_pay13 (F := Ideal) rows128 (k0_pay9 c' sp' sm' kn' z) ko (ix3 0 t d) = G16 x1 x2 c sp sm kn (ix3 0 t ⟨128 * g + d.val, by omega⟩) := by
  subst hc hsp hsm hkn
  rw [pay13_apply, pay9_apply, hko]
  simp only [hz]
  refine if_congr Iff.rfl (kv_congr _ _ _ _ _ g _ hg _ d _ ?_ ?_) rfl
  · show g = (128 * g + d.val) / 128; omega
  · exact Fin.ext (by show d.val = (128 * g + d.val) % 128; omega)

/-- A head of the value cache as the kernel moves it, where it is stored. -/
theorem value_piece (x1 : FVec Ideal S1x1x7168 .f32) (x3 : FVec Ideal S1x128x512 .f32) (g : ℕ) (hg : g < 4) (z : FVec Ideal S1x1x128 .f32)
    (vo : FVec Ideal S1x128x128 .f32) (hz : ∀ j : Fin 128, z (ix3 0 0 j) = x1 (ix3 0 0 ⟨2560 + 128 * g + j.val, by omega⟩))
    (hvo : ∀ t j : Fin 128, vo (ix3 0 t j) = x3 (ix3 0 t ⟨128 * g + j.val, by omega⟩)) (t d : Fin 128) :
    k0_pay13 (F := Ideal) rows128 (k0_pay10 z) vo (ix3 0 t d) = G17 x1 x3 (ix3 0 t ⟨128 * g + d.val, by omega⟩) := by
  rw [pay13_apply, pay10_apply, hvo, hz]
  refine if_congr Iff.rfl ((show _ = vv x1 g hg d from rfl).trans (vv_congr _ g _ hg _ d _ ?_ ?_)) rfl
  · show g = (128 * g + d.val) / 128; omega
  · exact Fin.ext (by show d.val = (128 * g + d.val) % 128; omega)

/-- The second output of a step. -/
theorem p16 (c : Dev nD) (i : grid0.Coords) (arg1 : Memref sig .tc .smem S16 .f32) (harg1 : arg1.IsWhole) (arg2 : Memref sig .tc .vmem S1x1x7168 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x30x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x4096 .f32) (harg11 : arg11.IsWhole) (arg12 : Memref sig .tc .vmem S31x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x1x4096 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x30x2048 .f32) (harg19 : arg19.IsWhole)
    (x0 : Vec Ideal S16 .f32) (x1 : Vec Ideal S1x1x7168 .f32) (x2 : Vec Ideal S1x128x512 .f32) (x3 : Vec Ideal S1x128x512 .f32) (x4 : Vec Ideal S1x30x2048 .f32) (x5 : Vec Ideal S1x128 .f32) (x6 : Vec Ideal S1x128 .f32) (x7 : Vec Ideal S1x128 .f32) (x8 : Vec Ideal S1x128 .f32) (x9 : Vec Ideal S1x128 .f32) (x10 : Vec Ideal S1x4096 .f32) (x11 : Vec Ideal S31x2048 .f32) (x12 : Vec Ideal S1x2048 .f32) (x13 : Vec Ideal S1x2048 .f32) (x14 : Vec Ideal S1x2048 .f32) (y : S1x128x512.Idx) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = G16 x1 x2 x5 x6 x7 x9 y := by
  refine View.read_writes_apply_of_pieces _ _ (G16 x1 x2 x5 x6 x7 x9) _ (fun p hp x => ?_) y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A at hp
  dsimp only at hp
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay9 (View.ld (Val := Elt Ideal) (e' := .f32) x5 (Rect.unit (s := S1x128) ![0, 0] S1x128.size inb_S1x128_S1x128_0_0)) (View.ld (Val := Elt Ideal) (e' := .f32) x6 (Rect.unit (s := S1x128) ![0, 0] S1x128.size inb_S1x128_S1x128_0_0)) (View.ld (Val := Elt Ideal) (e' := .f32) x7 (Rect.unit (s := S1x128) ![0, 0] S1x128.size inb_S1x128_S1x128_0_0)) (View.ld (Val := Elt Ideal) (e' := .f32) x9 (Rect.unit (s := S1x128) ![0, 0] S1x128.size inb_S1x128_S1x128_0_0)) (View.ld (Val := Elt Ideal) (e' := .f32) x1 (Rect.unit (s := S1x1x7168) ![0, 0, 2432] S1x1x128.size inb_S1x1x7168_S1x1x128_0_0_2432))) (View.ld (Val := Elt Ideal) (e' := .f32) x2 (Rect.unit (s := S1x128x512) ![0, 0, 384] S1x128x128.size inb_S1x128x512_S1x128x128_0_0_384)) from rfl) _).trans ?_
    refine Eq.trans ?_ (congrArg (G16 x1 x2 x5 x6 x7 x9) (emb_of (S := S1x128x512) ![0, 0, 384] S1x128x128.size inb_S1x128x512_S1x128x128_0_0_384 (ix3 0 t d) (ix3 0 t ⟨128 * 3 + d.val, by omega⟩)
      (fun a => match a with | ⟨0, _⟩ => rfl | ⟨1, _⟩ => (Nat.zero_add _).symm | ⟨2, _⟩ => (by show 128 * 3 + d.val = 384 + d.val; omega)))).symm
    exact key_piece x1 x2 x5 x6 x7 x9 _ _ _ _ (ld_w x5 _ _ (by decide)) (ld_w x6 _ _ (by decide)) (ld_w x7 _ _ (by decide)) (ld_w x9 _ _ (by decide)) 3 (by omega) _ _ (fun j => ld_z x1 _ _ j _ _ (by omega)) (fun t j => ld_c x2 _ _ t j _ _ (by omega)) t d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay9 (View.ld (Val := Elt Ideal) (e' := .f32) x5 (Rect.unit (s := S1x128) ![0, 0] S1x128.size inb_S1x128_S1x128_0_0)) (View.ld (Val := Elt Ideal) (e' := .f32) x6 (Rect.unit (s := S1x128) ![0, 0] S1x128.size inb_S1x128_S1x128_0_0)) (View.ld (Val := Elt Ideal) (e' := .f32) x7 (Rect.unit (s := S1x128) ![0, 0] S1x128.size inb_S1x128_S1x128_0_0)) (View.ld (Val := Elt Ideal) (e' := .f32) x9 (Rect.unit (s := S1x128) ![0, 0] S1x128.size inb_S1x128_S1x128_0_0)) (View.ld (Val := Elt Ideal) (e' := .f32) x1 (Rect.unit (s := S1x1x7168) ![0, 0, 2304] S1x1x128.size inb_S1x1x7168_S1x1x128_0_0_2304))) (View.ld (Val := Elt Ideal) (e' := .f32) x2 (Rect.unit (s := S1x128x512) ![0, 0, 256] S1x128x128.size inb_S1x128x512_S1x128x128_0_0_256)) from rfl) _).trans ?_
    refine Eq.trans ?_ (congrArg (G16 x1 x2 x5 x6 x7 x9) (emb_of (S := S1x128x512) ![0, 0, 256] S1x128x128.size inb_S1x128x512_S1x128x128_0_0_256 (ix3 0 t d) (ix3 0 t ⟨128 * 2 + d.val, by omega⟩)
      (fun a => match a with | ⟨0, _⟩ => rfl | ⟨1, _⟩ => (Nat.zero_add _).symm | ⟨2, _⟩ => (by show 128 * 2 + d.val = 256 + d.val; omega)))).symm
    exact key_piece x1 x2 x5 x6 x7 x9 _ _ _ _ (ld_w x5 _ _ (by decide)) (ld_w x6 _ _ (by decide)) (ld_w x7 _ _ (by decide)) (ld_w x9 _ _ (by decide)) 2 (by omega) _ _ (fun j => ld_z x1 _ _ j _ _ (by omega)) (fun t j => ld_c x2 _ _ t j _ _ (by omega)) t d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay9 (View.ld (Val := Elt Ideal) (e' := .f32) x5 (Rect.unit (s := S1x128) ![0, 0] S1x128.size inb_S1x128_S1x128_0_0)) (View.ld (Val := Elt Ideal) (e' := .f32) x6 (Rect.unit (s := S1x128) ![0, 0] S1x128.size inb_S1x128_S1x128_0_0)) (View.ld (Val := Elt Ideal) (e' := .f32) x7 (Rect.unit (s := S1x128) ![0, 0] S1x128.size inb_S1x128_S1x128_0_0)) (View.ld (Val := Elt Ideal) (e' := .f32) x9 (Rect.unit (s := S1x128) ![0, 0] S1x128.size inb_S1x128_S1x128_0_0)) (View.ld (Val := Elt Ideal) (e' := .f32) x1 (Rect.unit (s := S1x1x7168) ![0, 0, 2176] S1x1x128.size inb_S1x1x7168_S1x1x128_0_0_2176))) (View.ld (Val := Elt Ideal) (e' := .f32) x2 (Rect.unit (s := S1x128x512) ![0, 0, 128] S1x128x128.size inb_S1x128x512_S1x128x128_0_0_128)) from rfl) _).trans ?_
    refine Eq.trans ?_ (congrArg (G16 x1 x2 x5 x6 x7 x9) (emb_of (S := S1x128x512) ![0, 0, 128] S1x128x128.size inb_S1x128x512_S1x128x128_0_0_128 (ix3 0 t d) (ix3 0 t ⟨128 * 1 + d.val, by omega⟩)
      (fun a => match a with | ⟨0, _⟩ => rfl | ⟨1, _⟩ => (Nat.zero_add _).symm | ⟨2, _⟩ => (by show 128 * 1 + d.val = 128 + d.val; omega)))).symm
    exact key_piece x1 x2 x5 x6 x7 x9 _ _ _ _ (ld_w x5 _ _ (by decide)) (ld_w x6 _ _ (by decide)) (ld_w x7 _ _ (by decide)) (ld_w x9 _ _ (by decide)) 1 (by omega) _ _ (fun j => ld_z x1 _ _ j _ _ (by omega)) (fun t j => ld_c x2 _ _ t j _ _ (by omega)) t d
  obtain rfl := List.mem_singleton.1 hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay9 (View.ld (Val := Elt Ideal) (e' := .f32) x5 (Rect.unit (s := S1x128) ![0, 0] S1x128.size inb_S1x128_S1x128_0_0)) (View.ld (Val := Elt Ideal) (e' := .f32) x6 (Rect.unit (s := S1x128) ![0, 0] S1x128.size inb_S1x128_S1x128_0_0)) (View.ld (Val := Elt Ideal) (e' := .f32) x7 (Rect.unit (s := S1x128) ![0, 0] S1x128.size inb_S1x128_S1x128_0_0)) (View.ld (Val := Elt Ideal) (e' := .f32) x9 (Rect.unit (s := S1x128) ![0, 0] S1x128.size inb_S1x128_S1x128_0_0)) (View.ld (Val := Elt Ideal) (e' := .f32) x1 (Rect.unit (s := S1x1x7168) ![0, 0, 2048] S1x1x128.size inb_S1x1x7168_S1x1x128_0_0_2048))) (View.ld (Val := Elt Ideal) (e' := .f32) x2 (Rect.unit (s := S1x128x512) ![0, 0, 0] S1x128x128.size inb_S1x128x512_S1x128x128_0_0_0)) from rfl) _).trans ?_
    refine Eq.trans ?_ (congrArg (G16 x1 x2 x5 x6 x7 x9) (emb_of (S := S1x128x512) ![0, 0, 0] S1x128x128.size inb_S1x128x512_S1x128x128_0_0_0 (ix3 0 t d) (ix3 0 t ⟨128 * 0 + d.val, by omega⟩)
      (fun a => match a with | ⟨0, _⟩ => rfl | ⟨1, _⟩ => (Nat.zero_add _).symm | ⟨2, _⟩ => (by show 128 * 0 + d.val = 0 + d.val; omega)))).symm
    exact key_piece x1 x2 x5 x6 x7 x9 _ _ _ _ (ld_w x5 _ _ (by decide)) (ld_w x6 _ _ (by decide)) (ld_w x7 _ _ (by decide)) (ld_w x9 _ _ (by decide)) 0 (by omega) _ _ (fun j => ld_z x1 _ _ j _ _ (by omega)) (fun t j => ld_c x2 _ _ t j _ _ (by omega)) t d

/-- The third output of a step. -/
theorem p17 (c : Dev nD) (i : grid0.Coords) (arg1 : Memref sig .tc .smem S16 .f32) (harg1 : arg1.IsWhole) (arg2 : Memref sig .tc .vmem S1x1x7168 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x30x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x4096 .f32) (harg11 : arg11.IsWhole) (arg12 : Memref sig .tc .vmem S31x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x1x4096 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x30x2048 .f32) (harg19 : arg19.IsWhole)
    (x0 : Vec Ideal S16 .f32) (x1 : Vec Ideal S1x1x7168 .f32) (x2 : Vec Ideal S1x128x512 .f32) (x3 : Vec Ideal S1x128x512 .f32) (x4 : Vec Ideal S1x30x2048 .f32) (x5 : Vec Ideal S1x128 .f32) (x6 : Vec Ideal S1x128 .f32) (x7 : Vec Ideal S1x128 .f32) (x8 : Vec Ideal S1x128 .f32) (x9 : Vec Ideal S1x128 .f32) (x10 : Vec Ideal S1x4096 .f32) (x11 : Vec Ideal S31x2048 .f32) (x12 : Vec Ideal S1x2048 .f32) (x13 : Vec Ideal S1x2048 .f32) (x14 : Vec Ideal S1x2048 .f32) (y : S1x128x512.Idx) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = G17 x1 x3 y := by
  refine View.read_writes_apply_of_pieces _ _ (G17 x1 x3) _ (fun p hp x => ?_) y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A at hp
  dsimp only at hp
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay10 (View.ld (Val := Elt Ideal) (e' := .f32) x1 (Rect.unit (s := S1x1x7168) ![0, 0, 2944] S1x1x128.size inb_S1x1x7168_S1x1x128_0_0_2944))) (View.ld (Val := Elt Ideal) (e' := .f32) x3 (Rect.unit (s := S1x128x512) ![0, 0, 384] S1x128x128.size inb_S1x128x512_S1x128x128_0_0_384)) from rfl) _).trans ?_
    refine Eq.trans ?_ (congrArg (G17 x1 x3) (emb_of (S := S1x128x512) ![0, 0, 384] S1x128x128.size inb_S1x128x512_S1x128x128_0_0_384 (ix3 0 t d) (ix3 0 t ⟨128 * 3 + d.val, by omega⟩)
      (fun a => match a with | ⟨0, _⟩ => rfl | ⟨1, _⟩ => (Nat.zero_add _).symm | ⟨2, _⟩ => (by show 128 * 3 + d.val = 384 + d.val; omega)))).symm
    exact value_piece x1 x3 3 (by omega) _ _ (fun j => ld_z x1 _ _ j _ _ (by omega)) (fun t j => ld_c x3 _ _ t j _ _ (by omega)) t d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay10 (View.ld (Val := Elt Ideal) (e' := .f32) x1 (Rect.unit (s := S1x1x7168) ![0, 0, 2816] S1x1x128.size inb_S1x1x7168_S1x1x128_0_0_2816))) (View.ld (Val := Elt Ideal) (e' := .f32) x3 (Rect.unit (s := S1x128x512) ![0, 0, 256] S1x128x128.size inb_S1x128x512_S1x128x128_0_0_256)) from rfl) _).trans ?_
    refine Eq.trans ?_ (congrArg (G17 x1 x3) (emb_of (S := S1x128x512) ![0, 0, 256] S1x128x128.size inb_S1x128x512_S1x128x128_0_0_256 (ix3 0 t d) (ix3 0 t ⟨128 * 2 + d.val, by omega⟩)
      (fun a => match a with | ⟨0, _⟩ => rfl | ⟨1, _⟩ => (Nat.zero_add _).symm | ⟨2, _⟩ => (by show 128 * 2 + d.val = 256 + d.val; omega)))).symm
    exact value_piece x1 x3 2 (by omega) _ _ (fun j => ld_z x1 _ _ j _ _ (by omega)) (fun t j => ld_c x3 _ _ t j _ _ (by omega)) t d
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay10 (View.ld (Val := Elt Ideal) (e' := .f32) x1 (Rect.unit (s := S1x1x7168) ![0, 0, 2688] S1x1x128.size inb_S1x1x7168_S1x1x128_0_0_2688))) (View.ld (Val := Elt Ideal) (e' := .f32) x3 (Rect.unit (s := S1x128x512) ![0, 0, 128] S1x128x128.size inb_S1x128x512_S1x128x128_0_0_128)) from rfl) _).trans ?_
    refine Eq.trans ?_ (congrArg (G17 x1 x3) (emb_of (S := S1x128x512) ![0, 0, 128] S1x128x128.size inb_S1x128x512_S1x128x128_0_0_128 (ix3 0 t d) (ix3 0 t ⟨128 * 1 + d.val, by omega⟩)
      (fun a => match a with | ⟨0, _⟩ => rfl | ⟨1, _⟩ => (Nat.zero_add _).symm | ⟨2, _⟩ => (by show 128 * 1 + d.val = 128 + d.val; omega)))).symm
    exact value_piece x1 x3 1 (by omega) _ _ (fun j => ld_z x1 _ _ j _ _ (by omega)) (fun t j => ld_c x3 _ _ t j _ _ (by omega)) t d
  obtain rfl := List.mem_singleton.1 hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨t, d, rfl⟩ : ∃ t d : Fin 128, x = ix3 0 t d := ⟨x 1, x 2, idx_tab (m := 128) (n := 128) x⟩
    refine (congrFun (show _ = k0_pay13 (F := Ideal) rows128 (k0_pay10 (View.ld (Val := Elt Ideal) (e' := .f32) x1 (Rect.unit (s := S1x1x7168) ![0, 0, 2560] S1x1x128.size inb_S1x1x7168_S1x1x128_0_0_2560))) (View.ld (Val := Elt Ideal) (e' := .f32) x3 (Rect.unit (s := S1x128x512) ![0, 0, 0] S1x128x128.size inb_S1x128x512_S1x128x128_0_0_0)) from rfl) _).trans ?_
    refine Eq.trans ?_ (congrArg (G17 x1 x3) (emb_of (S := S1x128x512) ![0, 0, 0] S1x128x128.size inb_S1x128x512_S1x128x128_0_0_0 (ix3 0 t d) (ix3 0 t ⟨128 * 0 + d.val, by omega⟩)
      (fun a => match a with | ⟨0, _⟩ => rfl | ⟨1, _⟩ => (Nat.zero_add _).symm | ⟨2, _⟩ => (by show 128 * 0 + d.val = 0 + d.val; omega)))).symm
    exact value_piece x1 x3 0 (by omega) _ _ (fun j => ld_z x1 _ _ j _ _ (by omega)) (fun t j => ld_c x3 _ _ t j _ _ (by omega)) t d

/-! ## The convolution's state -/

theorem G18_last (x1 : FVec Ideal S1x1x7168 .f32) (x4 : FVec Ideal S1x30x2048 .f32) (x10 : FVec Ideal S1x4096 .f32) (d : Fin 2048) :
    G18 x1 x4 x10 (ix3 0 29 d) = gluK x1 x10 d := by
  unfold G18
  exact dif_neg (show ¬ 29 < 29 by decide)

theorem G18_rest (x1 : FVec Ideal S1x1x7168 .f32) (x4 : FVec Ideal S1x30x2048 .f32) (x10 : FVec Ideal S1x4096 .f32) (t : Fin 29) (d : Fin 2048) :
    G18 x1 x4 x10 (ix3 0 ⟨t.val, by omega⟩ d) = x4 (ix3 0 ⟨t.val + 1, by omega⟩ d) := by
  unfold G18
  exact dif_pos (show t.val < 29 from t.isLt)

/-- The state's last row, as it is stored. -/
theorem pay3_apply (v : FVec Ideal S1x2048 .f32) (d : Fin 2048) : k0_pay3 (F := Ideal) v (ix3 0 0 d) = v (ix2 0 d) := by pointwise [k0_pay3]

/-- The state's other rows, as they are stored. -/
theorem pay2_apply (v : FVec Ideal S1x29x2048 .f32) (t : Fin 29) (d : Fin 2048) : k0_pay2 (F := Ideal) v (ix3 0 t d) = v (ix3 0 t d) := by pointwise [k0_pay2]

/-- The fourth output of a step. -/
theorem p18 (c : Dev nD) (i : grid0.Coords) (arg1 : Memref sig .tc .smem S16 .f32) (harg1 : arg1.IsWhole) (arg2 : Memref sig .tc .vmem S1x1x7168 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x30x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x4096 .f32) (harg11 : arg11.IsWhole) (arg12 : Memref sig .tc .vmem S31x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x1x4096 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x30x2048 .f32) (harg19 : arg19.IsWhole)
    (x0 : Vec Ideal S16 .f32) (x1 : Vec Ideal S1x1x7168 .f32) (x2 : Vec Ideal S1x128x512 .f32) (x3 : Vec Ideal S1x128x512 .f32) (x4 : Vec Ideal S1x30x2048 .f32) (x5 : Vec Ideal S1x128 .f32) (x6 : Vec Ideal S1x128 .f32) (x7 : Vec Ideal S1x128 .f32) (x8 : Vec Ideal S1x128 .f32) (x9 : Vec Ideal S1x128 .f32) (x10 : Vec Ideal S1x4096 .f32) (x11 : Vec Ideal S31x2048 .f32) (x12 : Vec Ideal S1x2048 .f32) (x13 : Vec Ideal S1x2048 .f32) (x14 : Vec Ideal S1x2048 .f32) (y : S1x30x2048.Idx) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = G18 x1 x4 x10 y := by
  refine View.read_writes_apply_of_pieces _ _ (G18 x1 x4 x10) _ (fun p hp x => ?_) y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A at hp
  dsimp only at hp
  rcases List.mem_cons.1 hp with rfl | hp
  · simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    obtain ⟨d, rfl⟩ : ∃ d : Fin 2048, x = ix3 0 0 d := ⟨x 2, idx_row (n := 2048) x⟩
    refine (pay3_apply _ d).trans ?_
    refine Eq.trans ?_ (congrArg (G18 x1 x4 x10) (emb_of (S := S1x30x2048) ![0, 29, 0] S1x1x2048.size inb_S1x30x2048_S1x1x2048_0_29_0 (ix3 0 0 d) (ix3 0 29 d)
      (fun a => match a with | ⟨0, _⟩ => rfl | ⟨1, _⟩ => rfl | ⟨2, _⟩ => (Nat.zero_add _).symm))).symm
    refine (glu_ld x1 x10 _ _ _ _ d).trans ?_
    exact (G18_last x1 x4 x10 d).symm
  obtain rfl := List.mem_singleton.1 hp
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.v10, kernelRun0_A.sl.v11, kernelRun0_A.sl.cst_138, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  obtain ⟨t, d, rfl⟩ : ∃ (t : Fin 29) (d : Fin 2048), x = ix3 0 t d := ⟨x 1, x 2, idx_tab (m := 29) (n := 2048) x⟩
  refine (pay2_apply _ t d).trans ?_
  refine Eq.trans ?_ (congrArg (G18 x1 x4 x10) (emb_of (S := S1x30x2048) ![0, 0, 0] S1x29x2048.size inb_S1x30x2048_S1x29x2048_0_0_0 (ix3 0 t d) (ix3 0 ⟨t.val, by omega⟩ d)
    (fun a => match a with | ⟨0, _⟩ => rfl | ⟨1, _⟩ => (Nat.zero_add _).symm | ⟨2, _⟩ => (Nat.zero_add _).symm))).symm
  refine Eq.trans ?_ (G18_rest x1 x4 x10 t d).symm
  exact View.ld_unit_apply_of (Val := Elt Ideal) (e := .f32) x4 _ _ _ _ _
    (fun a => match a with | ⟨0, _⟩ => rfl | ⟨1, _⟩ => Nat.add_comm _ _ | ⟨2, _⟩ => (Nat.zero_add _).symm)

end Cert.SampleCore
end
-- ==== Proof.SampleRef.lean ====
/-
  The reference's results for one of the sample's rows, in the words of the rows' modules: one row's cuts of the
  arguments, the rotation's tables, and each result as the function of them that a grid step computes.
-/
module

public import proofs.«01_k».proof.Proof.SampleBlock
public import proofs.«01_k».proof.Proof.Gen.ReferenceIdeal.Read
public import Idealize.ShloMosaic.Lib.Pointwise

@[expose] public section

set_option maxRecDepth 16384

noncomputable section

namespace Cert.SampleCore

open Idealize.ShloMosaic Idealize.ShloMosaic.TcCoe Idealize.SL.Sem Cert.ReferenceIdeal.Read Cert.KernelIdeal

/-! ## One row's cuts -/

/-- A row of the projection. -/
def zb (z : FVec Ideal S8320x7168 .f32) (b : Fin 32) : FVec Ideal S1x1x7168 .f32 := fun i => z (ix2 ⟨8192 + b.val, by omega⟩ (i 2))
/-- A row's cache. -/
def kb (K : FVec Ideal S32x128x512 .f32) (b : Fin 32) : FVec Ideal S1x128x512 .f32 := fun i => K (ix3 b (i 1) (i 2))
/-- A row's convolution state. -/
def sb (s : FVec Ideal S32x30x2048 .f32) (b : Fin 32) : FVec Ideal S1x30x2048 .f32 := fun i => s (ix3 b (i 1) (i 2))
/-- A vector as a matrix of one row. -/
def rw1 {n : ℕ} (x : (⟨1, ![n]⟩ : Shape).Idx → EReal) : (⟨2, ![1, n]⟩ : Shape).Idx → EReal := fun i => x (ix1 (i 1))

/-- The logistic function's two forms, with the constants' words. -/
theorem logistic_bits (y : EReal) : Ideal.ofBits .f32 0x3F000000#32 * (Ideal.ofBits .f32 0x3F800000#32 + Ideal.tanh (Ideal.ofBits .f32 0x3F000000#32 * y))
    = Ideal.div (Ideal.ofBits .f32 0x3F800000#32) (Ideal.ofBits .f32 0x3F800000#32 + Ideal.exp (-y)) := by
  rw [Ideal.ofBits_one_f32, Scalars.bits_half]
  exact Scalars.logistic y

/-! ## The rotation -/

/-- The table of cosines: twice the angles', then ones. -/
def tabC (a : Fin 16 → EReal) (j : Fin 128) : EReal :=
  if h : j.val < 16 then Ideal.cos (a ⟨j.val, h⟩) else if h : j.val - 16 < 16 then Ideal.cos (a ⟨j.val - 16, h⟩) else Ideal.ofBits .f32 0x3F800000#32

/-- The table of sines, sixteen columns on. -/
def tabP (a : Fin 16 → EReal) (j : Fin 128) : EReal :=
  if j.val < 16 then Ideal.ofBits .f32 0x00000000#32 else if h : j.val - 16 < 16 then Ideal.sin (a ⟨j.val - 16, h⟩) else Ideal.ofBits .f32 0x00000000#32

/-- The table of the sines' negatives. -/
def tabM (a : Fin 16 → EReal) (j : Fin 128) : EReal :=
  if h : j.val < 16 then -(Ideal.sin (a ⟨j.val, h⟩)) else Ideal.ofBits .f32 0x00000000#32

/-- The rotation of the first 32 columns, sixteen against sixteen. -/
def ropeR (y : Fin 128 → EReal) (a : Fin 16 → EReal) (j : Fin 128) : EReal :=
  if h : j.val < 16 then y j * Ideal.cos (a ⟨j.val, h⟩) - y ⟨16 + j.val, by omega⟩ * Ideal.sin (a ⟨j.val, h⟩)
  else if h : j.val - 16 < 16 then y ⟨16 + (j.val - 16), by omega⟩ * Ideal.cos (a ⟨j.val - 16, h⟩) + y ⟨j.val - 16, by omega⟩ * Ideal.sin (a ⟨j.val - 16, h⟩)
  else y ⟨32 + (j.val - 16 - 16), by omega⟩

/-- The two ways to write the rotation agree. -/
theorem rope_eq (y : Fin 128 → EReal) (a : Fin 16 → EReal) (j : Fin 128) : rope3 y (tabC a) (tabP a) (tabM a) j = ropeR y a j := by
  have z0 : Ideal.ofBits .f32 0x00000000#32 = 0 := Ideal.ofBits_zero_f32
  have z1 : Ideal.ofBits .f32 0x3F800000#32 = 1 := Ideal.ofBits_one_f32
  unfold rope3 tabC tabP tabM ropeR
  rw [z0, z1]
  by_cases h : j.val < 16
  · have e : (⟨(j.val + 128 - 112) % 128, Nat.mod_lt _ (by decide)⟩ : Fin 128) = ⟨16 + j.val, by omega⟩ := Fin.ext (by show (j.val + 128 - 112) % 128 = 16 + j.val; omega)
    simp only [dif_pos h, if_pos h]
    rw [e, mul_zero, add_zero, mul_neg, sub_eq_add_neg]
  · by_cases h2 : j.val - 16 < 16
    · have e : (⟨(j.val + 128 - 16) % 128, Nat.mod_lt _ (by decide)⟩ : Fin 128) = ⟨j.val - 16, by omega⟩ := Fin.ext (by show (j.val + 128 - 16) % 128 = j.val - 16; omega)
      have e2 : (⟨16 + (j.val - 16), by omega⟩ : Fin 128) = j := Fin.ext (by show 16 + (j.val - 16) = j.val; omega)
      simp only [dif_neg h, if_neg h, dif_pos h2]
      rw [e, e2, mul_zero, add_zero]
    · have e2 : (⟨32 + (j.val - 16 - 16), by omega⟩ : Fin 128) = j := Fin.ext (by show 32 + (j.val - 16 - 16) = j.val; omega)
      simp only [dif_neg h, if_neg h, dif_neg h2]
      rw [e2, mul_zero, mul_zero, add_zero, add_zero, mul_one]

/-! ## Attention over the cache and the new row at once -/

theorem fold_last (b : EReal) (f : Fin 129 → EReal) :
    Finset.fold max b f Finset.univ = max (Finset.fold max b (fun t : Fin 128 => f t.castSucc) Finset.univ) (f (Fin.last 128)) := by
  rw [Fin.univ_castSuccEmb, Finset.fold_cons, Finset.fold_map, max_comm]
  rfl

/-- One head's output over 129 keys is the cache's part and the new row's. -/
theorem att129 (q : Fin 128 → EReal) (K V : Fin 128 → Fin 128 → EReal) (k v : Fin 128 → EReal) (s : EReal) (d : Fin 128) (S W : Fin 129 → EReal)
    (hS : ∀ t : Fin 128, S t.castSucc = score q K t) (hS' : S (Fin.last 128) = self q k)
    (hW : ∀ t : Fin 128, W t.castSucc = V t d) (hW' : W (Fin.last 128) = v d) :
    ∑ t, W t * Ideal.div (Ideal.exp (S t - max (Finset.fold max (Ideal.ofBits .f32 0xFF800000#32) S Finset.univ) s))
        ((∑ t, Ideal.exp (S t - max (Finset.fold max (Ideal.ofBits .f32 0xFF800000#32) S Finset.univ) s))
          + Ideal.exp (s - max (Finset.fold max (Ideal.ofBits .f32 0xFF800000#32) S Finset.univ) s)) = att q K V k v s d := by
  have hM : max (Finset.fold max (Ideal.ofBits .f32 0xFF800000#32) S Finset.univ) s = top q K k s := by
    rw [fold_last, hS']
    simp only [hS, top]
  have hD : (∑ t, Ideal.exp (S t - top q K k s)) + Ideal.exp (s - top q K k s) = den q K k s := by
    rw [Fin.sum_univ_castSucc, hS']
    simp only [hS, den]
  rw [hM, hD, Fin.sum_univ_castSucc, hS', hW']
  simp only [hS, hW, att]
  refine congrArg₂ (· + ·) (Finset.sum_congr rfl fun t _ => mul_comm _ _) (mul_comm _ _)

/-! ## The reference, result by result -/

variable (z : FVec Ideal S8320x7168 .f32) (K V : FVec Ideal S32x128x512 .f32) (st : FVec Ideal S32x30x2048 .f32) (sinks : FVec Ideal S16 .f32)
  (qn kn : FVec Ideal S128 .f32) (glub : FVec Ideal S4096 .f32) (cw : FVec Ideal S31x2048 .f32) (cb lng lnb : FVec Ideal S2048 .f32)

/-- The angles of the new row's position. -/
def ang (i : Fin 16) : EReal := val_main_v37 (F := Ideal) (ix2 0 i)

theorem ang_eq (i : Fin 16) : val_main_v84 (F := Ideal) (ix2 0 i) = ang i := rfl

/-- The tables as the kernel is given them. -/
def tC : FVec Ideal S1x128 .f32 := fun i => tabC ang (i 1)
def tP : FVec Ideal S1x128 .f32 := fun i => tabP ang (i 1)
def tM : FVec Ideal S1x128 .f32 := fun i => tabM ang (i 1)

theorem ref26 (b : Fin 32) (h : Fin 16) (j : Fin 128) :
    val_main_v26 (F := Ideal) z qn (ix4 b 0 h j) = nrm (fun j => z (ix2 ⟨8192 + b.val, by omega⟩ ⟨h.val * 128 + j.val, by omega⟩)) (fun j => qn (ix1 j)) j := by
  pointwise [val_main_v26, val_main_v23, val_main_v25, val_main_v24, val_main_v22, val_main_v21, val_main_v20, val_main_v19, val_main_v18, val_main_v17, val_main_v16, val_main_v15, val_main_v14, val_main_v8, val_main_v7, val_main_v4, val_main_v3, val_main_cst, val_main_cst_0, val_main_cst_1, nrm]

theorem ref73 (b : Fin 32) (h : Fin 4) (j : Fin 128) :
    val_main_v73 (F := Ideal) z kn (ix4 b 0 h j) = nrm (fun j => z (ix2 ⟨8192 + b.val, by omega⟩ ⟨2048 + (h.val * 128 + j.val), by omega⟩)) (fun j => kn (ix1 j)) j := by
  pointwise [val_main_v73, val_main_v70, val_main_v72, val_main_v71, val_main_v69, val_main_v68, val_main_v67, val_main_v66, val_main_v65, val_main_v64, val_main_v63, val_main_v62, val_main_v61, val_main_v10, val_main_v9, val_main_v4, val_main_v3, val_main_cst_4, val_main_cst_5, val_main_cst_6, nrm]

theorem ref59 (b : Fin 32) (h : Fin 16) (j : Fin 128) :
    val_main_v59 (F := Ideal) z qn (ix4 b 0 h j) = ropeR (fun j => val_main_v26 (F := Ideal) z qn (ix4 b 0 h j)) ang j := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, ropeR, ang]

theorem ref106 (b : Fin 32) (h : Fin 4) (j : Fin 128) :
    val_main_v106 (F := Ideal) z kn (ix4 b 0 h j) = ropeR (fun j => val_main_v73 (F := Ideal) z kn (ix4 b 0 h j)) (fun i => val_main_v84 (F := Ideal) (ix2 0 i)) j := by
  pointwise [val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, ropeR]

/-- A query head of the reference. -/
theorem ref59_qv (b : Fin 32) (h : Fin 16) (j : Fin 128) :
    val_main_v59 (F := Ideal) z qn (ix4 b 0 h j) = qv (zb z b) tC tP tM (rw1 qn) h.val h.isLt j := by
  rw [ref59]
  simp only [ref26]
  rw [← rope_eq]
  unfold qv zb rw1
  simp only [mul_comm 128]
  rfl

/-- A key head of the reference. -/
theorem ref106_kv (b : Fin 32) (g : Fin 4) (j : Fin 128) :
    val_main_v106 (F := Ideal) z kn (ix4 b 0 g j) = kv (zb z b) tC tP tM (rw1 kn) g.val g.isLt j := by
  rw [ref106]
  simp only [ref73, ang_eq]
  rw [← rope_eq]
  unfold kv zb rw1
  simp only [mul_comm 128, add_assoc]
  rfl

theorem ref107 (b : Fin 32) (t : Fin 129) (g : Fin 4) (j : Fin 128) :
    val_main_v107 (F := Ideal) z K kn (ix4 b t g j) = if h : t.val < 128 then K (ix3 b ⟨t.val, h⟩ ⟨g.val * 128 + j.val, by omega⟩)
      else val_main_v106 (F := Ideal) z kn (ix4 b ⟨t.val - 128, by omega⟩ g j) := by
  pointwise [val_main_v107, val_main_v5]

theorem ref108 (b : Fin 32) (t : Fin 129) (g : Fin 4) (j : Fin 128) :
    val_main_v108 (F := Ideal) z V (ix4 b t g j) = if h : t.val < 128 then V (ix3 b ⟨t.val, h⟩ ⟨g.val * 128 + j.val, by omega⟩)
      else z (ix2 ⟨8192 + b.val, by omega⟩ ⟨2560 + (g.val * 128 + j.val), by omega⟩) := by
  pointwise [val_main_v108, val_main_v6, val_main_v12, val_main_v11, val_main_v4, val_main_v3]

/-- The keys: the cache's, then the new one. -/
theorem ref107_old (b : Fin 32) (t : Fin 128) (g : Fin 4) (j : Fin 128) (n : ℕ) (hn : n < 512) (e : n = 128 * g.val + j.val) :
    val_main_v107 (F := Ideal) z K kn (ix4 b t.castSucc g j) = kb K b (ix3 0 t ⟨n, hn⟩) := by
  rw [ref107, dif_pos (show t.castSucc.val < 128 from t.isLt)]
  exact congrArg K (congrArg (ix3 b t) (Fin.ext (by show g.val * 128 + j.val = n; omega)))

theorem ref107_new (b : Fin 32) (g : Fin 4) (j : Fin 128) :
    val_main_v107 (F := Ideal) z K kn (ix4 b (Fin.last 128) g j) = kv (zb z b) tC tP tM (rw1 kn) g.val g.isLt j := by
  rw [ref107, dif_neg (show ¬ (Fin.last 128).val < 128 by decide)]
  exact ref106_kv z kn b g j

/-- The values: the cache's, then the new one. -/
theorem ref108_old (b : Fin 32) (t : Fin 128) (g : Fin 4) (j : Fin 128) (n : ℕ) (hn : n < 512) (e : n = 128 * g.val + j.val) :
    val_main_v108 (F := Ideal) z V (ix4 b t.castSucc g j) = kb V b (ix3 0 t ⟨n, hn⟩) := by
  rw [ref108, dif_pos (show t.castSucc.val < 128 from t.isLt)]
  exact congrArg V (congrArg (ix3 b t) (Fin.ext (by show g.val * 128 + j.val = n; omega)))

theorem ref108_new (b : Fin 32) (g : Fin 4) (j : Fin 128) :
    val_main_v108 (F := Ideal) z V (ix4 b (Fin.last 128) g j) = vv (zb z b) g.val g.isLt j := by
  rw [ref108, dif_neg (show ¬ (Fin.last 128).val < 128 by decide)]
  exact congrArg z (congrArg (ix2 _) (Fin.ext (by show 2560 + (g.val * 128 + j.val) = 2560 + 128 * g.val + j.val; omega)))

theorem ref126 (b : Fin 32) (g r : Fin 4) (t : Fin 129) :
    val_main_v126 (F := Ideal) z K qn kn (ix5 b g r 0 t) = (∑ j : Fin 128, val_main_v107 (F := Ideal) z K kn (ix4 b t g j) * val_main_v59 (F := Ideal) z qn (ix4 b 0 ⟨g.val * 4 + r.val, by omega⟩ j)) * Ideal.ofBits .f32 0x3DB504F3#32 := by
  pointwise [val_main_v126, val_main_v125, val_main_cst_12, val_main_v124, val_main_v123, val_main_v60]

/-- No key is masked. -/
theorem ref122 (t : Fin 129) : val_main_v122 (F := Ideal) (ix2 0 t) = 1#1 := by
  pointwise [val_main_v122, val_main_v121, val_main_v120, val_main_v119, val_main_v118, val_main_v117, val_main_v116, val_main_v115, val_main_v114, val_main_v113, val_main_v112, val_main_v111, val_main_v110, val_main_v109, val_main_c_9, val_main_c_10, val_main_c_11, val_main_v2, val_main_v1, val_main_v0, val_main_c]
  revert t
  decide +kernel

theorem ref128 (b : Fin 32) (g r : Fin 4) (t : Fin 129) :
    val_main_v128 (F := Ideal) z K qn kn (ix5 b g r 0 t) = val_main_v126 (F := Ideal) z K qn kn (ix5 b g r 0 t) := by
  pointwise [val_main_v128, val_main_call0_v1, val_main_v127]
  rw [ref122]
  rfl

theorem ref131 (b : Fin 32) (g r : Fin 4) :
    val_main_v131 (F := Ideal) z K qn kn (ix4 b g r 0) = Finset.fold max (Ideal.ofBits .f32 0xFF800000#32) (fun t => val_main_v128 (F := Ideal) z K qn kn (ix5 b g r 0 t)) Finset.univ := by
  pointwise [val_main_v131, val_main_cst_14]

theorem ref135 (b : Fin 32) (g r : Fin 4) :
    val_main_v135 (F := Ideal) z K sinks qn kn (ix5 b g r 0 0) = max (val_main_v131 (F := Ideal) z K qn kn (ix4 b g r 0)) (sinks (ix1 ⟨g.val * 4 + r.val, by omega⟩)) := by
  pointwise [val_main_v135, val_main_v132, val_main_v134, val_main_v133, val_main_v130, val_main_v129]

theorem ref145 (b : Fin 32) (g r : Fin 4) :
    val_main_v145 (F := Ideal) z K sinks qn kn (ix5 b g r 0 0) = (∑ t : Fin 129, Ideal.exp (val_main_v128 (F := Ideal) z K qn kn (ix5 b g r 0 t) - val_main_v135 (F := Ideal) z K sinks qn kn (ix5 b g r 0 0)))
      + Ideal.exp (sinks (ix1 ⟨g.val * 4 + r.val, by omega⟩) - val_main_v135 (F := Ideal) z K sinks qn kn (ix5 b g r 0 0)) := by
  pointwise [val_main_v145, val_main_v144, val_main_v143, val_main_v142, val_main_v141, val_main_v140, val_main_v139, val_main_v138, val_main_v137, val_main_v136, val_main_v130, val_main_v129, val_main_cst_15]

theorem ref150 (b : Fin 32) (v : Fin 2048) :
    val_main_v150 (F := Ideal) z K V sinks qn kn (ix3 b 0 v) = ∑ t : Fin 129, val_main_v108 (F := Ideal) z V (ix4 b t ⟨v.val / 512, by omega⟩ ⟨v.val % 128, by omega⟩)
       * Ideal.div (Ideal.exp (val_main_v128 (F := Ideal) z K qn kn (ix5 b ⟨v.val / 512, by omega⟩ ⟨v.val / 128 % 4, by omega⟩ 0 t)
            - val_main_v135 (F := Ideal) z K sinks qn kn (ix5 b ⟨v.val / 512, by omega⟩ ⟨v.val / 128 % 4, by omega⟩ 0 0)))
          (val_main_v145 (F := Ideal) z K sinks qn kn (ix5 b ⟨v.val / 512, by omega⟩ ⟨v.val / 128 % 4, by omega⟩ 0 0)) := by
  pointwise [val_main_v150, val_main_v149, val_main_v148, val_main_v147, val_main_v146, val_main_v138, val_main_v137, val_main_v136]

/-- A head of the reference's attention. -/
theorem ref_att (b : Fin 32) (g r : Fin 4) (d : Fin 128) :
    ∑ t : Fin 129, val_main_v108 (F := Ideal) z V (ix4 b t g d)
       * Ideal.div (Ideal.exp (val_main_v128 (F := Ideal) z K qn kn (ix5 b g r 0 t) - val_main_v135 (F := Ideal) z K sinks qn kn (ix5 b g r 0 0)))
          (val_main_v145 (F := Ideal) z K sinks qn kn (ix5 b g r 0 0))
      = attK sinks (zb z b) (kb K b) (kb V b) tC tP tM (rw1 qn) (rw1 kn) g.val r.val g.isLt r.isLt d := by
  have es : sinks (ix1 ⟨g.val * 4 + r.val, by omega⟩) = sinks (ix1 ⟨4 * g.val + r.val, by omega⟩) :=
    congrArg sinks (congrArg ix1 (Fin.ext (by show g.val * 4 + r.val = 4 * g.val + r.val; omega)))
  have eq : ∀ j, val_main_v59 (F := Ideal) z qn (ix4 b 0 ⟨g.val * 4 + r.val, by omega⟩ j) = qv (zb z b) tC tP tM (rw1 qn) (4 * g.val + r.val) (by omega) j := by
    intro j
    rw [ref59_qv]
    simp only [mul_comm]
  rw [ref145, ref135, ref131, es]
  refine att129 _ _ _ _ _ _ d (fun t => val_main_v128 (F := Ideal) z K qn kn (ix5 b g r 0 t)) (fun t => val_main_v108 (F := Ideal) z V (ix4 b t g d)) ?_ ?_ ?_ ?_
  · intro t
    show val_main_v128 (F := Ideal) z K qn kn (ix5 b g r 0 t.castSucc) = _
    rw [ref128, ref126]
    refine congrArg (· * _) (Finset.sum_congr rfl fun j _ => ?_)
    rw [eq, ref107_old z K kn b t g j _ _ rfl, mul_comm]
  · show val_main_v128 (F := Ideal) z K qn kn (ix5 b g r 0 (Fin.last 128)) = _
    rw [ref128, ref126]
    refine congrArg (· * _) (Finset.sum_congr rfl fun j _ => ?_)
    rw [eq, ref107_new, mul_comm]
  · intro t
    exact ref108_old z V b t g d _ _ rfl
  · exact ref108_new z V b g d

/-! ### The convolution -/

theorem ref164 (b : Fin 32) (j : Fin 2048) :
    val_main_v164 (F := Ideal) z glub (ix3 b 0 j) = gluK (zb z b) (rw1 glub) j := by
  unfold gluK
  rw [logistic_bits]
  pointwise [val_main_v164, val_main_v163, val_main_v162, val_main_v161, val_main_v160, val_main_v159, val_main_v158, val_main_v157, val_main_v156, val_main_v155, val_main_v154, val_main_v153, val_main_cst_16, val_main_cst_17, val_main_v13, val_main_v4, val_main_v3, zb, rw1]
  have e : (⟨3072 + (2048 + j.val), by omega⟩ : Fin 7168) = ⟨5120 + j.val, by omega⟩ := Fin.ext (by show 3072 + (2048 + j.val) = 5120 + j.val; omega)
  rw [e]

theorem ref165 (b : Fin 32) (t : Fin 31) (j : Fin 2048) :
    val_main_v165 (F := Ideal) z st glub (ix3 b t j) = if h : t.val < 30 then st (ix3 b ⟨t.val, h⟩ j) else val_main_v164 (F := Ideal) z glub (ix3 b ⟨t.val - 30, by omega⟩ j) := by
  pointwise [val_main_v165]

theorem ref165_old (b : Fin 32) (t : Fin 30) (j : Fin 2048) :
    val_main_v165 (F := Ideal) z st glub (ix3 b t.castSucc j) = sb st b (ix3 0 t j) := by
  rw [ref165, dif_pos (show t.castSucc.val < 30 from t.isLt)]
  rfl

theorem ref165_new (b : Fin 32) (j : Fin 2048) :
    val_main_v165 (F := Ideal) z st glub (ix3 b (Fin.last 30) j) = gluK (zb z b) (rw1 glub) j := by
  rw [ref165, dif_neg (show ¬ (Fin.last 30).val < 30 by decide)]
  exact ref164 z glub b j

theorem ref174 (b : Fin 32) (j : Fin 2048) :
    val_main_v174 (F := Ideal) z st glub cw cb (ix3 b 0 j) = (∑ t : Fin 31, val_main_v165 (F := Ideal) z st glub (ix3 b t j) * cw (ix2 t j)) + cb (ix1 j) := by
  pointwise [val_main_v174, val_main_v173, val_main_v172, val_main_v171, val_main_v170, val_main_v169, val_main_v168, val_main_v167, val_main_cst_18]

theorem ref174_conv (b : Fin 32) (j : Fin 2048) :
    val_main_v174 (F := Ideal) z st glub cw cb (ix3 b 0 j) = convK (zb z b) (rw1 glub) (sb st b) cw (rw1 cb) j := by
  rw [ref174, Fin.sum_univ_castSucc]
  simp only [ref165_old, ref165_new]
  refine congrArg (· + _) (congrArg₂ (· + ·) (Finset.sum_congr rfl fun t _ => mul_comm _ _) (mul_comm _ _))

theorem ref196 (b : Fin 32) (j : Fin 2048) :
    val_main_v196 (F := Ideal) z st glub cw cb lng lnb (ix3 b 0 j)
      = lnorm (fun j => val_main_v174 (F := Ideal) z st glub cw cb (ix3 b 0 j)) (fun j => lng (ix1 j)) (fun j => lnb (ix1 j)) j := by
  pointwise [val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_cst_19, val_main_cst_20, val_main_cst_21, val_main_cst_22, val_main_cst_23, lnorm, mean]

theorem ref197 (b : Fin 32) (j : Fin 2048) :
    val_main_v197 (F := Ideal) z st glub cw cb lng lnb (ix3 b 0 j)
      = val_main_v196 (F := Ideal) z st glub cw cb lng lnb (ix3 b 0 j) * Ideal.div (Ideal.ofBits .f32 0x3F800000#32)
          (Ideal.ofBits .f32 0x3F800000#32 + Ideal.exp (-(val_main_v196 (F := Ideal) z st glub cw cb lng lnb (ix3 b 0 j)))) := by
  pointwise [val_main_v197, val_main_call1_v5, val_main_call1_v4, val_main_call1_v3, val_main_call1_v2, val_main_call1_v1, val_main_call1_v0, val_main_call1_cst, val_main_call1_cst_0]

/-! ### The four results -/

theorem ref198 (b : Fin 32) (v : Fin 4096) :
    val_main_v198 (F := Ideal) z K V st sinks qn kn glub cw cb lng lnb (ix3 b 0 v) = if h : v.val < 2048 then val_main_v150 (F := Ideal) z K V sinks qn kn (ix3 b 0 ⟨v.val, h⟩)
      else val_main_v197 (F := Ideal) z st glub cw cb lng lnb (ix3 b 0 ⟨v.val - 2048, by omega⟩) := by
  pointwise [val_main_v198]

/-- The first result, a row of it. -/
theorem ref_G15 (b : Fin 32) (v : Fin 4096) :
    val_main_v198 (F := Ideal) z K V st sinks qn kn glub cw cb lng lnb (ix3 b 0 v)
      = G15 sinks (zb z b) (kb K b) (kb V b) (sb st b) tC tP tM (rw1 qn) (rw1 kn) (rw1 glub) cw (rw1 cb) (rw1 lng) (rw1 lnb) (ix3 0 0 v) := by
  rw [ref198]
  by_cases h : v.val < 2048
  · rw [dif_pos h, ref150, ref_att]
    exact (G15_head _ _ _ _ _ _ _ _ _ _ _ _ _ _ _ (v.val / 512) (v.val / 128 % 4) _ _ ⟨v.val % 128, by omega⟩ v.val v.isLt
      (by show v.val = 128 * (4 * (v.val / 512) + v.val / 128 % 4) + v.val % 128; omega)).symm
  · rw [dif_neg h, ref197]
    simp only [← logistic_bits]
    rw [ref196]
    simp only [ref174_conv]
    exact (G15_conv sinks (zb z b) (kb K b) (kb V b) (sb st b) tC tP tM (rw1 qn) (rw1 kn) (rw1 glub) cw (rw1 cb) (rw1 lng) (rw1 lnb) ⟨v.val - 2048, by omega⟩ v.val v.isLt (by show v.val = 2048 + (v.val - 2048); omega)).symm

theorem ref199 (b : Fin 32) (t : Fin 128) (n : Fin 512) :
    val_main_v199 (F := Ideal) z K kn (ix3 b t n) = val_main_v107 (F := Ideal) z K kn (ix4 b ⟨1 + t.val, by omega⟩ ⟨n.val / 128, by omega⟩ ⟨n.val % 128, by omega⟩) := by
  pointwise [val_main_v199, val_main_v151]

theorem ref200 (b : Fin 32) (t : Fin 128) (n : Fin 512) :
    val_main_v200 (F := Ideal) z V (ix3 b t n) = val_main_v108 (F := Ideal) z V (ix4 b ⟨1 + t.val, by omega⟩ ⟨n.val / 128, by omega⟩ ⟨n.val % 128, by omega⟩) := by
  pointwise [val_main_v200, val_main_v152]

/-- The second result, a row of it. -/
theorem ref_G16 (b : Fin 32) (t : Fin 128) (n : Fin 512) :
    val_main_v199 (F := Ideal) z K kn (ix3 b t n) = G16 (zb z b) (kb K b) tC tP tM (rw1 kn) (ix3 0 t n) := by
  rw [ref199]
  unfold G16
  by_cases h : t.val = 127
  · refine Eq.trans ?_ (if_pos (show (ix3 (n0 := 1) (n1 := 128) (n2 := 512) 0 t n 1).val = 127 from h)).symm
    have e : (⟨1 + t.val, by omega⟩ : Fin 129) = Fin.last 128 := Fin.ext (by show 1 + t.val = 128; omega)
    rw [e, ref107_new]
    rfl
  · refine Eq.trans ?_ (if_neg (show ¬ (ix3 (n0 := 1) (n1 := 128) (n2 := 512) 0 t n 1).val = 127 from h)).symm
    have e : (⟨1 + t.val, by omega⟩ : Fin 129) = (⟨(t.val + 1) % 128, Nat.mod_lt _ (by decide)⟩ : Fin 128).castSucc :=
      Fin.ext (by show 1 + t.val = (t.val + 1) % 128; omega)
    rw [e, ref107_old z K kn b _ _ _ n.val n.isLt (by show n.val = 128 * (n.val / 128) + n.val % 128; omega)]
    rfl

/-- The third result, a row of it. -/
theorem ref_G17 (b : Fin 32) (t : Fin 128) (n : Fin 512) :
    val_main_v200 (F := Ideal) z V (ix3 b t n) = G17 (zb z b) (kb V b) (ix3 0 t n) := by
  rw [ref200]
  unfold G17
  by_cases h : t.val = 127
  · refine Eq.trans ?_ (if_pos (show (ix3 (n0 := 1) (n1 := 128) (n2 := 512) 0 t n 1).val = 127 from h)).symm
    have e : (⟨1 + t.val, by omega⟩ : Fin 129) = Fin.last 128 := Fin.ext (by show 1 + t.val = 128; omega)
    rw [e, ref108_new]
    rfl
  · refine Eq.trans ?_ (if_neg (show ¬ (ix3 (n0 := 1) (n1 := 128) (n2 := 512) 0 t n 1).val = 127 from h)).symm
    have e : (⟨1 + t.val, by omega⟩ : Fin 129) = (⟨(t.val + 1) % 128, Nat.mod_lt _ (by decide)⟩ : Fin 128).castSucc :=
      Fin.ext (by show 1 + t.val = (t.val + 1) % 128; omega)
    rw [e, ref108_old z V b _ _ _ n.val n.isLt (by show n.val = 128 * (n.val / 128) + n.val % 128; omega)]
    rfl

theorem ref166 (b : Fin 32) (t : Fin 30) (n : Fin 2048) :
    val_main_v166 (F := Ideal) z st glub (ix3 b t n) = val_main_v165 (F := Ideal) z st glub (ix3 b ⟨1 + t.val, by omega⟩ n) := by
  pointwise [val_main_v166]

/-- The fourth result, a row of it. -/
theorem ref_G18 (b : Fin 32) (t : Fin 30) (n : Fin 2048) :
    val_main_v166 (F := Ideal) z st glub (ix3 b t n) = G18 (zb z b) (sb st b) (rw1 glub) (ix3 0 t n) := by
  rw [ref166]
  unfold G18
  by_cases h : t.val < 29
  · refine Eq.trans ?_ (dif_pos (show (ix3 (n0 := 1) (n1 := 30) (n2 := 2048) 0 t n 1).val < 29 from h)).symm
    have e : (⟨1 + t.val, by omega⟩ : Fin 31) = (⟨t.val + 1, by omega⟩ : Fin 30).castSucc := Fin.ext (by show 1 + t.val = t.val + 1; omega)
    rw [e, ref165_old]
    rfl
  · refine Eq.trans ?_ (dif_neg (show ¬ (ix3 (n0 := 1) (n1 := 30) (n2 := 2048) 0 t n 1).val < 29 from h)).symm
    have e : (⟨1 + t.val, by omega⟩ : Fin 31) = Fin.last 30 := Fin.ext (by show 1 + t.val = 30; omega)
    rw [e, ref165_new]
    rfl

end Cert.SampleCore
end
-- ==== Proof.SampleCore.lean ====
/-
  The value claim of the sample rows' attention and convolution core: each grid step's blocks are one row's cuts of the
  arguments, so the four arrays that the run writes are, row by row, the reference's four results.
-/
module

public import proofs.«01_k».proof.Proof.SampleRef
public import proofs.«01_k».proof.Proof.Gen.ReferenceIdeal.Run
public import proofs.«01_k».proof.Defs

@[expose] public section

set_option maxRecDepth 16384

noncomputable section

namespace Cert.SampleCore

open Cert.KernelIdeal Cert.KernelIdeal.Gen Idealize.ShloMosaic Idealize.ShloMosaic.TcCoe Idealize.SL.Sem StableHlo

/-- The block that each window shows at a point: a row's, or the whole array. -/
theorem idx_facts : ∀ t : Fin cfg0.N,
    (win0_0.index t (0 : Fin 1) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 3) = t.val ∧ win0_15.index t (1 : Fin 3) = 0 ∧ win0_15.index t (2 : Fin 3) = 0)
    ∧ (win0_16.index t (0 : Fin 3) = t.val ∧ win0_16.index t (1 : Fin 3) = 0 ∧ win0_16.index t (2 : Fin 3) = 0)
    ∧ (win0_17.index t (0 : Fin 3) = t.val ∧ win0_17.index t (1 : Fin 3) = 0 ∧ win0_17.index t (2 : Fin 3) = 0)
    ∧ (win0_18.index t (0 : Fin 3) = t.val ∧ win0_18.index t (1 : Fin 3) = 0 ∧ win0_18.index t (2 : Fin 3) = 0) :=
  (by decide +kernel : ∀ t : Fin grid0.N, _)

/-- Every point writes its blocks back. -/
theorem flushes : ∀ t : Fin cfg0.N, (cfg0.win 15).flush t = true ∧ (cfg0.win 16).flush t = true ∧ (cfg0.win 17).flush t = true ∧ (cfg0.win 18).flush t = true :=
  (by decide +kernel : ∀ t : Fin grid0.N, win0_15.flush t = true ∧ win0_16.flush t = true ∧ win0_17.flush t = true ∧ win0_18.flush t = true)

variable (m : (ℓ : Loc nD τ sig) → Buf (Elt Ideal) ℓ)

/-- The arguments as arrays of extended reals. -/
abbrev Az (c : Dev nD) : FVec Ideal S8320x7168 .f32 := m ((c : Thread nD τ).loc main_arg0)
abbrev Ak (c : Dev nD) : FVec Ideal S32x128x512 .f32 := m ((c : Thread nD τ).loc main_arg1)
abbrev Av (c : Dev nD) : FVec Ideal S32x128x512 .f32 := m ((c : Thread nD τ).loc main_arg2)
abbrev As (c : Dev nD) : FVec Ideal S32x30x2048 .f32 := m ((c : Thread nD τ).loc main_arg3)
abbrev Aq (c : Dev nD) : FVec Ideal S16 .f32 := m ((c : Thread nD τ).loc main_arg4)
abbrev An (c : Dev nD) : FVec Ideal S128 .f32 := m ((c : Thread nD τ).loc main_arg5)
abbrev Am (c : Dev nD) : FVec Ideal S128 .f32 := m ((c : Thread nD τ).loc main_arg6)
abbrev Ag (c : Dev nD) : FVec Ideal S4096 .f32 := m ((c : Thread nD τ).loc main_arg7)
abbrev Aw (c : Dev nD) : FVec Ideal S31x2048 .f32 := m ((c : Thread nD τ).loc main_arg8)
abbrev Ab (c : Dev nD) : FVec Ideal S2048 .f32 := m ((c : Thread nD τ).loc main_arg9)
abbrev Al (c : Dev nD) : FVec Ideal S2048 .f32 := m ((c : Thread nD τ).loc main_arg10)
abbrev Ao (c : Dev nD) : FVec Ideal S2048 .f32 := m ((c : Thread nD τ).loc main_arg11)

theorem lt32 (t : Fin cfg0.N) : t.val < 32 := lt_of_lt_of_eq t.isLt N_0
/-- The row of a point. -/
abbrev row (t : Fin cfg0.N) : Fin 32 := ⟨t.val, lt32 t⟩

/-! ## What the host hands over -/

theorem idx_one {n : ℕ} (x : (⟨2, ![1, n]⟩ : Shape).Idx) : x = ix2 0 (x 1) :=
  funext fun a => match a with | ⟨0, _⟩ => Subsingleton.elim (α := Fin 1) _ _ | ⟨1, _⟩ => rfl

theorem V23 (c : Dev nD) (b : Fin 32) (j : Fin 7168) : (V m c main_v23 : FVec Ideal S32x1x7168 .f32) (ix3 b 0 j) = Az m c (ix2 ⟨8192 + b.val, by omega⟩ j) := by
  have e : (V m c main_v23 : FVec Ideal S32x1x7168 .f32) = shapeCast S32x1x7168 (extractStridedSlice S32x7168 ![8192, 0] (Az m c) slices_S8320x7168_S32x7168_8192_0) shapeCasts_S32x7168_S32x1x7168 := by
    unfold_abbrev_sides
    after_results
    rfl
  rw [e]
  pointwise []

theorem V24 (c : Dev nD) : (V m c main_v24 : FVec Ideal S1x128 .f32) = rw1 (An m c) := by
  have e : (V m c main_v24 : FVec Ideal S1x128 .f32) = shapeCast S1x128 (An m c) shapeCasts_S128_S1x128 := by
    unfold_abbrev_sides
    after_results
    rfl
  rw [e]
  funext y
  obtain ⟨j, rfl⟩ : ∃ j, y = ix2 0 j := ⟨_, idx_one y⟩
  pointwise [rw1]

theorem V25 (c : Dev nD) : (V m c main_v25 : FVec Ideal S1x128 .f32) = rw1 (Am m c) := by
  have e : (V m c main_v25 : FVec Ideal S1x128 .f32) = shapeCast S1x128 (Am m c) shapeCasts_S128_S1x128 := by
    unfold_abbrev_sides
    after_results
    rfl
  rw [e]
  funext y
  obtain ⟨j, rfl⟩ : ∃ j, y = ix2 0 j := ⟨_, idx_one y⟩
  pointwise [rw1]

theorem V26 (c : Dev nD) : (V m c main_v26 : FVec Ideal S1x4096 .f32) = rw1 (Ag m c) := by
  have e : (V m c main_v26 : FVec Ideal S1x4096 .f32) = shapeCast S1x4096 (Ag m c) shapeCasts_S4096_S1x4096 := by
    unfold_abbrev_sides
    after_results
    rfl
  rw [e]
  funext y
  obtain ⟨j, rfl⟩ : ∃ j, y = ix2 0 j := ⟨_, idx_one y⟩
  pointwise [rw1]

theorem V27 (c : Dev nD) : (V m c main_v27 : FVec Ideal S1x2048 .f32) = rw1 (Ab m c) := by
  have e : (V m c main_v27 : FVec Ideal S1x2048 .f32) = shapeCast S1x2048 (Ab m c) shapeCasts_S2048_S1x2048 := by
    unfold_abbrev_sides
    after_results
    rfl
  rw [e]
  funext y
  obtain ⟨j, rfl⟩ : ∃ j, y = ix2 0 j := ⟨_, idx_one y⟩
  pointwise [rw1]

theorem V28 (c : Dev nD) : (V m c main_v28 : FVec Ideal S1x2048 .f32) = rw1 (Al m c) := by
  have e : (V m c main_v28 : FVec Ideal S1x2048 .f32) = shapeCast S1x2048 (Al m c) shapeCasts_S2048_S1x2048 := by
    unfold_abbrev_sides
    after_results
    rfl
  rw [e]
  funext y
  obtain ⟨j, rfl⟩ : ∃ j, y = ix2 0 j := ⟨_, idx_one y⟩
  pointwise [rw1]

theorem V29 (c : Dev nD) : (V m c main_v29 : FVec Ideal S1x2048 .f32) = rw1 (Ao m c) := by
  have e : (V m c main_v29 : FVec Ideal S1x2048 .f32) = shapeCast S1x2048 (Ao m c) shapeCasts_S2048_S1x2048 := by
    unfold_abbrev_sides
    after_results
    rfl
  rw [e]
  funext y
  obtain ⟨j, rfl⟩ : ∃ j, y = ix2 0 j := ⟨_, idx_one y⟩
  pointwise [rw1]

/-- The kernel's angles are the reference's. -/
def angK : FVec Ideal S1x16 .f32 :=
  mulf (broadcastInDim S1x16 ![0, 1] bcast_S1x1_S1x16_0_1 (broadcastInDim S1x1 ![0] bcast_S1_S1x1_0 (sitofp .f32 (broadcastInDim S1 ![] bcast_S_S1 (constantI S_ 32 16384#32)))))
    (broadcastInDim S1x16 ![1] bcast_S16_S1x16_1 (Host.powf (broadcastInDim S16 ![] bcast_S_S16 (constant (F := Ideal) S_ .f32 0x48F42400#32))
      (mulf (Host.negf (sitofp .f32 (iotaInDim S16 32 0))) (broadcastInDim S16 ![] bcast_S_S16 (constant (F := Ideal) S_ .f32 0x3D800000#32)))))

open Cert.ReferenceIdeal.Read in
theorem angK_apply (j : Fin 16) : angK (ix2 0 j) = ang j := by
  pointwise [angK, ang, val_main_v37, val_main_v36, val_main_v35, val_main_v34, val_main_v33, val_main_v32, val_main_v31, val_main_v30, val_main_v29, val_main_v28, val_main_v27, val_main_cst_2, val_main_cst_3, val_main_v2, val_main_v1, val_main_v0, val_main_c]
  rw [show IntOp.addi 16384#32 0#32 = 16384#32 from rfl]

theorem V15 (c : Dev nD) : (V m c main_v15 : FVec Ideal S1x128 .f32) = tC := by
  have e : (V m c main_v15 : FVec Ideal S1x128 .f32) = concatenate S1x128 1 [⟨S1x16, (Host.cos angK : FVec Ideal S1x16 .f32)⟩, ⟨S1x16, (Host.cos angK : FVec Ideal S1x16 .f32)⟩, ⟨S1x96, (broadcastInDim S1x96 ![] bcast_S_S1x96 (constant (F := Ideal) S_ .f32 0x3F800000#32) : FVec Ideal S1x96 .f32)⟩] concatenates_S1x16_S1x16_S1x96_S1x128_d1 := by
    unfold_abbrev_sides
    after_results
    rfl
  rw [e]
  funext y
  obtain ⟨j, rfl⟩ : ∃ j, y = ix2 0 j := ⟨_, idx_one y⟩
  show _ = tabC ang j
  unfold tabC
  simp only [← angK_apply]
  pointwise []

theorem V18 (c : Dev nD) : (V m c main_v18 : FVec Ideal S1x128 .f32) = tP := by
  have e : (V m c main_v18 : FVec Ideal S1x128 .f32) = concatenate S1x128 1 [⟨S1x16, (broadcastInDim S1x16 ![] bcast_S_S1x16 (constant (F := Ideal) S_ .f32 0x00000000#32) : FVec Ideal S1x16 .f32)⟩, ⟨S1x16, (Host.sin angK : FVec Ideal S1x16 .f32)⟩, ⟨S1x96, (broadcastInDim S1x96 ![] bcast_S_S1x96 (constant (F := Ideal) S_ .f32 0x00000000#32) : FVec Ideal S1x96 .f32)⟩] concatenates_S1x16_S1x16_S1x96_S1x128_d1 := by
    unfold_abbrev_sides
    after_results
    rfl
  rw [e]
  funext y
  obtain ⟨j, rfl⟩ : ∃ j, y = ix2 0 j := ⟨_, idx_one y⟩
  show _ = tabP ang j
  unfold tabP
  simp only [← angK_apply]
  pointwise []
  by_cases h : j.val < 16
  · rw [dif_pos h, if_pos h]
  · rw [dif_neg h, if_neg h]

theorem V21 (c : Dev nD) : (V m c main_v21 : FVec Ideal S1x128 .f32) = tM := by
  have e : (V m c main_v21 : FVec Ideal S1x128 .f32) = concatenate S1x128 1 [⟨S1x16, (Host.negf (Host.sin angK) : FVec Ideal S1x16 .f32)⟩, ⟨S1x112, (broadcastInDim S1x112 ![] bcast_S_S1x112 (constant (F := Ideal) S_ .f32 0x00000000#32) : FVec Ideal S1x112 .f32)⟩] concatenates_S1x16_S1x112_S1x128_d1 := by
    unfold_abbrev_sides
    after_results
    rfl
  rw [e]
  funext y
  obtain ⟨j, rfl⟩ : ∃ j, y = ix2 0 j := ⟨_, idx_one y⟩
  show _ = tabM ang j
  unfold tabM
  simp only [← angK_apply]
  pointwise []

/-! ## The blocks -/

theorem iblk0 (c : Dev nD) (t : Fin cfg0.N) : (iblk m c 0 t : FVec Ideal S16 .f32) = Aq m c := by
  have hf := idx_facts t
  obtain ⟨e0, -⟩ := hf
  funext y
  show (V m c main_arg4 : FVec Ideal S16 .f32) (((cfg0.win 0).blk t).view.emb y) = _
  rw [V_main_arg4]
  show Aq m c (((cfg0.win 0).blk t).view.emb y) = _
  congr 1; funext a; apply Fin.ext
  match a with
  | ⟨0, _⟩ => show win0_0.index t (0 : Fin 1) * 16 + 1 * (y 0).val = (y 0).val; rw [e0]; omega

theorem iblk1 (c : Dev nD) (t : Fin cfg0.N) : (iblk m c 1 t : FVec Ideal S1x1x7168 .f32) = zb (Az m c) (row t) := by
  have hf := idx_facts t
  obtain ⟨-, ⟨e0, e1, e2⟩, -⟩ := hf
  funext y
  have h0 : (y 0).val < 1 := (y 0).isLt
  have h1 : (y 1).val < 1 := (y 1).isLt
  have he : ((cfg0.win 1).blk t).view.emb y = ix3 (row t) 0 (y 2) := by
    funext a; apply Fin.ext
    match a with
    | ⟨0, _⟩ => show win0_1.index t (0 : Fin 3) * 1 + 1 * (y 0).val = t.val; rw [e0]; omega
    | ⟨1, _⟩ => show win0_1.index t (1 : Fin 3) * 1 + 1 * (y 1).val = 0; rw [e1]; omega
    | ⟨2, _⟩ => show win0_1.index t (2 : Fin 3) * 7168 + 1 * (y 2).val = (y 2).val; rw [e2]; omega
  show (V m c main_v23 : FVec Ideal S32x1x7168 .f32) (((cfg0.win 1).blk t).view.emb y) = _
  rw [he]
  exact V23 m c (row t) (y 2)

theorem iblk2 (c : Dev nD) (t : Fin cfg0.N) : (iblk m c 2 t : FVec Ideal S1x128x512 .f32) = kb (Ak m c) (row t) := by
  have hf := idx_facts t
  obtain ⟨-, -, ⟨e0, e1, e2⟩, -⟩ := hf
  funext y
  have h0 : (y 0).val < 1 := (y 0).isLt
  have he : ((cfg0.win 2).blk t).view.emb y = ix3 (row t) (y 1) (y 2) := by
    funext a; apply Fin.ext
    match a with
    | ⟨0, _⟩ => show win0_2.index t (0 : Fin 3) * 1 + 1 * (y 0).val = t.val; rw [e0]; omega
    | ⟨1, _⟩ => show win0_2.index t (1 : Fin 3) * 128 + 1 * (y 1).val = (y 1).val; rw [e1]; omega
    | ⟨2, _⟩ => show win0_2.index t (2 : Fin 3) * 512 + 1 * (y 2).val = (y 2).val; rw [e2]; omega
  show (V m c main_arg1 : FVec Ideal S32x128x512 .f32) (((cfg0.win 2).blk t).view.emb y) = _
  rw [he, V_main_arg1]
  rfl

theorem iblk3 (c : Dev nD) (t : Fin cfg0.N) : (iblk m c 3 t : FVec Ideal S1x128x512 .f32) = kb (Av m c) (row t) := by
  have hf := idx_facts t
  obtain ⟨-, -, -, ⟨e0, e1, e2⟩, -⟩ := hf
  funext y
  have h0 : (y 0).val < 1 := (y 0).isLt
  have he : ((cfg0.win 3).blk t).view.emb y = ix3 (row t) (y 1) (y 2) := by
    funext a; apply Fin.ext
    match a with
    | ⟨0, _⟩ => show win0_3.index t (0 : Fin 3) * 1 + 1 * (y 0).val = t.val; rw [e0]; omega
    | ⟨1, _⟩ => show win0_3.index t (1 : Fin 3) * 128 + 1 * (y 1).val = (y 1).val; rw [e1]; omega
    | ⟨2, _⟩ => show win0_3.index t (2 : Fin 3) * 512 + 1 * (y 2).val = (y 2).val; rw [e2]; omega
  show (V m c main_arg2 : FVec Ideal S32x128x512 .f32) (((cfg0.win 3).blk t).view.emb y) = _
  rw [he, V_main_arg2]
  rfl

theorem iblk4 (c : Dev nD) (t : Fin cfg0.N) : (iblk m c 4 t : FVec Ideal S1x30x2048 .f32) = sb (As m c) (row t) := by
  have hf := idx_facts t
  obtain ⟨-, -, -, -, ⟨e0, e1, e2⟩, -⟩ := hf
  funext y
  have h0 : (y 0).val < 1 := (y 0).isLt
  have he : ((cfg0.win 4).blk t).view.emb y = ix3 (row t) (y 1) (y 2) := by
    funext a; apply Fin.ext
    match a with
    | ⟨0, _⟩ => show win0_4.index t (0 : Fin 3) * 1 + 1 * (y 0).val = t.val; rw [e0]; omega
    | ⟨1, _⟩ => show win0_4.index t (1 : Fin 3) * 30 + 1 * (y 1).val = (y 1).val; rw [e1]; omega
    | ⟨2, _⟩ => show win0_4.index t (2 : Fin 3) * 2048 + 1 * (y 2).val = (y 2).val; rw [e2]; omega
  show (V m c main_arg3 : FVec Ideal S32x30x2048 .f32) (((cfg0.win 4).blk t).view.emb y) = _
  rw [he, V_main_arg3]
  rfl

theorem iblk5 (c : Dev nD) (t : Fin cfg0.N) : (iblk m c 5 t : FVec Ideal S1x128 .f32) = tC := by
  have hf := idx_facts t
  obtain ⟨-, -, -, -, -, ⟨e0, e1⟩, -⟩ := hf
  refine Eq.trans ?_ (V15 m c)
  funext y
  show (V m c main_v15 : FVec Ideal S1x128 .f32) (((cfg0.win 5).blk t).view.emb y) = (V m c main_v15 : FVec Ideal S1x128 .f32) y
  congr 1; funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem iblk6 (c : Dev nD) (t : Fin cfg0.N) : (iblk m c 6 t : FVec Ideal S1x128 .f32) = tP := by
  have hf := idx_facts t
  obtain ⟨-, -, -, -, -, -, ⟨e0, e1⟩, -⟩ := hf
  refine Eq.trans ?_ (V18 m c)
  funext y
  show (V m c main_v18 : FVec Ideal S1x128 .f32) (((cfg0.win 6).blk t).view.emb y) = (V m c main_v18 : FVec Ideal S1x128 .f32) y
  congr 1; funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem iblk7 (c : Dev nD) (t : Fin cfg0.N) : (iblk m c 7 t : FVec Ideal S1x128 .f32) = tM := by
  have hf := idx_facts t
  obtain ⟨-, -, -, -, -, -, -, ⟨e0, e1⟩, -⟩ := hf
  refine Eq.trans ?_ (V21 m c)
  funext y
  show (V m c main_v21 : FVec Ideal S1x128 .f32) (((cfg0.win 7).blk t).view.emb y) = (V m c main_v21 : FVec Ideal S1x128 .f32) y
  congr 1; funext a; apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem iblk8 (c : Dev nD) (t : Fin cfg0.N) : (iblk m c 8 t : FVec Ideal S1x128 .f32) = rw1 (An m c) := by
  have hf := idx_facts t
  obtain ⟨-, -, -, -, -, -, -, -, ⟨e0, e1⟩, -⟩ := hf
  refine Eq.trans ?_ (V24 m c)
  funext y
  show (V m c main_v24 : FVec Ideal S1x128 .f32) (((cfg0.win 8).blk t).view.emb y) = (V m c main_v24 : FVec Ideal S1x128 .f32) y
  congr 1; funext a; apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

theorem iblk9 (c : Dev nD) (t : Fin cfg0.N) : (iblk m c 9 t : FVec Ideal S1x128 .f32) = rw1 (Am m c) := by
  have hf := idx_facts t
  obtain ⟨-, -, -, -, -, -, -, -, -, ⟨e0, e1⟩, -⟩ := hf
  refine Eq.trans ?_ (V25 m c)
  funext y
  show (V m c main_v25 : FVec Ideal S1x128 .f32) (((cfg0.win 9).blk t).view.emb y) = (V m c main_v25 : FVec Ideal S1x128 .f32) y
  congr 1; funext a; apply Fin.ext
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

theorem iblk10 (c : Dev nD) (t : Fin cfg0.N) : (iblk m c 10 t : FVec Ideal S1x4096 .f32) = rw1 (Ag m c) := by
  have hf := idx_facts t
  obtain ⟨-, -, -, -, -, -, -, -, -, -, ⟨e0, e1⟩, -⟩ := hf
  refine Eq.trans ?_ (V26 m c)
  funext y
  show (V m c main_v26 : FVec Ideal S1x4096 .f32) (((cfg0.win 10).blk t).view.emb y) = (V m c main_v26 : FVec Ideal S1x4096 .f32) y
  congr 1; funext a; apply Fin.ext
  match a with
  | ⟨0, _⟩ => show win0_10.index t (0 : Fin 2) * 1 + 1 * (y 0).val = (y 0).val; rw [e0]; omega
  | ⟨1, _⟩ => show win0_10.index t (1 : Fin 2) * 4096 + 1 * (y 1).val = (y 1).val; rw [e1]; omega

theorem iblk11 (c : Dev nD) (t : Fin cfg0.N) : (iblk m c 11 t : FVec Ideal S31x2048 .f32) = Aw m c := by
  have hf := idx_facts t
  obtain ⟨-, -, -, -, -, -, -, -, -, -, -, ⟨e0, e1⟩, -⟩ := hf
  refine Eq.trans ?_ (V_main_arg8 m c)
  funext y
  show (V m c main_arg8 : FVec Ideal S31x2048 .f32) (((cfg0.win 11).blk t).view.emb y) = (V m c main_arg8 : FVec Ideal S31x2048 .f32) y
  congr 1; funext a; apply Fin.ext
  match a with
  | ⟨0, _⟩ => show win0_11.index t (0 : Fin 2) * 31 + 1 * (y 0).val = (y 0).val; rw [e0]; omega
  | ⟨1, _⟩ => show win0_11.index t (1 : Fin 2) * 2048 + 1 * (y 1).val = (y 1).val; rw [e1]; omega

theorem iblk12 (c : Dev nD) (t : Fin cfg0.N) : (iblk m c 12 t : FVec Ideal S1x2048 .f32) = rw1 (Ab m c) := by
  have hf := idx_facts t
  obtain ⟨-, -, -, -, -, -, -, -, -, -, -, -, ⟨e0, e1⟩, -⟩ := hf
  refine Eq.trans ?_ (V27 m c)
  funext y
  show (V m c main_v27 : FVec Ideal S1x2048 .f32) (((cfg0.win 12).blk t).view.emb y) = (V m c main_v27 : FVec Ideal S1x2048 .f32) y
  congr 1; funext a; apply Fin.ext
  match a with
  | ⟨0, _⟩ => show win0_12.index t (0 : Fin 2) * 1 + 1 * (y 0).val = (y 0).val; rw [e0]; omega
  | ⟨1, _⟩ => show win0_12.index t (1 : Fin 2) * 2048 + 1 * (y 1).val = (y 1).val; rw [e1]; omega

theorem iblk13 (c : Dev nD) (t : Fin cfg0.N) : (iblk m c 13 t : FVec Ideal S1x2048 .f32) = rw1 (Al m c) := by
  have hf := idx_facts t
  obtain ⟨-, -, -, -, -, -, -, -, -, -, -, -, -, ⟨e0, e1⟩, -⟩ := hf
  refine Eq.trans ?_ (V28 m c)
  funext y
  show (V m c main_v28 : FVec Ideal S1x2048 .f32) (((cfg0.win 13).blk t).view.emb y) = (V m c main_v28 : FVec Ideal S1x2048 .f32) y
  congr 1; funext a; apply Fin.ext
  match a with
  | ⟨0, _⟩ => show win0_13.index t (0 : Fin 2) * 1 + 1 * (y 0).val = (y 0).val; rw [e0]; omega
  | ⟨1, _⟩ => show win0_13.index t (1 : Fin 2) * 2048 + 1 * (y 1).val = (y 1).val; rw [e1]; omega

theorem iblk14 (c : Dev nD) (t : Fin cfg0.N) : (iblk m c 14 t : FVec Ideal S1x2048 .f32) = rw1 (Ao m c) := by
  have hf := idx_facts t
  obtain ⟨-, -, -, -, -, -, -, -, -, -, -, -, -, -, ⟨e0, e1⟩, -⟩ := hf
  refine Eq.trans ?_ (V29 m c)
  funext y
  show (V m c main_v29 : FVec Ideal S1x2048 .f32) (((cfg0.win 14).blk t).view.emb y) = (V m c main_v29 : FVec Ideal S1x2048 .f32) y
  congr 1; funext a; apply Fin.ext
  match a with
  | ⟨0, _⟩ => show win0_14.index t (0 : Fin 2) * 1 + 1 * (y 0).val = (y 0).val; rw [e0]; omega
  | ⟨1, _⟩ => show win0_14.index t (1 : Fin 2) * 2048 + 1 * (y 1).val = (y 1).val; rw [e1]; omega

/-! ## The four arrays after the run -/

open Cert.ReferenceIdeal.Read in
/-- The first array after the run is the reference's first result. -/
theorem final15 (c : Dev nD) :
    (dats m 0 c).arrAt 15 cfg0.N = val_main_v198 (F := Ideal) (Az m c) (Ak m c) (Av m c) (As m c) (Aq m c) (An m c) (Am m c) (Ag m c) (Aw m c) (Ab m c) (Al m c) (Ao m c) :=
  (dats m 0 c).arrAt_eq_of_cover 15 _ (fun t hf => by
    rw [Cert.KernelIdeal.Value.flushed15_A]
    have hi := idx_facts t
    obtain ⟨-, -, -, -, -, -, -, -, -, -, -, -, -, -, -, ⟨e0, e1, e2⟩, -⟩ := hi
    funext y
    have hy0 : (y 0).val < 1 := (y 0).isLt
    have hy1 : (y 1).val < 1 := (y 1).isLt
    have hy2 : (y 2).val < 4096 := (y 2).isLt
    have hx : (cfg0.win 15).xinj (grid0.coords t) y = ix3 0 0 ⟨(y 2).val, hy2⟩ := by
      funext a; apply Fin.ext
      match a with
      | ⟨0, _⟩ => show (y 0).val = 0; omega
      | ⟨1, _⟩ => show (y 1).val = 0; omega
      | ⟨2, _⟩ => rfl
    have he : ((cfg0.win 15).blk t).view.emb y = ix3 (row t) 0 ⟨(y 2).val, hy2⟩ := by
      funext a; apply Fin.ext
      match a with
      | ⟨0, _⟩ => show win0_15.index t (0 : Fin 3) * 1 + 1 * (y 0).val = t.val; rw [e0]; omega
      | ⟨1, _⟩ => show win0_15.index t (1 : Fin 3) * 1 + 1 * (y 1).val = 0; rw [e1]; omega
      | ⟨2, _⟩ => show win0_15.index t (2 : Fin 3) * 4096 + 1 * (y 2).val = (y 2).val; rw [e2]; omega
    show out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((cfg0.win 15).xinj (grid0.coords t) y)
      = val_main_v198 (F := Ideal) (Az m c) (Ak m c) (Av m c) (As m c) (Aq m c) (An m c) (Am m c) (Ag m c) (Aw m c) (Ab m c) (Al m c) (Ao m c) (((cfg0.win 15).blk t).view.emb y)
    rw [hx, he, p15]
    refine Eq.trans ?_ (ref_G15 (Az m c) (Ak m c) (Av m c) (As m c) (Aq m c) (An m c) (Am m c) (Ag m c) (Aw m c) (Ab m c) (Al m c) (Ao m c) (row t) ⟨(y 2).val, hy2⟩).symm
    show G15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ = _
    rw [iblk0, iblk1, iblk2, iblk3, iblk4, iblk5, iblk6, iblk7, iblk8, iblk9, iblk10, iblk11, iblk12, iblk13, iblk14]) (fun i => by
      have h0 : (i 0).val < 32 := (i 0).isLt
      have h1 : (i 1).val < 1 := (i 1).isLt
      have h2 : (i 2).val < 4096 := (i 2).isLt
      let t : Fin cfg0.N := ⟨(i 0).val, lt_of_lt_of_eq (by omega) N_0.symm⟩
      have ht : t.val = (i 0).val := rfl
      refine ⟨t, (flushes t).1, ?_⟩
      have hi := idx_facts t
      obtain ⟨-, -, -, -, -, -, -, -, -, -, -, -, -, -, -, ⟨e0, e1, e2⟩, -⟩ := hi
      show i ∈ ((View.whole main_v30_0).slice (win0_15.rect t)).set
      rw [View.set_slice_whole, Rect.mem_set_unit]
      intro a
      match a with
      | ⟨0, _⟩ =>
        show win0_15.index t (0 : Fin 3) * 1 ≤ (i 0).val ∧ (i 0).val < win0_15.index t (0 : Fin 3) * 1 + 1
        rw [e0]; omega
      | ⟨1, _⟩ =>
        show win0_15.index t (1 : Fin 3) * 1 ≤ (i 1).val ∧ (i 1).val < win0_15.index t (1 : Fin 3) * 1 + 1
        rw [e1]; omega
      | ⟨2, _⟩ =>
        show win0_15.index t (2 : Fin 3) * 4096 ≤ (i 2).val ∧ (i 2).val < win0_15.index t (2 : Fin 3) * 4096 + 4096
        rw [e2]; omega)

open Cert.ReferenceIdeal.Read in
/-- The second array after the run is the reference's second result. -/
theorem final16 (c : Dev nD) :
    (dats m 0 c).arrAt 16 cfg0.N = val_main_v199 (F := Ideal) (Az m c) (Ak m c) (Am m c) :=
  (dats m 0 c).arrAt_eq_of_cover 16 _ (fun t hf => by
    rw [Cert.KernelIdeal.Value.flushed16_A]
    have hi := idx_facts t
    obtain ⟨-, -, -, -, -, -, -, -, -, -, -, -, -, -, -, -, ⟨e0, e1, e2⟩, -⟩ := hi
    funext y
    have hy0 : (y 0).val < 1 := (y 0).isLt
    have hy1 : (y 1).val < 128 := (y 1).isLt
    have hy2 : (y 2).val < 512 := (y 2).isLt
    have hx : (cfg0.win 16).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have he : ((cfg0.win 16).blk t).view.emb y = ix3 (row t) ⟨(y 1).val, hy1⟩ ⟨(y 2).val, hy2⟩ := by
      funext a; apply Fin.ext
      match a with
      | ⟨0, _⟩ => show win0_16.index t (0 : Fin 3) * 1 + 1 * (y 0).val = t.val; rw [e0]; omega
      | ⟨1, _⟩ => show win0_16.index t (1 : Fin 3) * 128 + 1 * (y 1).val = (y 1).val; rw [e1]; omega
      | ⟨2, _⟩ => show win0_16.index t (2 : Fin 3) * 512 + 1 * (y 2).val = (y 2).val; rw [e2]; omega
    show out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((cfg0.win 16).xinj (grid0.coords t) y)
      = val_main_v199 (F := Ideal) (Az m c) (Ak m c) (Am m c) (((cfg0.win 16).blk t).view.emb y)
    rw [hx, he, p16]
    refine Eq.trans ?_ (ref_G16 (Az m c) (Ak m c) (Am m c) (row t) ⟨(y 1).val, hy1⟩ ⟨(y 2).val, hy2⟩).symm
    show G16 (iblk m c 1 t) (iblk m c 2 t) (iblk m c 5 t) (iblk m c 6 t) (iblk m c 7 t) (iblk m c 9 t) _ = _
    rw [iblk1, iblk2, iblk5, iblk6, iblk7, iblk9]) (fun i => by
      have h0 : (i 0).val < 32 := (i 0).isLt
      have h1 : (i 1).val < 128 := (i 1).isLt
      have h2 : (i 2).val < 512 := (i 2).isLt
      let t : Fin cfg0.N := ⟨(i 0).val, lt_of_lt_of_eq (by omega) N_0.symm⟩
      have ht : t.val = (i 0).val := rfl
      refine ⟨t, (flushes t).2.1, ?_⟩
      have hi := idx_facts t
      obtain ⟨-, -, -, -, -, -, -, -, -, -, -, -, -, -, -, -, ⟨e0, e1, e2⟩, -⟩ := hi
      show i ∈ ((View.whole main_v30_1).slice (win0_16.rect t)).set
      rw [View.set_slice_whole, Rect.mem_set_unit]
      intro a
      match a with
      | ⟨0, _⟩ =>
        show win0_16.index t (0 : Fin 3) * 1 ≤ (i 0).val ∧ (i 0).val < win0_16.index t (0 : Fin 3) * 1 + 1
        rw [e0]; omega
      | ⟨1, _⟩ =>
        show win0_16.index t (1 : Fin 3) * 128 ≤ (i 1).val ∧ (i 1).val < win0_16.index t (1 : Fin 3) * 128 + 128
        rw [e1]; omega
      | ⟨2, _⟩ =>
        show win0_16.index t (2 : Fin 3) * 512 ≤ (i 2).val ∧ (i 2).val < win0_16.index t (2 : Fin 3) * 512 + 512
        rw [e2]; omega)

open Cert.ReferenceIdeal.Read in
/-- The third array after the run is the reference's third result. -/
theorem final17 (c : Dev nD) :
    (dats m 0 c).arrAt 17 cfg0.N = val_main_v200 (F := Ideal) (Az m c) (Av m c) :=
  (dats m 0 c).arrAt_eq_of_cover 17 _ (fun t hf => by
    rw [Cert.KernelIdeal.Value.flushed17_A]
    have hi := idx_facts t
    obtain ⟨-, -, -, -, -, -, -, -, -, -, -, -, -, -, -, -, -, ⟨e0, e1, e2⟩, -⟩ := hi
    funext y
    have hy0 : (y 0).val < 1 := (y 0).isLt
    have hy1 : (y 1).val < 128 := (y 1).isLt
    have hy2 : (y 2).val < 512 := (y 2).isLt
    have hx : (cfg0.win 17).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have he : ((cfg0.win 17).blk t).view.emb y = ix3 (row t) ⟨(y 1).val, hy1⟩ ⟨(y 2).val, hy2⟩ := by
      funext a; apply Fin.ext
      match a with
      | ⟨0, _⟩ => show win0_17.index t (0 : Fin 3) * 1 + 1 * (y 0).val = t.val; rw [e0]; omega
      | ⟨1, _⟩ => show win0_17.index t (1 : Fin 3) * 128 + 1 * (y 1).val = (y 1).val; rw [e1]; omega
      | ⟨2, _⟩ => show win0_17.index t (2 : Fin 3) * 512 + 1 * (y 2).val = (y 2).val; rw [e2]; omega
    show out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((cfg0.win 17).xinj (grid0.coords t) y)
      = val_main_v200 (F := Ideal) (Az m c) (Av m c) (((cfg0.win 17).blk t).view.emb y)
    rw [hx, he, p17]
    refine Eq.trans ?_ (ref_G17 (Az m c) (Av m c) (row t) ⟨(y 1).val, hy1⟩ ⟨(y 2).val, hy2⟩).symm
    show G17 (iblk m c 1 t) (iblk m c 3 t) _ = _
    rw [iblk1, iblk3]) (fun i => by
      have h0 : (i 0).val < 32 := (i 0).isLt
      have h1 : (i 1).val < 128 := (i 1).isLt
      have h2 : (i 2).val < 512 := (i 2).isLt
      let t : Fin cfg0.N := ⟨(i 0).val, lt_of_lt_of_eq (by omega) N_0.symm⟩
      have ht : t.val = (i 0).val := rfl
      refine ⟨t, (flushes t).2.2.1, ?_⟩
      have hi := idx_facts t
      obtain ⟨-, -, -, -, -, -, -, -, -, -, -, -, -, -, -, -, -, ⟨e0, e1, e2⟩, -⟩ := hi
      show i ∈ ((View.whole main_v30_2).slice (win0_17.rect t)).set
      rw [View.set_slice_whole, Rect.mem_set_unit]
      intro a
      match a with
      | ⟨0, _⟩ =>
        show win0_17.index t (0 : Fin 3) * 1 ≤ (i 0).val ∧ (i 0).val < win0_17.index t (0 : Fin 3) * 1 + 1
        rw [e0]; omega
      | ⟨1, _⟩ =>
        show win0_17.index t (1 : Fin 3) * 128 ≤ (i 1).val ∧ (i 1).val < win0_17.index t (1 : Fin 3) * 128 + 128
        rw [e1]; omega
      | ⟨2, _⟩ =>
        show win0_17.index t (2 : Fin 3) * 512 ≤ (i 2).val ∧ (i 2).val < win0_17.index t (2 : Fin 3) * 512 + 512
        rw [e2]; omega)

open Cert.ReferenceIdeal.Read in
/-- The fourth array after the run is the reference's fourth result. -/
theorem final18 (c : Dev nD) :
    (dats m 0 c).arrAt 18 cfg0.N = val_main_v166 (F := Ideal) (Az m c) (As m c) (Ag m c) :=
  (dats m 0 c).arrAt_eq_of_cover 18 _ (fun t hf => by
    rw [Cert.KernelIdeal.Value.flushed18_A]
    have hi := idx_facts t
    obtain ⟨-, -, -, -, -, -, -, -, -, -, -, -, -, -, -, -, -, -, ⟨e0, e1, e2⟩⟩ := hi
    funext y
    have hy0 : (y 0).val < 1 := (y 0).isLt
    have hy1 : (y 1).val < 30 := (y 1).isLt
    have hy2 : (y 2).val < 2048 := (y 2).isLt
    have hx : (cfg0.win 18).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have he : ((cfg0.win 18).blk t).view.emb y = ix3 (row t) ⟨(y 1).val, hy1⟩ ⟨(y 2).val, hy2⟩ := by
      funext a; apply Fin.ext
      match a with
      | ⟨0, _⟩ => show win0_18.index t (0 : Fin 3) * 1 + 1 * (y 0).val = t.val; rw [e0]; omega
      | ⟨1, _⟩ => show win0_18.index t (1 : Fin 3) * 30 + 1 * (y 1).val = (y 1).val; rw [e1]; omega
      | ⟨2, _⟩ => show win0_18.index t (2 : Fin 3) * 2048 + 1 * (y 2).val = (y 2).val; rw [e2]; omega
    show out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((cfg0.win 18).xinj (grid0.coords t) y)
      = val_main_v166 (F := Ideal) (Az m c) (As m c) (Ag m c) (((cfg0.win 18).blk t).view.emb y)
    rw [hx, he, p18]
    refine Eq.trans ?_ (ref_G18 (Az m c) (As m c) (Ag m c) (row t) ⟨(y 1).val, hy1⟩ ⟨(y 2).val, hy2⟩).symm
    show G18 (iblk m c 1 t) (iblk m c 4 t) (iblk m c 10 t) _ = _
    rw [iblk1, iblk4, iblk10]) (fun i => by
      have h0 : (i 0).val < 32 := (i 0).isLt
      have h1 : (i 1).val < 30 := (i 1).isLt
      have h2 : (i 2).val < 2048 := (i 2).isLt
      let t : Fin cfg0.N := ⟨(i 0).val, lt_of_lt_of_eq (by omega) N_0.symm⟩
      have ht : t.val = (i 0).val := rfl
      refine ⟨t, (flushes t).2.2.2, ?_⟩
      have hi := idx_facts t
      obtain ⟨-, -, -, -, -, -, -, -, -, -, -, -, -, -, -, -, -, -, ⟨e0, e1, e2⟩⟩ := hi
      show i ∈ ((View.whole main_v30_3).slice (win0_18.rect t)).set
      rw [View.set_slice_whole, Rect.mem_set_unit]
      intro a
      match a with
      | ⟨0, _⟩ =>
        show win0_18.index t (0 : Fin 3) * 1 ≤ (i 0).val ∧ (i 0).val < win0_18.index t (0 : Fin 3) * 1 + 1
        rw [e0]; omega
      | ⟨1, _⟩ =>
        show win0_18.index t (1 : Fin 3) * 30 ≤ (i 1).val ∧ (i 1).val < win0_18.index t (1 : Fin 3) * 30 + 30
        rw [e1]; omega
      | ⟨2, _⟩ =>
        show win0_18.index t (2 : Fin 3) * 2048 ≤ (i 2).val ∧ (i 2).val < win0_18.index t (2 : Fin 3) * 2048 + 2048
        rw [e2]; omega)

open Cert.ReferenceIdeal.Read in
/-- THE VALUE CLAIM: on the same arguments both programs end with the same four results. -/
theorem algebraic : Cert.algebraic_KernelIdeal_ReferenceIdeal := by
  intro m g m' g' _ hagree
  refine ⟨fun c => val_main_v198 (F := Ideal) (Az m c) (Ak m c) (Av m c) (As m c) (Aq m c) (An m c) (Am m c) (Ag m c) (Aw m c) (Ab m c) (Al m c) (Ao m c), fun c => val_main_v199 (F := Ideal) (Az m c) (Ak m c) (Am m c), fun c => val_main_v200 (F := Ideal) (Az m c) (Av m c), fun c => val_main_v166 (F := Ideal) (Az m c) (As m c) (Ag m c), ?_, ?_⟩
  · refine θ_run_mono (Cert.KernelIdeal.Value.run_blocks m g) fun r h c => ?_
    obtain ⟨h0, h1, h2, h3, k⟩ := h c
    exact ⟨h0.trans (final15 m c), h1.trans (final16 m c), h2.trans (final17 m c), h3.trans (final18 m c), k⟩
  · refine θ_run_mono (Cert.ReferenceIdeal.Value.run m' g') fun r h c => ?_
    obtain ⟨h0, h1, h2, h3, k⟩ := h c
    obtain ⟨a0, a1, a2, a3, a4, a5, a6, a7, a8, a9, a10, a11⟩ := hagree c
    refine ⟨h0.trans ((val_main_v198_eq _).trans ?_), h1.trans ((val_main_v199_eq _).trans ?_), h2.trans ((val_main_v200_eq _).trans ?_), h3.trans ((val_main_v166_eq _).trans ?_), k⟩
    · show val_main_v198 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) = _
      rw [a0, a1, a2, a3, a4, a5, a6, a7, a8, a9, a10, a11]
    · show val_main_v199 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg6)) = _
      rw [a0, a1, a6]
    · show val_main_v200 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) = _
      rw [a0, a2]
    · show val_main_v166 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg7)) = _
      rw [a0, a3, a7]

end Cert.SampleCore

end
-- ==== Proof.FfnDownSide.lean ====
/- The feed-forward's second half in front of another feed-forward: the activation times the down weight, halved, onto the
   residual, and that feed-forward's gate-and-up weight cast on the side. -/
module

public import proofs.«01_k».proof.Proof.Scalars
public import proofs.«01_k».proof.Proof.Gen.Kernel5Ideal.Value
public import proofs.«01_k».proof.Proof.Gen.Reference5Ideal.Read
public import proofs.«01_k».proof.Proof.Gen.Reference5Ideal.Run
public import proofs.«01_k».proof.Defs
public import Idealize.ShloMosaic.Lib.Pointwise

@[expose] public section

set_option maxRecDepth 16384

noncomputable section

namespace Cert.FfnDownSide

open Cert.Kernel5Ideal Cert.Kernel5Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block at a row and a column: the residual plus half the product. -/
theorem pay2_apply (x : FVec Ideal S520x11008 .bf16) (w : FVec Ideal S11008x512 .bf16) (z : FVec Ideal S520x512 .f32) (r : Fin 520) (q : Fin 512) :
    k0_pay2 x w z (ix2 r q) = z (ix2 r q) + ((1 / 2 : ℝ) : EReal) * ∑ k : Fin 11008, x (ix2 r k) * w (ix2 k q) := by
  pointwise [k0_pay2]
  rw [Scalars.bits_half]

/-- The side block is the weight's, cast. -/
theorem pay1_apply (x : FVec Ideal S1x1x32x22016 .f32) (r : Fin 32) (q : Fin 22016) :
    (k0_pay1 x : FVec Ideal S32x22016 .bf16) (ix2 r q) = (x (ix4 0 0 r q) : EReal) := by
  pointwise [k0_pay1]

variable {F : FTy → Type} [FloatOps F]

theorem out4_eq (x0 : Vec F S520x11008 .bf16) (x1 : Vec F S11008x512 .bf16) (x2 : Vec F S520x512 .f32) (x3 : Vec F S1x1x32x22016 .f32) :
    out0_4 x0 x1 x2 x3 = k0_pay2 x0 x1 x2 := by
  unfold out0_4
  rw [View.canon_unit_zero hz2]
  simp only [View.ld_unit_zero (S := S520x11008) hz2, View.ld_unit_zero (S := S11008x512) hz2, View.ld_unit_zero (S := S520x512) hz2]

theorem out5_eq (x0 : Vec F S520x11008 .bf16) (x1 : Vec F S11008x512 .bf16) (x2 : Vec F S520x512 .f32) (x3 : Vec F S1x1x32x22016 .f32) :
    out0_5 x0 x1 x2 x3 = k0_pay1 x3 := by
  unfold out0_5
  rw [View.canon_unit_zero hz2]
  simp only [View.ld_unit_zero (S := S1x1x32x22016) hz4]

/-- Which block each window reads or writes at point `t`, decided over the grid. -/
theorem idx_facts : ∀ t : Fin cfg0.N,
    (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = t.val % 16 ∧ win0_2.index t (1 : Fin 2) = t.val / 16)
    ∧ (win0_3.index t (0 : Fin 4) = 0 ∧ win0_3.index t (1 : Fin 4) = 1 ∧ win0_3.index t (2 : Fin 4) = t.val ∧ win0_3.index t (3 : Fin 4) = 0)
    ∧ (win0_4.index t (0 : Fin 2) = t.val % 16 ∧ win0_4.index t (1 : Fin 2) = t.val / 16)
    ∧ (win0_5.index t (0 : Fin 2) = t.val ∧ win0_5.index t (1 : Fin 2) = 0) :=
  (by decide +kernel : ∀ t : Fin grid0.N, _)

variable (m : (ℓ : Loc nD τ sig) → Buf (Elt Ideal) ℓ)

/-- The four arguments as arrays of extended reals. -/
abbrev Act (c : Dev nD) : FVec Ideal S8320x11008 .bf16 := m ((c : Thread nD τ).loc main_arg0)
abbrev W (c : Dev nD) : FVec Ideal S11008x4096 .bf16 := m ((c : Thread nD τ).loc main_arg1)
abbrev X (c : Dev nD) : FVec Ideal S8320x4096 .f32 := m ((c : Thread nD τ).loc main_arg2)
abbrev WG (c : Dev nD) : FVec Ideal S2x2x4096x22016 .f32 := m ((c : Thread nD τ).loc main_arg3)

theorem lt128 (t : Fin cfg0.N) : t.val < 128 := lt_of_lt_of_eq t.isLt N_0

theorem iblk0 (c : Dev nD) (t : Fin cfg0.N) (r : Fin 520) (k : Fin 11008) :
    (iblk m c 0 t : FVec Ideal S520x11008 .bf16) (ix2 r k) = Act m c (ix2 ⟨(t.val % 16) * 520 + r.val, by have := lt128 t; omega⟩ k) := by
  obtain ⟨⟨e0, e1⟩, -⟩ := idx_facts t
  show Act m c (((cfg0.win 0).blk t).view.emb (ix2 r k)) = _
  congr 1; funext a; apply Fin.ext
  match a with
  | ⟨0, _⟩ => show win0_0.index t (0 : Fin 2) * 520 + 1 * r.val = (t.val % 16) * 520 + r.val; rw [e0]; omega
  | ⟨1, _⟩ => show win0_0.index t (1 : Fin 2) * 11008 + 1 * k.val = k.val; omega

theorem iblk1 (c : Dev nD) (t : Fin cfg0.N) (k : Fin 11008) (q : Fin 512) :
    (iblk m c 1 t : FVec Ideal S11008x512 .bf16) (ix2 k q) = W m c (ix2 k ⟨(t.val / 16) * 512 + q.val, by have := lt128 t; omega⟩) := by
  obtain ⟨-, ⟨e0, e1⟩, -⟩ := idx_facts t
  show W m c (((cfg0.win 1).blk t).view.emb (ix2 k q)) = _
  congr 1; funext a; apply Fin.ext
  match a with
  | ⟨0, _⟩ => show win0_1.index t (0 : Fin 2) * 11008 + 1 * k.val = k.val; omega
  | ⟨1, _⟩ => show win0_1.index t (1 : Fin 2) * 512 + 1 * q.val = (t.val / 16) * 512 + q.val; rw [e1]; omega

theorem iblk2 (c : Dev nD) (t : Fin cfg0.N) (r : Fin 520) (q : Fin 512) :
    (iblk m c 2 t : FVec Ideal S520x512 .f32) (ix2 r q) = X m c (ix2 ⟨(t.val % 16) * 520 + r.val, by have := lt128 t; omega⟩ ⟨(t.val / 16) * 512 + q.val, by have := lt128 t; omega⟩) := by
  obtain ⟨-, -, ⟨e0, e1⟩, -⟩ := idx_facts t
  show X m c (((cfg0.win 2).blk t).view.emb (ix2 r q)) = _
  congr 1; funext a; apply Fin.ext
  match a with
  | ⟨0, _⟩ => show win0_2.index t (0 : Fin 2) * 520 + 1 * r.val = (t.val % 16) * 520 + r.val; rw [e0]; omega
  | ⟨1, _⟩ => show win0_2.index t (1 : Fin 2) * 512 + 1 * q.val = (t.val / 16) * 512 + q.val; rw [e1]; omega

theorem iblk3 (c : Dev nD) (t : Fin cfg0.N) (r : Fin 32) (q : Fin 22016) :
    (iblk m c 3 t : FVec Ideal S1x1x32x22016 .f32) (ix4 0 0 r q) = WG m c (ix4 0 1 ⟨(t.val) * 32 + r.val, by have := lt128 t; omega⟩ q) := by
  obtain ⟨-, -, -, ⟨e0, e1, e2, e3⟩, -⟩ := idx_facts t
  show WG m c (((cfg0.win 3).blk t).view.emb (ix4 0 0 r q)) = _
  congr 1; funext a; apply Fin.ext
  match a with
  | ⟨0, _⟩ => show win0_3.index t (0 : Fin 4) * 1 + 1 * 0 = 0; omega
  | ⟨1, _⟩ => show win0_3.index t (1 : Fin 4) * 1 + 1 * 0 = 1; omega
  | ⟨2, _⟩ => show win0_3.index t (2 : Fin 4) * 32 + 1 * r.val = (t.val) * 32 + r.val; rw [e2]; omega
  | ⟨3, _⟩ => show win0_3.index t (3 : Fin 4) * 22016 + 1 * q.val = q.val; omega

open Cert.Reference5Ideal.Read in
/-- The reference's two results at an index. -/
theorem ref5_apply (a : FVec Ideal S8320x11008 .bf16) (w : FVec Ideal S11008x4096 .bf16) (x : FVec Ideal S8320x4096 .f32) (r : Fin 8320) (q : Fin 4096) :
    val_main_v5 (F := Ideal) a w x (ix2 r q) = x (ix2 r q) + ((1 / 2 : ℝ) : EReal) * ∑ k : Fin 11008, a (ix2 r k) * w (ix2 k q) := by
  pointwise [val_main_v5, val_main_v4, val_main_v3, val_main_v2, val_main_v1, val_main_v0, val_main_cst]
  rw [Scalars.bits_half]

open Cert.Reference5Ideal.Read in
theorem ref8_apply (w : FVec Ideal S2x2x4096x22016 .f32) (r : Fin 4096) (q : Fin 22016) :
    (val_main_v8 (F := Ideal) w : FVec Ideal S4096x22016 .bf16) (ix2 r q) = (w (ix4 0 1 r q) : EReal) := by
  pointwise [val_main_v8, val_main_v7, val_main_v6]

open Cert.Reference5Ideal.Read in
/-- An element of the block computed at point `t` is the reference's, at its place. -/
theorem point (c : Dev nD) (t : Fin cfg0.N) (r : Fin 520) (q : Fin 512) :
    k0_pay2 (iblk m c 0 t) (iblk m c 1 t) (iblk m c 2 t) (ix2 r q)
      = val_main_v5 (F := Ideal) (Act m c) (W m c) (X m c)
          (ix2 ⟨t.val % 16 * 520 + r.val, by omega⟩ ⟨t.val / 16 * 512 + q.val, by have := lt128 t; omega⟩) := by
  rw [pay2_apply, ref5_apply, iblk2]
  simp only [iblk0, iblk1]

theorem mem_blk4 (t : Fin cfg0.N) (i : S8320x4096.Idx) :
    i ∈ ((cfg0.win 4).blk t).view.set ↔ ∀ a : Fin 2, win0_4.index t a * S520x512.size a ≤ (i a).val ∧ (i a).val < win0_4.index t a * S520x512.size a + S520x512.size a := by
  show i ∈ ((View.whole main_v0_0).slice (win0_4.rect t)).set ↔ _
  rw [View.set_slice_whole, Rect.mem_set_unit]
  exact Iff.rfl

theorem flush4 : ∀ t : Fin cfg0.N, (cfg0.win 4).flush t = true := (by decide +kernel : ∀ t : Fin grid0.N, win0_4.flush t = true)

theorem mem_blk5 (t : Fin cfg0.N) (i : S4096x22016.Idx) :
    i ∈ ((cfg0.win 5).blk t).view.set ↔ ∀ a : Fin 2, win0_5.index t a * S32x22016.size a ≤ (i a).val ∧ (i a).val < win0_5.index t a * S32x22016.size a + S32x22016.size a := by
  show i ∈ ((View.whole main_v0_1).slice (win0_5.rect t)).set ↔ _
  rw [View.set_slice_whole, Rect.mem_set_unit]
  exact Iff.rfl

theorem flush5 : ∀ t : Fin cfg0.N, (cfg0.win 5).flush t = true := (by decide +kernel : ∀ t : Fin grid0.N, win0_5.flush t = true)

open Cert.Reference5Ideal.Read in
/-- The array of the first result after the run is the reference's. -/
theorem final4 (c : Dev nD) :
    (dats m 0 c).arrAt 4 cfg0.N = val_main_v5 (F := Ideal) (Act m c) (W m c) (X m c) :=
  (dats m 0 c).arrAt_eq_of_cover 4 _ (fun t hf => by
    rw [Kernel5Ideal.Value.flushed4, out4_eq]
    obtain ⟨-, -, -, -, ⟨e0, e1⟩, -⟩ := idx_facts t
    funext y
    have hy0 : (y 0).val < 520 := (y 0).isLt
    have hy1 : (y 1).val < 512 := (y 1).isLt
    have hx : (cfg0.win 4).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 4).blk t).view.emb y
        = ix2 ⟨(t.val % 16) * 520 + (y 0).val, by have := lt128 t; omega⟩ ⟨(t.val / 16) * 512 + (y 1).val, by have := lt128 t; omega⟩ := by
      funext a; apply Fin.ext
      match a with
      | ⟨0, _⟩ => show win0_4.index t (0 : Fin 2) * 520 + 1 * (y 0).val = (t.val % 16) * 520 + (y 0).val; rw [e0]; omega
      | ⟨1, _⟩ => show win0_4.index t (1 : Fin 2) * 512 + 1 * (y 1).val = (t.val / 16) * 512 + (y 1).val; rw [e1]; omega
    show k0_pay2 (iblk m c 0 t) (iblk m c 1 t) (iblk m c 2 t) ((cfg0.win 4).xinj (grid0.coords t) y)
      = val_main_v5 (F := Ideal) (Act m c) (W m c) (X m c) (((cfg0.win 4).blk t).view.emb y)
    rw [hx, he]
    exact point m c t _ _) (fun i => by
      have h0 : (i 0).val < 8320 := (i 0).isLt
      have h1 : (i 1).val < 4096 := (i 1).isLt
      let t : Fin cfg0.N := ⟨16 * ((i 1).val / 512) + (i 0).val / 520, lt_of_lt_of_eq (by omega) N_0.symm⟩
      have ht : t.val = 16 * ((i 1).val / 512) + (i 0).val / 520 := rfl
      refine ⟨t, flush4 t, ?_⟩
      obtain ⟨-, -, -, -, ⟨e0, e1⟩, -⟩ := idx_facts t
      rw [mem_blk4]
      intro a
      match a with
      | ⟨0, _⟩ =>
        show win0_4.index t (0 : Fin 2) * 520 ≤ (i 0).val ∧ (i 0).val < win0_4.index t (0 : Fin 2) * 520 + 520
        rw [e0]; omega
      | ⟨1, _⟩ =>
        show win0_4.index t (1 : Fin 2) * 512 ≤ (i 1).val ∧ (i 1).val < win0_4.index t (1 : Fin 2) * 512 + 512
        rw [e1]; omega)

open Cert.Reference5Ideal.Read in
/-- The array of the second result after the run is the reference's: the next feed-forward's weight, cast. -/
theorem final5 (c : Dev nD) :
    (dats m 0 c).arrAt 5 cfg0.N = val_main_v8 (F := Ideal) (WG m c) :=
  (dats m 0 c).arrAt_eq_of_cover 5 _ (fun t hf => by
    rw [Kernel5Ideal.Value.flushed5, out5_eq]
    obtain ⟨-, -, -, -, -, ⟨e0, e1⟩⟩ := idx_facts t
    funext y
    have hy0 : (y 0).val < 32 := (y 0).isLt
    have hy1 : (y 1).val < 22016 := (y 1).isLt
    have hx : (cfg0.win 5).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 5).blk t).view.emb y
        = ix2 ⟨(t.val) * 32 + (y 0).val, by have := lt128 t; omega⟩ ⟨(y 1).val, hy1⟩ := by
      funext a; apply Fin.ext
      match a with
      | ⟨0, _⟩ => show win0_5.index t (0 : Fin 2) * 32 + 1 * (y 0).val = (t.val) * 32 + (y 0).val; rw [e0]; omega
      | ⟨1, _⟩ => show win0_5.index t (1 : Fin 2) * 22016 + 1 * (y 1).val = (y 1).val; omega
    show k0_pay1 (iblk m c 3 t) ((cfg0.win 5).xinj (grid0.coords t) y)
      = val_main_v8 (F := Ideal) (WG m c) (((cfg0.win 5).blk t).view.emb y)
    rw [hx, he]
    exact (pay1_apply _ _ _).trans ((iblk3 m c t _ _).trans (ref8_apply _ _ _).symm)) (fun i => by
      have h0 : (i 0).val < 4096 := (i 0).isLt
      have h1 : (i 1).val < 22016 := (i 1).isLt
      let t : Fin cfg0.N := ⟨(i 0).val / 32, lt_of_lt_of_eq (by omega) N_0.symm⟩
      have ht : t.val = (i 0).val / 32 := rfl
      refine ⟨t, flush5 t, ?_⟩
      obtain ⟨-, -, -, -, -, ⟨e0, e1⟩⟩ := idx_facts t
      rw [mem_blk5]
      intro a
      match a with
      | ⟨0, _⟩ =>
        show win0_5.index t (0 : Fin 2) * 32 ≤ (i 0).val ∧ (i 0).val < win0_5.index t (0 : Fin 2) * 32 + 32
        rw [e0]; omega
      | ⟨1, _⟩ =>
        show win0_5.index t (1 : Fin 2) * 22016 ≤ (i 1).val ∧ (i 1).val < win0_5.index t (1 : Fin 2) * 22016 + 22016
        rw [e1]; omega)

open Cert.Reference5Ideal.Read in
/-- THE VALUE CLAIM: on the same arguments both programs end with the same two results. -/
theorem algebraic : Cert.algebraic_Kernel5Ideal_Reference5Ideal := by
  intro m g m' g' _ hagree
  refine ⟨fun c => val_main_v5 (F := Ideal) (Act m c) (W m c) (X m c), fun c => val_main_v8 (F := Ideal) (WG m c), ?_, ?_⟩
  · refine θ_run_mono (Kernel5Ideal.Value.run_blocks m g) fun r h c => ?_
    obtain ⟨h4, h5, k0, k1, k2, k3⟩ := h c
    exact ⟨h4.trans (final4 m c), h5.trans (final5 m c), k0, k1, k2, k3⟩
  · refine θ_run_mono (Reference5Ideal.Value.run m' g') fun r h c => ?_
    obtain ⟨h4, h5, k0, k1, k2, k3⟩ := h c
    obtain ⟨a0, a1, a2, a3⟩ := hagree c
    refine ⟨h4.trans ((val_main_v5_eq _ _ _).trans ?_), h5.trans ((val_main_v8_eq _).trans ?_), k0, k1, k2, k3⟩
    · rw [a0, a1, a2]
    · rw [a3]

end Cert.FfnDownSide

end
-- ==== Proof.FfnGuCast.lean ====
/- The feed-forward's first half behind another feed-forward: the gate-and-up product on weights that are cast already,
   with its swiglu, and the down weight cast on the side. -/
module

public import proofs.«01_k».proof.Proof.Scalars
public import proofs.«01_k».proof.Proof.Gen.Kernel6Ideal.Value
public import proofs.«01_k».proof.Proof.Gen.Reference6Ideal.Read
public import proofs.«01_k».proof.Proof.Gen.Reference6Ideal.Run
public import proofs.«01_k».proof.Defs
public import Idealize.ShloMosaic.Lib.Pointwise

@[expose] public section

set_option maxRecDepth 16384

noncomputable section

namespace Cert.FfnGuCast

open Cert.Kernel6Ideal Cert.Kernel6Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block at a row and a column: the gate column's product with its logistic, times the up column's product. -/
theorem pay2_apply (x : FVec Ideal S2080x4096 .bf16) (g u : FVec Ideal S4096x256 .bf16) (r : Fin 2080) (q : Fin 256) :
    k0_pay2 x g u (ix2 r q) =
      ((∑ k : Fin 4096, x (ix2 r k) * g (ix2 k q))
        * (((1 / 2 : ℝ) : EReal) * (1 + Ideal.tanh (((1 / 2 : ℝ) : EReal) * ∑ k : Fin 4096, x (ix2 r k) * g (ix2 k q)))))
      * ∑ k : Fin 4096, x (ix2 r k) * u (ix2 k q) := by
  pointwise [k0_pay2]
  rw [Scalars.bits_half]

/-- The side block is the weight's, cast. -/
theorem pay1_apply (x : FVec Ideal S1x1x64x4096 .f32) (r : Fin 64) (q : Fin 4096) :
    (k0_pay1 x : FVec Ideal S64x4096 .bf16) (ix2 r q) = (x (ix4 0 0 r q) : EReal) := by
  pointwise [k0_pay1]

variable {F : FTy → Type} [FloatOps F]

theorem out4_eq (x0 : Vec F S2080x4096 .bf16) (x1 x2 : Vec F S4096x256 .bf16) (x3 : Vec F S1x1x64x4096 .f32) :
    out0_4 x0 x1 x2 x3 = k0_pay2 x0 x1 x2 := by
  unfold out0_4
  rw [View.canon_unit_zero hz2]
  simp only [View.ld_unit_zero (S := S2080x4096) hz2, View.ld_unit_zero (S := S4096x256) hz2]

theorem out5_eq (x0 : Vec F S2080x4096 .bf16) (x1 x2 : Vec F S4096x256 .bf16) (x3 : Vec F S1x1x64x4096 .f32) :
    out0_5 x0 x1 x2 x3 = k0_pay1 x3 := by
  unfold out0_5
  rw [View.canon_unit_zero hz2]
  simp only [View.ld_unit_zero (S := S1x1x64x4096) hz4]

/-- Which block each window reads or writes at point `t`, decided over the grid. -/
theorem idx_facts : ∀ t : Fin cfg0.N,
    (win0_0.index t (0 : Fin 2) = t.val % 4 ∧ win0_0.index t (1 : Fin 2) = 0)
    ∧ (win0_1.index t (0 : Fin 2) = 0 ∧ win0_1.index t (1 : Fin 2) = t.val / 4)
    ∧ (win0_2.index t (0 : Fin 2) = 0 ∧ win0_2.index t (1 : Fin 2) = 43 + t.val / 4)
    ∧ (win0_3.index t (0 : Fin 4) = 0 ∧ win0_3.index t (1 : Fin 4) = 1 ∧ win0_3.index t (2 : Fin 4) = t.val ∧ win0_3.index t (3 : Fin 4) = 0)
    ∧ (win0_4.index t (0 : Fin 2) = t.val % 4 ∧ win0_4.index t (1 : Fin 2) = t.val / 4)
    ∧ (win0_5.index t (0 : Fin 2) = t.val ∧ win0_5.index t (1 : Fin 2) = 0) :=
  (by decide +kernel : ∀ t : Fin grid0.N, _)

variable (m : (ℓ : Loc nD τ sig) → Buf (Elt Ideal) ℓ)

/-- The three arguments as arrays of extended reals. -/
abbrev H (c : Dev nD) : FVec Ideal S8320x4096 .bf16 := m ((c : Thread nD τ).loc main_arg0)
abbrev WG (c : Dev nD) : FVec Ideal S4096x22016 .bf16 := m ((c : Thread nD τ).loc main_arg1)
abbrev WD (c : Dev nD) : FVec Ideal S2x2x11008x4096 .f32 := m ((c : Thread nD τ).loc main_arg2)

theorem lt172 (t : Fin cfg0.N) : t.val < 172 := lt_of_lt_of_eq t.isLt N_0

theorem iblk0 (c : Dev nD) (t : Fin cfg0.N) (r : Fin 2080) (k : Fin 4096) :
    (iblk m c 0 t : FVec Ideal S2080x4096 .bf16) (ix2 r k) = H m c (ix2 ⟨(t.val % 4) * 2080 + r.val, by have := lt172 t; omega⟩ k) := by
  obtain ⟨⟨e0, e1⟩, -⟩ := idx_facts t
  show H m c (((cfg0.win 0).blk t).view.emb (ix2 r k)) = _
  congr 1; funext a; apply Fin.ext
  match a with
  | ⟨0, _⟩ => show win0_0.index t (0 : Fin 2) * 2080 + 1 * r.val = (t.val % 4) * 2080 + r.val; rw [e0]; omega
  | ⟨1, _⟩ => show win0_0.index t (1 : Fin 2) * 4096 + 1 * k.val = k.val; omega

theorem iblk1 (c : Dev nD) (t : Fin cfg0.N) (k : Fin 4096) (q : Fin 256) :
    (iblk m c 1 t : FVec Ideal S4096x256 .bf16) (ix2 k q) = WG m c (ix2 k ⟨(t.val / 4) * 256 + q.val, by have := lt172 t; omega⟩) := by
  obtain ⟨-, ⟨e0, e1⟩, -⟩ := idx_facts t
  show WG m c (((cfg0.win 1).blk t).view.emb (ix2 k q)) = _
  congr 1; funext a; apply Fin.ext
  match a with
  | ⟨0, _⟩ => show win0_1.index t (0 : Fin 2) * 4096 + 1 * k.val = k.val; omega
  | ⟨1, _⟩ => show win0_1.index t (1 : Fin 2) * 256 + 1 * q.val = (t.val / 4) * 256 + q.val; rw [e1]; omega

theorem iblk2 (c : Dev nD) (t : Fin cfg0.N) (k : Fin 4096) (q : Fin 256) :
    (iblk m c 2 t : FVec Ideal S4096x256 .bf16) (ix2 k q) = WG m c (ix2 k ⟨11008 + (t.val / 4 * 256 + q.val), by have := lt172 t; omega⟩) := by
  obtain ⟨-, -, ⟨e0, e1⟩, -⟩ := idx_facts t
  show WG m c (((cfg0.win 2).blk t).view.emb (ix2 k q)) = _
  congr 1; funext a; apply Fin.ext
  match a with
  | ⟨0, _⟩ => show win0_2.index t (0 : Fin 2) * 4096 + 1 * k.val = k.val; omega
  | ⟨1, _⟩ => show win0_2.index t (1 : Fin 2) * 256 + 1 * q.val = 11008 + (t.val / 4 * 256 + q.val); rw [e1]; omega

theorem iblk3 (c : Dev nD) (t : Fin cfg0.N) (r : Fin 64) (q : Fin 4096) :
    (iblk m c 3 t : FVec Ideal S1x1x64x4096 .f32) (ix4 0 0 r q) = WD m c (ix4 0 1 ⟨(t.val) * 64 + r.val, by have := lt172 t; omega⟩ q) := by
  obtain ⟨-, -, -, ⟨e0, e1, e2, e3⟩, -⟩ := idx_facts t
  show WD m c (((cfg0.win 3).blk t).view.emb (ix4 0 0 r q)) = _
  congr 1; funext a; apply Fin.ext
  match a with
  | ⟨0, _⟩ => show win0_3.index t (0 : Fin 4) * 1 + 1 * 0 = 0; omega
  | ⟨1, _⟩ => show win0_3.index t (1 : Fin 4) * 1 + 1 * 0 = 1; omega
  | ⟨2, _⟩ => show win0_3.index t (2 : Fin 4) * 64 + 1 * r.val = (t.val) * 64 + r.val; rw [e2]; omega
  | ⟨3, _⟩ => show win0_3.index t (3 : Fin 4) * 4096 + 1 * q.val = q.val; omega

open Cert.Reference6Ideal.Read in
/-- The reference's two results at an index. -/
theorem ref7_apply (h : FVec Ideal S8320x4096 .bf16) (w : FVec Ideal S4096x22016 .bf16) (r : Fin 8320) (q : Fin 11008) :
    val_main_v7 (F := Ideal) h w (ix2 r q) =
      ((∑ k : Fin 4096, h (ix2 r k) * w (ix2 k ⟨q.val, by omega⟩))
        * Ideal.div 1 (1 + Ideal.exp (-∑ k : Fin 4096, h (ix2 r k) * w (ix2 k ⟨q.val, by omega⟩))))
      * ∑ k : Fin 4096, h (ix2 r k) * w (ix2 k ⟨11008 + q.val, by omega⟩) := by
  pointwise [val_main_v7, val_main_v6, val_main_call0_v5, val_main_call0_v4, val_main_call0_v3,
    val_main_call0_v2, val_main_call0_v1, val_main_call0_v0, val_main_call0_cst, val_main_call0_cst_0, val_main_v5,
    val_main_v4, val_main_v3, val_main_v2, val_main_v1, val_main_v0]

open Cert.Reference6Ideal.Read in
theorem ref10_apply (w : FVec Ideal S2x2x11008x4096 .f32) (r : Fin 11008) (q : Fin 4096) :
    (val_main_v10 (F := Ideal) w : FVec Ideal S11008x4096 .bf16) (ix2 r q) = (w (ix4 0 1 r q) : EReal) := by
  pointwise [val_main_v10, val_main_v9, val_main_v8]

open Cert.Reference6Ideal.Read in
/-- An element of the block computed at point `t` is the reference's, at its place. -/
theorem point (c : Dev nD) (t : Fin cfg0.N) (r : Fin 2080) (q : Fin 256) :
    k0_pay2 (iblk m c 0 t) (iblk m c 1 t) (iblk m c 2 t) (ix2 r q)
      = val_main_v7 (F := Ideal) (H m c) (WG m c)
          (ix2 ⟨t.val % 4 * 2080 + r.val, by omega⟩ ⟨t.val / 4 * 256 + q.val, by have := lt172 t; omega⟩) := by
  rw [pay2_apply, ref7_apply, Scalars.logistic]
  simp only [iblk0, iblk1, iblk2]

theorem mem_blk4 (t : Fin cfg0.N) (i : S8320x11008.Idx) :
    i ∈ ((cfg0.win 4).blk t).view.set ↔ ∀ a : Fin 2, win0_4.index t a * S2080x256.size a ≤ (i a).val ∧ (i a).val < win0_4.index t a * S2080x256.size a + S2080x256.size a := by
  show i ∈ ((View.whole main_v0_0).slice (win0_4.rect t)).set ↔ _
  rw [View.set_slice_whole, Rect.mem_set_unit]
  exact Iff.rfl

theorem flush4 : ∀ t : Fin cfg0.N, (cfg0.win 4).flush t = true := (by decide +kernel : ∀ t : Fin grid0.N, win0_4.flush t = true)

theorem mem_blk5 (t : Fin cfg0.N) (i : S11008x4096.Idx) :
    i ∈ ((cfg0.win 5).blk t).view.set ↔ ∀ a : Fin 2, win0_5.index t a * S64x4096.size a ≤ (i a).val ∧ (i a).val < win0_5.index t a * S64x4096.size a + S64x4096.size a := by
  show i ∈ ((View.whole main_v0_1).slice (win0_5.rect t)).set ↔ _
  rw [View.set_slice_whole, Rect.mem_set_unit]
  exact Iff.rfl

theorem flush5 : ∀ t : Fin cfg0.N, (cfg0.win 5).flush t = true := (by decide +kernel : ∀ t : Fin grid0.N, win0_5.flush t = true)

open Cert.Reference6Ideal.Read in
/-- The array of the first result after the run is the reference's. -/
theorem final4 (c : Dev nD) :
    (dats m 0 c).arrAt 4 cfg0.N = val_main_v7 (F := Ideal) (H m c) (WG m c) :=
  (dats m 0 c).arrAt_eq_of_cover 4 _ (fun t hf => by
    rw [Kernel6Ideal.Value.flushed4, out4_eq]
    obtain ⟨-, -, -, -, ⟨e0, e1⟩, -⟩ := idx_facts t
    funext y
    have hy0 : (y 0).val < 2080 := (y 0).isLt
    have hy1 : (y 1).val < 256 := (y 1).isLt
    have hx : (cfg0.win 4).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 4).blk t).view.emb y
        = ix2 ⟨(t.val % 4) * 2080 + (y 0).val, by have := lt172 t; omega⟩ ⟨(t.val / 4) * 256 + (y 1).val, by have := lt172 t; omega⟩ := by
      funext a; apply Fin.ext
      match a with
      | ⟨0, _⟩ => show win0_4.index t (0 : Fin 2) * 2080 + 1 * (y 0).val = (t.val % 4) * 2080 + (y 0).val; rw [e0]; omega
      | ⟨1, _⟩ => show win0_4.index t (1 : Fin 2) * 256 + 1 * (y 1).val = (t.val / 4) * 256 + (y 1).val; rw [e1]; omega
    show k0_pay2 (iblk m c 0 t) (iblk m c 1 t) (iblk m c 2 t) ((cfg0.win 4).xinj (grid0.coords t) y)
      = val_main_v7 (F := Ideal) (H m c) (WG m c) (((cfg0.win 4).blk t).view.emb y)
    rw [hx, he]
    exact point m c t _ _) (fun i => by
      have h0 : (i 0).val < 8320 := (i 0).isLt
      have h1 : (i 1).val < 11008 := (i 1).isLt
      let t : Fin cfg0.N := ⟨4 * ((i 1).val / 256) + (i 0).val / 2080, lt_of_lt_of_eq (by omega) N_0.symm⟩
      have ht : t.val = 4 * ((i 1).val / 256) + (i 0).val / 2080 := rfl
      refine ⟨t, flush4 t, ?_⟩
      obtain ⟨-, -, -, -, ⟨e0, e1⟩, -⟩ := idx_facts t
      rw [mem_blk4]
      intro a
      match a with
      | ⟨0, _⟩ =>
        show win0_4.index t (0 : Fin 2) * 2080 ≤ (i 0).val ∧ (i 0).val < win0_4.index t (0 : Fin 2) * 2080 + 2080
        rw [e0]; omega
      | ⟨1, _⟩ =>
        show win0_4.index t (1 : Fin 2) * 256 ≤ (i 1).val ∧ (i 1).val < win0_4.index t (1 : Fin 2) * 256 + 256
        rw [e1]; omega)

open Cert.Reference6Ideal.Read in
/-- The array of the second result after the run is the reference's: the down weight, cast. -/
theorem final5 (c : Dev nD) :
    (dats m 0 c).arrAt 5 cfg0.N = val_main_v10 (F := Ideal) (WD m c) :=
  (dats m 0 c).arrAt_eq_of_cover 5 _ (fun t hf => by
    rw [Kernel6Ideal.Value.flushed5, out5_eq]
    obtain ⟨-, -, -, -, -, ⟨e0, e1⟩⟩ := idx_facts t
    funext y
    have hy0 : (y 0).val < 64 := (y 0).isLt
    have hy1 : (y 1).val < 4096 := (y 1).isLt
    have hx : (cfg0.win 5).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 5).blk t).view.emb y
        = ix2 ⟨(t.val) * 64 + (y 0).val, by have := lt172 t; omega⟩ ⟨(y 1).val, hy1⟩ := by
      funext a; apply Fin.ext
      match a with
      | ⟨0, _⟩ => show win0_5.index t (0 : Fin 2) * 64 + 1 * (y 0).val = (t.val) * 64 + (y 0).val; rw [e0]; omega
      | ⟨1, _⟩ => show win0_5.index t (1 : Fin 2) * 4096 + 1 * (y 1).val = (y 1).val; omega
    show k0_pay1 (iblk m c 3 t) ((cfg0.win 5).xinj (grid0.coords t) y)
      = val_main_v10 (F := Ideal) (WD m c) (((cfg0.win 5).blk t).view.emb y)
    rw [hx, he]
    exact (pay1_apply _ _ _).trans ((iblk3 m c t _ _).trans (ref10_apply _ _ _).symm)) (fun i => by
      have h0 : (i 0).val < 11008 := (i 0).isLt
      have h1 : (i 1).val < 4096 := (i 1).isLt
      let t : Fin cfg0.N := ⟨(i 0).val / 64, lt_of_lt_of_eq (by omega) N_0.symm⟩
      have ht : t.val = (i 0).val / 64 := rfl
      refine ⟨t, flush5 t, ?_⟩
      obtain ⟨-, -, -, -, -, ⟨e0, e1⟩⟩ := idx_facts t
      rw [mem_blk5]
      intro a
      match a with
      | ⟨0, _⟩ =>
        show win0_5.index t (0 : Fin 2) * 64 ≤ (i 0).val ∧ (i 0).val < win0_5.index t (0 : Fin 2) * 64 + 64
        rw [e0]; omega
      | ⟨1, _⟩ =>
        show win0_5.index t (1 : Fin 2) * 4096 ≤ (i 1).val ∧ (i 1).val < win0_5.index t (1 : Fin 2) * 4096 + 4096
        rw [e1]; omega)

open Cert.Reference6Ideal.Read in
/-- THE VALUE CLAIM: on the same arguments both programs end with the same two results. -/
theorem algebraic : Cert.algebraic_Kernel6Ideal_Reference6Ideal := by
  intro m g m' g' _ hagree
  refine ⟨fun c => val_main_v7 (F := Ideal) (H m c) (WG m c), fun c => val_main_v10 (F := Ideal) (WD m c), ?_, ?_⟩
  · refine θ_run_mono (Kernel6Ideal.Value.run_blocks m g) fun r h c => ?_
    obtain ⟨h4, h5, k0, k1, k2⟩ := h c
    exact ⟨h4.trans (final4 m c), h5.trans (final5 m c), k0, k1, k2⟩
  · refine θ_run_mono (Reference6Ideal.Value.run m' g') fun r h c => ?_
    obtain ⟨h4, h5, k0, k1, k2⟩ := h c
    obtain ⟨a0, a1, a2⟩ := hagree c
    refine ⟨h4.trans ((val_main_v7_eq _ _).trans ?_), h5.trans ((val_main_v10_eq _).trans ?_), k0, k1, k2⟩
    · rw [a0, a1]
    · rw [a2]

end Cert.FfnGuCast

end
-- ==== Proof.FfnGu.lean ====
/- The feed-forward's first half. -/
module

public import proofs.«01_k».proof.Proof.Scalars
public import proofs.«01_k».proof.Proof.Gen.Kernel2Ideal.Value
public import proofs.«01_k».proof.Proof.Gen.Reference2Ideal.Read
public import proofs.«01_k».proof.Proof.Gen.Reference2Ideal.Run
public import proofs.«01_k».proof.Defs

@[expose] public section

set_option maxRecDepth 16384

noncomputable section

namespace Cert.FfnGu

open Cert.Kernel2Ideal Cert.Kernel2Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The stored block at a row and a column: the gate column's product with its logistic, times the up column's product. -/
theorem pay4_apply (x : FVec Ideal S1040x4096 .bf16) (w : FVec Ideal S4096x512 .bf16) (r : Fin 1040) (q : Fin 256) :
    k0_pay4 x w (ix2 r q) =
      ((∑ k : Fin 4096, x (ix2 r k) * w (ix2 k ⟨q.val, by omega⟩))
        * (((1 / 2 : ℝ) : EReal) * (1 + Ideal.tanh (((1 / 2 : ℝ) : EReal) * ∑ k : Fin 4096, x (ix2 r k) * w (ix2 k ⟨q.val, by omega⟩)))))
      * ∑ k : Fin 4096, x (ix2 r k) * w (ix2 k ⟨256 + q.val, by omega⟩) := by
  pointwise [k0_pay4]
  rw [Scalars.bits_half]

theorem pay1_apply (x : FVec Ideal S1x1x4096x256 .f32) (r : Fin 4096) (q : Fin 256) :
    (k0_pay1 x : FVec Ideal S4096x256 .bf16) (ix2 r q) = (x (ix4 0 0 r q) : EReal) := by
  pointwise [k0_pay1]
theorem pay2_apply (x : FVec Ideal S1x1x4096x256 .f32) (r : Fin 4096) (q : Fin 256) :
    (k0_pay2 x : FVec Ideal S4096x256 .bf16) (ix2 r q) = (x (ix4 0 0 r q) : EReal) := by
  pointwise [k0_pay2]
theorem pay3_apply (x : FVec Ideal S1x1x32x4096 .f32) (r : Fin 32) (q : Fin 4096) :
    (k0_pay3 x : FVec Ideal S32x4096 .bf16) (ix2 r q) = (x (ix4 0 0 r q) : EReal) := by
  pointwise [k0_pay3]

/-- A load through the whole shape of what some stores left reads what they left. -/
theorem readCov_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (L : List (View.Piece Val S e)) : v.readCov L (Rect.unit off S.size inb).toLoadRect = View.canon L := by
  rw [View.readCov_eq_canon']
  exact View.ld_unit_zero h inb (View.canon L)

variable {F : FTy → Type} [FloatOps F]

theorem out4_B (c : Dev nD) (i : grid0.Coords) (a2 h2 a3 h3 a4 h4 a5 h5 a6 h6 a7 h7 a8 h8) (hc : ¬cond0_0 i)
    (x0 : Vec F S1040x4096 .bf16) (x1 x2 : Vec F S1x1x4096x256 .f32) (x3 : Vec F S1x1x32x4096 .f32) (xs : Vec F S4096x512 .bf16) :
    out0_B_4 c i a2 h2 a3 h3 a4 h4 a5 h5 a6 h6 a7 h7 a8 h8 hc x0 x1 x2 x3 xs = k0_pay4 x0 xs := by
  unfold out0_B_4
  rw [View.read_writes_eq_canon _ _ _ (cover0_B_4 c i a2 h2 a3 h3 a4 h4 a5 h5 a6 h6 a7 h7 a8 h8 hc x0 x1 x2 x3 xs)]
  unfold kernelRun0_B
  dsimp only
  rw [View.canon_unit_zero hz2]
  simp only [View.readAt_eq_ld, h2.read_unread, h8.read_unread, View.ld_unit_zero (S := S1040x4096) hz2, View.ld_unit_zero (S := S4096x512) hz2]

theorem out4_A (c : Dev nD) (i : grid0.Coords) (a2 h2 a3 h3 a4 h4 a5 h5 a6 h6 a7 h7 a8 h8) (hc : cond0_0 i)
    (x0 : Vec F S1040x4096 .bf16) (x1 x2 : Vec F S1x1x4096x256 .f32) (x3 : Vec F S1x1x32x4096 .f32) :
    out0_A_4 c i a2 h2 a3 h3 a4 h4 a5 h5 a6 h6 a7 h7 a8 h8 hc x0 x1 x2 x3
      = k0_pay4 x0 (sout0_A_0 c i a2 h2 a3 h3 a4 h4 a5 h5 a6 h6 a7 h7 a8 h8 hc x0 x1 x2 x3) := by
  unfold out0_A_4
  rw [View.read_writes_eq_canon _ _ _ (cover0_A_4 c i a2 h2 a3 h3 a4 h4 a5 h5 a6 h6 a7 h7 a8 h8 hc x0 x1 x2 x3)]
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  rw [View.canon_unit_zero hz2]
  sl_unfold_words
  simp only [View.readAt_eq_ld, h2.read_unread, h3.read_unread, h4.read_unread, View.ld_unit_zero (S := S1040x4096) hz2, View.ld_unit_zero (S := S1x1x4096x256) hz4]
  rw [readCov_whole a8.view hz2]

theorem sout_A (c : Dev nD) (i : grid0.Coords) (a2 h2 a3 h3 a4 h4 a5 h5 a6 h6 a7 h7 a8 h8) (hc : cond0_0 i)
    (x0 : Vec F S1040x4096 .bf16) (x1 x2 : Vec F S1x1x4096x256 .f32) (x3 : Vec F S1x1x32x4096 .f32) :
    sout0_A_0 c i a2 h2 a3 h3 a4 h4 a5 h5 a6 h6 a7 h7 a8 h8 hc x0 x1 x2 x3 = View.canon [(⟨Rect.unit (s := S4096x512) ![0, 256] S4096x256.size inb_S4096x512_S4096x256_0_256, k0_pay2 x2⟩ : View.Piece (Elt F) S4096x512 .bf16), ⟨Rect.unit (s := S4096x512) ![0, 0] S4096x256.size inb_S4096x512_S4096x256_0_0, k0_pay1 x1⟩] := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  simp only [View.readAt_eq_ld, h2.read_unread, h3.read_unread, h4.read_unread, View.ld_unit_zero (S := S1040x4096) hz2, View.ld_unit_zero (S := S1x1x4096x256) hz4]

theorem out5_A (c : Dev nD) (i : grid0.Coords) (a2 h2 a3 h3 a4 h4 a5 h5 a6 h6 a7 h7 a8 h8) (hc : cond0_0 i)
    (x0 : Vec F S1040x4096 .bf16) (x1 x2 : Vec F S1x1x4096x256 .f32) (x3 : Vec F S1x1x32x4096 .f32) :
    out0_A_5 c i a2 h2 a3 h3 a4 h4 a5 h5 a6 h6 a7 h7 a8 h8 hc x0 x1 x2 x3 = k0_pay3 x3 := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  rw [View.canon_unit_zero hz2]
  simp only [View.readAt_eq_ld, h5.read_unread, View.ld_unit_zero (S := S1x1x32x4096) hz4]

theorem out5_B (c : Dev nD) (i : grid0.Coords) (a2 h2 a3 h3 a4 h4 a5 h5 a6 h6 a7 h7 a8 h8) (hc : ¬cond0_0 i)
    (x0 : Vec F S1040x4096 .bf16) (x1 x2 : Vec F S1x1x4096x256 .f32) (x3 : Vec F S1x1x32x4096 .f32) (xs : Vec F S4096x512 .bf16) :
    out0_B_5 c i a2 h2 a3 h3 a4 h4 a5 h5 a6 h6 a7 h7 a8 h8 hc x0 x1 x2 x3 xs = k0_pay3 x3 := by
  unfold out0_B_5
  rw [View.read_writes_eq_canon _ _ _ (cover0_B_5 c i a2 h2 a3 h3 a4 h4 a5 h5 a6 h6 a7 h7 a8 h8 hc x0 x1 x2 x3 xs)]
  unfold kernelRun0_B
  dsimp only
  rw [View.canon_unit_zero hz2]
  simp only [View.readAt_eq_ld, h5.read_unread, View.ld_unit_zero (S := S1x1x32x4096) hz4]

/-- Which block each window reads or writes at point `t`, decided over the grid. -/
theorem idx_facts : ∀ t : Fin cfg0.N,
    (win0_0.index t (0 : Fin 2) = t.val % 8 ∧ win0_0.index t (1 : Fin 2) = 0)
    ∧ (win0_1.index t (0 : Fin 4) = 0 ∧ win0_1.index t (1 : Fin 4) = 0 ∧ win0_1.index t (2 : Fin 4) = 0 ∧ win0_1.index t (3 : Fin 4) = t.val / 8)
    ∧ (win0_2.index t (0 : Fin 4) = 0 ∧ win0_2.index t (1 : Fin 4) = 0 ∧ win0_2.index t (2 : Fin 4) = 0 ∧ win0_2.index t (3 : Fin 4) = 43 + t.val / 8)
    ∧ (win0_3.index t (0 : Fin 4) = 0 ∧ win0_3.index t (1 : Fin 4) = 0 ∧ win0_3.index t (2 : Fin 4) = t.val ∧ win0_3.index t (3 : Fin 4) = 0)
    ∧ (win0_4.index t (0 : Fin 2) = t.val % 8 ∧ win0_4.index t (1 : Fin 2) = t.val / 8)
    ∧ (win0_5.index t (0 : Fin 2) = t.val ∧ win0_5.index t (1 : Fin 2) = 0) :=
  (by decide +kernel : ∀ t : Fin grid0.N, _)

variable (m : (ℓ : Loc nD τ sig) → Buf (Elt Ideal) ℓ)

/-- The three arguments as arrays of extended reals. -/
abbrev H (c : Dev nD) : FVec Ideal S8320x4096 .bf16 := m ((c : Thread nD τ).loc main_arg0)
abbrev WG (c : Dev nD) : FVec Ideal S2x2x4096x22016 .f32 := m ((c : Thread nD τ).loc main_arg1)
abbrev WD (c : Dev nD) : FVec Ideal S2x2x11008x4096 .f32 := m ((c : Thread nD τ).loc main_arg2)

theorem lt344 (t : Fin cfg0.N) : t.val < 344 := lt_of_lt_of_eq t.isLt N_0

theorem iblk0 (c : Dev nD) (t : Fin cfg0.N) (r : Fin 1040) (k : Fin 4096) :
    (iblk m c 0 t : FVec Ideal S1040x4096 .bf16) (ix2 r k) = H m c (ix2 ⟨t.val % 8 * 1040 + r.val, by omega⟩ k) := by
  obtain ⟨⟨e0, e1⟩, -⟩ := idx_facts t
  show H m c (((cfg0.win 0).blk t).view.emb (ix2 r k)) = _
  congr 1; funext a; apply Fin.ext
  match a with
  | ⟨0, _⟩ => show win0_0.index t (0 : Fin 2) * 1040 + 1 * r.val = _; rw [e0]; show _ = t.val % 8 * 1040 + r.val; omega
  | ⟨1, _⟩ => show win0_0.index t (1 : Fin 2) * 4096 + 1 * k.val = k.val; omega

theorem iblk1 (c : Dev nD) (t : Fin cfg0.N) (k : Fin 4096) (q : Fin 256) :
    (iblk m c 1 t : FVec Ideal S1x1x4096x256 .f32) (ix4 0 0 k q)
      = WG m c (ix4 0 0 k ⟨t.val / 8 * 256 + q.val, by have := lt344 t; omega⟩) := by
  obtain ⟨-, ⟨e0, e1, e2, e3⟩, -⟩ := idx_facts t
  show WG m c (((cfg0.win 1).blk t).view.emb (ix4 0 0 k q)) = _
  congr 1; funext a; apply Fin.ext
  match a with
  | ⟨0, _⟩ => show win0_1.index t (0 : Fin 4) * 1 + 1 * 0 = 0; omega
  | ⟨1, _⟩ => show win0_1.index t (1 : Fin 4) * 1 + 1 * 0 = 0; omega
  | ⟨2, _⟩ => show win0_1.index t (2 : Fin 4) * 4096 + 1 * k.val = k.val; omega
  | ⟨3, _⟩ => show win0_1.index t (3 : Fin 4) * 256 + 1 * q.val = t.val / 8 * 256 + q.val; rw [e3]; omega

theorem iblk2 (c : Dev nD) (t : Fin cfg0.N) (k : Fin 4096) (q : Fin 256) :
    (iblk m c 2 t : FVec Ideal S1x1x4096x256 .f32) (ix4 0 0 k q)
      = WG m c (ix4 0 0 k ⟨11008 + (t.val / 8 * 256 + q.val), by have := lt344 t; omega⟩) := by
  obtain ⟨-, -, ⟨e0, e1, e2, e3⟩, -⟩ := idx_facts t
  show WG m c (((cfg0.win 2).blk t).view.emb (ix4 0 0 k q)) = _
  congr 1; funext a; apply Fin.ext
  match a with
  | ⟨0, _⟩ => show win0_2.index t (0 : Fin 4) * 1 + 1 * 0 = 0; omega
  | ⟨1, _⟩ => show win0_2.index t (1 : Fin 4) * 1 + 1 * 0 = 0; omega
  | ⟨2, _⟩ => show win0_2.index t (2 : Fin 4) * 4096 + 1 * k.val = k.val; omega
  | ⟨3, _⟩ => show win0_2.index t (3 : Fin 4) * 256 + 1 * q.val = 11008 + (t.val / 8 * 256 + q.val); rw [e3]; omega

theorem iblk3 (c : Dev nD) (t : Fin cfg0.N) (r : Fin 32) (k : Fin 4096) :
    (iblk m c 3 t : FVec Ideal S1x1x32x4096 .f32) (ix4 0 0 r k)
      = WD m c (ix4 0 0 ⟨t.val * 32 + r.val, by have := lt344 t; omega⟩ k) := by
  obtain ⟨-, -, -, ⟨e0, e1, e2, e3⟩, -⟩ := idx_facts t
  show WD m c (((cfg0.win 3).blk t).view.emb (ix4 0 0 r k)) = _
  congr 1; funext a; apply Fin.ext
  match a with
  | ⟨0, _⟩ => show win0_3.index t (0 : Fin 4) * 1 + 1 * 0 = 0; omega
  | ⟨1, _⟩ => show win0_3.index t (1 : Fin 4) * 1 + 1 * 0 = 0; omega
  | ⟨2, _⟩ => show win0_3.index t (2 : Fin 4) * 32 + 1 * r.val = t.val * 32 + r.val; rw [e2]; omega
  | ⟨3, _⟩ => show win0_3.index t (3 : Fin 4) * 4096 + 1 * k.val = k.val; omega

/-- What some stores leave, at a place that the last of them writes. -/
theorem canon_hit {Val : EltTy → Type} [∀ e, Nonempty (Val e)] {S : Shape} {e : EltTy} (r : Rect S) (w : r.shape.Idx → Val e)
    (L : List (View.Piece Val S e)) (y : S.Idx) (x : r.shape.Idx) (h : r.emb x = y) : View.canon (⟨r, w⟩ :: L) y = w x := by
  subst h; exact View.canon_cons_emb r w L x

theorem emb_left (i1) (k : Fin 4096) (q : Fin 256) (hq : q.val < 512) :
    (Rect.unit (s := S4096x512) ![0, 0] S4096x256.size i1).emb (ix2 k q) = ix2 k ⟨q.val, hq⟩ := by
  funext a; apply Fin.ext
  match a with
  | ⟨0, _⟩ => exact (Nat.zero_add _).trans (Nat.one_mul k.val)
  | ⟨1, _⟩ => exact (Nat.zero_add _).trans (Nat.one_mul q.val)

theorem emb_right (i1) (k : Fin 4096) (q : Fin 256) (hq : 256 + q.val < 512) :
    (Rect.unit (s := S4096x512) ![0, 256] S4096x256.size i1).emb (ix2 k q) = ix2 k ⟨256 + q.val, hq⟩ := by
  funext a; apply Fin.ext
  match a with
  | ⟨0, _⟩ => exact (Nat.zero_add _).trans (Nat.one_mul k.val)
  | ⟨1, _⟩ => exact congrArg (256 + ·) (Nat.one_mul q.val)

/-- The two stores of the weight scratch read back: the gate's columns on the left, the up columns on the right. -/
theorem scratch_left (p1 p2 : Vec Ideal S4096x256 .bf16) (i1 i2) (k : Fin 4096) (q : Fin 256) :
    View.canon [(⟨Rect.unit (s := S4096x512) ![0, 256] S4096x256.size i2, p2⟩ : View.Piece (Elt Ideal) S4096x512 .bf16), ⟨Rect.unit (s := S4096x512) ![0, 0] S4096x256.size i1, p1⟩]
      (ix2 k ⟨q.val, by omega⟩) = p1 (ix2 k q) := by
  rw [View.canon_cons_of_not_mem]
  · exact canon_hit _ _ _ _ _ (emb_left i1 k q _)
  · rw [Rect.mem_set_unit]
    intro h
    have h1 : 256 ≤ q.val := (h (1 : Fin 2)).1
    omega

theorem scratch_right (p1 p2 : Vec Ideal S4096x256 .bf16) (i1 i2) (k : Fin 4096) (q : Fin 256) :
    View.canon [(⟨Rect.unit (s := S4096x512) ![0, 256] S4096x256.size i2, p2⟩ : View.Piece (Elt Ideal) S4096x512 .bf16), ⟨Rect.unit (s := S4096x512) ![0, 0] S4096x256.size i1, p1⟩]
      (ix2 k ⟨256 + q.val, by omega⟩) = p2 (ix2 k q) :=
  canon_hit _ _ _ _ _ (emb_right i2 k q _)

/-- What the weight scratch holds after point `n`: the gate and up columns of column block `n / 8`. -/
theorem scratch_eq (c : Dev nD) : ∀ (n : ℕ) (hn : n < cfg0.N) (k : Fin 4096) (q : Fin 256),
    ((outsAt0 m c n hn).2.2 : FVec Ideal S4096x512 .bf16) (ix2 k ⟨q.val, by omega⟩)
        = WG m c (ix4 0 0 k ⟨n / 8 * 256 + q.val, by have := lt344 ⟨n, hn⟩; dsimp only at this; omega⟩)
    ∧ ((outsAt0 m c n hn).2.2 : FVec Ideal S4096x512 .bf16) (ix2 k ⟨256 + q.val, by omega⟩)
        = WG m c (ix4 0 0 k ⟨11008 + (n / 8 * 256 + q.val), by have := lt344 ⟨n, hn⟩; dsimp only at this; omega⟩) := by
  intro n
  induction n using Nat.strong_induction_on with
  | _ n ih =>
    intro hn k q
    by_cases h0 : n % 8 = 0
    · rw [outsAt0_A m c ⟨n, hn⟩ h0]
      dsimp only
      rw [sout_A]
      exact ⟨(scratch_left _ _ _ _ k q).trans ((pay1_apply _ k q).trans (iblk1 m c ⟨n, hn⟩ k q)),
        (scratch_right _ _ _ _ k q).trans ((pay2_apply _ k q).trans (iblk2 m c ⟨n, hn⟩ k q))⟩
    · rw [outsAt0_B m c ⟨n, hn⟩ h0]
      dsimp only
      unfold sout0_B_0
      have hd : (n - 1) / 8 = n / 8 := by omega
      obtain ⟨a, b⟩ := ih (n - 1) (by omega) (by omega) k q
      simp only [hd] at a b
      exact ⟨a, b⟩

/-- The block that point `t` writes of the first result is what the scratch after it gives. -/
theorem out4_eq (c : Dev nD) (t : Fin cfg0.N) :
    (outsAt0 m c t.val t.isLt).1 = k0_pay4 (iblk m c 0 t) (outsAt0 m c t.val t.isLt).2.2 := by
  by_cases h0 : t.val % 8 = 0
  · rw [outsAt0_A m c t h0]; dsimp only; rw [out4_A]
  · rw [outsAt0_B m c t h0]; dsimp only; rw [out4_B]; rfl

/-- The block that point `t` writes of the second result. -/
theorem out5_eq (c : Dev nD) (t : Fin cfg0.N) :
    (outsAt0 m c t.val t.isLt).2.1 = k0_pay3 (iblk m c 3 t) := by
  by_cases h0 : t.val % 8 = 0
  · rw [outsAt0_A m c t h0]; dsimp only; rw [out5_A]
  · rw [outsAt0_B m c t h0]; dsimp only; rw [out5_B]

open Cert.Reference2Ideal.Read in
/-- The reference's first result at an index. -/
theorem ref8_apply (h : FVec Ideal S8320x4096 .bf16) (w : FVec Ideal S2x2x4096x22016 .f32) (r : Fin 8320) (q : Fin 11008) :
    val_main_v8 (F := Ideal) h w (ix2 r q) =
      ((∑ k : Fin 4096, h (ix2 r k) * w (ix4 0 0 k ⟨q.val, by omega⟩))
        * Ideal.div 1 (1 + Ideal.exp (-∑ k : Fin 4096, h (ix2 r k) * w (ix4 0 0 k ⟨q.val, by omega⟩))))
      * ∑ k : Fin 4096, h (ix2 r k) * w (ix4 0 0 k ⟨11008 + q.val, by omega⟩) := by
  pointwise [val_main_v8, val_main_v7, val_main_v6, val_main_call0_v5, val_main_call0_v4, val_main_call0_v3,
    val_main_call0_v2, val_main_call0_v1, val_main_call0_v0, val_main_call0_cst, val_main_call0_cst_0, val_main_v5,
    val_main_v4, val_main_v3, val_main_v2, val_main_v1, val_main_v0]

open Cert.Reference2Ideal.Read in
theorem ref11_apply (w : FVec Ideal S2x2x11008x4096 .f32) (r : Fin 11008) (q : Fin 4096) :
    (val_main_v11 (F := Ideal) w : FVec Ideal S11008x4096 .bf16) (ix2 r q) = (w (ix4 0 0 r q) : EReal) := by
  pointwise [val_main_v11, val_main_v10, val_main_v9]

open Cert.Reference2Ideal.Read in
/-- An element of the block that point `t` writes of the first result is the reference's, at its place. -/
theorem point4 (c : Dev nD) (t : Fin cfg0.N) (r : Fin 1040) (q : Fin 256) :
    ((outsAt0 m c t.val t.isLt).1 : FVec Ideal S1040x256 .bf16) (ix2 r q)
      = val_main_v8 (F := Ideal) (H m c) (WG m c)
          (ix2 ⟨t.val % 8 * 1040 + r.val, by omega⟩ ⟨t.val / 8 * 256 + q.val, by have := lt344 t; omega⟩) := by
  have hs := fun k => scratch_eq m c t.val t.isLt k q
  rw [out4_eq, pay4_apply, ref8_apply, Scalars.logistic]
  simp only [fun k => (hs k).1, fun k => (hs k).2, iblk0]

open Cert.Reference2Ideal.Read in
/-- The array of the first result after the run is the reference's. -/
theorem final4 (c : Dev nD) :
    (dats m 0 c).arrAt 4 cfg0.N = val_main_v8 (F := Ideal) (H m c) (WG m c) :=
  (dats m 0 c).arrAt_eq_of_cover 4 _ (fun t hf => by
    rw [Kernel2Ideal.Value.flushed4]
    obtain ⟨-, -, -, -, ⟨e0, e1⟩, -⟩ := idx_facts t
    funext y
    have hy0 : (y 0).val < 1040 := (y 0).isLt
    have hy1 : (y 1).val < 256 := (y 1).isLt
    have hx : (cfg0.win 4).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 4).blk t).view.emb y
        = ix2 ⟨t.val % 8 * 1040 + (y 0).val, by omega⟩ ⟨t.val / 8 * 256 + (y 1).val, by have := lt344 t; omega⟩ := by
      funext a; apply Fin.ext
      match a with
      | ⟨0, _⟩ => show win0_4.index t (0 : Fin 2) * 1040 + 1 * (y 0).val = t.val % 8 * 1040 + (y 0).val; rw [e0]; omega
      | ⟨1, _⟩ => show win0_4.index t (1 : Fin 2) * 256 + 1 * (y 1).val = t.val / 8 * 256 + (y 1).val; rw [e1]; omega
    show (outsAt0 m c t.val t.isLt).1 ((cfg0.win 4).xinj (grid0.coords t) y)
      = val_main_v8 (F := Ideal) (H m c) (WG m c) (((cfg0.win 4).blk t).view.emb y)
    rw [hx, he]
    exact point4 m c t _ _) (fun i => (Kernel2Ideal.Value.covered_iff4 i).2 (by
      have h0 : (i 0).val < 8320 := (i 0).isLt
      have h1 : (i 1).val < 11008 := (i 1).isLt
      omega))

open Cert.Reference2Ideal.Read in
/-- The array of the second result after the run is the reference's: the first layer's down weight, cast. -/
theorem final5 (c : Dev nD) :
    (dats m 0 c).arrAt 5 cfg0.N = val_main_v11 (F := Ideal) (WD m c) :=
  (dats m 0 c).arrAt_eq_of_cover 5 _ (fun t hf => by
    rw [Kernel2Ideal.Value.flushed5, out5_eq]
    obtain ⟨-, -, -, -, -, ⟨e0, e1⟩⟩ := idx_facts t
    funext y
    have hy0 : (y 0).val < 32 := (y 0).isLt
    have hy1 : (y 1).val < 4096 := (y 1).isLt
    have hx : (cfg0.win 5).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 5).blk t).view.emb y
        = ix2 ⟨t.val * 32 + (y 0).val, by have := lt344 t; omega⟩ ⟨(y 1).val, hy1⟩ := by
      funext a; apply Fin.ext
      match a with
      | ⟨0, _⟩ => show win0_5.index t (0 : Fin 2) * 32 + 1 * (y 0).val = t.val * 32 + (y 0).val; rw [e0]; omega
      | ⟨1, _⟩ => show win0_5.index t (1 : Fin 2) * 4096 + 1 * (y 1).val = (y 1).val; rw [e1]; omega
    show k0_pay3 (iblk m c 3 t) ((cfg0.win 5).xinj (grid0.coords t) y)
      = val_main_v11 (F := Ideal) (WD m c) (((cfg0.win 5).blk t).view.emb y)
    rw [hx, he]
    exact (pay3_apply _ _ _).trans ((iblk3 m c t _ _).trans (ref11_apply _ _ _).symm)) (fun i => (Kernel2Ideal.Value.covered_iff5 i).2 (by
      have h0 : (i 0).val < 11008 := (i 0).isLt
      have h1 : (i 1).val < 4096 := (i 1).isLt
      omega))

open Cert.Reference2Ideal.Read in
/-- THE VALUE CLAIM: on the same arguments both programs end with the same two results. -/
theorem algebraic : Cert.algebraic_Kernel2Ideal_Reference2Ideal := by
  intro m g m' g' _ hagree
  refine ⟨fun c => val_main_v8 (F := Ideal) (H m c) (WG m c), fun c => val_main_v11 (F := Ideal) (WD m c), ?_, ?_⟩
  · refine θ_run_mono (Kernel2Ideal.Value.run_blocks m g) fun r h c => ?_
    obtain ⟨h4, h5, k0, k1, k2⟩ := h c
    exact ⟨h4.trans (final4 m c), h5.trans (final5 m c), k0, k1, k2⟩
  · refine θ_run_mono (Reference2Ideal.Value.run m' g') fun r h c => ?_
    obtain ⟨h4, h5, k0, k1, k2⟩ := h c
    obtain ⟨a0, a1, a2⟩ := hagree c
    refine ⟨h4.trans ((val_main_v8_eq _ _).trans ?_), h5.trans ((val_main_v11_eq _).trans ?_), k0, k1, k2⟩
    · rw [a0, a1]
    · rw [a2]

end Cert.FfnGu

end
-- ==== Proof.EvenIn.lean ====
/- The even layer's input projection. -/
module

public import proofs.«01_k».proof.Proof.Scalars
public import proofs.«01_k».proof.Proof.FfnGu
public import proofs.«01_k».proof.Proof.Gen.Kernel7Ideal.Value
public import proofs.«01_k».proof.Proof.Gen.Reference7Ideal.Read
public import proofs.«01_k».proof.Proof.Gen.Reference7Ideal.Run
public import proofs.«01_k».proof.Defs
public import Idealize.ShloMosaic.Lib.Pointwise

@[expose] public section

set_option maxRecDepth 16384

noncomputable section

namespace Cert.EvenIn

open Cert.Kernel7Ideal Cert.Kernel7Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block at a row and a column. -/
theorem pay2_apply (x : FVec Ideal S1040x4096 .bf16) (w : FVec Ideal S4096x512 .bf16) (r : Fin 1040) (q : Fin 512) :
    (k0_pay2 x w : FVec Ideal S1040x512 .f32) (ix2 r q) = ((∑ k : Fin 4096, x (ix2 r k) * w (ix2 k q)) : EReal) := by
  pointwise [k0_pay2]

/-- What the scratch receives is the weight's block, cast. -/
theorem pay1_apply (x : FVec Ideal S1x4096x512 .f32) (k : Fin 4096) (q : Fin 512) :
    (k0_pay1 x : FVec Ideal S4096x512 .bf16) (ix2 k q) = (x (ix3 0 k q) : EReal) := by
  pointwise [k0_pay1]

variable {F : FTy → Type} [FloatOps F]

theorem sout_A (c : Dev nD) (i : grid0.Coords) (a2 h2 a3 h3 a4 h4 a5 h5) (hc : cond0_0 i)
    (x0 : Vec F S1040x4096 .bf16) (x1 : Vec F S1x4096x512 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h2.read_unread, h3.read_unread, View.ld_unit_zero (S := S1040x4096) hz2, View.ld_unit_zero (S := S1x4096x512) hz3]

theorem out_A (c : Dev nD) (i : grid0.Coords) (a2 h2 a3 h3 a4 h4 a5 h5) (hc : cond0_0 i)
    (x0 : Vec F S1040x4096 .bf16) (x1 : Vec F S1x4096x512 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  rw [View.canon_unit_zero hz2]
  sl_unfold_words
  simp only [View.readAt_eq_ld, h2.read_unread, h3.read_unread, View.ld_unit_zero (S := S1040x4096) hz2, View.ld_unit_zero (S := S1x4096x512) hz3]
  rw [FfnGu.readCov_whole a5.view hz2, View.canon_unit_zero hz2]

theorem out_B (c : Dev nD) (i : grid0.Coords) (a2 h2 a3 h3 a4 h4 a5 h5) (hc : ¬cond0_0 i)
    (x0 : Vec F S1040x4096 .bf16) (x1 : Vec F S1x4096x512 .f32) (xs : Vec F S4096x512 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero hz2]
  simp only [View.readAt_eq_ld, h2.read_unread, h3.read_unread, h5.read_unread, View.ld_unit_zero (S := S1040x4096) hz2, View.ld_unit_zero (S := S1x4096x512) hz3, View.ld_unit_zero (S := S4096x512) hz2]

/-- Which block each window reads or writes at point `t`, decided over the grid. -/
theorem idx_facts : ∀ t : Fin cfg0.N,
    (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8) :=
  (by decide +kernel : ∀ t : Fin grid0.N, _)

variable (m : (ℓ : Loc nD τ sig) → Buf (Elt Ideal) ℓ)

/-- The arguments as arrays of extended reals. -/
abbrev H (c : Dev nD) : FVec Ideal S8320x4096 .bf16 := m ((c : Thread nD τ).loc main_arg0)
abbrev W (c : Dev nD) : FVec Ideal S1x4096x7168 .f32 := m ((c : Thread nD τ).loc main_arg1)

theorem lt112 (t : Fin cfg0.N) : t.val < 112 := lt_of_lt_of_eq t.isLt N_0

theorem iblk0 (c : Dev nD) (t : Fin cfg0.N) (r : Fin 1040) (k : Fin 4096) :
    (iblk m c 0 t : FVec Ideal S1040x4096 .bf16) (ix2 r k) = H m c (ix2 ⟨(t.val % 8) * 1040 + r.val, by have := lt112 t; omega⟩ k) := by
  obtain ⟨⟨e0, e1⟩, -⟩ := idx_facts t
  show H m c (((cfg0.win 0).blk t).view.emb (ix2 r k)) = _
  congr 1; funext a; apply Fin.ext
  match a with
  | ⟨0, _⟩ => show win0_0.index t (0 : Fin 2) * 1040 + 1 * r.val = (t.val % 8) * 1040 + r.val; rw [e0]; omega
  | ⟨1, _⟩ => show win0_0.index t (1 : Fin 2) * 4096 + 1 * k.val = k.val; omega

theorem iblk1 (c : Dev nD) (t : Fin cfg0.N) (k : Fin 4096) (q : Fin 512) :
    (iblk m c 1 t : FVec Ideal S1x4096x512 .f32) (ix3 0 k q) = W m c (ix3 0 k ⟨(t.val / 8) * 512 + q.val, by have := lt112 t; omega⟩) := by
  obtain ⟨-, ⟨e0, e1, e2⟩, -⟩ := idx_facts t
  show W m c (((cfg0.win 1).blk t).view.emb (ix3 0 k q)) = _
  congr 1; funext a; apply Fin.ext
  match a with
  | ⟨0, _⟩ => show win0_1.index t (0 : Fin 3) * 1 + 1 * 0 = 0; omega
  | ⟨1, _⟩ => show win0_1.index t (1 : Fin 3) * 4096 + 1 * k.val = k.val; omega
  | ⟨2, _⟩ => show win0_1.index t (2 : Fin 3) * 512 + 1 * q.val = (t.val / 8) * 512 + q.val; rw [e2]; omega

/-- What the weight scratch holds after point `n`: the columns of column block `n / 8`. -/
theorem scratch_eq (c : Dev nD) : ∀ (n : ℕ) (hn : n < cfg0.N) (k : Fin 4096) (q : Fin 512),
    ((outsAt0 m c n hn).2 : FVec Ideal S4096x512 .bf16) (ix2 k q)
        = W m c (ix3 0 k ⟨n / 8 * 512 + q.val, by have := lt112 ⟨n, hn⟩; dsimp only at this; omega⟩) := by
  intro n
  induction n using Nat.strong_induction_on with
  | _ n ih =>
    intro hn k q
    by_cases h0 : n % 8 = 0
    · rw [outsAt0_A m c ⟨n, hn⟩ h0]
      dsimp only
      rw [sout_A]
      exact (pay1_apply _ k q).trans (iblk1 m c ⟨n, hn⟩ k q)
    · rw [outsAt0_B m c ⟨n, hn⟩ h0]
      dsimp only
      unfold sout0_B_0
      have hd : (n - 1) / 8 = n / 8 := by omega
      have a := ih (n - 1) (by omega) (by omega) k q
      simp only [hd] at a
      exact a

/-- The block that point `t` writes is what the scratch after it gives. -/
theorem out_eq (c : Dev nD) (t : Fin cfg0.N) :
    (outsAt0 m c t.val t.isLt).1 = k0_pay2 (iblk m c 0 t) (outsAt0 m c t.val t.isLt).2 := by
  by_cases h0 : t.val % 8 = 0
  · rw [outsAt0_A m c t h0]; dsimp only; rw [out_A, sout_A]
  · rw [outsAt0_B m c t h0]; dsimp only; rw [out_B]; rfl

open Cert.Reference7Ideal.Read in
/-- The reference's result at an index. -/
theorem ref_apply (h : FVec Ideal S8320x4096 .bf16) (w : FVec Ideal S1x4096x7168 .f32) (r : Fin 8320) (q : Fin 7168) :
    (val_main_v2 (F := Ideal) h w : FVec Ideal S8320x7168 .f32) (ix2 r q) = ((∑ k : Fin 4096, h (ix2 r k) * w (ix3 0 k q)) : EReal) := by
  pointwise [val_main_v2, val_main_v1, val_main_v0]

open Cert.Reference7Ideal.Read in
/-- An element of the block that point `t` writes is the reference's, at its place. -/
theorem point (c : Dev nD) (t : Fin cfg0.N) (r : Fin 1040) (q : Fin 512) :
    ((outsAt0 m c t.val t.isLt).1 : FVec Ideal S1040x512 .f32) (ix2 r q)
      = val_main_v2 (F := Ideal) (H m c) (W m c)
          (ix2 ⟨t.val % 8 * 1040 + r.val, by omega⟩ ⟨t.val / 8 * 512 + q.val, by have := lt112 t; omega⟩) := by
  have hs := fun k => scratch_eq m c t.val t.isLt k q
  rw [out_eq, pay2_apply, ref_apply]
  simp only [hs, iblk0]

theorem mem_blk2 (t : Fin cfg0.N) (i : S8320x7168.Idx) :
    i ∈ ((cfg0.win 2).blk t).view.set ↔ ∀ a : Fin 2, win0_2.index t a * S1040x512.size a ≤ (i a).val ∧ (i a).val < win0_2.index t a * S1040x512.size a + S1040x512.size a := by
  show i ∈ ((View.whole main_v0).slice (win0_2.rect t)).set ↔ _
  rw [View.set_slice_whole, Rect.mem_set_unit]
  exact Iff.rfl

theorem flush2 : ∀ t : Fin cfg0.N, (cfg0.win 2).flush t = true := (by decide +kernel : ∀ t : Fin grid0.N, win0_2.flush t = true)

open Cert.Reference7Ideal.Read in
/-- The array of the result after the run is the reference's. -/
theorem final2 (c : Dev nD) :
    (dats m 0 c).arrAt 2 cfg0.N = val_main_v2 (F := Ideal) (H m c) (W m c) :=
  (dats m 0 c).arrAt_eq_of_cover 2 _ (fun t hf => by
    rw [Kernel7Ideal.Value.flushed2]
    obtain ⟨-, -, ⟨e0, e1⟩⟩ := idx_facts t
    funext y
    have hy0 : (y 0).val < 1040 := (y 0).isLt
    have hy1 : (y 1).val < 512 := (y 1).isLt
    have hx : (cfg0.win 2).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 2).blk t).view.emb y
        = ix2 ⟨(t.val % 8) * 1040 + (y 0).val, by have := lt112 t; omega⟩ ⟨(t.val / 8) * 512 + (y 1).val, by have := lt112 t; omega⟩ := by
      funext a; apply Fin.ext
      match a with
      | ⟨0, _⟩ => show win0_2.index t (0 : Fin 2) * 1040 + 1 * (y 0).val = (t.val % 8) * 1040 + (y 0).val; rw [e0]; omega
      | ⟨1, _⟩ => show win0_2.index t (1 : Fin 2) * 512 + 1 * (y 1).val = (t.val / 8) * 512 + (y 1).val; rw [e1]; omega
    show (outsAt0 m c t.val t.isLt).1 ((cfg0.win 2).xinj (grid0.coords t) y)
      = val_main_v2 (F := Ideal) (H m c) (W m c) (((cfg0.win 2).blk t).view.emb y)
    rw [hx, he]
    exact point m c t _ _) (fun i => by
      have h0 : (i 0).val < 8320 := (i 0).isLt
      have h1 : (i 1).val < 7168 := (i 1).isLt
      let t : Fin cfg0.N := ⟨8 * ((i 1).val / 512) + (i 0).val / 1040, lt_of_lt_of_eq (by omega) N_0.symm⟩
      have ht : t.val = 8 * ((i 1).val / 512) + (i 0).val / 1040 := rfl
      refine ⟨t, flush2 t, ?_⟩
      obtain ⟨-, -, ⟨e0, e1⟩⟩ := idx_facts t
      rw [mem_blk2]
      intro a
      match a with
      | ⟨0, _⟩ =>
        show win0_2.index t (0 : Fin 2) * 1040 ≤ (i 0).val ∧ (i 0).val < win0_2.index t (0 : Fin 2) * 1040 + 1040
        rw [e0]; omega
      | ⟨1, _⟩ =>
        show win0_2.index t (1 : Fin 2) * 512 ≤ (i 1).val ∧ (i 1).val < win0_2.index t (1 : Fin 2) * 512 + 512
        rw [e1]; omega)

open Cert.Reference7Ideal.Read in
/-- THE VALUE CLAIM: on the same arguments both programs end with the same result. -/
theorem algebraic : Cert.algebraic_Kernel7Ideal_Reference7Ideal := by
  intro m g m' g' _ hagree
  refine ⟨fun c => val_main_v2 (F := Ideal) (H m c) (W m c), ?_, ?_⟩
  · refine θ_run_mono (Kernel7Ideal.Value.run_blocks m g) fun r h c => ?_
    obtain ⟨h4, k0, k1⟩ := h c
    exact ⟨h4.trans (final2 m c), k0, k1⟩
  · refine θ_run_mono (Reference7Ideal.Value.run m' g') fun r h c => ?_
    obtain ⟨h4, k0, k1⟩ := h c
    obtain ⟨a0, a1⟩ := hagree c
    refine ⟨h4.trans ((val_main_v2_eq _ _).trans ?_), k0, k1⟩
    rw [a0, a1]

end Cert.EvenIn

end
-- ==== Proof.MixOut.lean ====
/- The output projection of either layer, onto the residual. -/
module

public import proofs.«01_k».proof.Proof.Scalars
public import proofs.«01_k».proof.Proof.FfnGu
public import proofs.«01_k».proof.Proof.Gen.Kernel8Ideal.Value
public import proofs.«01_k».proof.Proof.Gen.Reference8Ideal.Read
public import proofs.«01_k».proof.Proof.Gen.Reference8Ideal.Run
public import proofs.«01_k».proof.Defs
public import Idealize.ShloMosaic.Lib.Pointwise

@[expose] public section

set_option maxRecDepth 16384

noncomputable section

namespace Cert.MixOut

open Cert.Kernel8Ideal Cert.Kernel8Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block at a row and a column. -/
theorem pay2_apply (x : FVec Ideal S1040x4096 .bf16) (w : FVec Ideal S4096x512 .bf16) (z : FVec Ideal S1040x512 .f32) (r : Fin 1040) (q : Fin 512) :
    (k0_pay2 x w z : FVec Ideal S1040x512 .f32) (ix2 r q) = ((z (ix2 r q) + ∑ k : Fin 4096, x (ix2 r k) * w (ix2 k q)) : EReal) := by
  pointwise [k0_pay2]

/-- What the scratch receives is the weight's block, cast. -/
theorem pay1_apply (x : FVec Ideal S1x4096x512 .f32) (k : Fin 4096) (q : Fin 512) :
    (k0_pay1 x : FVec Ideal S4096x512 .bf16) (ix2 k q) = (x (ix3 0 k q) : EReal) := by
  pointwise [k0_pay1]

variable {F : FTy → Type} [FloatOps F]

theorem sout_A (c : Dev nD) (i : grid0.Coords) (a2 h2 a3 h3 a4 h4 a5 h5 a6 h6) (hc : cond0_0 i)
    (x0 : Vec F S1040x4096 .bf16) (x1 : Vec F S1x4096x512 .f32) (x2 : Vec F S1040x512 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, h4.read_unread, View.ld_unit_zero (S := S1040x4096) hz2, View.ld_unit_zero (S := S1x4096x512) hz3, View.ld_unit_zero (S := S1040x512) hz2]

theorem out_A (c : Dev nD) (i : grid0.Coords) (a2 h2 a3 h3 a4 h4 a5 h5 a6 h6) (hc : cond0_0 i)
    (x0 : Vec F S1040x4096 .bf16) (x1 : Vec F S1x4096x512 .f32) (x2 : Vec F S1040x512 .f32) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  rw [View.canon_unit_zero hz2]
  sl_unfold_words
  simp only [View.readAt_eq_ld, h2.read_unread, h3.read_unread, h4.read_unread, View.ld_unit_zero (S := S1040x4096) hz2, View.ld_unit_zero (S := S1x4096x512) hz3, View.ld_unit_zero (S := S1040x512) hz2]
  rw [FfnGu.readCov_whole a6.view hz2, View.canon_unit_zero hz2]

theorem out_B (c : Dev nD) (i : grid0.Coords) (a2 h2 a3 h3 a4 h4 a5 h5 a6 h6) (hc : ¬cond0_0 i)
    (x0 : Vec F S1040x4096 .bf16) (x1 : Vec F S1x4096x512 .f32) (x2 : Vec F S1040x512 .f32) (xs : Vec F S4096x512 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h2.read_unread, h3.read_unread, h4.read_unread, h6.read_unread, View.ld_unit_zero (S := S1040x4096) hz2, View.ld_unit_zero (S := S1x4096x512) hz3, View.ld_unit_zero (S := S1040x512) hz2, View.ld_unit_zero (S := S4096x512) hz2]

/-- Which block each window reads or writes at point `t`, decided over the grid. -/
theorem idx_facts : ∀ t : Fin cfg0.N,
    (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8)
    ∧ (win0_3.index t (0 : Fin 2) = t.val % 8 ∧ win0_3.index t (1 : Fin 2) = t.val / 8) :=
  (by decide +kernel : ∀ t : Fin grid0.N, _)

variable (m : (ℓ : Loc nD τ sig) → Buf (Elt Ideal) ℓ)

/-- The arguments as arrays of extended reals. -/
abbrev H (c : Dev nD) : FVec Ideal S8320x4096 .bf16 := m ((c : Thread nD τ).loc main_arg0)
abbrev W (c : Dev nD) : FVec Ideal S1x4096x4096 .f32 := m ((c : Thread nD τ).loc main_arg1)
abbrev X (c : Dev nD) : FVec Ideal S8320x4096 .f32 := m ((c : Thread nD τ).loc main_arg2)

theorem lt64 (t : Fin cfg0.N) : t.val < 64 := lt_of_lt_of_eq t.isLt N_0

theorem iblk0 (c : Dev nD) (t : Fin cfg0.N) (r : Fin 1040) (k : Fin 4096) :
    (iblk m c 0 t : FVec Ideal S1040x4096 .bf16) (ix2 r k) = H m c (ix2 ⟨(t.val % 8) * 1040 + r.val, by have := lt64 t; omega⟩ k) := by
  obtain ⟨⟨e0, e1⟩, -⟩ := idx_facts t
  show H m c (((cfg0.win 0).blk t).view.emb (ix2 r k)) = _
  congr 1; funext a; apply Fin.ext
  match a with
  | ⟨0, _⟩ => show win0_0.index t (0 : Fin 2) * 1040 + 1 * r.val = (t.val % 8) * 1040 + r.val; rw [e0]; omega
  | ⟨1, _⟩ => show win0_0.index t (1 : Fin 2) * 4096 + 1 * k.val = k.val; omega

theorem iblk1 (c : Dev nD) (t : Fin cfg0.N) (k : Fin 4096) (q : Fin 512) :
    (iblk m c 1 t : FVec Ideal S1x4096x512 .f32) (ix3 0 k q) = W m c (ix3 0 k ⟨(t.val / 8) * 512 + q.val, by have := lt64 t; omega⟩) := by
  obtain ⟨-, ⟨e0, e1, e2⟩, -⟩ := idx_facts t
  show W m c (((cfg0.win 1).blk t).view.emb (ix3 0 k q)) = _
  congr 1; funext a; apply Fin.ext
  match a with
  | ⟨0, _⟩ => show win0_1.index t (0 : Fin 3) * 1 + 1 * 0 = 0; omega
  | ⟨1, _⟩ => show win0_1.index t (1 : Fin 3) * 4096 + 1 * k.val = k.val; omega
  | ⟨2, _⟩ => show win0_1.index t (2 : Fin 3) * 512 + 1 * q.val = (t.val / 8) * 512 + q.val; rw [e2]; omega

theorem iblk2 (c : Dev nD) (t : Fin cfg0.N) (r : Fin 1040) (q : Fin 512) :
    (iblk m c 2 t : FVec Ideal S1040x512 .f32) (ix2 r q) = X m c (ix2 ⟨(t.val % 8) * 1040 + r.val, by have := lt64 t; omega⟩ ⟨(t.val / 8) * 512 + q.val, by have := lt64 t; omega⟩) := by
  obtain ⟨-, -, ⟨e0, e1⟩, -⟩ := idx_facts t
  show X m c (((cfg0.win 2).blk t).view.emb (ix2 r q)) = _
  congr 1; funext a; apply Fin.ext
  match a with
  | ⟨0, _⟩ => show win0_2.index t (0 : Fin 2) * 1040 + 1 * r.val = (t.val % 8) * 1040 + r.val; rw [e0]; omega
  | ⟨1, _⟩ => show win0_2.index t (1 : Fin 2) * 512 + 1 * q.val = (t.val / 8) * 512 + q.val; rw [e1]; omega

/-- What the weight scratch holds after point `n`: the columns of column block `n / 8`. -/
theorem scratch_eq (c : Dev nD) : ∀ (n : ℕ) (hn : n < cfg0.N) (k : Fin 4096) (q : Fin 512),
    ((outsAt0 m c n hn).2 : FVec Ideal S4096x512 .bf16) (ix2 k q)
        = W m c (ix3 0 k ⟨n / 8 * 512 + q.val, by have := lt64 ⟨n, hn⟩; dsimp only at this; omega⟩) := by
  intro n
  induction n using Nat.strong_induction_on with
  | _ n ih =>
    intro hn k q
    by_cases h0 : n % 8 = 0
    · rw [outsAt0_A m c ⟨n, hn⟩ h0]
      dsimp only
      rw [sout_A]
      exact (pay1_apply _ k q).trans (iblk1 m c ⟨n, hn⟩ k q)
    · rw [outsAt0_B m c ⟨n, hn⟩ h0]
      dsimp only
      unfold sout0_B_0
      have hd : (n - 1) / 8 = n / 8 := by omega
      have a := ih (n - 1) (by omega) (by omega) k q
      simp only [hd] at a
      exact a

/-- The block that point `t` writes is what the scratch after it gives. -/
theorem out_eq (c : Dev nD) (t : Fin cfg0.N) :
    (outsAt0 m c t.val t.isLt).1 = k0_pay2 (iblk m c 0 t) (outsAt0 m c t.val t.isLt).2 (iblk m c 2 t) := by
  by_cases h0 : t.val % 8 = 0
  · rw [outsAt0_A m c t h0]; dsimp only; rw [out_A, sout_A]
  · rw [outsAt0_B m c t h0]; dsimp only; rw [out_B]; rfl

open Cert.Reference8Ideal.Read in
/-- The reference's result at an index. -/
theorem ref_apply (h : FVec Ideal S8320x4096 .bf16) (w : FVec Ideal S1x4096x4096 .f32) (x : FVec Ideal S8320x4096 .f32) (r : Fin 8320) (q : Fin 4096) :
    (val_main_v3 (F := Ideal) h w x : FVec Ideal S8320x4096 .f32) (ix2 r q) = ((x (ix2 r q) + ∑ k : Fin 4096, h (ix2 r k) * w (ix3 0 k q)) : EReal) := by
  pointwise [val_main_v3, val_main_v2, val_main_v1, val_main_v0]

open Cert.Reference8Ideal.Read in
/-- An element of the block that point `t` writes is the reference's, at its place. -/
theorem point (c : Dev nD) (t : Fin cfg0.N) (r : Fin 1040) (q : Fin 512) :
    ((outsAt0 m c t.val t.isLt).1 : FVec Ideal S1040x512 .f32) (ix2 r q)
      = val_main_v3 (F := Ideal) (H m c) (W m c) (X m c)
          (ix2 ⟨t.val % 8 * 1040 + r.val, by omega⟩ ⟨t.val / 8 * 512 + q.val, by have := lt64 t; omega⟩) := by
  have hs := fun k => scratch_eq m c t.val t.isLt k q
  rw [out_eq, pay2_apply, ref_apply, iblk2]
  simp only [hs, iblk0]

theorem mem_blk3 (t : Fin cfg0.N) (i : S8320x4096.Idx) :
    i ∈ ((cfg0.win 3).blk t).view.set ↔ ∀ a : Fin 2, win0_3.index t a * S1040x512.size a ≤ (i a).val ∧ (i a).val < win0_3.index t a * S1040x512.size a + S1040x512.size a := by
  show i ∈ ((View.whole main_v0).slice (win0_3.rect t)).set ↔ _
  rw [View.set_slice_whole, Rect.mem_set_unit]
  exact Iff.rfl

theorem flush3 : ∀ t : Fin cfg0.N, (cfg0.win 3).flush t = true := (by decide +kernel : ∀ t : Fin grid0.N, win0_3.flush t = true)

open Cert.Reference8Ideal.Read in
/-- The array of the result after the run is the reference's. -/
theorem final3 (c : Dev nD) :
    (dats m 0 c).arrAt 3 cfg0.N = val_main_v3 (F := Ideal) (H m c) (W m c) (X m c) :=
  (dats m 0 c).arrAt_eq_of_cover 3 _ (fun t hf => by
    rw [Kernel8Ideal.Value.flushed3]
    obtain ⟨-, -, -, ⟨e0, e1⟩⟩ := idx_facts t
    funext y
    have hy0 : (y 0).val < 1040 := (y 0).isLt
    have hy1 : (y 1).val < 512 := (y 1).isLt
    have hx : (cfg0.win 3).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 3).blk t).view.emb y
        = ix2 ⟨(t.val % 8) * 1040 + (y 0).val, by have := lt64 t; omega⟩ ⟨(t.val / 8) * 512 + (y 1).val, by have := lt64 t; omega⟩ := by
      funext a; apply Fin.ext
      match a with
      | ⟨0, _⟩ => show win0_3.index t (0 : Fin 2) * 1040 + 1 * (y 0).val = (t.val % 8) * 1040 + (y 0).val; rw [e0]; omega
      | ⟨1, _⟩ => show win0_3.index t (1 : Fin 2) * 512 + 1 * (y 1).val = (t.val / 8) * 512 + (y 1).val; rw [e1]; omega
    show (outsAt0 m c t.val t.isLt).1 ((cfg0.win 3).xinj (grid0.coords t) y)
      = val_main_v3 (F := Ideal) (H m c) (W m c) (X m c) (((cfg0.win 3).blk t).view.emb y)
    rw [hx, he]
    exact point m c t _ _) (fun i => by
      have h0 : (i 0).val < 8320 := (i 0).isLt
      have h1 : (i 1).val < 4096 := (i 1).isLt
      let t : Fin cfg0.N := ⟨8 * ((i 1).val / 512) + (i 0).val / 1040, lt_of_lt_of_eq (by omega) N_0.symm⟩
      have ht : t.val = 8 * ((i 1).val / 512) + (i 0).val / 1040 := rfl
      refine ⟨t, flush3 t, ?_⟩
      obtain ⟨-, -, -, ⟨e0, e1⟩⟩ := idx_facts t
      rw [mem_blk3]
      intro a
      match a with
      | ⟨0, _⟩ =>
        show win0_3.index t (0 : Fin 2) * 1040 ≤ (i 0).val ∧ (i 0).val < win0_3.index t (0 : Fin 2) * 1040 + 1040
        rw [e0]; omega
      | ⟨1, _⟩ =>
        show win0_3.index t (1 : Fin 2) * 512 ≤ (i 1).val ∧ (i 1).val < win0_3.index t (1 : Fin 2) * 512 + 512
        rw [e1]; omega)

open Cert.Reference8Ideal.Read in
/-- THE VALUE CLAIM: on the same arguments both programs end with the same result. -/
theorem algebraic : Cert.algebraic_Kernel8Ideal_Reference8Ideal := by
  intro m g m' g' _ hagree
  refine ⟨fun c => val_main_v3 (F := Ideal) (H m c) (W m c) (X m c), ?_, ?_⟩
  · refine θ_run_mono (Kernel8Ideal.Value.run_blocks m g) fun r h c => ?_
    obtain ⟨h4, k0, k1, k2⟩ := h c
    exact ⟨h4.trans (final3 m c), k0, k1, k2⟩
  · refine θ_run_mono (Reference8Ideal.Value.run m' g') fun r h c => ?_
    obtain ⟨h4, k0, k1, k2⟩ := h c
    obtain ⟨a0, a1, a2⟩ := hagree c
    refine ⟨h4.trans ((val_main_v3_eq _ _ _).trans ?_), k0, k1, k2⟩
    rw [a0, a1, a2]

end Cert.MixOut

end
-- ==== Proof.OddIn.lean ====
/- The odd layer's input projection. -/
module

public import proofs.«01_k».proof.Proof.Scalars
public import proofs.«01_k».proof.Proof.FfnGu
public import proofs.«01_k».proof.Proof.Gen.Kernel9Ideal.Value
public import proofs.«01_k».proof.Proof.Gen.Reference9Ideal.Read
public import proofs.«01_k».proof.Proof.Gen.Reference9Ideal.Run
public import proofs.«01_k».proof.Defs
public import Idealize.ShloMosaic.Lib.Pointwise

@[expose] public section

set_option maxRecDepth 16384

noncomputable section

namespace Cert.OddIn

open Cert.Kernel9Ideal Cert.Kernel9Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block at a row and a column. -/
theorem pay2_apply (x : FVec Ideal S1040x4096 .bf16) (w : FVec Ideal S4096x512 .bf16) (r : Fin 1040) (q : Fin 512) :
    (k0_pay2 x w : FVec Ideal S1040x512 .f32) (ix2 r q) = ((∑ k : Fin 4096, x (ix2 r k) * w (ix2 k q)) : EReal) := by
  pointwise [k0_pay2]

/-- What the scratch receives is the weight's block, cast. -/
theorem pay1_apply (x : FVec Ideal S1x4096x512 .f32) (k : Fin 4096) (q : Fin 512) :
    (k0_pay1 x : FVec Ideal S4096x512 .bf16) (ix2 k q) = (x (ix3 0 k q) : EReal) := by
  pointwise [k0_pay1]

variable {F : FTy → Type} [FloatOps F]

theorem sout_A (c : Dev nD) (i : grid0.Coords) (a2 h2 a3 h3 a4 h4 a5 h5) (hc : cond0_0 i)
    (x0 : Vec F S1040x4096 .bf16) (x1 : Vec F S1x4096x512 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h2.read_unread, h3.read_unread, View.ld_unit_zero (S := S1040x4096) hz2, View.ld_unit_zero (S := S1x4096x512) hz3]

theorem out_A (c : Dev nD) (i : grid0.Coords) (a2 h2 a3 h3 a4 h4 a5 h5) (hc : cond0_0 i)
    (x0 : Vec F S1040x4096 .bf16) (x1 : Vec F S1x4096x512 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  rw [View.canon_unit_zero hz2]
  sl_unfold_words
  simp only [View.readAt_eq_ld, h2.read_unread, h3.read_unread, View.ld_unit_zero (S := S1040x4096) hz2, View.ld_unit_zero (S := S1x4096x512) hz3]
  rw [FfnGu.readCov_whole a5.view hz2, View.canon_unit_zero hz2]

theorem out_B (c : Dev nD) (i : grid0.Coords) (a2 h2 a3 h3 a4 h4 a5 h5) (hc : ¬cond0_0 i)
    (x0 : Vec F S1040x4096 .bf16) (x1 : Vec F S1x4096x512 .f32) (xs : Vec F S4096x512 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero hz2]
  simp only [View.readAt_eq_ld, h2.read_unread, h3.read_unread, h5.read_unread, View.ld_unit_zero (S := S1040x4096) hz2, View.ld_unit_zero (S := S1x4096x512) hz3, View.ld_unit_zero (S := S4096x512) hz2]

/-- Which block each window reads or writes at point `t`, decided over the grid. -/
theorem idx_facts : ∀ t : Fin cfg0.N,
    (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8) :=
  (by decide +kernel : ∀ t : Fin grid0.N, _)

variable (m : (ℓ : Loc nD τ sig) → Buf (Elt Ideal) ℓ)

/-- The arguments as arrays of extended reals. -/
abbrev H (c : Dev nD) : FVec Ideal S8320x4096 .bf16 := m ((c : Thread nD τ).loc main_arg0)
abbrev W (c : Dev nD) : FVec Ideal S1x4096x4096 .f32 := m ((c : Thread nD τ).loc main_arg1)

theorem lt64 (t : Fin cfg0.N) : t.val < 64 := lt_of_lt_of_eq t.isLt N_0

theorem iblk0 (c : Dev nD) (t : Fin cfg0.N) (r : Fin 1040) (k : Fin 4096) :
    (iblk m c 0 t : FVec Ideal S1040x4096 .bf16) (ix2 r k) = H m c (ix2 ⟨(t.val % 8) * 1040 + r.val, by have := lt64 t; omega⟩ k) := by
  obtain ⟨⟨e0, e1⟩, -⟩ := idx_facts t
  show H m c (((cfg0.win 0).blk t).view.emb (ix2 r k)) = _
  congr 1; funext a; apply Fin.ext
  match a with
  | ⟨0, _⟩ => show win0_0.index t (0 : Fin 2) * 1040 + 1 * r.val = (t.val % 8) * 1040 + r.val; rw [e0]; omega
  | ⟨1, _⟩ => show win0_0.index t (1 : Fin 2) * 4096 + 1 * k.val = k.val; omega

theorem iblk1 (c : Dev nD) (t : Fin cfg0.N) (k : Fin 4096) (q : Fin 512) :
    (iblk m c 1 t : FVec Ideal S1x4096x512 .f32) (ix3 0 k q) = W m c (ix3 0 k ⟨(t.val / 8) * 512 + q.val, by have := lt64 t; omega⟩) := by
  obtain ⟨-, ⟨e0, e1, e2⟩, -⟩ := idx_facts t
  show W m c (((cfg0.win 1).blk t).view.emb (ix3 0 k q)) = _
  congr 1; funext a; apply Fin.ext
  match a with
  | ⟨0, _⟩ => show win0_1.index t (0 : Fin 3) * 1 + 1 * 0 = 0; omega
  | ⟨1, _⟩ => show win0_1.index t (1 : Fin 3) * 4096 + 1 * k.val = k.val; omega
  | ⟨2, _⟩ => show win0_1.index t (2 : Fin 3) * 512 + 1 * q.val = (t.val / 8) * 512 + q.val; rw [e2]; omega

/-- What the weight scratch holds after point `n`: the columns of column block `n / 8`. -/
theorem scratch_eq (c : Dev nD) : ∀ (n : ℕ) (hn : n < cfg0.N) (k : Fin 4096) (q : Fin 512),
    ((outsAt0 m c n hn).2 : FVec Ideal S4096x512 .bf16) (ix2 k q)
        = W m c (ix3 0 k ⟨n / 8 * 512 + q.val, by have := lt64 ⟨n, hn⟩; dsimp only at this; omega⟩) := by
  intro n
  induction n using Nat.strong_induction_on with
  | _ n ih =>
    intro hn k q
    by_cases h0 : n % 8 = 0
    · rw [outsAt0_A m c ⟨n, hn⟩ h0]
      dsimp only
      rw [sout_A]
      exact (pay1_apply _ k q).trans (iblk1 m c ⟨n, hn⟩ k q)
    · rw [outsAt0_B m c ⟨n, hn⟩ h0]
      dsimp only
      unfold sout0_B_0
      have hd : (n - 1) / 8 = n / 8 := by omega
      have a := ih (n - 1) (by omega) (by omega) k q
      simp only [hd] at a
      exact a

/-- The block that point `t` writes is what the scratch after it gives. -/
theorem out_eq (c : Dev nD) (t : Fin cfg0.N) :
    (outsAt0 m c t.val t.isLt).1 = k0_pay2 (iblk m c 0 t) (outsAt0 m c t.val t.isLt).2 := by
  by_cases h0 : t.val % 8 = 0
  · rw [outsAt0_A m c t h0]; dsimp only; rw [out_A, sout_A]
  · rw [outsAt0_B m c t h0]; dsimp only; rw [out_B]; rfl

open Cert.Reference9Ideal.Read in
/-- The reference's result at an index. -/
theorem ref_apply (h : FVec Ideal S8320x4096 .bf16) (w : FVec Ideal S1x4096x4096 .f32) (r : Fin 8320) (q : Fin 4096) :
    (val_main_v2 (F := Ideal) h w : FVec Ideal S8320x4096 .f32) (ix2 r q) = ((∑ k : Fin 4096, h (ix2 r k) * w (ix3 0 k q)) : EReal) := by
  pointwise [val_main_v2, val_main_v1, val_main_v0]

open Cert.Reference9Ideal.Read in
/-- An element of the block that point `t` writes is the reference's, at its place. -/
theorem point (c : Dev nD) (t : Fin cfg0.N) (r : Fin 1040) (q : Fin 512) :
    ((outsAt0 m c t.val t.isLt).1 : FVec Ideal S1040x512 .f32) (ix2 r q)
      = val_main_v2 (F := Ideal) (H m c) (W m c)
          (ix2 ⟨t.val % 8 * 1040 + r.val, by omega⟩ ⟨t.val / 8 * 512 + q.val, by have := lt64 t; omega⟩) := by
  have hs := fun k => scratch_eq m c t.val t.isLt k q
  rw [out_eq, pay2_apply, ref_apply]
  simp only [hs, iblk0]

theorem mem_blk2 (t : Fin cfg0.N) (i : S8320x4096.Idx) :
    i ∈ ((cfg0.win 2).blk t).view.set ↔ ∀ a : Fin 2, win0_2.index t a * S1040x512.size a ≤ (i a).val ∧ (i a).val < win0_2.index t a * S1040x512.size a + S1040x512.size a := by
  show i ∈ ((View.whole main_v0).slice (win0_2.rect t)).set ↔ _
  rw [View.set_slice_whole, Rect.mem_set_unit]
  exact Iff.rfl

theorem flush2 : ∀ t : Fin cfg0.N, (cfg0.win 2).flush t = true := (by decide +kernel : ∀ t : Fin grid0.N, win0_2.flush t = true)

open Cert.Reference9Ideal.Read in
/-- The array of the result after the run is the reference's. -/
theorem final2 (c : Dev nD) :
    (dats m 0 c).arrAt 2 cfg0.N = val_main_v2 (F := Ideal) (H m c) (W m c) :=
  (dats m 0 c).arrAt_eq_of_cover 2 _ (fun t hf => by
    rw [Kernel9Ideal.Value.flushed2]
    obtain ⟨-, -, ⟨e0, e1⟩⟩ := idx_facts t
    funext y
    have hy0 : (y 0).val < 1040 := (y 0).isLt
    have hy1 : (y 1).val < 512 := (y 1).isLt
    have hx : (cfg0.win 2).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 2).blk t).view.emb y
        = ix2 ⟨(t.val % 8) * 1040 + (y 0).val, by have := lt64 t; omega⟩ ⟨(t.val / 8) * 512 + (y 1).val, by have := lt64 t; omega⟩ := by
      funext a; apply Fin.ext
      match a with
      | ⟨0, _⟩ => show win0_2.index t (0 : Fin 2) * 1040 + 1 * (y 0).val = (t.val % 8) * 1040 + (y 0).val; rw [e0]; omega
      | ⟨1, _⟩ => show win0_2.index t (1 : Fin 2) * 512 + 1 * (y 1).val = (t.val / 8) * 512 + (y 1).val; rw [e1]; omega
    show (outsAt0 m c t.val t.isLt).1 ((cfg0.win 2).xinj (grid0.coords t) y)
      = val_main_v2 (F := Ideal) (H m c) (W m c) (((cfg0.win 2).blk t).view.emb y)
    rw [hx, he]
    exact point m c t _ _) (fun i => by
      have h0 : (i 0).val < 8320 := (i 0).isLt
      have h1 : (i 1).val < 4096 := (i 1).isLt
      let t : Fin cfg0.N := ⟨8 * ((i 1).val / 512) + (i 0).val / 1040, lt_of_lt_of_eq (by omega) N_0.symm⟩
      have ht : t.val = 8 * ((i 1).val / 512) + (i 0).val / 1040 := rfl
      refine ⟨t, flush2 t, ?_⟩
      obtain ⟨-, -, ⟨e0, e1⟩⟩ := idx_facts t
      rw [mem_blk2]
      intro a
      match a with
      | ⟨0, _⟩ =>
        show win0_2.index t (0 : Fin 2) * 1040 ≤ (i 0).val ∧ (i 0).val < win0_2.index t (0 : Fin 2) * 1040 + 1040
        rw [e0]; omega
      | ⟨1, _⟩ =>
        show win0_2.index t (1 : Fin 2) * 512 ≤ (i 1).val ∧ (i 1).val < win0_2.index t (1 : Fin 2) * 512 + 512
        rw [e1]; omega)

open Cert.Reference9Ideal.Read in
/-- THE VALUE CLAIM: on the same arguments both programs end with the same result. -/
theorem algebraic : Cert.algebraic_Kernel9Ideal_Reference9Ideal := by
  intro m g m' g' _ hagree
  refine ⟨fun c => val_main_v2 (F := Ideal) (H m c) (W m c), ?_, ?_⟩
  · refine θ_run_mono (Kernel9Ideal.Value.run_blocks m g) fun r h c => ?_
    obtain ⟨h4, k0, k1⟩ := h c
    exact ⟨h4.trans (final2 m c), k0, k1⟩
  · refine θ_run_mono (Reference9Ideal.Value.run m' g') fun r h c => ?_
    obtain ⟨h4, k0, k1⟩ := h c
    obtain ⟨a0, a1⟩ := hagree c
    refine ⟨h4.trans ((val_main_v2_eq _ _).trans ?_), k0, k1⟩
    rw [a0, a1]

end Cert.OddIn

end
-- ==== Proof.OddGate.lean ====
/- The odd layer's gate: the rows times the logistic of their projection. -/
module

public import proofs.«01_k».proof.Proof.Scalars
public import proofs.«01_k».proof.Proof.FfnGu
public import proofs.«01_k».proof.Proof.Gen.Kernel10Ideal.Value
public import proofs.«01_k».proof.Proof.Gen.Reference10Ideal.Read
public import proofs.«01_k».proof.Proof.Gen.Reference10Ideal.Run
public import proofs.«01_k».proof.Defs
public import Idealize.ShloMosaic.Lib.Pointwise

@[expose] public section

set_option maxRecDepth 16384

noncomputable section

namespace Cert.OddGate

open Cert.Kernel10Ideal Cert.Kernel10Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block at a row and a column. -/
theorem pay2_apply (x : FVec Ideal S1040x4096 .bf16) (w : FVec Ideal S4096x512 .bf16) (z : FVec Ideal S1040x512 .bf16) (r : Fin 1040) (q : Fin 512) :
    (k0_pay2 x w z : FVec Ideal S1040x512 .bf16) (ix2 r q) = ((z (ix2 r q) * (((1 / 2 : ℝ) : EReal) * (1 + Ideal.tanh (((1 / 2 : ℝ) : EReal) * ∑ k : Fin 4096, x (ix2 r k) * w (ix2 k q))))) : EReal) := by
  pointwise [k0_pay2]
  rw [Scalars.bits_half]

/-- What the scratch receives is the weight's block, cast. -/
theorem pay1_apply (x : FVec Ideal S1x4096x512 .f32) (k : Fin 4096) (q : Fin 512) :
    (k0_pay1 x : FVec Ideal S4096x512 .bf16) (ix2 k q) = (x (ix3 0 k q) : EReal) := by
  pointwise [k0_pay1]

variable {F : FTy → Type} [FloatOps F]

theorem sout_A (c : Dev nD) (i : grid0.Coords) (a2 h2 a3 h3 a4 h4 a5 h5 a6 h6) (hc : cond0_0 i)
    (x0 : Vec F S1040x4096 .bf16) (x1 : Vec F S1x4096x512 .f32) (x2 : Vec F S1040x512 .bf16) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, h4.read_unread, View.ld_unit_zero (S := S1040x4096) hz2, View.ld_unit_zero (S := S1x4096x512) hz3, View.ld_unit_zero (S := S1040x512) hz2]

theorem out_A (c : Dev nD) (i : grid0.Coords) (a2 h2 a3 h3 a4 h4 a5 h5 a6 h6) (hc : cond0_0 i)
    (x0 : Vec F S1040x4096 .bf16) (x1 : Vec F S1x4096x512 .f32) (x2 : Vec F S1040x512 .bf16) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  rw [View.canon_unit_zero hz2]
  sl_unfold_words
  simp only [View.readAt_eq_ld, h2.read_unread, h3.read_unread, h4.read_unread, View.ld_unit_zero (S := S1040x4096) hz2, View.ld_unit_zero (S := S1x4096x512) hz3, View.ld_unit_zero (S := S1040x512) hz2]
  rw [FfnGu.readCov_whole a6.view hz2, View.canon_unit_zero hz2]

theorem out_B (c : Dev nD) (i : grid0.Coords) (a2 h2 a3 h3 a4 h4 a5 h5 a6 h6) (hc : ¬cond0_0 i)
    (x0 : Vec F S1040x4096 .bf16) (x1 : Vec F S1x4096x512 .f32) (x2 : Vec F S1040x512 .bf16) (xs : Vec F S4096x512 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h2.read_unread, h3.read_unread, h4.read_unread, h6.read_unread, View.ld_unit_zero (S := S1040x4096) hz2, View.ld_unit_zero (S := S1x4096x512) hz3, View.ld_unit_zero (S := S1040x512) hz2, View.ld_unit_zero (S := S4096x512) hz2]

/-- Which block each window reads or writes at point `t`, decided over the grid. -/
theorem idx_facts : ∀ t : Fin cfg0.N,
    (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8)
    ∧ (win0_3.index t (0 : Fin 2) = t.val % 8 ∧ win0_3.index t (1 : Fin 2) = t.val / 8) :=
  (by decide +kernel : ∀ t : Fin grid0.N, _)

variable (m : (ℓ : Loc nD τ sig) → Buf (Elt Ideal) ℓ)

/-- The arguments as arrays of extended reals. -/
abbrev H (c : Dev nD) : FVec Ideal S8320x4096 .bf16 := m ((c : Thread nD τ).loc main_arg0)
abbrev W (c : Dev nD) : FVec Ideal S1x4096x4096 .f32 := m ((c : Thread nD τ).loc main_arg1)

theorem lt64 (t : Fin cfg0.N) : t.val < 64 := lt_of_lt_of_eq t.isLt N_0

theorem iblk0 (c : Dev nD) (t : Fin cfg0.N) (r : Fin 1040) (k : Fin 4096) :
    (iblk m c 0 t : FVec Ideal S1040x4096 .bf16) (ix2 r k) = H m c (ix2 ⟨(t.val % 8) * 1040 + r.val, by have := lt64 t; omega⟩ k) := by
  obtain ⟨⟨e0, e1⟩, -⟩ := idx_facts t
  show H m c (((cfg0.win 0).blk t).view.emb (ix2 r k)) = _
  congr 1; funext a; apply Fin.ext
  match a with
  | ⟨0, _⟩ => show win0_0.index t (0 : Fin 2) * 1040 + 1 * r.val = (t.val % 8) * 1040 + r.val; rw [e0]; omega
  | ⟨1, _⟩ => show win0_0.index t (1 : Fin 2) * 4096 + 1 * k.val = k.val; omega

theorem iblk1 (c : Dev nD) (t : Fin cfg0.N) (k : Fin 4096) (q : Fin 512) :
    (iblk m c 1 t : FVec Ideal S1x4096x512 .f32) (ix3 0 k q) = W m c (ix3 0 k ⟨(t.val / 8) * 512 + q.val, by have := lt64 t; omega⟩) := by
  obtain ⟨-, ⟨e0, e1, e2⟩, -⟩ := idx_facts t
  show W m c (((cfg0.win 1).blk t).view.emb (ix3 0 k q)) = _
  congr 1; funext a; apply Fin.ext
  match a with
  | ⟨0, _⟩ => show win0_1.index t (0 : Fin 3) * 1 + 1 * 0 = 0; omega
  | ⟨1, _⟩ => show win0_1.index t (1 : Fin 3) * 4096 + 1 * k.val = k.val; omega
  | ⟨2, _⟩ => show win0_1.index t (2 : Fin 3) * 512 + 1 * q.val = (t.val / 8) * 512 + q.val; rw [e2]; omega

theorem iblk2 (c : Dev nD) (t : Fin cfg0.N) (r : Fin 1040) (q : Fin 512) :
    (iblk m c 2 t : FVec Ideal S1040x512 .bf16) (ix2 r q) = H m c (ix2 ⟨(t.val % 8) * 1040 + r.val, by have := lt64 t; omega⟩ ⟨(t.val / 8) * 512 + q.val, by have := lt64 t; omega⟩) := by
  obtain ⟨-, -, ⟨e0, e1⟩, -⟩ := idx_facts t
  show H m c (((cfg0.win 2).blk t).view.emb (ix2 r q)) = _
  congr 1; funext a; apply Fin.ext
  match a with
  | ⟨0, _⟩ => show win0_2.index t (0 : Fin 2) * 1040 + 1 * r.val = (t.val % 8) * 1040 + r.val; rw [e0]; omega
  | ⟨1, _⟩ => show win0_2.index t (1 : Fin 2) * 512 + 1 * q.val = (t.val / 8) * 512 + q.val; rw [e1]; omega

/-- What the weight scratch holds after point `n`: the columns of column block `n / 8`. -/
theorem scratch_eq (c : Dev nD) : ∀ (n : ℕ) (hn : n < cfg0.N) (k : Fin 4096) (q : Fin 512),
    ((outsAt0 m c n hn).2 : FVec Ideal S4096x512 .bf16) (ix2 k q)
        = W m c (ix3 0 k ⟨n / 8 * 512 + q.val, by have := lt64 ⟨n, hn⟩; dsimp only at this; omega⟩) := by
  intro n
  induction n using Nat.strong_induction_on with
  | _ n ih =>
    intro hn k q
    by_cases h0 : n % 8 = 0
    · rw [outsAt0_A m c ⟨n, hn⟩ h0]
      dsimp only
      rw [sout_A]
      exact (pay1_apply _ k q).trans (iblk1 m c ⟨n, hn⟩ k q)
    · rw [outsAt0_B m c ⟨n, hn⟩ h0]
      dsimp only
      unfold sout0_B_0
      have hd : (n - 1) / 8 = n / 8 := by omega
      have a := ih (n - 1) (by omega) (by omega) k q
      simp only [hd] at a
      exact a

/-- The block that point `t` writes is what the scratch after it gives. -/
theorem out_eq (c : Dev nD) (t : Fin cfg0.N) :
    (outsAt0 m c t.val t.isLt).1 = k0_pay2 (iblk m c 0 t) (outsAt0 m c t.val t.isLt).2 (iblk m c 2 t) := by
  by_cases h0 : t.val % 8 = 0
  · rw [outsAt0_A m c t h0]; dsimp only; rw [out_A, sout_A]
  · rw [outsAt0_B m c t h0]; dsimp only; rw [out_B]; rfl

open Cert.Reference10Ideal.Read in
/-- The reference's result at an index. -/
theorem ref_apply (h : FVec Ideal S8320x4096 .bf16) (w : FVec Ideal S1x4096x4096 .f32) (r : Fin 8320) (q : Fin 4096) :
    (val_main_v10 (F := Ideal) h w : FVec Ideal S8320x4096 .bf16) (ix2 r q) = ((h (ix2 r q) * Ideal.div 1 (1 + Ideal.exp (-∑ k : Fin 4096, h (ix2 r k) * w (ix3 0 k q)))) : EReal) := by
  pointwise [val_main_v10, val_main_v9, val_main_v8, val_main_v7, val_main_cst_0, val_main_v6, val_main_v5, val_main_cst, val_main_v4, val_main_v3, val_main_v2, val_main_v1, val_main_v0]

open Cert.Reference10Ideal.Read in
/-- An element of the block that point `t` writes is the reference's, at its place. -/
theorem point (c : Dev nD) (t : Fin cfg0.N) (r : Fin 1040) (q : Fin 512) :
    ((outsAt0 m c t.val t.isLt).1 : FVec Ideal S1040x512 .bf16) (ix2 r q)
      = val_main_v10 (F := Ideal) (H m c) (W m c)
          (ix2 ⟨t.val % 8 * 1040 + r.val, by omega⟩ ⟨t.val / 8 * 512 + q.val, by have := lt64 t; omega⟩) := by
  have hs := fun k => scratch_eq m c t.val t.isLt k q
  rw [out_eq, pay2_apply, ref_apply, iblk2, Scalars.logistic]
  simp only [hs, iblk0]

theorem mem_blk3 (t : Fin cfg0.N) (i : S8320x4096.Idx) :
    i ∈ ((cfg0.win 3).blk t).view.set ↔ ∀ a : Fin 2, win0_3.index t a * S1040x512.size a ≤ (i a).val ∧ (i a).val < win0_3.index t a * S1040x512.size a + S1040x512.size a := by
  show i ∈ ((View.whole main_v0).slice (win0_3.rect t)).set ↔ _
  rw [View.set_slice_whole, Rect.mem_set_unit]
  exact Iff.rfl

theorem flush3 : ∀ t : Fin cfg0.N, (cfg0.win 3).flush t = true := (by decide +kernel : ∀ t : Fin grid0.N, win0_3.flush t = true)

open Cert.Reference10Ideal.Read in
/-- The array of the result after the run is the reference's. -/
theorem final3 (c : Dev nD) :
    (dats m 0 c).arrAt 3 cfg0.N = val_main_v10 (F := Ideal) (H m c) (W m c) :=
  (dats m 0 c).arrAt_eq_of_cover 3 _ (fun t hf => by
    rw [Kernel10Ideal.Value.flushed3]
    obtain ⟨-, -, -, ⟨e0, e1⟩⟩ := idx_facts t
    funext y
    have hy0 : (y 0).val < 1040 := (y 0).isLt
    have hy1 : (y 1).val < 512 := (y 1).isLt
    have hx : (cfg0.win 3).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 3).blk t).view.emb y
        = ix2 ⟨(t.val % 8) * 1040 + (y 0).val, by have := lt64 t; omega⟩ ⟨(t.val / 8) * 512 + (y 1).val, by have := lt64 t; omega⟩ := by
      funext a; apply Fin.ext
      match a with
      | ⟨0, _⟩ => show win0_3.index t (0 : Fin 2) * 1040 + 1 * (y 0).val = (t.val % 8) * 1040 + (y 0).val; rw [e0]; omega
      | ⟨1, _⟩ => show win0_3.index t (1 : Fin 2) * 512 + 1 * (y 1).val = (t.val / 8) * 512 + (y 1).val; rw [e1]; omega
    show (outsAt0 m c t.val t.isLt).1 ((cfg0.win 3).xinj (grid0.coords t) y)
      = val_main_v10 (F := Ideal) (H m c) (W m c) (((cfg0.win 3).blk t).view.emb y)
    rw [hx, he]
    exact point m c t _ _) (fun i => by
      have h0 : (i 0).val < 8320 := (i 0).isLt
      have h1 : (i 1).val < 4096 := (i 1).isLt
      let t : Fin cfg0.N := ⟨8 * ((i 1).val / 512) + (i 0).val / 1040, lt_of_lt_of_eq (by omega) N_0.symm⟩
      have ht : t.val = 8 * ((i 1).val / 512) + (i 0).val / 1040 := rfl
      refine ⟨t, flush3 t, ?_⟩
      obtain ⟨-, -, -, ⟨e0, e1⟩⟩ := idx_facts t
      rw [mem_blk3]
      intro a
      match a with
      | ⟨0, _⟩ =>
        show win0_3.index t (0 : Fin 2) * 1040 ≤ (i 0).val ∧ (i 0).val < win0_3.index t (0 : Fin 2) * 1040 + 1040
        rw [e0]; omega
      | ⟨1, _⟩ =>
        show win0_3.index t (1 : Fin 2) * 512 ≤ (i 1).val ∧ (i 1).val < win0_3.index t (1 : Fin 2) * 512 + 512
        rw [e1]; omega)

open Cert.Reference10Ideal.Read in
/-- THE VALUE CLAIM: on the same arguments both programs end with the same result. -/
theorem algebraic : Cert.algebraic_Kernel10Ideal_Reference10Ideal := by
  intro m g m' g' _ hagree
  refine ⟨fun c => val_main_v10 (F := Ideal) (H m c) (W m c), ?_, ?_⟩
  · refine θ_run_mono (Kernel10Ideal.Value.run_blocks m g) fun r h c => ?_
    obtain ⟨h4, k0, k1⟩ := h c
    exact ⟨h4.trans (final3 m c), k0, k1⟩
  · refine θ_run_mono (Reference10Ideal.Value.run m' g') fun r h c => ?_
    obtain ⟨h4, k0, k1⟩ := h c
    obtain ⟨a0, a1⟩ := hagree c
    refine ⟨h4.trans ((val_main_v10_eq _ _).trans ?_), k0, k1⟩
    rw [a0, a1]

end Cert.OddGate

end
-- ==== Proof.RmsNorm.lean ====
/- The norm in front of a projection: every row over the root of its mean square, times the gain. -/
module

public import proofs.«01_k».proof.Proof.FfnGu
public import proofs.«01_k».proof.Proof.Gen.Kernel11Ideal.Value
public import proofs.«01_k».proof.Proof.Gen.Reference11Ideal.Read
public import proofs.«01_k».proof.Proof.Gen.Reference11Ideal.Run
public import proofs.«01_k».proof.Defs
public import Idealize.ShloMosaic.Lib.Pointwise

@[expose] public section

set_option maxRecDepth 16384

noncomputable section

namespace Cert.RmsNorm

open Cert.Kernel11Ideal Cert.Kernel11Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- A row over the root of its mean square, times the gain. -/
def rms (x g : Fin 4096 → EReal) (j : Fin 4096) : EReal :=
  x j * Ideal.rsqrt (Ideal.div (∑ k, x k * x k) (Ideal.ofBits .f32 0x45800000#32) + Ideal.ofBits .f32 0x358637BD#32) * g j

/-- The stored block at a row and a column. -/
theorem pay1_apply (x : FVec Ideal S416x4096 .f32) (g : FVec Ideal S1x4096 .f32) (r : Fin 416) (j : Fin 4096) :
    (k0_pay1 x g : FVec Ideal S416x4096 .bf16) (ix2 r j) = rms (fun k => x (ix2 r k)) (fun k => g (ix2 0 k)) j := by
  pointwise [k0_pay1, rms]

/-- Which block each window reads or writes at point `t`, decided over the grid. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ)

/-- The arguments as arrays of extended reals. -/
abbrev X (c : Dev nD) : FVec Ideal S8320x4096 .f32 := m ((c : Thread nD τ).loc main_arg0)
abbrev G (c : Dev nD) : FVec Ideal S4096 .f32 := m ((c : Thread nD τ).loc main_arg1)

theorem lt20 (t : Fin cfg0.N) : t.val < 20 := lt_of_lt_of_eq t.isLt N_0

/-- The gain as the host hands it over: one row. -/
theorem V0 (c : Dev nD) (j : Fin 4096) : (V m c main_v0 : FVec Ideal S1x4096 .f32) (ix2 0 j) = G m c (ix1 j) := by
  have e : (V m c main_v0 : FVec Ideal S1x4096 .f32) = shapeCast S1x4096 (G m c) shapeCasts_S4096_S1x4096 := by
    unfold_abbrev_sides
    after_results
    rfl
  rw [e]
  pointwise []

theorem iblk0 (c : Dev nD) (t : Fin cfg0.N) (r : Fin 416) (k : Fin 4096) :
    (iblk m c 0 t : FVec Ideal S416x4096 .f32) (ix2 r k) = X m c (ix2 ⟨t.val * 416 + r.val, by have := lt20 t; omega⟩ k) := by
  obtain ⟨⟨e0, e1⟩, -⟩ := idx_facts t
  show (V m c main_arg0 : FVec Ideal S8320x4096 .f32) (((cfg0.win 0).blk t).view.emb (ix2 r k)) = _
  rw [V_main_arg0]
  show X m c _ = _
  congr 1; funext a; apply Fin.ext
  match a with
  | ⟨0, _⟩ => show win0_0.index t (0 : Fin 2) * 416 + 1 * r.val = t.val * 416 + r.val; rw [e0]; omega
  | ⟨1, _⟩ => show win0_0.index t (1 : Fin 2) * 4096 + 1 * k.val = k.val; omega

theorem iblk1 (c : Dev nD) (t : Fin cfg0.N) (k : Fin 4096) :
    (iblk m c 1 t : FVec Ideal S1x4096 .f32) (ix2 0 k) = G m c (ix1 k) := by
  obtain ⟨-, ⟨e0, e1⟩, -⟩ := idx_facts t
  rw [← V0 m c k]
  show (V m c main_v0 : FVec Ideal S1x4096 .f32) (((cfg0.win 1).blk t).view.emb (ix2 0 k)) = _
  congr 1; funext a; apply Fin.ext
  match a with
  | ⟨0, _⟩ => show win0_1.index t (0 : Fin 2) * 1 + 1 * 0 = 0; omega
  | ⟨1, _⟩ => show win0_1.index t (1 : Fin 2) * 4096 + 1 * k.val = k.val; omega

open Cert.Reference11Ideal.Read in
/-- The reference's result at an index. -/
theorem ref_apply (x : FVec Ideal S8320x4096 .f32) (g : FVec Ideal S4096 .f32) (r : Fin 8320) (j : Fin 4096) :
    (val_main_v13 (F := Ideal) x g : FVec Ideal S8320x4096 .bf16) (ix2 r j) = rms (fun k => x (ix2 r k)) (fun k => g (ix1 k)) j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

open Cert.Reference11Ideal.Read in
/-- An element of the block that point `t` writes is the reference's, at its place. -/
theorem point (c : Dev nD) (t : Fin cfg0.N) (r : Fin 416) (j : Fin 4096) :
    (out0_2 (iblk m c 0 t) (iblk m c 1 t) : FVec Ideal S416x4096 .bf16) (ix2 r j)
      = val_main_v13 (F := Ideal) (X m c) (G m c) (ix2 ⟨t.val * 416 + r.val, by have := lt20 t; omega⟩ j) := by
  unfold out0_2
  rw [View.canon_unit_zero hz2, View.ld_unit_zero (S := S416x4096) hz2, View.ld_unit_zero (S := S1x4096) hz2, pay1_apply, ref_apply]
  simp only [iblk0, iblk1]

theorem mem_blk2 (t : Fin cfg0.N) (i : S8320x4096.Idx) :
    i ∈ ((cfg0.win 2).blk t).view.set ↔ ∀ a : Fin 2, win0_2.index t a * S416x4096.size a ≤ (i a).val ∧ (i a).val < win0_2.index t a * S416x4096.size a + S416x4096.size a := by
  show i ∈ ((View.whole main_v1).slice (win0_2.rect t)).set ↔ _
  rw [View.set_slice_whole, Rect.mem_set_unit]
  exact Iff.rfl

theorem flush2 : ∀ t : Fin cfg0.N, (cfg0.win 2).flush t = true := (by decide +kernel : ∀ t : Fin grid0.N, win0_2.flush t = true)

open Cert.Reference11Ideal.Read in
/-- The array of the result after the run is the reference's. -/
theorem final2 (c : Dev nD) :
    (dats m 0 c).arrAt 2 cfg0.N = val_main_v13 (F := Ideal) (X m c) (G m c) :=
  (dats m 0 c).arrAt_eq_of_cover 2 _ (fun t hf => by
    rw [Kernel11Ideal.Value.flushed2]
    obtain ⟨-, -, ⟨e0, e1⟩⟩ := idx_facts t
    funext y
    have hy0 : (y 0).val < 416 := (y 0).isLt
    have hy1 : (y 1).val < 4096 := (y 1).isLt
    have hx : (cfg0.win 2).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 2).blk t).view.emb y
        = ix2 ⟨t.val * 416 + (y 0).val, by have := lt20 t; omega⟩ ⟨(y 1).val, hy1⟩ := by
      funext a; apply Fin.ext
      match a with
      | ⟨0, _⟩ => show win0_2.index t (0 : Fin 2) * 416 + 1 * (y 0).val = t.val * 416 + (y 0).val; rw [e0]; omega
      | ⟨1, _⟩ => show win0_2.index t (1 : Fin 2) * 4096 + 1 * (y 1).val = (y 1).val; rw [e1]; omega
    show (out0_2 (iblk m c 0 t) (iblk m c 1 t)) ((cfg0.win 2).xinj (grid0.coords t) y)
      = val_main_v13 (F := Ideal) (X m c) (G m c) (((cfg0.win 2).blk t).view.emb y)
    rw [hx, he]
    exact point m c t _ _) (fun i => by
      have h0 : (i 0).val < 8320 := (i 0).isLt
      have h1 : (i 1).val < 4096 := (i 1).isLt
      let t : Fin cfg0.N := ⟨(i 0).val / 416, lt_of_lt_of_eq (by omega) N_0.symm⟩
      have ht : t.val = (i 0).val / 416 := rfl
      refine ⟨t, flush2 t, ?_⟩
      obtain ⟨-, -, ⟨e0, e1⟩⟩ := idx_facts t
      rw [mem_blk2]
      intro a
      match a with
      | ⟨0, _⟩ =>
        show win0_2.index t (0 : Fin 2) * 416 ≤ (i 0).val ∧ (i 0).val < win0_2.index t (0 : Fin 2) * 416 + 416
        rw [e0]; omega
      | ⟨1, _⟩ =>
        show win0_2.index t (1 : Fin 2) * 4096 ≤ (i 1).val ∧ (i 1).val < win0_2.index t (1 : Fin 2) * 4096 + 4096
        rw [e1]; omega)

open Cert.Reference11Ideal.Read in
/-- THE VALUE CLAIM: on the same arguments both programs end with the same result. -/
theorem algebraic : Cert.algebraic_Kernel11Ideal_Reference11Ideal := by
  intro m g m' g' _ hagree
  refine ⟨fun c => val_main_v13 (F := Ideal) (X m c) (G m c), ?_, ?_⟩
  · refine θ_run_mono (Kernel11Ideal.Value.run_blocks m g) fun r h c => ?_
    obtain ⟨h4, k0, k1⟩ := h c
    exact ⟨h4.trans (final2 m c), k0, k1⟩
  · refine θ_run_mono (Reference11Ideal.Value.run m' g') fun r h c => ?_
    obtain ⟨h4, k0, k1⟩ := h c
    obtain ⟨a0, a1⟩ := hagree c
    refine ⟨h4.trans ((val_main_v13_eq _ _).trans ?_), k0, k1⟩
    rw [a0, a1]

end Cert.RmsNorm

end
-- ==== Proof.MergeNorm.lean ====
/- The first norm: the prompt's rows, the sample's rows and rows of zeros laid out in one array, and every row over the
   root of its mean square, times the gain. -/
module

public import proofs.«01_k».proof.Proof.RmsNorm
public import proofs.«01_k».proof.Proof.Gen.Kernel12Ideal.Value
public import proofs.«01_k».proof.Proof.Gen.Reference12Ideal.Read
public import proofs.«01_k».proof.Proof.Gen.Reference12Ideal.Run
public import proofs.«01_k».proof.Defs
public import Idealize.ShloMosaic.Lib.Pointwise

@[expose] public section

set_option maxRecDepth 16384

noncomputable section

namespace Cert.MergeNorm

open Cert.Kernel12Ideal Cert.Kernel12Ideal.Gen Idealize.ShloMosaic Idealize.ShloMosaic.TcCoe Idealize.SL.Sem
open Idealize.ShloMosaic.Pipeline (Dat)
open Cert.RmsNorm (rms hz2)

/-- A row of zeros stays zero. -/
theorem rms_zero (g : Fin 4096 → EReal) (j : Fin 4096) : rms (fun _ => 0) g j = 0 := by
  unfold rms; rw [zero_mul, zero_mul]

/-- The block of normed prompt rows. -/
theorem pay2_apply (g : FVec Ideal S1x4096 .f32) (x : FVec Ideal S128x4096 .f32) (r : Fin 128) (j : Fin 4096) :
    (k0_pay2 g x : FVec Ideal S128x4096 .bf16) (ix2 r j) = rms (fun k => x (ix2 r k)) (fun k => g (ix2 0 k)) j := by
  pointwise [k0_pay2, k0_pay1, rms]

/-- The block of normed sample rows. -/
theorem pay4_apply (g : FVec Ideal S1x4096 .f32) (x : FVec Ideal S32x4096 .f32) (r : Fin 32) (j : Fin 4096) :
    (k0_pay4 g x : FVec Ideal S32x4096 .bf16) (ix2 r j) = rms (fun k => x (ix2 r k)) (fun k => g (ix2 0 k)) j := by
  pointwise [k0_pay4, k0_pay1, rms]

/-- The rows of zeros. -/
theorem pay3_apply (r : Fin 96) (j : Fin 4096) : (k0_pay3 (F := Ideal) : FVec Ideal S96x4096 .f32) (ix2 r j) = (0 : EReal) := by
  pointwise [k0_pay3]

theorem pay5_apply (r : Fin 96) (j : Fin 4096) : (k0_pay5 (F := Ideal) : FVec Ideal S96x4096 .bf16) (ix2 r j) = (0 : EReal) := by
  pointwise [k0_pay5]

variable {F : FTy → Type} [FloatOps F]

theorem out3_A (c : Dev nD) (i : grid0.Coords) (a1 h1 a2 h2 a3 h3 a4 h4 a5 h5) (hc : cond0_0 i) (hd : ¬cond0_1 i)
    (x0 : Vec F S128x4096 .f32) (x1 : Vec F S32x4096 .f32) (x2 : Vec F S1x4096 .f32) :
    out0_A_3 c i a1 h1 a2 h2 a3 h3 a4 h4 a5 h5 hc hd x0 x1 x2 = x0 := by
  unfold out0_A_3
  rw [View.read_writes_eq_canon _ _ _ (cover0_A_3 c i a1 h1 a2 h2 a3 h3 a4 h4 a5 h5 hc hd x0 x1 x2)]
  unfold kernelRun0_A
  dsimp only
  rw [View.canon_unit_zero hz2]
  simp only [View.readAt_eq_ld, h1.read_unread, View.ld_unit_zero (S := S128x4096) hz2]

theorem out4_A (c : Dev nD) (i : grid0.Coords) (a1 h1 a2 h2 a3 h3 a4 h4 a5 h5) (hc : cond0_0 i) (hd : ¬cond0_1 i)
    (x0 : Vec F S128x4096 .f32) (x1 : Vec F S32x4096 .f32) (x2 : Vec F S1x4096 .f32) :
    out0_A_4 c i a1 h1 a2 h2 a3 h3 a4 h4 a5 h5 hc hd x0 x1 x2 = k0_pay2 x2 x0 := by
  unfold out0_A_4
  rw [View.read_writes_eq_canon _ _ _ (cover0_A_4 c i a1 h1 a2 h2 a3 h3 a4 h4 a5 h5 hc hd x0 x1 x2)]
  unfold kernelRun0_A
  dsimp only
  rw [View.canon_unit_zero hz2]
  simp only [View.readAt_eq_ld, h1.read_unread, h3.read_unread, View.ld_unit_zero (S := S128x4096) hz2, View.ld_unit_zero (S := S1x4096) hz2]

theorem out3_B (c : Dev nD) (i : grid0.Coords) (a1 h1 a2 h2 a3 h3 a4 h4 a5 h5) (hc : ¬cond0_0 i) (hd : cond0_1 i)
    (x0 : Vec F S128x4096 .f32) (x1 : Vec F S32x4096 .f32) (x2 : Vec F S1x4096 .f32) :
    out0_B_3 c i a1 h1 a2 h2 a3 h3 a4 h4 a5 h5 hc hd x0 x1 x2 = View.canon [(⟨Rect.unit (s := S128x4096) ![32, 0] S96x4096.size inb_S128x4096_S96x4096_32_0, k0_pay3⟩ : View.Piece (Elt F) S128x4096 .f32), ⟨Rect.unit (s := S128x4096) ![0, 0] S32x4096.size inb_S128x4096_S32x4096_0_0, x1⟩] := by
  unfold out0_B_3
  rw [View.read_writes_eq_canon _ _ _ (cover0_B_3 c i a1 h1 a2 h2 a3 h3 a4 h4 a5 h5 hc hd x0 x1 x2)]
  unfold kernelRun0_B
  dsimp only
  simp only [View.readAt_eq_ld, h2.read_unread, View.ld_unit_zero (S := S32x4096) hz2]

theorem out4_B (c : Dev nD) (i : grid0.Coords) (a1 h1 a2 h2 a3 h3 a4 h4 a5 h5) (hc : ¬cond0_0 i) (hd : cond0_1 i)
    (x0 : Vec F S128x4096 .f32) (x1 : Vec F S32x4096 .f32) (x2 : Vec F S1x4096 .f32) :
    out0_B_4 c i a1 h1 a2 h2 a3 h3 a4 h4 a5 h5 hc hd x0 x1 x2 = View.canon [(⟨Rect.unit (s := S128x4096) ![32, 0] S96x4096.size inb_S128x4096_S96x4096_32_0, k0_pay5⟩ : View.Piece (Elt F) S128x4096 .bf16), ⟨Rect.unit (s := S128x4096) ![0, 0] S32x4096.size inb_S128x4096_S32x4096_0_0, k0_pay4 x2 x1⟩] := by
  unfold out0_B_4
  rw [View.read_writes_eq_canon _ _ _ (cover0_B_4 c i a1 h1 a2 h2 a3 h3 a4 h4 a5 h5 hc hd x0 x1 x2)]
  unfold kernelRun0_B
  dsimp only
  simp only [View.readAt_eq_ld, h2.read_unread, h3.read_unread, View.ld_unit_zero (S := S32x4096) hz2, View.ld_unit_zero (S := S1x4096) hz2]

/-- Two pieces, the upper rows and the lower ones, at a row of the upper ones. -/
theorem canon_up {e : EltTy} (p : Vec Ideal S96x4096 e) (q : Vec Ideal S32x4096 e) (i1 i2) (r : Fin 32) (j : Fin 4096) :
    View.canon [(⟨Rect.unit (s := S128x4096) ![32, 0] S96x4096.size i1, p⟩ : View.Piece (Elt Ideal) S128x4096 e), ⟨Rect.unit (s := S128x4096) ![0, 0] S32x4096.size i2, q⟩]
      (ix2 ⟨r.val, by omega⟩ j) = q (ix2 r j) := by
  rw [View.canon_cons_of_not_mem]
  · exact FfnGu.canon_hit _ _ _ _ _ (by
      funext a; apply Fin.ext
      match a with
      | ⟨0, _⟩ => exact (Nat.zero_add _).trans (Nat.one_mul r.val)
      | ⟨1, _⟩ => exact (Nat.zero_add _).trans (Nat.one_mul j.val))
  · rw [Rect.mem_set_unit]
    intro h
    have h1 : 32 ≤ r.val := (h (0 : Fin 2)).1
    omega

/-- … and at a row of the lower ones. -/
theorem canon_lo {e : EltTy} (p : Vec Ideal S96x4096 e) (q : Vec Ideal S32x4096 e) (i1 i2) (r : Fin 96) (j : Fin 4096) :
    View.canon [(⟨Rect.unit (s := S128x4096) ![32, 0] S96x4096.size i1, p⟩ : View.Piece (Elt Ideal) S128x4096 e), ⟨Rect.unit (s := S128x4096) ![0, 0] S32x4096.size i2, q⟩]
      (ix2 ⟨32 + r.val, by omega⟩ j) = p (ix2 r j) :=
  FfnGu.canon_hit _ _ _ _ _ (by
      funext a; apply Fin.ext
      match a with
      | ⟨0, _⟩ => show 32 + 1 * r.val = 32 + r.val; omega
      | ⟨1, _⟩ => exact (Nat.zero_add _).trans (Nat.one_mul j.val))

/-- Which block each window reads or writes at point `t`, decided over the grid. -/
theorem idx_facts : ∀ t : Fin cfg0.N,
    (win0_0.index t (0 : Fin 2) = min t.val 63 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

variable (m : (ℓ : Loc nD τ sig) → Buf (Elt Ideal) ℓ)

/-- The arguments as arrays of extended reals. -/
abbrev XP (c : Dev nD) : FVec Ideal S8192x4096 .f32 := m ((c : Thread nD τ).loc main_arg0)
abbrev XS (c : Dev nD) : FVec Ideal S32x4096 .f32 := m ((c : Thread nD τ).loc main_arg1)
abbrev G (c : Dev nD) : FVec Ideal S4096 .f32 := m ((c : Thread nD τ).loc main_arg2)

theorem lt65 (t : Fin cfg0.N) : t.val < 65 := lt_of_lt_of_eq t.isLt N_0

/-- The gain as the host hands it over: one row. -/
theorem V0 (c : Dev nD) (j : Fin 4096) : (V m c main_v0 : FVec Ideal S1x4096 .f32) (ix2 0 j) = G m c (ix1 j) := by
  have e : (V m c main_v0 : FVec Ideal S1x4096 .f32) = shapeCast S1x4096 (G m c) shapeCasts_S4096_S1x4096 := by
    unfold_abbrev_sides
    after_results
    rfl
  rw [e]
  pointwise []

theorem iblk0 (c : Dev nD) (t : Fin cfg0.N) (h : t.val < 64) (r : Fin 128) (k : Fin 4096) :
    (iblk m c 0 t : FVec Ideal S128x4096 .f32) (ix2 r k) = XP m c (ix2 ⟨t.val * 128 + r.val, by omega⟩ k) := by
  obtain ⟨⟨e0, e1⟩, -⟩ := idx_facts t
  show (V m c main_arg0 : FVec Ideal S8192x4096 .f32) (((cfg0.win 0).blk t).view.emb (ix2 r k)) = _
  rw [V_main_arg0]
  show XP m c _ = _
  congr 1; funext a; apply Fin.ext
  match a with
  | ⟨0, _⟩ => show win0_0.index t (0 : Fin 2) * 128 + 1 * r.val = t.val * 128 + r.val; rw [e0]; omega
  | ⟨1, _⟩ => show win0_0.index t (1 : Fin 2) * 4096 + 1 * k.val = k.val; omega

theorem iblk1 (c : Dev nD) (t : Fin cfg0.N) (r : Fin 32) (k : Fin 4096) :
    (iblk m c 1 t : FVec Ideal S32x4096 .f32) (ix2 r k) = XS m c (ix2 r k) := by
  obtain ⟨-, ⟨e0, e1⟩, -⟩ := idx_facts t
  show (V m c main_arg1 : FVec Ideal S32x4096 .f32) (((cfg0.win 1).blk t).view.emb (ix2 r k)) = _
  rw [V_main_arg1]
  show XS m c _ = _
  congr 1; funext a; apply Fin.ext
  match a with
  | ⟨0, _⟩ => show win0_1.index t (0 : Fin 2) * 32 + 1 * r.val = r.val; omega
  | ⟨1, _⟩ => show win0_1.index t (1 : Fin 2) * 4096 + 1 * k.val = k.val; omega

theorem iblk2 (c : Dev nD) (t : Fin cfg0.N) (k : Fin 4096) :
    (iblk m c 2 t : FVec Ideal S1x4096 .f32) (ix2 0 k) = G m c (ix1 k) := by
  obtain ⟨-, -, ⟨e0, e1⟩, -⟩ := idx_facts t
  rw [← V0 m c k]
  show (V m c main_v0 : FVec Ideal S1x4096 .f32) (((cfg0.win 2).blk t).view.emb (ix2 0 k)) = _
  congr 1; funext a; apply Fin.ext
  match a with
  | ⟨0, _⟩ => show win0_2.index t (0 : Fin 2) * 1 + 1 * 0 = 0; omega
  | ⟨1, _⟩ => show win0_2.index t (1 : Fin 2) * 4096 + 1 * k.val = k.val; omega

/-- The rows laid out in one array. -/
def rows (xp : FVec Ideal S8192x4096 .f32) (xs : FVec Ideal S32x4096 .f32) (r : Fin 8320) (j : Fin 4096) : EReal :=
  if h : r.val < 8192 then xp (ix2 ⟨r.val, h⟩ j)
  else if h' : r.val - 8192 < 32 then xs (ix2 ⟨r.val - 8192, h'⟩ j) else 0

open Cert.Reference12Ideal.Read in
/-- The reference's first result at an index. -/
theorem ref1_apply (xp : FVec Ideal S8192x4096 .f32) (xs : FVec Ideal S32x4096 .f32) (r : Fin 8320) (j : Fin 4096) :
    (val_main_v1 (F := Ideal) xp xs : FVec Ideal S8320x4096 .f32) (ix2 r j) = rows xp xs r j := by
  pointwise [val_main_v1, val_main_v0, val_main_cst, rows]

open Cert.Reference12Ideal.Read in
/-- The reference's second result at an index. -/
theorem ref2_apply (xp : FVec Ideal S8192x4096 .f32) (xs : FVec Ideal S32x4096 .f32) (g : FVec Ideal S4096 .f32) (r : Fin 8320) (j : Fin 4096) :
    (val_main_v15 (F := Ideal) xp xs g : FVec Ideal S8320x4096 .bf16) (ix2 r j) = rms (fun k => rows xp xs r k) (fun k => g (ix1 k)) j := by
  have e := fun k => ref1_apply xp xs r k
  unfold rms
  simp only [← e]
  clear e
  unfold val_main_v15 val_main_v14 val_main_v11 val_main_v10 val_main_v9 val_main_v8 val_main_v6 val_main_v4 val_main_v3 val_main_v2
  generalize val_main_v1 (F := Ideal) xp xs = x
  pointwise [val_main_v13, val_main_v12, val_main_v7, val_main_v5, val_main_cst_0, val_main_cst_1, val_main_cst_2]

theorem rows_sample (xp : FVec Ideal S8192x4096 .f32) (xs : FVec Ideal S32x4096 .f32) (r : Fin 32) (j : Fin 4096) :
    rows xp xs ⟨8192 + r.val, by omega⟩ j = xs (ix2 r j) := by
  have hr := r.isLt
  have key : ∀ (n : Fin 8320), n.val = 8192 + r.val → rows xp xs n j = xs (ix2 r j) := by
    intro n hn
    have h2 : n.val - 8192 < 32 := by omega
    unfold rows
    rw [dif_neg (by omega), dif_pos h2]
    have e : (⟨n.val - 8192, h2⟩ : Fin 32) = r := Fin.ext (by dsimp only; omega)
    rw [e]
  exact key _ rfl

theorem rows_zero (xp : FVec Ideal S8192x4096 .f32) (xs : FVec Ideal S32x4096 .f32) (r : Fin 96) (j : Fin 4096) :
    rows xp xs ⟨8224 + r.val, by omega⟩ j = 0 := by
  unfold rows
  rw [dif_neg (by show ¬(8224 + r.val < 8192); omega), dif_neg (by show ¬(8224 + r.val - 8192 < 32); omega)]

theorem rows_prompt (xp : FVec Ideal S8192x4096 .f32) (xs : FVec Ideal S32x4096 .f32) (n : ℕ) (h : n < 8192) (j : Fin 4096) :
    rows xp xs ⟨n, by omega⟩ j = xp (ix2 ⟨n, h⟩ j) := dif_pos h

/-- An element of the laid-out rows' block that point `t` writes. -/
theorem point3 (c : Dev nD) (t : Fin cfg0.N) (r : Fin 128) (j : Fin 4096) :
    ((outsAt0 m c t.val t.isLt).1 : FVec Ideal S128x4096 .f32) (ix2 r j)
      = rows (XP m c) (XS m c) ⟨t.val * 128 + r.val, by have := lt65 t; omega⟩ j := by
  have hN := lt65 t
  by_cases h0 : t.val < 64
  · rw [outsAt0_A m c t h0 (by omega)]; dsimp only; rw [out3_A]
    exact (iblk0 m c t h0 r j).trans (rows_prompt (XP m c) (XS m c) _ (by omega) j).symm
  · have ht : t.val = 64 := by omega
    rw [outsAt0_B m c t h0 (by omega)]; dsimp only; rw [out3_B]
    rcases lt_or_ge r.val 32 with hr | hr
    · refine (canon_up _ _ _ _ ⟨r.val, hr⟩ j).trans ((iblk1 m c t ⟨r.val, hr⟩ j).trans ?_)
      rw [← rows_sample (XP m c) (XS m c) ⟨r.val, hr⟩ j]
      congr 1; apply Fin.ext; show 8192 + r.val = t.val * 128 + r.val; omega
    · have er : r = ⟨32 + (r.val - 32), by omega⟩ := Fin.ext (by show r.val = 32 + (r.val - 32); omega)
      rw [er]
      refine (canon_lo _ _ _ _ ⟨r.val - 32, by omega⟩ j).trans ((pay3_apply _ j).trans ?_)
      rw [← rows_zero (XP m c) (XS m c) ⟨r.val - 32, by omega⟩ j]
      congr 1; apply Fin.ext; show 8224 + (r.val - 32) = t.val * 128 + (32 + (r.val - 32)); omega

/-- An element of the normed rows' block that point `t` writes. -/
theorem point4 (c : Dev nD) (t : Fin cfg0.N) (r : Fin 128) (j : Fin 4096) :
    ((outsAt0 m c t.val t.isLt).2 : FVec Ideal S128x4096 .bf16) (ix2 r j)
      = rms (fun k => rows (XP m c) (XS m c) ⟨t.val * 128 + r.val, by have := lt65 t; omega⟩ k) (fun k => G m c (ix1 k)) j := by
  have hN := lt65 t
  by_cases h0 : t.val < 64
  · rw [outsAt0_A m c t h0 (by omega)]; dsimp only; rw [out4_A, pay2_apply]
    simp only [iblk0 m c t h0, iblk2]
    congr 1; funext k
    exact (rows_prompt (XP m c) (XS m c) _ (by omega) k).symm
  · have ht : t.val = 64 := by omega
    rw [outsAt0_B m c t h0 (by omega)]; dsimp only; rw [out4_B]
    rcases lt_or_ge r.val 32 with hr | hr
    · refine (canon_up _ _ _ _ ⟨r.val, hr⟩ j).trans ((pay4_apply _ _ ⟨r.val, hr⟩ j).trans ?_)
      simp only [iblk1, iblk2]
      congr 1; funext k
      rw [← rows_sample (XP m c) (XS m c) ⟨r.val, hr⟩ k]
      congr 1; apply Fin.ext; show 8192 + r.val = t.val * 128 + r.val; omega
    · have er : r = ⟨32 + (r.val - 32), by omega⟩ := Fin.ext (by show r.val = 32 + (r.val - 32); omega)
      rw [er]
      refine (canon_lo _ _ _ _ ⟨r.val - 32, by omega⟩ j).trans ((pay5_apply _ j).trans ?_)
      rw [← rms_zero (fun k => G m c (ix1 k)) j]
      congr 1; funext k
      rw [← rows_zero (XP m c) (XS m c) ⟨r.val - 32, by omega⟩ k]
      congr 1; apply Fin.ext; show 8224 + (r.val - 32) = t.val * 128 + (32 + (r.val - 32)); omega

theorem mem_blk3 (t : Fin cfg0.N) (i : S8320x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v1_0).slice (win0_3.rect t)).set ↔ _
  rw [View.set_slice_whole, Rect.mem_set_unit]
  exact Iff.rfl

theorem flush3 : ∀ t : Fin cfg0.N, (cfg0.win 3).flush t = true := (by decide +kernel : ∀ t : Fin grid0.N, win0_3.flush t = true)

open Cert.Reference12Ideal.Read in
/-- The array of the first result after the run is the reference's. -/
theorem final3 (c : Dev nD) :
    (dats m 0 c).arrAt 3 cfg0.N = val_main_v1 (F := Ideal) (XP m c) (XS m c) :=
  (dats m 0 c).arrAt_eq_of_cover 3 _ (fun t hf => by
    rw [Kernel12Ideal.Value.flushed3]
    obtain ⟨-, -, -, ⟨e0, e1⟩, -⟩ := idx_facts t
    funext y
    have hy0 : (y 0).val < 128 := (y 0).isLt
    have hy1 : (y 1).val < 4096 := (y 1).isLt
    have hx : (cfg0.win 3).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 3).blk t).view.emb y
        = ix2 ⟨t.val * 128 + (y 0).val, by have := lt65 t; omega⟩ ⟨(y 1).val, hy1⟩ := by
      funext a; apply Fin.ext
      match a with
      | ⟨0, _⟩ => show win0_3.index t (0 : Fin 2) * 128 + 1 * (y 0).val = t.val * 128 + (y 0).val; rw [e0]; omega
      | ⟨1, _⟩ => show win0_3.index t (1 : Fin 2) * 4096 + 1 * (y 1).val = (y 1).val; rw [e1]; omega
    show (outsAt0 m c t.val t.isLt).1 ((cfg0.win 3).xinj (grid0.coords t) y)
      = val_main_v1 (F := Ideal) (XP m c) (XS m c) (((cfg0.win 3).blk t).view.emb y)
    rw [hx, he]
    exact (point3 m c t _ _).trans (ref1_apply (XP m c) (XS m c) _ _).symm) (fun i => by
      have h0 : (i 0).val < 8320 := (i 0).isLt
      have h1 : (i 1).val < 4096 := (i 1).isLt
      let t : Fin cfg0.N := ⟨(i 0).val / 128, lt_of_lt_of_eq (by omega) N_0.symm⟩
      have ht : t.val = (i 0).val / 128 := rfl
      refine ⟨t, flush3 t, ?_⟩
      obtain ⟨-, -, -, ⟨e0, e1⟩, -⟩ := idx_facts t
      rw [mem_blk3]
      intro a
      match a with
      | ⟨0, _⟩ =>
        show win0_3.index t (0 : Fin 2) * 128 ≤ (i 0).val ∧ (i 0).val < win0_3.index t (0 : Fin 2) * 128 + 128
        rw [e0]; omega
      | ⟨1, _⟩ =>
        show win0_3.index t (1 : Fin 2) * 4096 ≤ (i 1).val ∧ (i 1).val < win0_3.index t (1 : Fin 2) * 4096 + 4096
        rw [e1]; omega)

theorem mem_blk4 (t : Fin cfg0.N) (i : S8320x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v1_1).slice (win0_4.rect t)).set ↔ _
  rw [View.set_slice_whole, Rect.mem_set_unit]
  exact Iff.rfl

theorem flush4 : ∀ t : Fin cfg0.N, (cfg0.win 4).flush t = true := (by decide +kernel : ∀ t : Fin grid0.N, win0_4.flush t = true)

open Cert.Reference12Ideal.Read in
/-- The array of the second result after the run is the reference's. -/
theorem final4 (c : Dev nD) :
    (dats m 0 c).arrAt 4 cfg0.N = val_main_v15 (F := Ideal) (XP m c) (XS m c) (G m c) :=
  (dats m 0 c).arrAt_eq_of_cover 4 _ (fun t hf => by
    rw [Kernel12Ideal.Value.flushed4]
    obtain ⟨-, -, -, -, ⟨e0, e1⟩⟩ := idx_facts t
    funext y
    have hy0 : (y 0).val < 128 := (y 0).isLt
    have hy1 : (y 1).val < 4096 := (y 1).isLt
    have hx : (cfg0.win 4).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 4).blk t).view.emb y
        = ix2 ⟨t.val * 128 + (y 0).val, by have := lt65 t; omega⟩ ⟨(y 1).val, hy1⟩ := by
      funext a; apply Fin.ext
      match a with
      | ⟨0, _⟩ => show win0_4.index t (0 : Fin 2) * 128 + 1 * (y 0).val = t.val * 128 + (y 0).val; rw [e0]; omega
      | ⟨1, _⟩ => show win0_4.index t (1 : Fin 2) * 4096 + 1 * (y 1).val = (y 1).val; rw [e1]; omega
    show (outsAt0 m c t.val t.isLt).2 ((cfg0.win 4).xinj (grid0.coords t) y)
      = val_main_v15 (F := Ideal) (XP m c) (XS m c) (G m c) (((cfg0.win 4).blk t).view.emb y)
    rw [hx, he]
    exact (point4 m c t _ _).trans (ref2_apply (XP m c) (XS m c) (G m c) _ _).symm) (fun i => by
      have h0 : (i 0).val < 8320 := (i 0).isLt
      have h1 : (i 1).val < 4096 := (i 1).isLt
      let t : Fin cfg0.N := ⟨(i 0).val / 128, lt_of_lt_of_eq (by omega) N_0.symm⟩
      have ht : t.val = (i 0).val / 128 := rfl
      refine ⟨t, flush4 t, ?_⟩
      obtain ⟨-, -, -, -, ⟨e0, e1⟩⟩ := idx_facts t
      rw [mem_blk4]
      intro a
      match a with
      | ⟨0, _⟩ =>
        show win0_4.index t (0 : Fin 2) * 128 ≤ (i 0).val ∧ (i 0).val < win0_4.index t (0 : Fin 2) * 128 + 128
        rw [e0]; omega
      | ⟨1, _⟩ =>
        show win0_4.index t (1 : Fin 2) * 4096 ≤ (i 1).val ∧ (i 1).val < win0_4.index t (1 : Fin 2) * 4096 + 4096
        rw [e1]; omega)

open Cert.Reference12Ideal.Read in
/-- THE VALUE CLAIM: on the same arguments both programs end with the same results. -/
theorem algebraic : Cert.algebraic_Kernel12Ideal_Reference12Ideal := by
  intro m g m' g' _ hagree
  refine ⟨fun c => val_main_v1 (F := Ideal) (XP m c) (XS m c), fun c => val_main_v15 (F := Ideal) (XP m c) (XS m c) (G m c), ?_, ?_⟩
  · refine θ_run_mono (Kernel12Ideal.Value.run_blocks m g) fun r h c => ?_
    obtain ⟨h4, h5, k0, k1, k2⟩ := h c
    exact ⟨h4.trans (final3 m c), h5.trans (final4 m c), k0, k1, k2⟩
  · refine θ_run_mono (Reference12Ideal.Value.run m' g') fun r h c => ?_
    obtain ⟨h4, h5, k0, k1, k2⟩ := h c
    obtain ⟨a0, a1, a2⟩ := hagree c
    refine ⟨h4.trans ((val_main_v1_eq _ _).trans ?_), h5.trans ((val_main_v15_eq _ _ _).trans ?_), k0, k1, k2⟩
    · rw [a0, a1]
    · rw [a0, a1, a2]

end Cert.MergeNorm

end
-- ==== Proof.SsmPrep.lean ====
/- The discretisation of the state-space step: the decay of each state, and per group its input matrix, plain and decayed. -/
module

public import proofs.«01_k».proof.Proof.FfnGu
public import proofs.«01_k».proof.Proof.Gen.Kernel13Ideal.Value
public import proofs.«01_k».proof.Proof.Gen.Reference13Ideal.Read
public import proofs.«01_k».proof.Proof.Gen.Reference13Ideal.Run
public import proofs.«01_k».proof.Defs
public import Idealize.ShloMosaic.Lib.Pointwise

@[expose] public section

set_option maxRecDepth 16384

noncomputable section

namespace Cert.SsmPrep

open Cert.Kernel13Ideal Cert.Kernel13Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- Every piece of the list holds what `G` says at its place. -/
def Good {S : Shape} {e : EltTy} (G : S.Idx → Elt Ideal e) (L : List (View.Piece (Elt Ideal) S e)) : Prop :=
  ∀ p ∈ L, ∀ x : p.1.shape.Idx, p.2 x = G (p.1.emb x)

theorem good_nil {S : Shape} {e : EltTy} (G : S.Idx → Elt Ideal e) : Good G [] := fun _ h => absurd h List.not_mem_nil

theorem good_cons {S : Shape} {e : EltTy} (G : S.Idx → Elt Ideal e) (r : Rect S) (w : r.shape.Idx → Elt Ideal e) (L : List (View.Piece (Elt Ideal) S e))
    (h : ∀ x, w x = G (r.emb x)) (hL : Good G L) : Good G (⟨r, w⟩ :: L) := by
  intro p hp
  rcases List.mem_cons.mp hp with rfl | hp
  · exact h
  · exact hL p hp

theorem good_append {S : Shape} {e : EltTy} (G : S.Idx → Elt Ideal e) (L M : List (View.Piece (Elt Ideal) S e)) (hL : Good G L) (hM : Good G M) : Good G (L ++ M) :=
  fun p hp => (List.mem_append.mp hp).elim (hL p) (hM p)

/-- The input matrix's real part at group `g`, row `p`, state `n`, from the two gains and the matrix as given. -/
def bre (u v : FVec Ideal S256x64 .f32) (x y : FVec Ideal S256x16x64 .f32) : FVec Ideal S256x16x64 .f32 := fun i =>
  ((u (ix2 (i 0) (i 2)) : EReal) * (x i : EReal) - (v (ix2 (i 0) (i 2)) : EReal) * (y i : EReal) : EReal)

/-- Its imaginary part. -/
def bim (u v : FVec Ideal S256x64 .f32) (x y : FVec Ideal S256x16x64 .f32) : FVec Ideal S256x16x64 .f32 := fun i =>
  ((u (ix2 (i 0) (i 2)) : EReal) * (y i : EReal) + (v (ix2 (i 0) (i 2)) : EReal) * (x i : EReal) : EReal)

/-- A row and a slab of the loop's trip. -/
abbrev Row := FVec Ideal S1x64 .f32
abbrev Slab := FVec Ideal S1x16x64 .f32

theorem pay5_apply (u v : Row) (x y : Slab) (p : Fin 16) (n : Fin 64) :
    (k0_pay5 u v x y : Slab) (ix3 0 p n) = ((u (ix2 0 n) : EReal) * (x (ix3 0 p n) : EReal) - (v (ix2 0 n) : EReal) * (y (ix3 0 p n) : EReal) : EReal) := by
  pointwise [k0_pay5, k0_pay3, k0_pay1, k0_pay2]

theorem pay6_apply (u v : Row) (x y : Slab) (p : Fin 16) (n : Fin 64) :
    (k0_pay6 u v x y : Slab) (ix3 0 p n) = ((u (ix2 0 n) : EReal) * (y (ix3 0 p n) : EReal) + (v (ix2 0 n) : EReal) * (x (ix3 0 p n) : EReal) : EReal) := by
  pointwise [k0_pay6, k0_pay4, k0_pay1, k0_pay2]

theorem pay9_apply (u v : Row) (x y : Slab) (a b : Row) (p : Fin 16) (n : Fin 64) :
    (k0_pay9 u v x y a b : Slab) (ix3 0 p n)
      = ((a (ix2 0 n) : EReal) * ((u (ix2 0 n) : EReal) * (x (ix3 0 p n) : EReal) - (v (ix2 0 n) : EReal) * (y (ix3 0 p n) : EReal))
        - (b (ix2 0 n) : EReal) * ((u (ix2 0 n) : EReal) * (y (ix3 0 p n) : EReal) + (v (ix2 0 n) : EReal) * (x (ix3 0 p n) : EReal)) : EReal) := by
  pointwise [k0_pay9, k0_pay7, k0_pay8, k0_pay3, k0_pay4, k0_pay1, k0_pay2]

theorem pay19_apply (u v : Row) (x y : Slab) (a b : Row) (p : Fin 16) (n : Fin 64) :
    (k0_pay19 (k0_pay3 u v x y) (k0_pay4 u v x y) (k0_pay7 a) (k0_pay8 b) : Slab) (ix3 0 p n)
      = ((a (ix2 0 n) : EReal) * ((u (ix2 0 n) : EReal) * (y (ix3 0 p n) : EReal) + (v (ix2 0 n) : EReal) * (x (ix3 0 p n) : EReal))
        + (b (ix2 0 n) : EReal) * ((u (ix2 0 n) : EReal) * (x (ix3 0 p n) : EReal) - (v (ix2 0 n) : EReal) * (y (ix3 0 p n) : EReal)) : EReal) := by
  pointwise [k0_pay19, k0_pay7, k0_pay8, k0_pay3, k0_pay4, k0_pay1, k0_pay2]

theorem trips_eq : k0_t1_loop.trips = 256 := by decide +kernel

theorem row_emb (k : Fin k0_t1_loop.trips) (inb) (n : Fin 64) :
    (Rect.unit (s := S256x64) (k0_off1 k) S1x64.size inb).emb (ix2 0 n) = ix2 ⟨k.val, lt_of_lt_of_eq k.isLt trips_eq⟩ n := by
  have e := k0_off1_eq k
  have e0 : k0_off1 k (0 : Fin 2) = k.val := by rw [e]; rfl
  have e1 : k0_off1 k (1 : Fin 2) = 0 := by rw [e]; rfl
  funext a; apply Fin.ext
  match a with
  | ⟨0, _⟩ => show k0_off1 k (0 : Fin 2) + 1 * 0 = k.val; omega
  | ⟨1, _⟩ => show k0_off1 k (1 : Fin 2) + 1 * n.val = n.val; omega

theorem slab_emb (k : Fin k0_t1_loop.trips) (inb) (p : Fin 16) (n : Fin 64) :
    (Rect.unit (s := S256x16x64) (k0_off2 k) S1x16x64.size inb).emb (ix3 0 p n) = ix3 ⟨k.val, lt_of_lt_of_eq k.isLt trips_eq⟩ p n := by
  have e := k0_off2_eq k
  have e0 : k0_off2 k (0 : Fin 3) = k.val := by rw [e]; rfl
  have e1 : k0_off2 k (1 : Fin 3) = 0 := by rw [e]; rfl
  have e2 : k0_off2 k (2 : Fin 3) = 0 := by rw [e]; rfl
  funext a; apply Fin.ext
  match a with
  | ⟨0, _⟩ => show k0_off2 k (0 : Fin 3) + 1 * 0 = k.val; omega
  | ⟨1, _⟩ => show k0_off2 k (1 : Fin 3) + 1 * p.val = p.val; omega
  | ⟨2, _⟩ => show k0_off2 k (2 : Fin 3) + 1 * n.val = n.val; omega

theorem ld_row (R : FVec Ideal S256x64 .f32) (k : Fin k0_t1_loop.trips) (inb) (n : Fin 64) :
    (View.ld (Val := Elt Ideal) (e' := .f32) R (Rect.unit (s := S256x64) (k0_off1 k) S1x64.size inb) : Row) (ix2 0 n) = R (ix2 ⟨k.val, lt_of_lt_of_eq k.isLt trips_eq⟩ n) :=
  congrArg R (row_emb k inb n)

theorem ld_slab (R : FVec Ideal S256x16x64 .f32) (k : Fin k0_t1_loop.trips) (inb) (p : Fin 16) (n : Fin 64) :
    (View.ld (Val := Elt Ideal) (e' := .f32) R (Rect.unit (s := S256x16x64) (k0_off2 k) S1x16x64.size inb) : Slab) (ix3 0 p n) = R (ix3 ⟨k.val, lt_of_lt_of_eq k.isLt trips_eq⟩ p n) :=
  congrArg R (slab_emb k inb p n)

theorem re_of {u v x y u' v' x' y' : EReal} (hu : u = u') (hv : v = v') (hx : x = x') (hy : y = y') : u * x - v * y = u' * x' - v' * y' := by
  rw [hu, hv, hx, hy]

theorem im_of {u v x y u' v' x' y' : EReal} (hu : u = u') (hv : v = v') (hx : x = x') (hy : y = y') : u * y + v * x = u' * y' + v' * x' := by
  rw [hu, hv, hx, hy]

theorem trip0 (𝒱 : Variants) (c : Dev nD) (bd : Option 𝒱.V) a0 h0 a1 h1 a2 h2 a3 h3 a4 h4 a5 h5 a6 h6 a7 h7 a8 h8 a9 h9 a10 h10 a11 h11 a12 h12 X3 X4 X5 X6 X11 X12 (k) :
    Good (bre (a11.view.read (Elt Ideal) X11) (a12.view.read (Elt Ideal) X12) (a3.view.read (Elt Ideal) X3) (a4.view.read (Elt Ideal) X4)) (tripL_k0_t1 (F := Ideal) 𝒱 c bd a0 h0 a1 h1 a2 h2 a3 h3 a4 h4 a5 h5 a6 h6 a7 h7 a8 h8 a9 h9 a10 h10 a11 h11 a12 h12 X3 X4 X5 X6 X11 X12 k).1 := by
  unfold tripL_k0_t1 trip_k0_t1
  dsimp only
  refine good_cons _ _ _ _ (fun x => ?_) (good_nil _)
  obtain ⟨p, n, rfl⟩ : ∃ (p : Fin 16) (n : Fin 64), x = (ix3 0 p n : S1x16x64.Idx) := ⟨x 1, x 2, by
    funext a; apply Fin.ext
    match a with
    | ⟨0, _⟩ => show (x 0).val = 0; have h : (x 0).val < 1 := (x 0).isLt; omega
    | ⟨1, _⟩ => rfl
    | ⟨2, _⟩ => rfl⟩
  sl_unfold_words
  simp only [View.readAt_eq_ld]
  refine (pay5_apply _ _ _ _ p n).trans ?_
  refine Eq.trans ?_ (congrArg _ (slab_emb k _ p n)).symm
  exact re_of (ld_row (a11.view.read (Elt Ideal) X11) k (k0_off1_inb k) n) (ld_row (a12.view.read (Elt Ideal) X12) k (k0_off1_inb k) n) (ld_slab (a3.view.read (Elt Ideal) X3) k (k0_off2_inb k) p n) (ld_slab (a4.view.read (Elt Ideal) X4) k (k0_off2_inb k) p n)

theorem trip1 (𝒱 : Variants) (c : Dev nD) (bd : Option 𝒱.V) a0 h0 a1 h1 a2 h2 a3 h3 a4 h4 a5 h5 a6 h6 a7 h7 a8 h8 a9 h9 a10 h10 a11 h11 a12 h12 X3 X4 X5 X6 X11 X12 (k) :
    Good (bim (a11.view.read (Elt Ideal) X11) (a12.view.read (Elt Ideal) X12) (a3.view.read (Elt Ideal) X3) (a4.view.read (Elt Ideal) X4)) (tripL_k0_t1 (F := Ideal) 𝒱 c bd a0 h0 a1 h1 a2 h2 a3 h3 a4 h4 a5 h5 a6 h6 a7 h7 a8 h8 a9 h9 a10 h10 a11 h11 a12 h12 X3 X4 X5 X6 X11 X12 k).2.1 := by
  unfold tripL_k0_t1 trip_k0_t1
  dsimp only
  refine good_cons _ _ _ _ (fun x => ?_) (good_nil _)
  obtain ⟨p, n, rfl⟩ : ∃ (p : Fin 16) (n : Fin 64), x = (ix3 0 p n : S1x16x64.Idx) := ⟨x 1, x 2, by
    funext a; apply Fin.ext
    match a with
    | ⟨0, _⟩ => show (x 0).val = 0; have h : (x 0).val < 1 := (x 0).isLt; omega
    | ⟨1, _⟩ => rfl
    | ⟨2, _⟩ => rfl⟩
  sl_unfold_words
  simp only [View.readAt_eq_ld]
  refine (pay6_apply _ _ _ _ p n).trans ?_
  refine Eq.trans ?_ (congrArg _ (slab_emb k _ p n)).symm
  exact im_of (ld_row (a11.view.read (Elt Ideal) X11) k (k0_off1_inb k) n) (ld_row (a12.view.read (Elt Ideal) X12) k (k0_off1_inb k) n) (ld_slab (a3.view.read (Elt Ideal) X3) k (k0_off2_inb k) p n) (ld_slab (a4.view.read (Elt Ideal) X4) k (k0_off2_inb k) p n)

theorem trip2 (𝒱 : Variants) (c : Dev nD) (bd : Option 𝒱.V) a0 h0 a1 h1 a2 h2 a3 h3 a4 h4 a5 h5 a6 h6 a7 h7 a8 h8 a9 h9 a10 h10 a11 h11 a12 h12 X3 X4 X5 X6 X11 X12 (k) :
    Good (bre (a5.view.read (Elt Ideal) X5) (a6.view.read (Elt Ideal) X6) (bre (a11.view.read (Elt Ideal) X11) (a12.view.read (Elt Ideal) X12) (a3.view.read (Elt Ideal) X3) (a4.view.read (Elt Ideal) X4)) (bim (a11.view.read (Elt Ideal) X11) (a12.view.read (Elt Ideal) X12) (a3.view.read (Elt Ideal) X3) (a4.view.read (Elt Ideal) X4))) (tripL_k0_t1 (F := Ideal) 𝒱 c bd a0 h0 a1 h1 a2 h2 a3 h3 a4 h4 a5 h5 a6 h6 a7 h7 a8 h8 a9 h9 a10 h10 a11 h11 a12 h12 X3 X4 X5 X6 X11 X12 k).2.2.1 := by
  unfold tripL_k0_t1 trip_k0_t1
  dsimp only
  refine good_cons _ _ _ _ (fun x => ?_) (good_nil _)
  obtain ⟨p, n, rfl⟩ : ∃ (p : Fin 16) (n : Fin 64), x = (ix3 0 p n : S1x16x64.Idx) := ⟨x 1, x 2, by
    funext a; apply Fin.ext
    match a with
    | ⟨0, _⟩ => show (x 0).val = 0; have h : (x 0).val < 1 := (x 0).isLt; omega
    | ⟨1, _⟩ => rfl
    | ⟨2, _⟩ => rfl⟩
  sl_unfold_words
  simp only [View.readAt_eq_ld]
  refine (pay9_apply _ _ _ _ _ _ p n).trans ?_
  refine Eq.trans ?_ (congrArg _ (slab_emb k _ p n)).symm
  exact re_of (ld_row (a5.view.read (Elt Ideal) X5) k (k0_off1_inb k) n) (ld_row (a6.view.read (Elt Ideal) X6) k (k0_off1_inb k) n) (re_of (ld_row (a11.view.read (Elt Ideal) X11) k (k0_off1_inb k) n) (ld_row (a12.view.read (Elt Ideal) X12) k (k0_off1_inb k) n) (ld_slab (a3.view.read (Elt Ideal) X3) k (k0_off2_inb k) p n) (ld_slab (a4.view.read (Elt Ideal) X4) k (k0_off2_inb k) p n)) (im_of (ld_row (a11.view.read (Elt Ideal) X11) k (k0_off1_inb k) n) (ld_row (a12.view.read (Elt Ideal) X12) k (k0_off1_inb k) n) (ld_slab (a3.view.read (Elt Ideal) X3) k (k0_off2_inb k) p n) (ld_slab (a4.view.read (Elt Ideal) X4) k (k0_off2_inb k) p n))

theorem trip3 (𝒱 : Variants) (c : Dev nD) (bd : Option 𝒱.V) a0 h0 a1 h1 a2 h2 a3 h3 a4 h4 a5 h5 a6 h6 a7 h7 a8 h8 a9 h9 a10 h10 a11 h11 a12 h12 X3 X4 X5 X6 X11 X12 (k) :
    Good (bim (a5.view.read (Elt Ideal) X5) (a6.view.read (Elt Ideal) X6) (bre (a11.view.read (Elt Ideal) X11) (a12.view.read (Elt Ideal) X12) (a3.view.read (Elt Ideal) X3) (a4.view.read (Elt Ideal) X4)) (bim (a11.view.read (Elt Ideal) X11) (a12.view.read (Elt Ideal) X12) (a3.view.read (Elt Ideal) X3) (a4.view.read (Elt Ideal) X4))) (tripL_k0_t1 (F := Ideal) 𝒱 c bd a0 h0 a1 h1 a2 h2 a3 h3 a4 h4 a5 h5 a6 h6 a7 h7 a8 h8 a9 h9 a10 h10 a11 h11 a12 h12 X3 X4 X5 X6 X11 X12 k).2.2.2 := by
  unfold tripL_k0_t1 trip_k0_t1
  dsimp only
  refine good_cons _ _ _ _ (fun x => ?_) (good_nil _)
  obtain ⟨p, n, rfl⟩ : ∃ (p : Fin 16) (n : Fin 64), x = (ix3 0 p n : S1x16x64.Idx) := ⟨x 1, x 2, by
    funext a; apply Fin.ext
    match a with
    | ⟨0, _⟩ => show (x 0).val = 0; have h : (x 0).val < 1 := (x 0).isLt; omega
    | ⟨1, _⟩ => rfl
    | ⟨2, _⟩ => rfl⟩
  sl_unfold_words
  simp only [View.readAt_eq_ld]
  refine (pay19_apply _ _ _ _ _ _ p n).trans ?_
  refine Eq.trans ?_ (congrArg _ (slab_emb k _ p n)).symm
  exact im_of (ld_row (a5.view.read (Elt Ideal) X5) k (k0_off1_inb k) n) (ld_row (a6.view.read (Elt Ideal) X6) k (k0_off1_inb k) n) (re_of (ld_row (a11.view.read (Elt Ideal) X11) k (k0_off1_inb k) n) (ld_row (a12.view.read (Elt Ideal) X12) k (k0_off1_inb k) n) (ld_slab (a3.view.read (Elt Ideal) X3) k (k0_off2_inb k) p n) (ld_slab (a4.view.read (Elt Ideal) X4) k (k0_off2_inb k) p n)) (im_of (ld_row (a11.view.read (Elt Ideal) X11) k (k0_off1_inb k) n) (ld_row (a12.view.read (Elt Ideal) X12) k (k0_off1_inb k) n) (ld_slab (a3.view.read (Elt Ideal) X3) k (k0_off2_inb k) p n) (ld_slab (a4.view.read (Elt Ideal) X4) k (k0_off2_inb k) p n))

theorem pieces (𝒱 : Variants) (c : Dev nD) (bd : Option 𝒱.V) a0 h0 a1 h1 a2 h2 a3 h3 a4 h4 a5 h5 a6 h6 a7 h7 a8 h8 a9 h9 a10 h10 a11 h11 a12 h12 X3 X4 X5 X6 X11 X12 (k : Nat) (hk : k ≤ k0_t1_loop.trips) :
    Good (bre (a11.view.read (Elt Ideal) X11) (a12.view.read (Elt Ideal) X12) (a3.view.read (Elt Ideal) X3) (a4.view.read (Elt Ideal) X4)) (pb_k0_t1 (F := Ideal) 𝒱 c bd a0 h0 a1 h1 a2 h2 a3 h3 a4 h4 a5 h5 a6 h6 a7 h7 a8 h8 a9 h9 a10 h10 a11 h11 a12 h12 X3 X4 X5 X6 X11 X12 k).1
    ∧ Good (bim (a11.view.read (Elt Ideal) X11) (a12.view.read (Elt Ideal) X12) (a3.view.read (Elt Ideal) X3) (a4.view.read (Elt Ideal) X4)) (pb_k0_t1 (F := Ideal) 𝒱 c bd a0 h0 a1 h1 a2 h2 a3 h3 a4 h4 a5 h5 a6 h6 a7 h7 a8 h8 a9 h9 a10 h10 a11 h11 a12 h12 X3 X4 X5 X6 X11 X12 k).2.1
    ∧ Good (bre (a5.view.read (Elt Ideal) X5) (a6.view.read (Elt Ideal) X6) (bre (a11.view.read (Elt Ideal) X11) (a12.view.read (Elt Ideal) X12) (a3.view.read (Elt Ideal) X3) (a4.view.read (Elt Ideal) X4)) (bim (a11.view.read (Elt Ideal) X11) (a12.view.read (Elt Ideal) X12) (a3.view.read (Elt Ideal) X3) (a4.view.read (Elt Ideal) X4))) (pb_k0_t1 (F := Ideal) 𝒱 c bd a0 h0 a1 h1 a2 h2 a3 h3 a4 h4 a5 h5 a6 h6 a7 h7 a8 h8 a9 h9 a10 h10 a11 h11 a12 h12 X3 X4 X5 X6 X11 X12 k).2.2.1
    ∧ Good (bim (a5.view.read (Elt Ideal) X5) (a6.view.read (Elt Ideal) X6) (bre (a11.view.read (Elt Ideal) X11) (a12.view.read (Elt Ideal) X12) (a3.view.read (Elt Ideal) X3) (a4.view.read (Elt Ideal) X4)) (bim (a11.view.read (Elt Ideal) X11) (a12.view.read (Elt Ideal) X12) (a3.view.read (Elt Ideal) X3) (a4.view.read (Elt Ideal) X4))) (pb_k0_t1 (F := Ideal) 𝒱 c bd a0 h0 a1 h1 a2 h2 a3 h3 a4 h4 a5 h5 a6 h6 a7 h7 a8 h8 a9 h9 a10 h10 a11 h11 a12 h12 X3 X4 X5 X6 X11 X12 k).2.2.2 := by
  induction k with
  | zero => exact ⟨good_nil _, good_nil _, good_nil _, good_nil _⟩
  | succ k ih =>
    have e := pb_k0_t1_succ (F := Ideal) 𝒱 c bd a0 h0 a1 h1 a2 h2 a3 h3 a4 h4 a5 h5 a6 h6 a7 h7 a8 h8 a9 h9 a10 h10 a11 h11 a12 h12 X3 X4 X5 X6 X11 X12 ⟨k, hk⟩
    obtain ⟨i0, i1, i2, i3⟩ := ih (le_of_lt hk)
    rw [show k + 1 = (⟨k, hk⟩ : Fin k0_t1_loop.trips).val + 1 from rfl, e]
    refine ⟨good_append _ _ _ (trip0 𝒱 c bd a0 h0 a1 h1 a2 h2 a3 h3 a4 h4 a5 h5 a6 h6 a7 h7 a8 h8 a9 h9 a10 h10 a11 h11 a12 h12 X3 X4 X5 X6 X11 X12 ⟨k, hk⟩) i0, good_append _ _ _ (trip1 𝒱 c bd a0 h0 a1 h1 a2 h2 a3 h3 a4 h4 a5 h5 a6 h6 a7 h7 a8 h8 a9 h9 a10 h10 a11 h11 a12 h12 X3 X4 X5 X6 X11 X12 ⟨k, hk⟩) i1, good_append _ _ _ (trip2 𝒱 c bd a0 h0 a1 h1 a2 h2 a3 h3 a4 h4 a5 h5 a6 h6 a7 h7 a8 h8 a9 h9 a10 h10 a11 h11 a12 h12 X3 X4 X5 X6 X11 X12 ⟨k, hk⟩) i2, good_append _ _ _ (trip3 𝒱 c bd a0 h0 a1 h1 a2 h2 a3 h3 a4 h4 a5 h5 a6 h6 a7 h7 a8 h8 a9 h9 a10 h10 a11 h11 a12 h12 X3 X4 X5 X6 X11 X12 ⟨k, hk⟩) i3⟩

theorem trips_word : Scf.trips (0#32) (Scalar.addi 0#32 256#32) 1#32 = k0_t1_loop.trips := rfl

/-- What one store of a whole array leaves is what it stored. -/
theorem read_whole {κ : Kind} {sp : Space} {S : Shape} {e : EltTy} (v : View sig κ sp S e) (f : v.ty.Contents (Elt Ideal)) {off : Fin S.rank → Nat} (h : off = fun _ => 0)
    (inb : ∀ a, off a + S.size a ≤ S.size a) (w : S.Idx → Elt Ideal e) :
    v.read (Elt Ideal) (v.writes (Elt Ideal) f [⟨Rect.unit off S.size inb, w⟩]) = w := by
  rw [View.read_writes_eq_canon _ _ _ (fun y => ⟨_, List.mem_singleton_self _, View.mem_set_unit_zero h inb y⟩)]
  exact View.canon_unit_zero h inb w

/-- What stores that agree with one array leave, where they cover the view. -/
theorem read_good {κ : Kind} {sp : Space} {S : Shape} {e : EltTy} (v : View sig κ sp S e) (f : v.ty.Contents (Elt Ideal)) (G : S.Idx → Elt Ideal e)
    (L : List (View.Piece (Elt Ideal) S e)) (h : Good G L) (hc : ∀ y, ∃ p ∈ L, y ∈ p.1.set) : v.read (Elt Ideal) (v.writes (Elt Ideal) f L) = G := by
  rw [View.read_writes_eq_canon v f L hc]
  exact funext fun y => View.canon_apply_of_pieces G L h y (hc y)

/-- What the run leaves in result 1. -/
theorem out5_eq (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    out0_A_5 (F := Ideal) c a0 h0 a1 h1 a2 h2 a3 h3 a4 h4 a5 h5 a6 h6 a7 h7 a8 h8 a9 h9 a10 h10 a11 h11 a12 h12 x0 x1 x2 x3 x4 = (k0_pay13 (F := Ideal) x0 x1 x2) := by
  unfold out0_A_5
  rw [View.read_writes_eq_canon (Val := Elt Ideal) VO0_5 VO0_5.junk _ (cover0_A_5 (F := Ideal) c a0 h0 a1 h1 a2 h2 a3 h3 a4 h4 a5 h5 a6 h6 a7 h7 a8 h8 a9 h9 a10 h10 a11 h11 a12 h12 x0 x1 x2 x3 x4)]
  unfold kernelRun0_A
  dsimp only
  sl_unfold_words
  simp only [View.readAt_eq_ld, Memref.IsWhole.read_unread, View.ld_unit_zero (S := S256x64) hz2, View.ld_unit_zero (S := S256x1) hz2]
  exact View.canon_unit_zero (S := S256x64) hz2 _ _

/-- What the run leaves in result 2. -/
theorem out6_eq (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    out0_A_6 (F := Ideal) c a0 h0 a1 h1 a2 h2 a3 h3 a4 h4 a5 h5 a6 h6 a7 h7 a8 h8 a9 h9 a10 h10 a11 h11 a12 h12 x0 x1 x2 x3 x4 = (k0_pay14 (F := Ideal) x0 x1 x2) := by
  unfold out0_A_6
  rw [View.read_writes_eq_canon (Val := Elt Ideal) VO0_6 VO0_6.junk _ (cover0_A_6 (F := Ideal) c a0 h0 a1 h1 a2 h2 a3 h3 a4 h4 a5 h5 a6 h6 a7 h7 a8 h8 a9 h9 a10 h10 a11 h11 a12 h12 x0 x1 x2 x3 x4)]
  unfold kernelRun0_A
  dsimp only
  sl_unfold_words
  simp only [View.readAt_eq_ld, Memref.IsWhole.read_unread, View.ld_unit_zero (S := S256x64) hz2, View.ld_unit_zero (S := S256x1) hz2]
  exact View.canon_unit_zero (S := S256x64) hz2 _ _

/-- The stores into result 3 all agree with one array. -/
theorem good7 (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    Good (bre (k0_pay17 (F := Ideal) x0 x1 x2) (k0_pay18 (F := Ideal) x0 x1 x2) x3 x4) (kernelRun0_A (F := Ideal) c a0 h0 a1 h1 a2 h2 a3 h3 a4 h4 a5 h5 a6 h6 a7 h7 a8 h8 a9 h9 a10 h10 a11 h11 a12 h12 x0 x1 x2 x3 x4).2.2.1 := by
  unfold kernelRun0_A
  dsimp only
  sl_unfold_words
  simp only [View.readAt_eq_ld, Memref.IsWhole.read_unread, View.ld_unit_zero (S := S256x64) hz2, View.ld_unit_zero (S := S256x1) hz2]
  have e := pieces Variants.none c none a0 h0 a1 h1 a2 h2 a3 h3 a4 h4 a5 h5 a6 h6 a7 h7 a8 h8 a9 h9 a10 h10 a11 h11 a12 h12 (h3.unread x3) (h4.unread x4)
    (a5.view.writes (Elt Ideal) a5.view.junk [⟨Rect.unit ![0, 0] S256x64.size inb_S256x64_S256x64_0_0, (k0_pay13 (F := Ideal) x0 x1 x2)⟩])
    (a6.view.writes (Elt Ideal) a6.view.junk [⟨Rect.unit ![0, 0] S256x64.size inb_S256x64_S256x64_0_0, (k0_pay14 (F := Ideal) x0 x1 x2)⟩])
    (a11.view.writes (Elt Ideal) a11.view.junk [⟨Rect.unit ![0, 0] S256x64.size inb_S256x64_S256x64_0_0, (k0_pay17 (F := Ideal) x0 x1 x2)⟩])
    (a12.view.writes (Elt Ideal) a12.view.junk [⟨Rect.unit ![0, 0] S256x64.size inb_S256x64_S256x64_0_0, (k0_pay18 (F := Ideal) x0 x1 x2)⟩])
    (Scf.trips (0#32) (Scalar.addi 0#32 256#32) 1#32) (le_of_eq trips_word)
  rw [read_whole _ _ hz2, read_whole _ _ hz2, read_whole _ _ hz2, read_whole _ _ hz2, Memref.IsWhole.read_unread, Memref.IsWhole.read_unread] at e
  exact e.1

/-- What the run leaves in result 3. -/
theorem out7_eq (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    out0_A_7 (F := Ideal) c a0 h0 a1 h1 a2 h2 a3 h3 a4 h4 a5 h5 a6 h6 a7 h7 a8 h8 a9 h9 a10 h10 a11 h11 a12 h12 x0 x1 x2 x3 x4 = (bre (k0_pay17 (F := Ideal) x0 x1 x2) (k0_pay18 (F := Ideal) x0 x1 x2) x3 x4) :=
  read_good VO0_7 VO0_7.junk _ _ (good7 c a0 h0 a1 h1 a2 h2 a3 h3 a4 h4 a5 h5 a6 h6 a7 h7 a8 h8 a9 h9 a10 h10 a11 h11 a12 h12 x0 x1 x2 x3 x4) (cover0_A_7 (F := Ideal) c a0 h0 a1 h1 a2 h2 a3 h3 a4 h4 a5 h5 a6 h6 a7 h7 a8 h8 a9 h9 a10 h10 a11 h11 a12 h12 x0 x1 x2 x3 x4)

/-- The stores into result 4 all agree with one array. -/
theorem good8 (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    Good (bim (k0_pay17 (F := Ideal) x0 x1 x2) (k0_pay18 (F := Ideal) x0 x1 x2) x3 x4) (kernelRun0_A (F := Ideal) c a0 h0 a1 h1 a2 h2 a3 h3 a4 h4 a5 h5 a6 h6 a7 h7 a8 h8 a9 h9 a10 h10 a11 h11 a12 h12 x0 x1 x2 x3 x4).2.2.2.1 := by
  unfold kernelRun0_A
  dsimp only
  sl_unfold_words
  simp only [View.readAt_eq_ld, Memref.IsWhole.read_unread, View.ld_unit_zero (S := S256x64) hz2, View.ld_unit_zero (S := S256x1) hz2]
  have e := pieces Variants.none c none a0 h0 a1 h1 a2 h2 a3 h3 a4 h4 a5 h5 a6 h6 a7 h7 a8 h8 a9 h9 a10 h10 a11 h11 a12 h12 (h3.unread x3) (h4.unread x4)
    (a5.view.writes (Elt Ideal) a5.view.junk [⟨Rect.unit ![0, 0] S256x64.size inb_S256x64_S256x64_0_0, (k0_pay13 (F := Ideal) x0 x1 x2)⟩])
    (a6.view.writes (Elt Ideal) a6.view.junk [⟨Rect.unit ![0, 0] S256x64.size inb_S256x64_S256x64_0_0, (k0_pay14 (F := Ideal) x0 x1 x2)⟩])
    (a11.view.writes (Elt Ideal) a11.view.junk [⟨Rect.unit ![0, 0] S256x64.size inb_S256x64_S256x64_0_0, (k0_pay17 (F := Ideal) x0 x1 x2)⟩])
    (a12.view.writes (Elt Ideal) a12.view.junk [⟨Rect.unit ![0, 0] S256x64.size inb_S256x64_S256x64_0_0, (k0_pay18 (F := Ideal) x0 x1 x2)⟩])
    (Scf.trips (0#32) (Scalar.addi 0#32 256#32) 1#32) (le_of_eq trips_word)
  rw [read_whole _ _ hz2, read_whole _ _ hz2, read_whole _ _ hz2, read_whole _ _ hz2, Memref.IsWhole.read_unread, Memref.IsWhole.read_unread] at e
  exact e.2.1

/-- What the run leaves in result 4. -/
theorem out8_eq (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    out0_A_8 (F := Ideal) c a0 h0 a1 h1 a2 h2 a3 h3 a4 h4 a5 h5 a6 h6 a7 h7 a8 h8 a9 h9 a10 h10 a11 h11 a12 h12 x0 x1 x2 x3 x4 = (bim (k0_pay17 (F := Ideal) x0 x1 x2) (k0_pay18 (F := Ideal) x0 x1 x2) x3 x4) :=
  read_good VO0_8 VO0_8.junk _ _ (good8 c a0 h0 a1 h1 a2 h2 a3 h3 a4 h4 a5 h5 a6 h6 a7 h7 a8 h8 a9 h9 a10 h10 a11 h11 a12 h12 x0 x1 x2 x3 x4) (cover0_A_8 (F := Ideal) c a0 h0 a1 h1 a2 h2 a3 h3 a4 h4 a5 h5 a6 h6 a7 h7 a8 h8 a9 h9 a10 h10 a11 h11 a12 h12 x0 x1 x2 x3 x4)

/-- The stores into result 5 all agree with one array. -/
theorem good9 (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    Good (bre (k0_pay13 (F := Ideal) x0 x1 x2) (k0_pay14 (F := Ideal) x0 x1 x2) (bre (k0_pay17 (F := Ideal) x0 x1 x2) (k0_pay18 (F := Ideal) x0 x1 x2) x3 x4) (bim (k0_pay17 (F := Ideal) x0 x1 x2) (k0_pay18 (F := Ideal) x0 x1 x2) x3 x4)) (kernelRun0_A (F := Ideal) c a0 h0 a1 h1 a2 h2 a3 h3 a4 h4 a5 h5 a6 h6 a7 h7 a8 h8 a9 h9 a10 h10 a11 h11 a12 h12 x0 x1 x2 x3 x4).2.2.2.2.1 := by
  unfold kernelRun0_A
  dsimp only
  sl_unfold_words
  simp only [View.readAt_eq_ld, Memref.IsWhole.read_unread, View.ld_unit_zero (S := S256x64) hz2, View.ld_unit_zero (S := S256x1) hz2]
  have e := pieces Variants.none c none a0 h0 a1 h1 a2 h2 a3 h3 a4 h4 a5 h5 a6 h6 a7 h7 a8 h8 a9 h9 a10 h10 a11 h11 a12 h12 (h3.unread x3) (h4.unread x4)
    (a5.view.writes (Elt Ideal) a5.view.junk [⟨Rect.unit ![0, 0] S256x64.size inb_S256x64_S256x64_0_0, (k0_pay13 (F := Ideal) x0 x1 x2)⟩])
    (a6.view.writes (Elt Ideal) a6.view.junk [⟨Rect.unit ![0, 0] S256x64.size inb_S256x64_S256x64_0_0, (k0_pay14 (F := Ideal) x0 x1 x2)⟩])
    (a11.view.writes (Elt Ideal) a11.view.junk [⟨Rect.unit ![0, 0] S256x64.size inb_S256x64_S256x64_0_0, (k0_pay17 (F := Ideal) x0 x1 x2)⟩])
    (a12.view.writes (Elt Ideal) a12.view.junk [⟨Rect.unit ![0, 0] S256x64.size inb_S256x64_S256x64_0_0, (k0_pay18 (F := Ideal) x0 x1 x2)⟩])
    (Scf.trips (0#32) (Scalar.addi 0#32 256#32) 1#32) (le_of_eq trips_word)
  rw [read_whole _ _ hz2, read_whole _ _ hz2, read_whole _ _ hz2, read_whole _ _ hz2, Memref.IsWhole.read_unread, Memref.IsWhole.read_unread] at e
  exact e.2.2.1

/-- What the run leaves in result 5. -/
theorem out9_eq (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    out0_A_9 (F := Ideal) c a0 h0 a1 h1 a2 h2 a3 h3 a4 h4 a5 h5 a6 h6 a7 h7 a8 h8 a9 h9 a10 h10 a11 h11 a12 h12 x0 x1 x2 x3 x4 = (bre (k0_pay13 (F := Ideal) x0 x1 x2) (k0_pay14 (F := Ideal) x0 x1 x2) (bre (k0_pay17 (F := Ideal) x0 x1 x2) (k0_pay18 (F := Ideal) x0 x1 x2) x3 x4) (bim (k0_pay17 (F := Ideal) x0 x1 x2) (k0_pay18 (F := Ideal) x0 x1 x2) x3 x4)) :=
  read_good VO0_9 VO0_9.junk _ _ (good9 c a0 h0 a1 h1 a2 h2 a3 h3 a4 h4 a5 h5 a6 h6 a7 h7 a8 h8 a9 h9 a10 h10 a11 h11 a12 h12 x0 x1 x2 x3 x4) (cover0_A_9 (F := Ideal) c a0 h0 a1 h1 a2 h2 a3 h3 a4 h4 a5 h5 a6 h6 a7 h7 a8 h8 a9 h9 a10 h10 a11 h11 a12 h12 x0 x1 x2 x3 x4)

/-- The stores into result 6 all agree with one array. -/
theorem good10 (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    Good (bim (k0_pay13 (F := Ideal) x0 x1 x2) (k0_pay14 (F := Ideal) x0 x1 x2) (bre (k0_pay17 (F := Ideal) x0 x1 x2) (k0_pay18 (F := Ideal) x0 x1 x2) x3 x4) (bim (k0_pay17 (F := Ideal) x0 x1 x2) (k0_pay18 (F := Ideal) x0 x1 x2) x3 x4)) (kernelRun0_A (F := Ideal) c a0 h0 a1 h1 a2 h2 a3 h3 a4 h4 a5 h5 a6 h6 a7 h7 a8 h8 a9 h9 a10 h10 a11 h11 a12 h12 x0 x1 x2 x3 x4).2.2.2.2.2.1 := by
  unfold kernelRun0_A
  dsimp only
  sl_unfold_words
  simp only [View.readAt_eq_ld, Memref.IsWhole.read_unread, View.ld_unit_zero (S := S256x64) hz2, View.ld_unit_zero (S := S256x1) hz2]
  have e := pieces Variants.none c none a0 h0 a1 h1 a2 h2 a3 h3 a4 h4 a5 h5 a6 h6 a7 h7 a8 h8 a9 h9 a10 h10 a11 h11 a12 h12 (h3.unread x3) (h4.unread x4)
    (a5.view.writes (Elt Ideal) a5.view.junk [⟨Rect.unit ![0, 0] S256x64.size inb_S256x64_S256x64_0_0, (k0_pay13 (F := Ideal) x0 x1 x2)⟩])
    (a6.view.writes (Elt Ideal) a6.view.junk [⟨Rect.unit ![0, 0] S256x64.size inb_S256x64_S256x64_0_0, (k0_pay14 (F := Ideal) x0 x1 x2)⟩])
    (a11.view.writes (Elt Ideal) a11.view.junk [⟨Rect.unit ![0, 0] S256x64.size inb_S256x64_S256x64_0_0, (k0_pay17 (F := Ideal) x0 x1 x2)⟩])
    (a12.view.writes (Elt Ideal) a12.view.junk [⟨Rect.unit ![0, 0] S256x64.size inb_S256x64_S256x64_0_0, (k0_pay18 (F := Ideal) x0 x1 x2)⟩])
    (Scf.trips (0#32) (Scalar.addi 0#32 256#32) 1#32) (le_of_eq trips_word)
  rw [read_whole _ _ hz2, read_whole _ _ hz2, read_whole _ _ hz2, read_whole _ _ hz2, Memref.IsWhole.read_unread, Memref.IsWhole.read_unread] at e
  exact e.2.2.2

/-- What the run leaves in result 6. -/
theorem out10_eq (c : Dev nD) a0 h0 a1 h1 a2 h2 a3 h3 a4 h4 a5 h5 a6 h6 a7 h7 a8 h8 a9 h9 a10 h10 a11 h11 a12 h12 (x0 x1 : FVec Ideal S256x64 .f32) (x2 : FVec Ideal S256x1 .f32) (x3 x4 : FVec Ideal S256x16x64 .f32) :
    out0_A_10 (F := Ideal) c a0 h0 a1 h1 a2 h2 a3 h3 a4 h4 a5 h5 a6 h6 a7 h7 a8 h8 a9 h9 a10 h10 a11 h11 a12 h12 x0 x1 x2 x3 x4 = (bim (k0_pay13 (F := Ideal) x0 x1 x2) (k0_pay14 (F := Ideal) x0 x1 x2) (bre (k0_pay17 (F := Ideal) x0 x1 x2) (k0_pay18 (F := Ideal) x0 x1 x2) x3 x4) (bim (k0_pay17 (F := Ideal) x0 x1 x2) (k0_pay18 (F := Ideal) x0 x1 x2) x3 x4)) :=
  read_good VO0_10 VO0_10.junk _ _ (good10 c a0 h0 a1 h1 a2 h2 a3 h3 a4 h4 a5 h5 a6 h6 a7 h7 a8 h8 a9 h9 a10 h10 a11 h11 a12 h12 x0 x1 x2 x3 x4) (cover0_A_10 (F := Ideal) c a0 h0 a1 h1 a2 h2 a3 h3 a4 h4 a5 h5 a6 h6 a7 h7 a8 h8 a9 h9 a10 h10 a11 h11 a12 h12 x0 x1 x2 x3 x4)

/-- A group's matrix lying on its side. -/
abbrev side (x : FVec Ideal S256x64x16 .f32) : FVec Ideal S256x16x64 .f32 :=
  transpose S256x16x64 [0, 2, 1] x transposes_S256x64x16_S256x16x64_0_2_1

section Reference
open Cert.Reference13Ideal.Read

theorem pay13_eq (x0 x1 : FVec Ideal S256x64 .f32) (b : FVec Ideal S256x1 .f32) (x2 : FVec Ideal S256 .f32) (h : ∀ g : Fin 256, (b (ix2 g 0) : EReal) = x2 (ix1 g)) :
    k0_pay13 (F := Ideal) x0 x1 b = (val_main_v8 (F := Ideal) x0 x1 x2 : FVec Ideal S256x64 .f32) := by
  funext y
  obtain ⟨g, n, rfl⟩ : ∃ (g : Fin 256) (n : Fin 64), y = ix2 g n := ⟨y 0, y 1, funext fun a => by fin_cases a <;> rfl⟩
  pointwise [k0_pay13, k0_pay12, k0_pay11, k0_pay10, val_main_v8, val_main_v7, val_main_v6, val_main_v5, val_main_v4, val_main_v3, val_main_v2, val_main_v1, val_main_v0]
  rw [h]

theorem pay14_eq (x0 x1 : FVec Ideal S256x64 .f32) (b : FVec Ideal S256x1 .f32) (x2 : FVec Ideal S256 .f32) (h : ∀ g : Fin 256, (b (ix2 g 0) : EReal) = x2 (ix1 g)) :
    k0_pay14 (F := Ideal) x0 x1 b = (val_main_v15 (F := Ideal) x0 x1 x2 : FVec Ideal S256x64 .f32) := by
  funext y
  obtain ⟨g, n, rfl⟩ : ∃ (g : Fin 256) (n : Fin 64), y = ix2 g n := ⟨y 0, y 1, funext fun a => by fin_cases a <;> rfl⟩
  pointwise [k0_pay14, k0_pay12, k0_pay11, k0_pay10, val_main_v15, val_main_v14, val_main_v13, val_main_v12, val_main_v11, val_main_v10, val_main_v9, val_main_v1, val_main_v0]
  rw [h]

theorem pay17_eq (x0 x1 : FVec Ideal S256x64 .f32) (b : FVec Ideal S256x1 .f32) (x2 : FVec Ideal S256 .f32) (h : ∀ g : Fin 256, (b (ix2 g 0) : EReal) = x2 (ix1 g)) :
    k0_pay17 (F := Ideal) x0 x1 b = (val_main_v24 (F := Ideal) x0 x1 x2 : FVec Ideal S256x64 .f32) := by
  unfold k0_pay17 k0_pay15 k0_pay16 val_main_v24 val_main_v23 val_main_v22 val_main_v21 val_main_v20 val_main_v19 val_main_cst val_main_v18 val_main_v17 val_main_v16
  rw [pay13_eq x0 x1 b x2 h, pay14_eq x0 x1 b x2 h]
  generalize (val_main_v8 (F := Ideal) x0 x1 x2 : FVec Ideal S256x64 .f32) = u
  generalize val_main_v15 (F := Ideal) x0 x1 x2 = v
  funext y
  obtain ⟨g, n, rfl⟩ : ∃ (g : Fin 256) (n : Fin 64), y = ix2 g n := ⟨y 0, y 1, funext fun a => by fin_cases a <;> rfl⟩
  pointwise []

theorem pay18_eq (x0 x1 : FVec Ideal S256x64 .f32) (b : FVec Ideal S256x1 .f32) (x2 : FVec Ideal S256 .f32) (h : ∀ g : Fin 256, (b (ix2 g 0) : EReal) = x2 (ix1 g)) :
    k0_pay18 (F := Ideal) x0 x1 b = (val_main_v31 (F := Ideal) x0 x1 x2 : FVec Ideal S256x64 .f32) := by
  unfold k0_pay18 k0_pay15 k0_pay16 val_main_v31 val_main_v30 val_main_v29 val_main_v28 val_main_v27 val_main_cst_0 val_main_v26 val_main_v18 val_main_v17 val_main_v16
  rw [pay13_eq x0 x1 b x2 h, pay14_eq x0 x1 b x2 h]
  generalize (val_main_v8 (F := Ideal) x0 x1 x2 : FVec Ideal S256x64 .f32) = u
  generalize val_main_v15 (F := Ideal) x0 x1 x2 = v
  funext y
  obtain ⟨g, n, rfl⟩ : ∃ (g : Fin 256) (n : Fin 64), y = ix2 g n := ⟨y 0, y 1, funext fun a => by fin_cases a <;> rfl⟩
  pointwise []

theorem v57_eq (x0 x1 : FVec Ideal S256x64 .f32) (x2 : FVec Ideal S256 .f32) (x3 x4 : FVec Ideal S256x64x16 .f32) :
    val_main_v57 (F := Ideal) x0 x1 x2 x3 x4 = bre (val_main_v24 (F := Ideal) x0 x1 x2) (val_main_v31 (F := Ideal) x0 x1 x2) (side x3) (side x4) := by
  unfold val_main_v57 val_main_v37 val_main_v36 val_main_v35 val_main_v34 val_main_v33 val_main_v32 val_main_v25
  generalize val_main_v24 (F := Ideal) x0 x1 x2 = u
  generalize val_main_v31 (F := Ideal) x0 x1 x2 = v
  funext y
  obtain ⟨g, p, n, rfl⟩ : ∃ (g : Fin 256) (p : Fin 16) (n : Fin 64), y = ix3 g p n := ⟨y 0, y 1, y 2, funext fun a => by fin_cases a <;> rfl⟩
  unfold bre side
  pointwise []

theorem v58_eq (x0 x1 : FVec Ideal S256x64 .f32) (x2 : FVec Ideal S256 .f32) (x3 x4 : FVec Ideal S256x64x16 .f32) :
    val_main_v58 (F := Ideal) x0 x1 x2 x3 x4 = bim (val_main_v24 (F := Ideal) x0 x1 x2) (val_main_v31 (F := Ideal) x0 x1 x2) (side x3) (side x4) := by
  unfold val_main_v58 val_main_v42 val_main_v41 val_main_v40 val_main_v39 val_main_v38 val_main_v32 val_main_v25
  generalize val_main_v24 (F := Ideal) x0 x1 x2 = u
  generalize val_main_v31 (F := Ideal) x0 x1 x2 = v
  funext y
  obtain ⟨g, p, n, rfl⟩ : ∃ (g : Fin 256) (p : Fin 16) (n : Fin 64), y = ix3 g p n := ⟨y 0, y 1, y 2, funext fun a => by fin_cases a <;> rfl⟩
  unfold bim side
  pointwise []

theorem v59_eq (x0 x1 : FVec Ideal S256x64 .f32) (x2 : FVec Ideal S256 .f32) (x3 x4 : FVec Ideal S256x64x16 .f32) :
    val_main_v59 (F := Ideal) x0 x1 x2 x3 x4 = bre (val_main_v8 (F := Ideal) x0 x1 x2) (val_main_v15 (F := Ideal) x0 x1 x2)
      (val_main_v57 (F := Ideal) x0 x1 x2 x3 x4) (val_main_v58 (F := Ideal) x0 x1 x2 x3 x4) := by
  unfold val_main_v59 val_main_v49 val_main_v48 val_main_v47 val_main_v46 val_main_v45 val_main_v44 val_main_v43 val_main_v57 val_main_v58
  generalize (val_main_v8 (F := Ideal) x0 x1 x2 : FVec Ideal S256x64 .f32) = u
  generalize val_main_v15 (F := Ideal) x0 x1 x2 = v
  generalize val_main_v37 (F := Ideal) x0 x1 x2 x3 x4 = s
  generalize val_main_v42 (F := Ideal) x0 x1 x2 x3 x4 = t
  funext y
  obtain ⟨g, p, n, rfl⟩ : ∃ (g : Fin 256) (p : Fin 16) (n : Fin 64), y = ix3 g p n := ⟨y 0, y 1, y 2, funext fun a => by fin_cases a <;> rfl⟩
  unfold bre
  pointwise []

theorem v60_eq (x0 x1 : FVec Ideal S256x64 .f32) (x2 : FVec Ideal S256 .f32) (x3 x4 : FVec Ideal S256x64x16 .f32) :
    val_main_v60 (F := Ideal) x0 x1 x2 x3 x4 = bim (val_main_v8 (F := Ideal) x0 x1 x2) (val_main_v15 (F := Ideal) x0 x1 x2)
      (val_main_v57 (F := Ideal) x0 x1 x2 x3 x4) (val_main_v58 (F := Ideal) x0 x1 x2 x3 x4) := by
  unfold val_main_v60 val_main_v56 val_main_v55 val_main_v54 val_main_v53 val_main_v52 val_main_v51 val_main_v50 val_main_v57 val_main_v58
  generalize (val_main_v8 (F := Ideal) x0 x1 x2 : FVec Ideal S256x64 .f32) = u
  generalize val_main_v15 (F := Ideal) x0 x1 x2 = v
  generalize val_main_v37 (F := Ideal) x0 x1 x2 x3 x4 = s
  generalize val_main_v42 (F := Ideal) x0 x1 x2 x3 x4 = t
  funext y
  obtain ⟨g, p, n, rfl⟩ : ∃ (g : Fin 256) (p : Fin 16) (n : Fin 64), y = ix3 g p n := ⟨y 0, y 1, y 2, funext fun a => by fin_cases a <;> rfl⟩
  unfold bim
  pointwise []

end Reference

/-- Which block each window reads or writes at the one point. -/
theorem idx_facts : ∀ t : Fin cfg0.N,
    (∀ a : Fin 2, win0_0.index t a = 0)
    ∧ (∀ a : Fin 2, win0_1.index t a = 0)
    ∧ (∀ a : Fin 2, win0_2.index t a = 0)
    ∧ (∀ a : Fin 3, win0_3.index t a = 0)
    ∧ (∀ a : Fin 3, win0_4.index t a = 0)
    ∧ (∀ a : Fin 2, win0_5.index t a = 0)
    ∧ (∀ a : Fin 2, win0_6.index t a = 0)
    ∧ (∀ a : Fin 3, win0_7.index t a = 0)
    ∧ (∀ a : Fin 3, win0_8.index t a = 0)
    ∧ (∀ a : Fin 3, win0_9.index t a = 0)
    ∧ (∀ a : Fin 3, win0_10.index t a = 0) :=
  (by decide +kernel : ∀ t : Fin grid0.N, _)

variable (m : (ℓ : Loc nD τ sig) → Buf (Elt Ideal) ℓ)

/-- The arguments as arrays of extended reals. -/
abbrev X0 (c : Dev nD) : FVec Ideal S256x64 .f32 := m ((c : Thread nD τ).loc main_arg0)
abbrev X1 (c : Dev nD) : FVec Ideal S256x64 .f32 := m ((c : Thread nD τ).loc main_arg1)
abbrev X2 (c : Dev nD) : FVec Ideal S256 .f32 := m ((c : Thread nD τ).loc main_arg2)
abbrev X3 (c : Dev nD) : FVec Ideal S256x64x16 .f32 := m ((c : Thread nD τ).loc main_arg3)
abbrev X4 (c : Dev nD) : FVec Ideal S256x64x16 .f32 := m ((c : Thread nD τ).loc main_arg4)

theorem V0 (c : Dev nD) : (V m c main_v0 : FVec Ideal S256x16x64 .f32) = side (X3 m c) := by
  unfold_abbrev_sides
  after_results

theorem V1 (c : Dev nD) : (V m c main_v1 : FVec Ideal S256x16x64 .f32) = side (X4 m c) := by
  unfold_abbrev_sides
  after_results

theorem V2 (c : Dev nD) : (V m c main_v2 : FVec Ideal S256x1 .f32) = shapeCast S256x1 (X2 m c) shapeCasts_S256_S256x1 := by
  unfold_abbrev_sides
  after_results
  rfl

theorem iblk0 (c : Dev nD) (t : Fin cfg0.N) : (iblk m c 0 t : FVec Ideal S256x64 .f32) = X0 m c := by
  obtain ⟨e, -⟩ := idx_facts t
  refine Eq.trans ?_ (V_main_arg0 m c)
  funext y
  show (V m c main_arg0 : FVec Ideal S256x64 .f32) (((cfg0.win 0).blk t).view.emb y) = (V m c main_arg0 : FVec Ideal S256x64 .f32) y
  have he : ((cfg0.win 0).blk t).view.emb y = y := by
      funext a; apply Fin.ext
      match a with
      | ⟨0, _⟩ => show win0_0.index t (0 : Fin 2) * 256 + 1 * (y 0).val = (y 0).val; rw [e]; omega
      | ⟨1, _⟩ => show win0_0.index t (1 : Fin 2) * 64 + 1 * (y 1).val = (y 1).val; rw [e]; omega
  exact congrArg _ he

theorem iblk1 (c : Dev nD) (t : Fin cfg0.N) : (iblk m c 1 t : FVec Ideal S256x64 .f32) = X1 m c := by
  obtain ⟨-, e, -⟩ := idx_facts t
  refine Eq.trans ?_ (V_main_arg1 m c)
  funext y
  show (V m c main_arg1 : FVec Ideal S256x64 .f32) (((cfg0.win 1).blk t).view.emb y) = (V m c main_arg1 : FVec Ideal S256x64 .f32) y
  have he : ((cfg0.win 1).blk t).view.emb y = y := by
      funext a; apply Fin.ext
      match a with
      | ⟨0, _⟩ => show win0_1.index t (0 : Fin 2) * 256 + 1 * (y 0).val = (y 0).val; rw [e]; omega
      | ⟨1, _⟩ => show win0_1.index t (1 : Fin 2) * 64 + 1 * (y 1).val = (y 1).val; rw [e]; omega
  exact congrArg _ he

theorem iblk2 (c : Dev nD) (t : Fin cfg0.N) : (iblk m c 2 t : FVec Ideal S256x1 .f32) = shapeCast S256x1 (X2 m c) shapeCasts_S256_S256x1 := by
  obtain ⟨-, -, e, -⟩ := idx_facts t
  refine Eq.trans ?_ (V2 m c)
  funext y
  show (V m c main_v2 : FVec Ideal S256x1 .f32) (((cfg0.win 2).blk t).view.emb y) = (V m c main_v2 : FVec Ideal S256x1 .f32) y
  have he : ((cfg0.win 2).blk t).view.emb y = y := by
      funext a; apply Fin.ext
      match a with
      | ⟨0, _⟩ => show win0_2.index t (0 : Fin 2) * 256 + 1 * (y 0).val = (y 0).val; rw [e]; omega
      | ⟨1, _⟩ => show win0_2.index t (1 : Fin 2) * 1 + 1 * (y 1).val = (y 1).val; rw [e]; omega
  exact congrArg _ he

theorem iblk3 (c : Dev nD) (t : Fin cfg0.N) : (iblk m c 3 t : FVec Ideal S256x16x64 .f32) = side (X3 m c) := by
  obtain ⟨-, -, -, e, -⟩ := idx_facts t
  refine Eq.trans ?_ (V0 m c)
  funext y
  show (V m c main_v0 : FVec Ideal S256x16x64 .f32) (((cfg0.win 3).blk t).view.emb y) = (V m c main_v0 : FVec Ideal S256x16x64 .f32) y
  have he : ((cfg0.win 3).blk t).view.emb y = y := by
      funext a; apply Fin.ext
      match a with
      | ⟨0, _⟩ => show win0_3.index t (0 : Fin 3) * 256 + 1 * (y 0).val = (y 0).val; rw [e]; omega
      | ⟨1, _⟩ => show win0_3.index t (1 : Fin 3) * 16 + 1 * (y 1).val = (y 1).val; rw [e]; omega
      | ⟨2, _⟩ => show win0_3.index t (2 : Fin 3) * 64 + 1 * (y 2).val = (y 2).val; rw [e]; omega
  exact congrArg _ he

theorem iblk4 (c : Dev nD) (t : Fin cfg0.N) : (iblk m c 4 t : FVec Ideal S256x16x64 .f32) = side (X4 m c) := by
  obtain ⟨-, -, -, -, e, -⟩ := idx_facts t
  refine Eq.trans ?_ (V1 m c)
  funext y
  show (V m c main_v1 : FVec Ideal S256x16x64 .f32) (((cfg0.win 4).blk t).view.emb y) = (V m c main_v1 : FVec Ideal S256x16x64 .f32) y
  have he : ((cfg0.win 4).blk t).view.emb y = y := by
      funext a; apply Fin.ext
      match a with
      | ⟨0, _⟩ => show win0_4.index t (0 : Fin 3) * 256 + 1 * (y 0).val = (y 0).val; rw [e]; omega
      | ⟨1, _⟩ => show win0_4.index t (1 : Fin 3) * 16 + 1 * (y 1).val = (y 1).val; rw [e]; omega
      | ⟨2, _⟩ => show win0_4.index t (2 : Fin 3) * 64 + 1 * (y 2).val = (y 2).val; rw [e]; omega
  exact congrArg _ he

theorem dt_eq (c : Dev nD) (g : Fin 256) : (shapeCast S256x1 (X2 m c) shapeCasts_S256_S256x1 (ix2 g 0) : EReal) = X2 m c (ix1 g) := by
  pointwise []

open Cert.Reference13Ideal.Read in
/-- Result 1 as the one point leaves it is the reference's. -/
theorem point5 (c : Dev nD) (t : Fin cfg0.N) :
    out0_A_5 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t)
      = (val_main_v8 (F := Ideal) (X0 m c) (X1 m c) (X2 m c) : FVec Ideal S256x64 .f32) := by
  rw [out5_eq, iblk0, iblk1, iblk2, pay13_eq _ _ _ (X2 m c) (dt_eq m c)]

theorem flush5 : ∀ t : Fin cfg0.N, (cfg0.win 5).flush t = true := (by decide +kernel : ∀ t : Fin grid0.N, win0_5.flush t = true)

open Cert.Reference13Ideal.Read in
/-- The array of result 1 after the run is the reference's. -/
theorem final5 (c : Dev nD) : (dats m 0 c).arrAt 5 cfg0.N = val_main_v8 (F := Ideal) (X0 m c) (X1 m c) (X2 m c) :=
  (dats m 0 c).arrAt_eq_of_cover 5 _ (fun t hf => by
    rw [Kernel13Ideal.Value.flushed5_A, point5]
    obtain ⟨-, -, -, -, -, e, -⟩ := idx_facts t
    funext y
    have hx : (cfg0.win 5).xinj (grid0.coords t) y = y := rfl
    have he : ((cfg0.win 5).blk t).view.emb y = y := by
      funext a; apply Fin.ext
      match a with
      | ⟨0, _⟩ => show win0_5.index t (0 : Fin 2) * 256 + 1 * (y 0).val = (y 0).val; rw [e]; omega
      | ⟨1, _⟩ => show win0_5.index t (1 : Fin 2) * 64 + 1 * (y 1).val = (y 1).val; rw [e]; omega
    show (val_main_v8 (F := Ideal) (X0 m c) (X1 m c) (X2 m c) : FVec Ideal S256x64 .f32) ((cfg0.win 5).xinj (grid0.coords t) y)
      = val_main_v8 (F := Ideal) (X0 m c) (X1 m c) (X2 m c) (((cfg0.win 5).blk t).view.emb y)
    rw [hx, he]) (fun y => by
      let t : Fin cfg0.N := ⟨0, by decide +kernel⟩
      refine ⟨t, flush5 t, ?_⟩
      obtain ⟨-, -, -, -, -, e, -⟩ := idx_facts t
      have he : ((cfg0.win 5).blk t).view.emb y = y := by
        funext a; apply Fin.ext
        match a with
        | ⟨0, _⟩ => show win0_5.index t (0 : Fin 2) * 256 + 1 * (y 0).val = (y 0).val; rw [e]; omega
        | ⟨1, _⟩ => show win0_5.index t (1 : Fin 2) * 64 + 1 * (y 1).val = (y 1).val; rw [e]; omega
      exact Finset.mem_map.mpr ⟨y, Finset.mem_univ _, he⟩)

open Cert.Reference13Ideal.Read in
/-- Result 2 as the one point leaves it is the reference's. -/
theorem point6 (c : Dev nD) (t : Fin cfg0.N) :
    out0_A_6 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t)
      = (val_main_v15 (F := Ideal) (X0 m c) (X1 m c) (X2 m c) : FVec Ideal S256x64 .f32) := by
  rw [out6_eq, iblk0, iblk1, iblk2, pay14_eq _ _ _ (X2 m c) (dt_eq m c)]

theorem flush6 : ∀ t : Fin cfg0.N, (cfg0.win 6).flush t = true := (by decide +kernel : ∀ t : Fin grid0.N, win0_6.flush t = true)

open Cert.Reference13Ideal.Read in
/-- The array of result 2 after the run is the reference's. -/
theorem final6 (c : Dev nD) : (dats m 0 c).arrAt 6 cfg0.N = val_main_v15 (F := Ideal) (X0 m c) (X1 m c) (X2 m c) :=
  (dats m 0 c).arrAt_eq_of_cover 6 _ (fun t hf => by
    rw [Kernel13Ideal.Value.flushed6_A, point6]
    obtain ⟨-, -, -, -, -, -, e, -⟩ := idx_facts t
    funext y
    have hx : (cfg0.win 6).xinj (grid0.coords t) y = y := rfl
    have he : ((cfg0.win 6).blk t).view.emb y = y := by
      funext a; apply Fin.ext
      match a with
      | ⟨0, _⟩ => show win0_6.index t (0 : Fin 2) * 256 + 1 * (y 0).val = (y 0).val; rw [e]; omega
      | ⟨1, _⟩ => show win0_6.index t (1 : Fin 2) * 64 + 1 * (y 1).val = (y 1).val; rw [e]; omega
    show (val_main_v15 (F := Ideal) (X0 m c) (X1 m c) (X2 m c) : FVec Ideal S256x64 .f32) ((cfg0.win 6).xinj (grid0.coords t) y)
      = val_main_v15 (F := Ideal) (X0 m c) (X1 m c) (X2 m c) (((cfg0.win 6).blk t).view.emb y)
    rw [hx, he]) (fun y => by
      let t : Fin cfg0.N := ⟨0, by decide +kernel⟩
      refine ⟨t, flush6 t, ?_⟩
      obtain ⟨-, -, -, -, -, -, e, -⟩ := idx_facts t
      have he : ((cfg0.win 6).blk t).view.emb y = y := by
        funext a; apply Fin.ext
        match a with
        | ⟨0, _⟩ => show win0_6.index t (0 : Fin 2) * 256 + 1 * (y 0).val = (y 0).val; rw [e]; omega
        | ⟨1, _⟩ => show win0_6.index t (1 : Fin 2) * 64 + 1 * (y 1).val = (y 1).val; rw [e]; omega
      exact Finset.mem_map.mpr ⟨y, Finset.mem_univ _, he⟩)

open Cert.Reference13Ideal.Read in
/-- Result 3 as the one point leaves it is the reference's. -/
theorem point7 (c : Dev nD) (t : Fin cfg0.N) :
    out0_A_7 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t)
      = (val_main_v57 (F := Ideal) (X0 m c) (X1 m c) (X2 m c) (X3 m c) (X4 m c) : FVec Ideal S256x16x64 .f32) := by
  rw [out7_eq, iblk0, iblk1, iblk2, iblk3, iblk4, pay17_eq _ _ _ (X2 m c) (dt_eq m c), pay18_eq _ _ _ (X2 m c) (dt_eq m c), v57_eq]

theorem flush7 : ∀ t : Fin cfg0.N, (cfg0.win 7).flush t = true := (by decide +kernel : ∀ t : Fin grid0.N, win0_7.flush t = true)

open Cert.Reference13Ideal.Read in
/-- The array of result 3 after the run is the reference's. -/
theorem final7 (c : Dev nD) : (dats m 0 c).arrAt 7 cfg0.N = val_main_v57 (F := Ideal) (X0 m c) (X1 m c) (X2 m c) (X3 m c) (X4 m c) :=
  (dats m 0 c).arrAt_eq_of_cover 7 _ (fun t hf => by
    rw [Kernel13Ideal.Value.flushed7_A, point7]
    obtain ⟨-, -, -, -, -, -, -, e, -⟩ := idx_facts t
    funext y
    have hx : (cfg0.win 7).xinj (grid0.coords t) y = y := rfl
    have he : ((cfg0.win 7).blk t).view.emb y = y := by
      funext a; apply Fin.ext
      match a with
      | ⟨0, _⟩ => show win0_7.index t (0 : Fin 3) * 256 + 1 * (y 0).val = (y 0).val; rw [e]; omega
      | ⟨1, _⟩ => show win0_7.index t (1 : Fin 3) * 16 + 1 * (y 1).val = (y 1).val; rw [e]; omega
      | ⟨2, _⟩ => show win0_7.index t (2 : Fin 3) * 64 + 1 * (y 2).val = (y 2).val; rw [e]; omega
    show (val_main_v57 (F := Ideal) (X0 m c) (X1 m c) (X2 m c) (X3 m c) (X4 m c) : FVec Ideal S256x16x64 .f32) ((cfg0.win 7).xinj (grid0.coords t) y)
      = val_main_v57 (F := Ideal) (X0 m c) (X1 m c) (X2 m c) (X3 m c) (X4 m c) (((cfg0.win 7).blk t).view.emb y)
    rw [hx, he]) (fun y => by
      let t : Fin cfg0.N := ⟨0, by decide +kernel⟩
      refine ⟨t, flush7 t, ?_⟩
      obtain ⟨-, -, -, -, -, -, -, e, -⟩ := idx_facts t
      have he : ((cfg0.win 7).blk t).view.emb y = y := by
        funext a; apply Fin.ext
        match a with
        | ⟨0, _⟩ => show win0_7.index t (0 : Fin 3) * 256 + 1 * (y 0).val = (y 0).val; rw [e]; omega
        | ⟨1, _⟩ => show win0_7.index t (1 : Fin 3) * 16 + 1 * (y 1).val = (y 1).val; rw [e]; omega
        | ⟨2, _⟩ => show win0_7.index t (2 : Fin 3) * 64 + 1 * (y 2).val = (y 2).val; rw [e]; omega
      exact Finset.mem_map.mpr ⟨y, Finset.mem_univ _, he⟩)

open Cert.Reference13Ideal.Read in
/-- Result 4 as the one point leaves it is the reference's. -/
theorem point8 (c : Dev nD) (t : Fin cfg0.N) :
    out0_A_8 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t)
      = (val_main_v58 (F := Ideal) (X0 m c) (X1 m c) (X2 m c) (X3 m c) (X4 m c) : FVec Ideal S256x16x64 .f32) := by
  rw [out8_eq, iblk0, iblk1, iblk2, iblk3, iblk4, pay17_eq _ _ _ (X2 m c) (dt_eq m c), pay18_eq _ _ _ (X2 m c) (dt_eq m c), v58_eq]

theorem flush8 : ∀ t : Fin cfg0.N, (cfg0.win 8).flush t = true := (by decide +kernel : ∀ t : Fin grid0.N, win0_8.flush t = true)

open Cert.Reference13Ideal.Read in
/-- The array of result 4 after the run is the reference's. -/
theorem final8 (c : Dev nD) : (dats m 0 c).arrAt 8 cfg0.N = val_main_v58 (F := Ideal) (X0 m c) (X1 m c) (X2 m c) (X3 m c) (X4 m c) :=
  (dats m 0 c).arrAt_eq_of_cover 8 _ (fun t hf => by
    rw [Kernel13Ideal.Value.flushed8_A, point8]
    obtain ⟨-, -, -, -, -, -, -, -, e, -⟩ := idx_facts t
    funext y
    have hx : (cfg0.win 8).xinj (grid0.coords t) y = y := rfl
    have he : ((cfg0.win 8).blk t).view.emb y = y := by
      funext a; apply Fin.ext
      match a with
      | ⟨0, _⟩ => show win0_8.index t (0 : Fin 3) * 256 + 1 * (y 0).val = (y 0).val; rw [e]; omega
      | ⟨1, _⟩ => show win0_8.index t (1 : Fin 3) * 16 + 1 * (y 1).val = (y 1).val; rw [e]; omega
      | ⟨2, _⟩ => show win0_8.index t (2 : Fin 3) * 64 + 1 * (y 2).val = (y 2).val; rw [e]; omega
    show (val_main_v58 (F := Ideal) (X0 m c) (X1 m c) (X2 m c) (X3 m c) (X4 m c) : FVec Ideal S256x16x64 .f32) ((cfg0.win 8).xinj (grid0.coords t) y)
      = val_main_v58 (F := Ideal) (X0 m c) (X1 m c) (X2 m c) (X3 m c) (X4 m c) (((cfg0.win 8).blk t).view.emb y)
    rw [hx, he]) (fun y => by
      let t : Fin cfg0.N := ⟨0, by decide +kernel⟩
      refine ⟨t, flush8 t, ?_⟩
      obtain ⟨-, -, -, -, -, -, -, -, e, -⟩ := idx_facts t
      have he : ((cfg0.win 8).blk t).view.emb y = y := by
        funext a; apply Fin.ext
        match a with
        | ⟨0, _⟩ => show win0_8.index t (0 : Fin 3) * 256 + 1 * (y 0).val = (y 0).val; rw [e]; omega
        | ⟨1, _⟩ => show win0_8.index t (1 : Fin 3) * 16 + 1 * (y 1).val = (y 1).val; rw [e]; omega
        | ⟨2, _⟩ => show win0_8.index t (2 : Fin 3) * 64 + 1 * (y 2).val = (y 2).val; rw [e]; omega
      exact Finset.mem_map.mpr ⟨y, Finset.mem_univ _, he⟩)

open Cert.Reference13Ideal.Read in
/-- Result 5 as the one point leaves it is the reference's. -/
theorem point9 (c : Dev nD) (t : Fin cfg0.N) :
    out0_A_9 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t)
      = (val_main_v59 (F := Ideal) (X0 m c) (X1 m c) (X2 m c) (X3 m c) (X4 m c) : FVec Ideal S256x16x64 .f32) := by
  rw [out9_eq, iblk0, iblk1, iblk2, iblk3, iblk4, pay13_eq _ _ _ (X2 m c) (dt_eq m c), pay14_eq _ _ _ (X2 m c) (dt_eq m c), pay17_eq _ _ _ (X2 m c) (dt_eq m c), pay18_eq _ _ _ (X2 m c) (dt_eq m c), v59_eq, v57_eq, v58_eq]

theorem flush9 : ∀ t : Fin cfg0.N, (cfg0.win 9).flush t = true := (by decide +kernel : ∀ t : Fin grid0.N, win0_9.flush t = true)

open Cert.Reference13Ideal.Read in
/-- The array of result 5 after the run is the reference's. -/
theorem final9 (c : Dev nD) : (dats m 0 c).arrAt 9 cfg0.N = val_main_v59 (F := Ideal) (X0 m c) (X1 m c) (X2 m c) (X3 m c) (X4 m c) :=
  (dats m 0 c).arrAt_eq_of_cover 9 _ (fun t hf => by
    rw [Kernel13Ideal.Value.flushed9_A, point9]
    obtain ⟨-, -, -, -, -, -, -, -, -, e, -⟩ := idx_facts t
    funext y
    have hx : (cfg0.win 9).xinj (grid0.coords t) y = y := rfl
    have he : ((cfg0.win 9).blk t).view.emb y = y := by
      funext a; apply Fin.ext
      match a with
      | ⟨0, _⟩ => show win0_9.index t (0 : Fin 3) * 256 + 1 * (y 0).val = (y 0).val; rw [e]; omega
      | ⟨1, _⟩ => show win0_9.index t (1 : Fin 3) * 16 + 1 * (y 1).val = (y 1).val; rw [e]; omega
      | ⟨2, _⟩ => show win0_9.index t (2 : Fin 3) * 64 + 1 * (y 2).val = (y 2).val; rw [e]; omega
    show (val_main_v59 (F := Ideal) (X0 m c) (X1 m c) (X2 m c) (X3 m c) (X4 m c) : FVec Ideal S256x16x64 .f32) ((cfg0.win 9).xinj (grid0.coords t) y)
      = val_main_v59 (F := Ideal) (X0 m c) (X1 m c) (X2 m c) (X3 m c) (X4 m c) (((cfg0.win 9).blk t).view.emb y)
    rw [hx, he]) (fun y => by
      let t : Fin cfg0.N := ⟨0, by decide +kernel⟩
      refine ⟨t, flush9 t, ?_⟩
      obtain ⟨-, -, -, -, -, -, -, -, -, e, -⟩ := idx_facts t
      have he : ((cfg0.win 9).blk t).view.emb y = y := by
        funext a; apply Fin.ext
        match a with
        | ⟨0, _⟩ => show win0_9.index t (0 : Fin 3) * 256 + 1 * (y 0).val = (y 0).val; rw [e]; omega
        | ⟨1, _⟩ => show win0_9.index t (1 : Fin 3) * 16 + 1 * (y 1).val = (y 1).val; rw [e]; omega
        | ⟨2, _⟩ => show win0_9.index t (2 : Fin 3) * 64 + 1 * (y 2).val = (y 2).val; rw [e]; omega
      exact Finset.mem_map.mpr ⟨y, Finset.mem_univ _, he⟩)

open Cert.Reference13Ideal.Read in
/-- Result 6 as the one point leaves it is the reference's. -/
theorem point10 (c : Dev nD) (t : Fin cfg0.N) :
    out0_A_10 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t)
      = (val_main_v60 (F := Ideal) (X0 m c) (X1 m c) (X2 m c) (X3 m c) (X4 m c) : FVec Ideal S256x16x64 .f32) := by
  rw [out10_eq, iblk0, iblk1, iblk2, iblk3, iblk4, pay13_eq _ _ _ (X2 m c) (dt_eq m c), pay14_eq _ _ _ (X2 m c) (dt_eq m c), pay17_eq _ _ _ (X2 m c) (dt_eq m c), pay18_eq _ _ _ (X2 m c) (dt_eq m c), v60_eq, v57_eq, v58_eq]

theorem flush10 : ∀ t : Fin cfg0.N, (cfg0.win 10).flush t = true := (by decide +kernel : ∀ t : Fin grid0.N, win0_10.flush t = true)

open Cert.Reference13Ideal.Read in
/-- The array of result 6 after the run is the reference's. -/
theorem final10 (c : Dev nD) : (dats m 0 c).arrAt 10 cfg0.N = val_main_v60 (F := Ideal) (X0 m c) (X1 m c) (X2 m c) (X3 m c) (X4 m c) :=
  (dats m 0 c).arrAt_eq_of_cover 10 _ (fun t hf => by
    rw [Kernel13Ideal.Value.flushed10_A, point10]
    obtain ⟨-, -, -, -, -, -, -, -, -, -, e⟩ := idx_facts t
    funext y
    have hx : (cfg0.win 10).xinj (grid0.coords t) y = y := rfl
    have he : ((cfg0.win 10).blk t).view.emb y = y := by
      funext a; apply Fin.ext
      match a with
      | ⟨0, _⟩ => show win0_10.index t (0 : Fin 3) * 256 + 1 * (y 0).val = (y 0).val; rw [e]; omega
      | ⟨1, _⟩ => show win0_10.index t (1 : Fin 3) * 16 + 1 * (y 1).val = (y 1).val; rw [e]; omega
      | ⟨2, _⟩ => show win0_10.index t (2 : Fin 3) * 64 + 1 * (y 2).val = (y 2).val; rw [e]; omega
    show (val_main_v60 (F := Ideal) (X0 m c) (X1 m c) (X2 m c) (X3 m c) (X4 m c) : FVec Ideal S256x16x64 .f32) ((cfg0.win 10).xinj (grid0.coords t) y)
      = val_main_v60 (F := Ideal) (X0 m c) (X1 m c) (X2 m c) (X3 m c) (X4 m c) (((cfg0.win 10).blk t).view.emb y)
    rw [hx, he]) (fun y => by
      let t : Fin cfg0.N := ⟨0, by decide +kernel⟩
      refine ⟨t, flush10 t, ?_⟩
      obtain ⟨-, -, -, -, -, -, -, -, -, -, e⟩ := idx_facts t
      have he : ((cfg0.win 10).blk t).view.emb y = y := by
        funext a; apply Fin.ext
        match a with
        | ⟨0, _⟩ => show win0_10.index t (0 : Fin 3) * 256 + 1 * (y 0).val = (y 0).val; rw [e]; omega
        | ⟨1, _⟩ => show win0_10.index t (1 : Fin 3) * 16 + 1 * (y 1).val = (y 1).val; rw [e]; omega
        | ⟨2, _⟩ => show win0_10.index t (2 : Fin 3) * 64 + 1 * (y 2).val = (y 2).val; rw [e]; omega
      exact Finset.mem_map.mpr ⟨y, Finset.mem_univ _, he⟩)

open Cert.Reference13Ideal.Read in
/-- THE VALUE CLAIM: on the same arguments both programs end with the same results. -/
theorem algebraic : Cert.algebraic_Kernel13Ideal_Reference13Ideal := by
  intro m g m' g' _ hagree
  refine ⟨fun c => val_main_v8 (F := Ideal) (X0 m c) (X1 m c) (X2 m c), fun c => val_main_v15 (F := Ideal) (X0 m c) (X1 m c) (X2 m c),
    fun c => val_main_v57 (F := Ideal) (X0 m c) (X1 m c) (X2 m c) (X3 m c) (X4 m c), fun c => val_main_v58 (F := Ideal) (X0 m c) (X1 m c) (X2 m c) (X3 m c) (X4 m c),
    fun c => val_main_v59 (F := Ideal) (X0 m c) (X1 m c) (X2 m c) (X3 m c) (X4 m c), fun c => val_main_v60 (F := Ideal) (X0 m c) (X1 m c) (X2 m c) (X3 m c) (X4 m c), ?_, ?_⟩
  · refine θ_run_mono (Kernel13Ideal.Value.run_blocks m g) fun r h c => ?_
    obtain ⟨h5, h6, h7, h8, h9, h10, k⟩ := h c
    exact ⟨h5.trans (final5 m c), h6.trans (final6 m c), h7.trans (final7 m c), h8.trans (final8 m c), h9.trans (final9 m c), h10.trans (final10 m c), k⟩
  · refine θ_run_mono (Reference13Ideal.Value.run m' g') fun r h c => ?_
    obtain ⟨h5, h6, h7, h8, h9, h10, k⟩ := h c
    obtain ⟨a0, a1, a2, a3, a4⟩ := hagree c
    refine ⟨h5.trans ((val_main_v8_eq _ _ _).trans ?_), h6.trans ((val_main_v15_eq _ _ _).trans ?_), h7.trans ((val_main_v57_eq _ _ _ _ _).trans ?_),
      h8.trans ((val_main_v58_eq _ _ _ _ _).trans ?_), h9.trans ((val_main_v59_eq m' c).trans ?_), h10.trans ((val_main_v60_eq m' c).trans ?_), k⟩
    · rw [a0, a1, a2]
    · rw [a0, a1, a2]
    · rw [a0, a1, a2, a3, a4]
    · rw [a0, a1, a2, a3, a4]
    · rw [a0, a1, a2, a3, a4]
    · rw [a0, a1, a2, a3, a4]

end Cert.SsmPrep

end
-- ==== Proof.SsmLayout.lean ====
/- The layout of the state-space step's matrices: the groups' blocks on a diagonal, tile by tile. -/
module

public import proofs.«01_k».proof.Proof.FfnGu
public import proofs.«01_k».proof.Proof.Gen.Kernel14Ideal.Value
public import proofs.«01_k».proof.Proof.Gen.Reference14Ideal.Read
public import proofs.«01_k».proof.Proof.Gen.Reference14Ideal.Run
public import proofs.«01_k».proof.Defs
public import Idealize.ShloMosaic.Lib.Pointwise

@[expose] public section

set_option maxRecDepth 16384

noncomputable section

namespace Cert.SsmLayout

open Cert.Kernel14Ideal Cert.Kernel14Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- A choice between two values by comparing two small index words is the choice by comparing the indices. -/
theorem sel_eq {a b : ℕ} (ha : a < 2 ^ 32) (hb : b < 2 ^ 32) (u v : EReal) :
    Scalar.select (IntOp.cmpi CmpIPredicate.eq (BitVec.ofNat 32 a) (BitVec.ofNat 32 b)) u v = if a = b then u else v := by
  by_cases h : a = b
  · rw [if_pos h]; exact if_pos ((WordCmp.cmpi_eq_ofNat_eq_one_iff ha hb).mpr h)
  · rw [if_neg h]; exact if_neg fun e => h ((WordCmp.cmpi_eq_ofNat_eq_one_iff ha hb).mp e)

theorem and63 : ∀ s : Fin 1024, IntOp.andi (BitVec.ofNat 32 s.val) 63#32 = BitVec.ofNat 32 (s.val % 64) := by decide +kernel
theorem shr6 : ∀ s : Fin 1024, IntOp.shrsi ArithUnit.vector (BitVec.ofNat 32 s.val) 6#32 = BitVec.ofNat 32 (s.val / 64) := by decide +kernel
theorem shr4 : ∀ p : Fin 256, IntOp.shrsi ArithUnit.vector (BitVec.ofNat 32 p.val) 4#32 = BitVec.ofNat 32 (p.val / 16) := by decide +kernel

/-- The sum that picks column `s % 64`. -/
theorem pick (f : Fin 64 → EReal) (s : Fin 1024) :
    ∑ k : Fin 64, Scalar.select (IntOp.cmpi CmpIPredicate.eq (IntOp.andi (BitVec.ofNat 32 s.val) 63#32) (BitVec.ofNat 32 k.val)) (f k) 0
      = f ⟨s.val % 64, Nat.mod_lt _ (by norm_num)⟩ := by
  rw [and63, Finset.sum_eq_single (⟨s.val % 64, Nat.mod_lt _ (by norm_num)⟩ : Fin 64)]
  · rw [sel_eq (by have := s.isLt; omega) (by have := s.isLt; dsimp only; omega)]; exact if_pos rfl
  · intro k _ hk
    rw [sel_eq (by have := s.isLt; omega) (by have := k.isLt; omega)]
    exact if_neg fun h => hk (Fin.ext h.symm)
  · intro h; exact absurd (Finset.mem_univ _) h

/-- One tile of sixteen groups on a diagonal: row `p` belongs to group `p / 16`, column `s` to group `s / 64`. -/
def diag (x : FVec Ideal S256x64 .f32) (p : Fin 256) (s : Fin 1024) : EReal :=
  if p.val / 16 = s.val / 64 then x (ix2 p ⟨s.val % 64, Nat.mod_lt _ (by norm_num)⟩) else 0

theorem bits_neg_one : Ideal.ofBits FTy.f32 3212836864#32 = (-1 : EReal) := by
  simp [Ideal.ofBits, Ideal.ieee, -EReal.coe_mul]; norm_num

theorem pay5_apply (x : FVec Ideal S256x64 .f32) (p : Fin 256) (s : Fin 1024) :
    (k0_pay5 x : FVec Ideal S1x256x1024 .bf16) (ix3 0 p s) = diag x p s := by
  pointwise [k0_pay5, k0_pay3, k0_pay4]
  rw [pick (fun k => x (ix2 p k)), shr4, shr6, sel_eq (by omega) (by omega)]
  rfl

theorem pay6_apply (x : FVec Ideal S256x64 .f32) (p : Fin 256) (s : Fin 1024) :
    (k0_pay6 x : FVec Ideal S1x256x1024 .bf16) (ix3 0 p s) = diag x p s := by
  pointwise [k0_pay6, k0_pay3, k0_pay4]
  rw [pick (fun k => x (ix2 p k)), shr4, shr6, sel_eq (by omega) (by omega)]
  rfl

theorem pay7_apply (x : FVec Ideal S256x64 .f32) (p : Fin 256) (s : Fin 1024) :
    (k0_pay7 k0_pay3 k0_pay4 x : FVec Ideal S1x256x1024 .bf16) (ix3 0 p s) = diag x p s := by
  pointwise [k0_pay7, k0_pay3, k0_pay4]
  rw [pick (fun k => x (ix2 p k)), shr4, shr6, sel_eq (by omega) (by omega)]
  rfl

theorem pay8_apply (x : FVec Ideal S256x64 .f32) (p : Fin 256) (s : Fin 1024) :
    (k0_pay8 k0_pay3 k0_pay4 x : FVec Ideal S1x256x1024 .bf16) (ix3 0 p s) = diag x p s := by
  pointwise [k0_pay8, k0_pay3, k0_pay4]
  rw [pick (fun k => x (ix2 p k)), shr4, shr6, sel_eq (by omega) (by omega)]
  rfl

theorem pay1_apply (x : FVec Ideal S256x64 .f32) (s : Fin 1024) (p : Fin 256) :
    (k0_pay1 k0_pay9 k0_pay10 (k0_pay11 x) : FVec Ideal S1x1024x256 .bf16) (ix3 0 s p) = diag x p s := by
  pointwise [k0_pay1, k0_pay9, k0_pay10, k0_pay11]
  rw [pick (fun k => x (ix2 p k)), shr4, shr6, sel_eq (by omega) (by omega)]
  unfold diag
  simp only [eq_comm]

theorem pay2_apply (x : FVec Ideal S256x64 .f32) (s : Fin 1024) (p : Fin 256) :
    (k0_pay2 k0_pay9 k0_pay10 x : FVec Ideal S1x1024x256 .bf16) (ix3 0 s p) = diag (fun i => (-(x i) : EReal)) p s := by
  pointwise [k0_pay2, k0_pay9, k0_pay10]
  rw [pick (fun k => x (ix2 p k)), shr4, shr6, sel_eq (by omega) (by omega), bits_neg_one, neg_mul, one_mul]
  unfold diag
  simp only [eq_comm]

/-- Tile `t` of the reference's layout. -/
def tile (x : FVec Ideal S256x16x64 .f32) (t : Fin 16) (p : Fin 256) (s : Fin 1024) : EReal :=
  if p.val / 16 = s.val / 64 then x (ix3 ⟨t.val * 16 + p.val / 16, by omega⟩ ⟨p.val % 16, Nat.mod_lt _ (by norm_num)⟩ ⟨s.val % 64, Nat.mod_lt _ (by norm_num)⟩) else 0

theorem bits_zero (i) : (id (constant (F := Ideal) Reference14Ideal.S_ FTy.f32 0#32) i : EReal) = 0 := by
  show Ideal.ofBits FTy.f32 0#32 = 0
  simp [Ideal.ofBits, Ideal.ieee]

open Cert.Reference14Ideal.Read in
theorem v10_apply (x : FVec Ideal S256x16x64 .f32) (t : Fin 16) (p : Fin 256) (s : Fin 1024) :
    (val_main_v10 (F := Ideal) x : FVec Ideal _ .f32) (ix3 t p s) = tile x t p s := by
  pointwise [val_main_v10, val_main_v9, val_main_call0_v0, val_main_call0_v1, val_main_call0_v2, val_main_call0_v3, val_main_v8, val_main_cst, val_main_v7, val_main_v6, val_main_v5, val_main_v4, val_main_v3, val_main_v2, val_main_v1, val_main_v0]
  rw [bits_zero, sel_eq (by omega) (by omega)]
  rfl

open Cert.Reference14Ideal.Read in
theorem v13_apply (x : FVec Ideal S256x16x64 .f32) (t : Fin 16) (p : Fin 256) (s : Fin 1024) :
    (val_main_v13 (F := Ideal) x : FVec Ideal _ .f32) (ix3 t p s) = tile x t p s := by
  pointwise [val_main_v13, val_main_v12, val_main_call1_v0, val_main_call1_v1, val_main_call1_v2, val_main_call1_v3, val_main_v11, val_main_cst_0, val_main_v7, val_main_v6, val_main_v5, val_main_v4, val_main_v3, val_main_v2, val_main_v1, val_main_v0]
  rw [bits_zero, sel_eq (by omega) (by omega)]
  rfl

open Cert.Reference14Ideal.Read in
theorem v17_apply (x : FVec Ideal S256x16x64 .f32) (t : Fin 16) (p : Fin 256) (s : Fin 1024) :
    (val_main_v17 (F := Ideal) x : FVec Ideal _ .f32) (ix3 t p s) = tile x t p s := by
  pointwise [val_main_v17, val_main_v16, val_main_call2_v0, val_main_call2_v1, val_main_call2_v2, val_main_call2_v3, val_main_v15, val_main_cst_1, val_main_v7, val_main_v6, val_main_v5, val_main_v4, val_main_v3, val_main_v2, val_main_v1, val_main_v0]
  rw [bits_zero, sel_eq (by omega) (by omega)]
  rfl

open Cert.Reference14Ideal.Read in
theorem v20_apply (x : FVec Ideal S256x16x64 .f32) (t : Fin 16) (p : Fin 256) (s : Fin 1024) :
    (val_main_v20 (F := Ideal) x : FVec Ideal _ .f32) (ix3 t p s) = tile x t p s := by
  pointwise [val_main_v20, val_main_v19, val_main_call3_v0, val_main_call3_v1, val_main_call3_v2, val_main_call3_v3, val_main_v18, val_main_cst_2, val_main_v7, val_main_v6, val_main_v5, val_main_v4, val_main_v3, val_main_v2, val_main_v1, val_main_v0]
  rw [bits_zero, sel_eq (by omega) (by omega)]
  rfl

open Cert.Reference14Ideal.Read in
theorem v25_apply (x : FVec Ideal S256x16x64 .f32) (t : Fin 16) (p : Fin 256) (s : Fin 1024) :
    (val_main_v25 (F := Ideal) x : FVec Ideal _ .f32) (ix3 t p s) = tile x t p s := by
  pointwise [val_main_v25, val_main_v24, val_main_call4_v0, val_main_call4_v1, val_main_call4_v2, val_main_call4_v3, val_main_v23, val_main_cst_3, val_main_v7, val_main_v6, val_main_v5, val_main_v4, val_main_v3, val_main_v2, val_main_v1, val_main_v0]
  rw [bits_zero, sel_eq (by omega) (by omega)]
  rfl

open Cert.Reference14Ideal.Read in
theorem v29_apply (x : FVec Ideal S256x16x64 .f32) (t : Fin 16) (p : Fin 256) (s : Fin 1024) :
    (val_main_v29 (F := Ideal) x : FVec Ideal _ .f32) (ix3 t p s) = tile (fun i => (-(x i) : EReal)) t p s := by
  pointwise [val_main_v29, val_main_v28, val_main_call5_v0, val_main_call5_v1, val_main_call5_v2, val_main_call5_v3, val_main_v27, val_main_cst_4, val_main_v26, val_main_v7, val_main_v6, val_main_v5, val_main_v4, val_main_v3, val_main_v2, val_main_v1, val_main_v0]
  rw [bits_zero, sel_eq (by omega) (by omega)]
  rfl

/-- Four tiles in one matrix. -/
def quad (a b c d : Fin 256 → Fin 1024 → EReal) (p : Fin 512) (s : Fin 2048) : EReal :=
  if h : p.val < 256 then if h' : s.val < 1024 then a ⟨p.val, h⟩ ⟨s.val, h'⟩ else b ⟨p.val, h⟩ ⟨s.val - 1024, by omega⟩
  else if h' : s.val < 1024 then c ⟨p.val - 256, by omega⟩ ⟨s.val, h'⟩ else d ⟨p.val - 256, by omega⟩ ⟨s.val - 1024, by omega⟩

/-- Two tiles in one matrix, each lying on its side. -/
def pair (a b : Fin 256 → Fin 1024 → EReal) (s : Fin 2048) (p : Fin 256) : EReal :=
  if h : s.val < 1024 then a p ⟨s.val, h⟩ else b p ⟨s.val - 1024, by omega⟩

open Cert.Reference14Ideal.Read in
/-- The reference's first result at an index. -/
theorem ref1_apply (x0 x1 x2 x3 : FVec Ideal S256x16x64 .f32) (t : Fin 16) (p : Fin 512) (s : Fin 2048) :
    (val_main_v32 (F := Ideal) x0 x1 x2 x3 : FVec Ideal S16x512x2048 .bf16) (ix3 t p s) = quad (tile x0 t) (tile x1 t) (tile x2 t) (tile x3 t) p s := by
  have e0 := v10_apply x0 t
  have e1 := v13_apply x1 t
  have e2 := v17_apply x2 t
  have e3 := v20_apply x3 t
  unfold val_main_v32 val_main_v22 val_main_v21 val_main_v14
  generalize val_main_v10 (F := Ideal) x0 = y0 at e0 ⊢
  generalize val_main_v13 (F := Ideal) x1 = y1 at e1 ⊢
  generalize val_main_v17 (F := Ideal) x2 = y2 at e2 ⊢
  generalize val_main_v20 (F := Ideal) x3 = y3 at e3 ⊢
  unfold quad
  simp only [← e0, ← e1, ← e2, ← e3]
  clear e0 e1 e2 e3
  pointwise []

open Cert.Reference14Ideal.Read in
/-- The reference's second result at an index. -/
theorem ref2_apply (x4 x5 : FVec Ideal S256x16x64 .f32) (t : Fin 16) (s : Fin 2048) (p : Fin 256) :
    (val_main_v33 (F := Ideal) x4 x5 : FVec Ideal S16x2048x256 .bf16) (ix3 t s p) = pair (tile x4 t) (tile (fun i => (-(x5 i) : EReal)) t) s p := by
  have e0 := v25_apply x4 t
  have e1 := v29_apply x5 t
  unfold val_main_v33 val_main_v31 val_main_v30
  generalize val_main_v25 (F := Ideal) x4 = y0 at e0 ⊢
  generalize val_main_v29 (F := Ideal) x5 = y1 at e1 ⊢
  unfold pair
  simp only [← e0, ← e1]
  clear e0 e1
  pointwise []

/-- The first result's block at a row and a column. -/
theorem out6_apply (x0 x1 x2 x3 x4 x5 : FVec Ideal S256x64 .f32) (p : Fin 512) (s : Fin 2048) :
    (out0_6 (F := Ideal) x0 x1 x2 x3 x4 x5 : FVec Ideal S1x512x2048 .bf16) (ix3 0 p s) = quad (diag x0) (diag x1) (diag x2) (diag x3) p s := by
  have e0 := pay5_apply x0
  have e1 := pay6_apply x1
  have e2 := pay7_apply x2
  have e3 := pay8_apply x3
  unfold_out out0_6
  simp only [View.ld_unit_zero (S := S256x64) hz2, r0_0]
  generalize (k0_pay5 x0 : FVec Ideal S1x256x1024 .bf16) = y0 at e0 ⊢
  generalize (k0_pay6 x1 : FVec Ideal S1x256x1024 .bf16) = y1 at e1 ⊢
  generalize (k0_pay7 k0_pay3 k0_pay4 x2 : FVec Ideal S1x256x1024 .bf16) = y2 at e2 ⊢
  generalize (k0_pay8 k0_pay3 k0_pay4 x3 : FVec Ideal S1x256x1024 .bf16) = y3 at e3 ⊢
  unfold quad
  simp only [← e0, ← e1, ← e2, ← e3]
  clear e0 e1 e2 e3
  have hp := p.isLt
  have hs := s.isLt
  unfold r0_1 r0_2 r0_3 r0_4
  rcases lt_or_ge p.val 256 with h | h <;> rcases lt_or_ge s.val 1024 with h' | h'
  · rw [dif_pos h, dif_pos h']
    rw [View.canon_cons_of_not_mem, View.canon_cons_of_not_mem, View.canon_cons_of_not_mem]
    · exact FfnGu.canon_hit _ _ _ _ _ (by
        funext a; apply Fin.ext
        match a with
        | ⟨0, _⟩ => rfl
        | ⟨1, _⟩ => show 0 + 1 * p.val = p.val; omega
        | ⟨2, _⟩ => show 0 + 1 * s.val = s.val; omega)
    · rw [Rect.mem_set_unit]; intro k; have k1 : 1024 ≤ s.val := (k (2 : Fin 3)).1; omega
    · rw [Rect.mem_set_unit]; intro k; have k1 : 256 ≤ p.val := (k (1 : Fin 3)).1; omega
    · rw [Rect.mem_set_unit]; intro k; have k1 : 256 ≤ p.val := (k (1 : Fin 3)).1; omega
  · rw [dif_pos h, dif_neg (by omega)]
    rw [View.canon_cons_of_not_mem, View.canon_cons_of_not_mem]
    · exact FfnGu.canon_hit _ _ _ _ _ (by
        funext a; apply Fin.ext
        match a with
        | ⟨0, _⟩ => rfl
        | ⟨1, _⟩ => show 0 + 1 * p.val = p.val; omega
        | ⟨2, _⟩ => show 1024 + 1 * (s.val - 1024) = s.val; omega)
    · rw [Rect.mem_set_unit]; intro k; have k1 : 256 ≤ p.val := (k (1 : Fin 3)).1; omega
    · rw [Rect.mem_set_unit]; intro k; have k1 : 256 ≤ p.val := (k (1 : Fin 3)).1; omega
  · rw [dif_neg (by omega), dif_pos h']
    rw [View.canon_cons_of_not_mem]
    · exact FfnGu.canon_hit _ _ _ _ _ (by
        funext a; apply Fin.ext
        match a with
        | ⟨0, _⟩ => rfl
        | ⟨1, _⟩ => show 256 + 1 * (p.val - 256) = p.val; omega
        | ⟨2, _⟩ => show 0 + 1 * s.val = s.val; omega)
    · rw [Rect.mem_set_unit]; intro k; have k1 : 1024 ≤ s.val := (k (2 : Fin 3)).1; omega
  · rw [dif_neg (by omega), dif_neg (by omega)]
    exact FfnGu.canon_hit _ _ _ _ _ (by
        funext a; apply Fin.ext
        match a with
        | ⟨0, _⟩ => rfl
        | ⟨1, _⟩ => show 256 + 1 * (p.val - 256) = p.val; omega
        | ⟨2, _⟩ => show 1024 + 1 * (s.val - 1024) = s.val; omega)

/-- The second result's block at a row and a column. -/
theorem out7_apply (x0 x1 x2 x3 x4 x5 : FVec Ideal S256x64 .f32) (s : Fin 2048) (p : Fin 256) :
    (out0_7 (F := Ideal) x0 x1 x2 x3 x4 x5 : FVec Ideal S1x2048x256 .bf16) (ix3 0 s p) = pair (diag x4) (diag (fun i => (-(x5 i) : EReal))) s p := by
  have e0 := pay1_apply x4
  have e1 := pay2_apply x5
  unfold_out out0_7
  simp only [View.ld_unit_zero (S := S256x64) hz2, r0_0]
  generalize (k0_pay1 k0_pay9 k0_pay10 (k0_pay11 x4) : FVec Ideal S1x1024x256 .bf16) = y0 at e0 ⊢
  generalize (k0_pay2 k0_pay9 k0_pay10 x5 : FVec Ideal S1x1024x256 .bf16) = y1 at e1 ⊢
  unfold pair
  simp only [← e0, ← e1]
  clear e0 e1
  have hs := s.isLt
  unfold r0_5 r0_6
  rcases lt_or_ge s.val 1024 with h | h
  · rw [dif_pos h]
    rw [View.canon_cons_of_not_mem]
    · exact FfnGu.canon_hit _ _ _ _ _ (by
        funext a; apply Fin.ext
        match a with
        | ⟨0, _⟩ => rfl
        | ⟨1, _⟩ => show 0 + 1 * s.val = s.val; omega
        | ⟨2, _⟩ => show 0 + 1 * p.val = p.val; omega)
    · rw [Rect.mem_set_unit]; intro k; have k1 : 1024 ≤ s.val := (k (1 : Fin 3)).1; omega
  · rw [dif_neg (by omega)]
    exact FfnGu.canon_hit _ _ _ _ _ (by
        funext a; apply Fin.ext
        match a with
        | ⟨0, _⟩ => rfl
        | ⟨1, _⟩ => show 1024 + 1 * (s.val - 1024) = s.val; omega
        | ⟨2, _⟩ => show 0 + 1 * p.val = p.val; omega)

/-- Which block each window reads or writes at point `t`, decided over the grid. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

variable (m : (ℓ : Loc nD τ sig) → Buf (Elt Ideal) ℓ)

/-- The arguments as arrays of extended reals. -/
abbrev X0 (c : Dev nD) : FVec Ideal S256x16x64 .f32 := m ((c : Thread nD τ).loc main_arg0)
abbrev X1 (c : Dev nD) : FVec Ideal S256x16x64 .f32 := m ((c : Thread nD τ).loc main_arg1)
abbrev X2 (c : Dev nD) : FVec Ideal S256x16x64 .f32 := m ((c : Thread nD τ).loc main_arg2)
abbrev X3 (c : Dev nD) : FVec Ideal S256x16x64 .f32 := m ((c : Thread nD τ).loc main_arg3)
abbrev X4 (c : Dev nD) : FVec Ideal S256x16x64 .f32 := m ((c : Thread nD τ).loc main_arg4)
abbrev X5 (c : Dev nD) : FVec Ideal S256x16x64 .f32 := m ((c : Thread nD τ).loc main_arg5)

theorem lt16 (t : Fin cfg0.N) : t.val < 16 := lt_of_lt_of_eq t.isLt N_0

/-- A diagonal tile of a block of rows is the layout's tile of the argument. -/
theorem diag_eq (b : FVec Ideal S256x64 .f32) (x : FVec Ideal S256x16x64 .f32) (t : Fin 16)
    (h : ∀ (r : Fin 256) (k : Fin 64), (b (ix2 r k) : EReal) = x (ix3 ⟨t.val * 16 + r.val / 16, by omega⟩ ⟨r.val % 16, Nat.mod_lt _ (by norm_num)⟩ k)) :
    diag b = tile x t := by
  funext p s
  unfold diag tile
  rw [h]

theorem V0 (c : Dev nD) (r : Fin 4096) (k : Fin 64) : (V m c main_v0 : FVec Ideal S4096x64 .f32) (ix2 r k) = X0 m c (ix3 ⟨r.val / 16, by omega⟩ ⟨r.val % 16, Nat.mod_lt _ (by norm_num)⟩ k) := by
  have e : (V m c main_v0 : FVec Ideal S4096x64 .f32) = shapeCast S4096x64 (X0 m c) shapeCasts_S256x16x64_S4096x64 := by
    unfold_abbrev_sides
    after_results
    rfl
  rw [e]
  pointwise []

theorem iblk0 (c : Dev nD) (t : Fin cfg0.N) (r : Fin 256) (k : Fin 64) :
    ((iblk m c 0 t : FVec Ideal S256x64 .f32) (ix2 r k) : EReal) = X0 m c (ix3 ⟨t.val * 16 + r.val / 16, by have := lt16 t; omega⟩ ⟨r.val % 16, Nat.mod_lt _ (by norm_num)⟩ k) := by
  obtain ⟨⟨e0, e1⟩, -⟩ := idx_facts t
  have ht := lt16 t
  have e := V0 m c ⟨t.val * 256 + r.val, by omega⟩ k
  refine Eq.trans ?_ (e.trans ?_)
  · show (V m c main_v0 : FVec Ideal S4096x64 .f32) (((cfg0.win 0).blk t).view.emb (ix2 r k)) = _
    congr 1; funext a; apply Fin.ext
    match a with
    | ⟨0, _⟩ => show win0_0.index t (0 : Fin 2) * 256 + 1 * r.val = t.val * 256 + r.val; rw [e0]; omega
    | ⟨1, _⟩ => show win0_0.index t (1 : Fin 2) * 64 + 1 * k.val = k.val; rw [e1]; omega
  · congr 1; funext a; apply Fin.ext
    match a with
    | ⟨0, _⟩ => show (t.val * 256 + r.val) / 16 = t.val * 16 + r.val / 16; omega
    | ⟨1, _⟩ => show (t.val * 256 + r.val) % 16 = r.val % 16; omega
    | ⟨2, _⟩ => rfl

theorem V1 (c : Dev nD) (r : Fin 4096) (k : Fin 64) : (V m c main_v1 : FVec Ideal S4096x64 .f32) (ix2 r k) = X1 m c (ix3 ⟨r.val / 16, by omega⟩ ⟨r.val % 16, Nat.mod_lt _ (by norm_num)⟩ k) := by
  have e : (V m c main_v1 : FVec Ideal S4096x64 .f32) = shapeCast S4096x64 (X1 m c) shapeCasts_S256x16x64_S4096x64 := by
    unfold_abbrev_sides
    after_results
    rfl
  rw [e]
  pointwise []

theorem iblk1 (c : Dev nD) (t : Fin cfg0.N) (r : Fin 256) (k : Fin 64) :
    ((iblk m c 1 t : FVec Ideal S256x64 .f32) (ix2 r k) : EReal) = X1 m c (ix3 ⟨t.val * 16 + r.val / 16, by have := lt16 t; omega⟩ ⟨r.val % 16, Nat.mod_lt _ (by norm_num)⟩ k) := by
  obtain ⟨-, ⟨e0, e1⟩, -⟩ := idx_facts t
  have ht := lt16 t
  have e := V1 m c ⟨t.val * 256 + r.val, by omega⟩ k
  refine Eq.trans ?_ (e.trans ?_)
  · show (V m c main_v1 : FVec Ideal S4096x64 .f32) (((cfg0.win 1).blk t).view.emb (ix2 r k)) = _
    congr 1; funext a; apply Fin.ext
    match a with
    | ⟨0, _⟩ => show win0_1.index t (0 : Fin 2) * 256 + 1 * r.val = t.val * 256 + r.val; rw [e0]; omega
    | ⟨1, _⟩ => show win0_1.index t (1 : Fin 2) * 64 + 1 * k.val = k.val; rw [e1]; omega
  · congr 1; funext a; apply Fin.ext
    match a with
    | ⟨0, _⟩ => show (t.val * 256 + r.val) / 16 = t.val * 16 + r.val / 16; omega
    | ⟨1, _⟩ => show (t.val * 256 + r.val) % 16 = r.val % 16; omega
    | ⟨2, _⟩ => rfl

theorem V2 (c : Dev nD) (r : Fin 4096) (k : Fin 64) : (V m c main_v2 : FVec Ideal S4096x64 .f32) (ix2 r k) = X2 m c (ix3 ⟨r.val / 16, by omega⟩ ⟨r.val % 16, Nat.mod_lt _ (by norm_num)⟩ k) := by
  have e : (V m c main_v2 : FVec Ideal S4096x64 .f32) = shapeCast S4096x64 (X2 m c) shapeCasts_S256x16x64_S4096x64 := by
    unfold_abbrev_sides
    after_results
    rfl
  rw [e]
  pointwise []

theorem iblk2 (c : Dev nD) (t : Fin cfg0.N) (r : Fin 256) (k : Fin 64) :
    ((iblk m c 2 t : FVec Ideal S256x64 .f32) (ix2 r k) : EReal) = X2 m c (ix3 ⟨t.val * 16 + r.val / 16, by have := lt16 t; omega⟩ ⟨r.val % 16, Nat.mod_lt _ (by norm_num)⟩ k) := by
  obtain ⟨-, -, ⟨e0, e1⟩, -⟩ := idx_facts t
  have ht := lt16 t
  have e := V2 m c ⟨t.val * 256 + r.val, by omega⟩ k
  refine Eq.trans ?_ (e.trans ?_)
  · show (V m c main_v2 : FVec Ideal S4096x64 .f32) (((cfg0.win 2).blk t).view.emb (ix2 r k)) = _
    congr 1; funext a; apply Fin.ext
    match a with
    | ⟨0, _⟩ => show win0_2.index t (0 : Fin 2) * 256 + 1 * r.val = t.val * 256 + r.val; rw [e0]; omega
    | ⟨1, _⟩ => show win0_2.index t (1 : Fin 2) * 64 + 1 * k.val = k.val; rw [e1]; omega
  · congr 1; funext a; apply Fin.ext
    match a with
    | ⟨0, _⟩ => show (t.val * 256 + r.val) / 16 = t.val * 16 + r.val / 16; omega
    | ⟨1, _⟩ => show (t.val * 256 + r.val) % 16 = r.val % 16; omega
    | ⟨2, _⟩ => rfl

theorem V3 (c : Dev nD) (r : Fin 4096) (k : Fin 64) : (V m c main_v3 : FVec Ideal S4096x64 .f32) (ix2 r k) = X3 m c (ix3 ⟨r.val / 16, by omega⟩ ⟨r.val % 16, Nat.mod_lt _ (by norm_num)⟩ k) := by
  have e : (V m c main_v3 : FVec Ideal S4096x64 .f32) = shapeCast S4096x64 (X3 m c) shapeCasts_S256x16x64_S4096x64 := by
    unfold_abbrev_sides
    after_results
    rfl
  rw [e]
  pointwise []

theorem iblk3 (c : Dev nD) (t : Fin cfg0.N) (r : Fin 256) (k : Fin 64) :
    ((iblk m c 3 t : FVec Ideal S256x64 .f32) (ix2 r k) : EReal) = X3 m c (ix3 ⟨t.val * 16 + r.val / 16, by have := lt16 t; omega⟩ ⟨r.val % 16, Nat.mod_lt _ (by norm_num)⟩ k) := by
  obtain ⟨-, -, -, ⟨e0, e1⟩, -⟩ := idx_facts t
  have ht := lt16 t
  have e := V3 m c ⟨t.val * 256 + r.val, by omega⟩ k
  refine Eq.trans ?_ (e.trans ?_)
  · show (V m c main_v3 : FVec Ideal S4096x64 .f32) (((cfg0.win 3).blk t).view.emb (ix2 r k)) = _
    congr 1; funext a; apply Fin.ext
    match a with
    | ⟨0, _⟩ => show win0_3.index t (0 : Fin 2) * 256 + 1 * r.val = t.val * 256 + r.val; rw [e0]; omega
    | ⟨1, _⟩ => show win0_3.index t (1 : Fin 2) * 64 + 1 * k.val = k.val; rw [e1]; omega
  · congr 1; funext a; apply Fin.ext
    match a with
    | ⟨0, _⟩ => show (t.val * 256 + r.val) / 16 = t.val * 16 + r.val / 16; omega
    | ⟨1, _⟩ => show (t.val * 256 + r.val) % 16 = r.val % 16; omega
    | ⟨2, _⟩ => rfl

theorem V4 (c : Dev nD) (r : Fin 4096) (k : Fin 64) : (V m c main_v4 : FVec Ideal S4096x64 .f32) (ix2 r k) = X4 m c (ix3 ⟨r.val / 16, by omega⟩ ⟨r.val % 16, Nat.mod_lt _ (by norm_num)⟩ k) := by
  have e : (V m c main_v4 : FVec Ideal S4096x64 .f32) = shapeCast S4096x64 (X4 m c) shapeCasts_S256x16x64_S4096x64 := by
    unfold_abbrev_sides
    after_results
    rfl
  rw [e]
  pointwise []

theorem iblk4 (c : Dev nD) (t : Fin cfg0.N) (r : Fin 256) (k : Fin 64) :
    ((iblk m c 4 t : FVec Ideal S256x64 .f32) (ix2 r k) : EReal) = X4 m c (ix3 ⟨t.val * 16 + r.val / 16, by have := lt16 t; omega⟩ ⟨r.val % 16, Nat.mod_lt _ (by norm_num)⟩ k) := by
  obtain ⟨-, -, -, -, ⟨e0, e1⟩, -⟩ := idx_facts t
  have ht := lt16 t
  have e := V4 m c ⟨t.val * 256 + r.val, by omega⟩ k
  refine Eq.trans ?_ (e.trans ?_)
  · show (V m c main_v4 : FVec Ideal S4096x64 .f32) (((cfg0.win 4).blk t).view.emb (ix2 r k)) = _
    congr 1; funext a; apply Fin.ext
    match a with
    | ⟨0, _⟩ => show win0_4.index t (0 : Fin 2) * 256 + 1 * r.val = t.val * 256 + r.val; rw [e0]; omega
    | ⟨1, _⟩ => show win0_4.index t (1 : Fin 2) * 64 + 1 * k.val = k.val; rw [e1]; omega
  · congr 1; funext a; apply Fin.ext
    match a with
    | ⟨0, _⟩ => show (t.val * 256 + r.val) / 16 = t.val * 16 + r.val / 16; omega
    | ⟨1, _⟩ => show (t.val * 256 + r.val) % 16 = r.val % 16; omega
    | ⟨2, _⟩ => rfl

theorem V5 (c : Dev nD) (r : Fin 4096) (k : Fin 64) : (V m c main_v5 : FVec Ideal S4096x64 .f32) (ix2 r k) = X5 m c (ix3 ⟨r.val / 16, by omega⟩ ⟨r.val % 16, Nat.mod_lt _ (by norm_num)⟩ k) := by
  have e : (V m c main_v5 : FVec Ideal S4096x64 .f32) = shapeCast S4096x64 (X5 m c) shapeCasts_S256x16x64_S4096x64 := by
    unfold_abbrev_sides
    after_results
    rfl
  rw [e]
  pointwise []

theorem iblk5 (c : Dev nD) (t : Fin cfg0.N) (r : Fin 256) (k : Fin 64) :
    ((iblk m c 5 t : FVec Ideal S256x64 .f32) (ix2 r k) : EReal) = X5 m c (ix3 ⟨t.val * 16 + r.val / 16, by have := lt16 t; omega⟩ ⟨r.val % 16, Nat.mod_lt _ (by norm_num)⟩ k) := by
  obtain ⟨-, -, -, -, -, ⟨e0, e1⟩, -⟩ := idx_facts t
  have ht := lt16 t
  have e := V5 m c ⟨t.val * 256 + r.val, by omega⟩ k
  refine Eq.trans ?_ (e.trans ?_)
  · show (V m c main_v5 : FVec Ideal S4096x64 .f32) (((cfg0.win 5).blk t).view.emb (ix2 r k)) = _
    congr 1; funext a; apply Fin.ext
    match a with
    | ⟨0, _⟩ => show win0_5.index t (0 : Fin 2) * 256 + 1 * r.val = t.val * 256 + r.val; rw [e0]; omega
    | ⟨1, _⟩ => show win0_5.index t (1 : Fin 2) * 64 + 1 * k.val = k.val; rw [e1]; omega
  · congr 1; funext a; apply Fin.ext
    match a with
    | ⟨0, _⟩ => show (t.val * 256 + r.val) / 16 = t.val * 16 + r.val / 16; omega
    | ⟨1, _⟩ => show (t.val * 256 + r.val) % 16 = r.val % 16; omega
    | ⟨2, _⟩ => rfl

open Cert.Reference14Ideal.Read in
/-- An element of the first result's block that point `t` writes is the reference's, at its place. -/
theorem point6 (c : Dev nD) (t : Fin cfg0.N) (p : Fin 512) (s : Fin 2048) :
    (out0_6 (iblk m c 0 t) (iblk m c 1 t) (iblk m c 2 t) (iblk m c 3 t) (iblk m c 4 t) (iblk m c 5 t) : FVec Ideal S1x512x2048 .bf16) (ix3 0 p s)
      = val_main_v32 (F := Ideal) (X0 m c) (X1 m c) (X2 m c) (X3 m c) (ix3 ⟨t.val, lt16 t⟩ p s) := by
  rw [out6_apply, ref1_apply, diag_eq _ (X0 m c) ⟨t.val, lt16 t⟩ (iblk0 m c t), diag_eq _ (X1 m c) ⟨t.val, lt16 t⟩ (iblk1 m c t),
    diag_eq _ (X2 m c) ⟨t.val, lt16 t⟩ (iblk2 m c t), diag_eq _ (X3 m c) ⟨t.val, lt16 t⟩ (iblk3 m c t)]

open Cert.Reference14Ideal.Read in
/-- An element of the second result's block that point `t` writes is the reference's, at its place. -/
theorem point7 (c : Dev nD) (t : Fin cfg0.N) (s : Fin 2048) (p : Fin 256) :
    (out0_7 (iblk m c 0 t) (iblk m c 1 t) (iblk m c 2 t) (iblk m c 3 t) (iblk m c 4 t) (iblk m c 5 t) : FVec Ideal S1x2048x256 .bf16) (ix3 0 s p)
      = val_main_v33 (F := Ideal) (X4 m c) (X5 m c) (ix3 ⟨t.val, lt16 t⟩ s p) := by
  rw [out7_apply, ref2_apply, diag_eq _ (X4 m c) ⟨t.val, lt16 t⟩ (iblk4 m c t),
    diag_eq _ (fun i => (-(X5 m c i) : EReal)) ⟨t.val, lt16 t⟩ (fun r k => congrArg (fun v : EReal => -v) (iblk5 m c t r k))]

theorem mem_blk6 (t : Fin cfg0.N) (i : S16x512x2048.Idx) :
    i ∈ ((cfg0.win 6).blk t).view.set ↔ ∀ a : Fin 3, win0_6.index t a * S1x512x2048.size a ≤ (i a).val ∧ (i a).val < win0_6.index t a * S1x512x2048.size a + S1x512x2048.size a := by
  show i ∈ ((View.whole main_v6_0).slice (win0_6.rect t)).set ↔ _
  rw [View.set_slice_whole, Rect.mem_set_unit]
  exact Iff.rfl

theorem flush6 : ∀ t : Fin cfg0.N, (cfg0.win 6).flush t = true := (by decide +kernel : ∀ t : Fin grid0.N, win0_6.flush t = true)

open Cert.Reference14Ideal.Read in
/-- The array of the first result after the run is the reference's. -/
theorem final6 (c : Dev nD) :
    (dats m 0 c).arrAt 6 cfg0.N = val_main_v32 (F := Ideal) (X0 m c) (X1 m c) (X2 m c) (X3 m c) :=
  (dats m 0 c).arrAt_eq_of_cover 6 _ (fun t hf => by
    rw [Kernel14Ideal.Value.flushed6]
    obtain ⟨-, -, -, -, -, -, ⟨e0, e1, e2⟩, -⟩ := idx_facts t
    funext y
    have hy0 : (y 0).val < 1 := (y 0).isLt
    have hy1 : (y 1).val < 512 := (y 1).isLt
    have hy2 : (y 2).val < 2048 := (y 2).isLt
    have hx : (cfg0.win 6).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have he : ((cfg0.win 6).blk t).view.emb y = ix3 ⟨t.val, lt16 t⟩ ⟨(y 1).val, hy1⟩ ⟨(y 2).val, hy2⟩ := by
      funext a; apply Fin.ext
      match a with
      | ⟨0, _⟩ => show win0_6.index t (0 : Fin 3) * 1 + 1 * (y 0).val = t.val; rw [e0]; omega
      | ⟨1, _⟩ => show win0_6.index t (1 : Fin 3) * 512 + 1 * (y 1).val = (y 1).val; rw [e1]; omega
      | ⟨2, _⟩ => show win0_6.index t (2 : Fin 3) * 2048 + 1 * (y 2).val = (y 2).val; rw [e2]; omega
    show (out0_6 (iblk m c 0 t) (iblk m c 1 t) (iblk m c 2 t) (iblk m c 3 t) (iblk m c 4 t) (iblk m c 5 t)) ((cfg0.win 6).xinj (grid0.coords t) y)
      = val_main_v32 (F := Ideal) (X0 m c) (X1 m c) (X2 m c) (X3 m c) (((cfg0.win 6).blk t).view.emb y)
    rw [hx, he]
    exact point6 m c t _ _) (fun i => by
      have h0 : (i 0).val < 16 := (i 0).isLt
      have h1 : (i 1).val < 512 := (i 1).isLt
      have h2 : (i 2).val < 2048 := (i 2).isLt
      let t : Fin cfg0.N := ⟨(i 0).val, lt_of_lt_of_eq h0 N_0.symm⟩
      have ht : t.val = (i 0).val := rfl
      refine ⟨t, flush6 t, ?_⟩
      obtain ⟨-, -, -, -, -, -, ⟨e0, e1, e2⟩, -⟩ := idx_facts t
      rw [mem_blk6]
      intro a
      match a with
      | ⟨0, _⟩ =>
        show win0_6.index t (0 : Fin 3) * 1 ≤ (i 0).val ∧ (i 0).val < win0_6.index t (0 : Fin 3) * 1 + 1
        rw [e0]; omega
      | ⟨1, _⟩ =>
        show win0_6.index t (1 : Fin 3) * 512 ≤ (i 1).val ∧ (i 1).val < win0_6.index t (1 : Fin 3) * 512 + 512
        rw [e1]; omega
      | ⟨2, _⟩ =>
        show win0_6.index t (2 : Fin 3) * 2048 ≤ (i 2).val ∧ (i 2).val < win0_6.index t (2 : Fin 3) * 2048 + 2048
        rw [e2]; omega)

theorem mem_blk7 (t : Fin cfg0.N) (i : S16x2048x256.Idx) :
    i ∈ ((cfg0.win 7).blk t).view.set ↔ ∀ a : Fin 3, win0_7.index t a * S1x2048x256.size a ≤ (i a).val ∧ (i a).val < win0_7.index t a * S1x2048x256.size a + S1x2048x256.size a := by
  show i ∈ ((View.whole main_v6_1).slice (win0_7.rect t)).set ↔ _
  rw [View.set_slice_whole, Rect.mem_set_unit]
  exact Iff.rfl

theorem flush7 : ∀ t : Fin cfg0.N, (cfg0.win 7).flush t = true := (by decide +kernel : ∀ t : Fin grid0.N, win0_7.flush t = true)

open Cert.Reference14Ideal.Read in
/-- The array of the second result after the run is the reference's. -/
theorem final7 (c : Dev nD) :
    (dats m 0 c).arrAt 7 cfg0.N = val_main_v33 (F := Ideal) (X4 m c) (X5 m c) :=
  (dats m 0 c).arrAt_eq_of_cover 7 _ (fun t hf => by
    rw [Kernel14Ideal.Value.flushed7]
    obtain ⟨-, -, -, -, -, -, -, ⟨e0, e1, e2⟩⟩ := idx_facts t
    funext y
    have hy0 : (y 0).val < 1 := (y 0).isLt
    have hy1 : (y 1).val < 2048 := (y 1).isLt
    have hy2 : (y 2).val < 256 := (y 2).isLt
    have hx : (cfg0.win 7).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have he : ((cfg0.win 7).blk t).view.emb y = ix3 ⟨t.val, lt16 t⟩ ⟨(y 1).val, hy1⟩ ⟨(y 2).val, hy2⟩ := by
      funext a; apply Fin.ext
      match a with
      | ⟨0, _⟩ => show win0_7.index t (0 : Fin 3) * 1 + 1 * (y 0).val = t.val; rw [e0]; omega
      | ⟨1, _⟩ => show win0_7.index t (1 : Fin 3) * 2048 + 1 * (y 1).val = (y 1).val; rw [e1]; omega
      | ⟨2, _⟩ => show win0_7.index t (2 : Fin 3) * 256 + 1 * (y 2).val = (y 2).val; rw [e2]; omega
    show (out0_7 (iblk m c 0 t) (iblk m c 1 t) (iblk m c 2 t) (iblk m c 3 t) (iblk m c 4 t) (iblk m c 5 t)) ((cfg0.win 7).xinj (grid0.coords t) y)
      = val_main_v33 (F := Ideal) (X4 m c) (X5 m c) (((cfg0.win 7).blk t).view.emb y)
    rw [hx, he]
    exact point7 m c t _ _) (fun i => by
      have h0 : (i 0).val < 16 := (i 0).isLt
      have h1 : (i 1).val < 2048 := (i 1).isLt
      have h2 : (i 2).val < 256 := (i 2).isLt
      let t : Fin cfg0.N := ⟨(i 0).val, lt_of_lt_of_eq h0 N_0.symm⟩
      have ht : t.val = (i 0).val := rfl
      refine ⟨t, flush7 t, ?_⟩
      obtain ⟨-, -, -, -, -, -, -, ⟨e0, e1, e2⟩⟩ := idx_facts t
      rw [mem_blk7]
      intro a
      match a with
      | ⟨0, _⟩ =>
        show win0_7.index t (0 : Fin 3) * 1 ≤ (i 0).val ∧ (i 0).val < win0_7.index t (0 : Fin 3) * 1 + 1
        rw [e0]; omega
      | ⟨1, _⟩ =>
        show win0_7.index t (1 : Fin 3) * 2048 ≤ (i 1).val ∧ (i 1).val < win0_7.index t (1 : Fin 3) * 2048 + 2048
        rw [e1]; omega
      | ⟨2, _⟩ =>
        show win0_7.index t (2 : Fin 3) * 256 ≤ (i 2).val ∧ (i 2).val < win0_7.index t (2 : Fin 3) * 256 + 256
        rw [e2]; omega)

open Cert.Reference14Ideal.Read in
/-- THE VALUE CLAIM: on the same arguments both programs end with the same results. -/
theorem algebraic : Cert.algebraic_Kernel14Ideal_Reference14Ideal := by
  intro m g m' g' _ hagree
  refine ⟨fun c => val_main_v32 (F := Ideal) (X0 m c) (X1 m c) (X2 m c) (X3 m c), fun c => val_main_v33 (F := Ideal) (X4 m c) (X5 m c), ?_, ?_⟩
  · refine θ_run_mono (Kernel14Ideal.Value.run_blocks m g) fun r h c => ?_
    obtain ⟨h6, h7, k⟩ := h c
    exact ⟨h6.trans (final6 m c), h7.trans (final7 m c), k⟩
  · refine θ_run_mono (Reference14Ideal.Value.run m' g') fun r h c => ?_
    obtain ⟨h6, h7, k⟩ := h c
    obtain ⟨a0, a1, a2, a3, a4, a5⟩ := hagree c
    refine ⟨h6.trans ((val_main_v32_eq _ _ _ _).trans ?_), h7.trans ((val_main_v33_eq _ _).trans ?_), k⟩
    · rw [a0, a1, a2, a3]
    · rw [a4, a5]

end Cert.SsmLayout

end
-- ==== Proof.FfnDown.lean ====
/- The feed-forward's second half in the last layer: the activation times the down weight, halved, onto the residual,
   the rows split into the prompt's and the sample's. -/
module

public import proofs.«01_k».proof.Proof.Scalars
public import proofs.«01_k».proof.Proof.Gen.Kernel3Ideal.Value
public import proofs.«01_k».proof.Proof.Gen.Reference3Ideal.Read
public import proofs.«01_k».proof.Proof.Gen.Reference3Ideal.Run
public import proofs.«01_k».proof.Defs
public import Idealize.ShloMosaic.Lib.Pointwise

@[expose] public section

set_option maxRecDepth 16384

noncomputable section

namespace Cert.FfnDown

open Cert.Kernel3Ideal Cert.Kernel3Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The stored block at a row and a column: the residual plus half the product. -/
theorem pay1_apply (x : FVec Ideal S520x11008 .bf16) (w : FVec Ideal S11008x512 .bf16) (z : FVec Ideal S520x512 .f32) (r : Fin 520) (q : Fin 512) :
    k0_pay1 x w z (ix2 r q) = z (ix2 r q) + ((1 / 2 : ℝ) : EReal) * ∑ k : Fin 11008, x (ix2 r k) * w (ix2 k q) := by
  pointwise [k0_pay1]
  rw [Scalars.bits_half]

/-- The sample's rows of the last row block: 392 to 423. -/
theorem pay2_apply (x : FVec Ideal S520x11008 .bf16) (w : FVec Ideal S11008x512 .bf16) (z : FVec Ideal S520x512 .f32) (r : Fin 32) (q : Fin 512) :
    k0_pay2 (F := Ideal) x w z (ix2 r q) = k0_pay1 (F := Ideal) x w z (ix2 ⟨392 + r.val, by omega⟩ q) := by
  pointwise [k0_pay2]

variable {F : FTy → Type} [FloatOps F]

theorem out3_A (c : Dev nD) (i : grid0.Coords) (a2 h2 a3 h3 a4 h4 a5 h5 a6 h6) (hc : ¬cond0_0 i)
    (x0 : Vec F S520x11008 .bf16) (x1 : Vec F S11008x512 .bf16) (x2 : Vec F S520x512 .f32) :
    out0_A_3 c i a2 h2 a3 h3 a4 h4 a5 h5 a6 h6 hc x0 x1 x2 = k0_pay1 x0 x1 x2 := by
  unfold out0_A_3
  rw [View.read_writes_eq_canon _ _ _ (cover0_A_3 c i a2 h2 a3 h3 a4 h4 a5 h5 a6 h6 hc x0 x1 x2)]
  unfold kernelRun0_A
  dsimp only
  rw [View.canon_unit_zero hz2]
  simp only [View.readAt_eq_ld, h2.read_unread, h3.read_unread, h4.read_unread, View.ld_unit_zero (S := S520x11008) hz2,
    View.ld_unit_zero (S := S11008x512) hz2, View.ld_unit_zero (S := S520x512) hz2]

theorem out3_B (c : Dev nD) (i : grid0.Coords) (a2 h2 a3 h3 a4 h4 a5 h5 a6 h6) (hc : cond0_0 i)
    (x0 : Vec F S520x11008 .bf16) (x1 : Vec F S11008x512 .bf16) (x2 : Vec F S520x512 .f32) :
    out0_B_3 c i a2 h2 a3 h3 a4 h4 a5 h5 a6 h6 hc x0 x1 x2 = k0_pay1 x0 x1 x2 := by
  unfold out0_B_3
  rw [View.read_writes_eq_canon _ _ _ (cover0_B_3 c i a2 h2 a3 h3 a4 h4 a5 h5 a6 h6 hc x0 x1 x2)]
  unfold kernelRun0_B
  dsimp only
  rw [View.canon_unit_zero hz2]
  simp only [View.readAt_eq_ld, h2.read_unread, h3.read_unread, h4.read_unread, View.ld_unit_zero (S := S520x11008) hz2,
    View.ld_unit_zero (S := S11008x512) hz2, View.ld_unit_zero (S := S520x512) hz2]

theorem out4_B (c : Dev nD) (i : grid0.Coords) (a2 h2 a3 h3 a4 h4 a5 h5 a6 h6) (hc : cond0_0 i)
    (x0 : Vec F S520x11008 .bf16) (x1 : Vec F S11008x512 .bf16) (x2 : Vec F S520x512 .f32) :
    out0_B_4 c i a2 h2 a3 h3 a4 h4 a5 h5 a6 h6 hc x0 x1 x2 = k0_pay2 x0 x1 x2 := by
  unfold out0_B_4
  rw [View.read_writes_eq_canon _ _ _ (cover0_B_4 c i a2 h2 a3 h3 a4 h4 a5 h5 a6 h6 hc x0 x1 x2)]
  unfold kernelRun0_B
  dsimp only
  rw [View.canon_unit_zero hz2]
  simp only [View.readAt_eq_ld, h2.read_unread, h3.read_unread, h4.read_unread, View.ld_unit_zero (S := S520x11008) hz2,
    View.ld_unit_zero (S := S11008x512) hz2, View.ld_unit_zero (S := S520x512) hz2]

/-- Which block each window reads or writes at point `t`, decided over the grid. -/
theorem idx_facts : ∀ t : Fin cfg0.N,
    (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = t.val % 16 ∧ win0_2.index t (1 : Fin 2) = t.val / 16)
    ∧ (win0_3.index t (0 : Fin 2) = t.val % 16 ∧ win0_3.index t (1 : Fin 2) = t.val / 16)
    ∧ (win0_4.index t (0 : Fin 2) = 0 ∧ win0_4.index t (1 : Fin 2) = t.val / 16) :=
  (by decide +kernel : ∀ t : Fin grid0.N, _)

/-- The part of the first result's block that is written back: all of it, but for the last row block, whose last 128
    rows lie past the result's end. -/
theorem xsize3 : ∀ t : Fin cfg0.N,
    win0_3.xsize (grid0.coords t) (0 : Fin 2) = (if t.val % 16 = 15 then 392 else 520) ∧ win0_3.xsize (grid0.coords t) (1 : Fin 2) = 512 :=
  (by decide +kernel : ∀ t : Fin grid0.N, _)

/-- When each result's block is written back. -/
theorem flush3 : ∀ t : Fin cfg0.N, (cfg0.win 3).flush t = true := (by decide +kernel : ∀ t : Fin grid0.N, win0_3.flush t = true)
theorem flush4 : ∀ t : Fin cfg0.N, (cfg0.win 4).flush t = true ↔ t.val % 16 = 15 :=
  (by decide +kernel : ∀ t : Fin grid0.N, win0_4.flush t = true ↔ t.val % 16 = 15)

variable (m : (ℓ : Loc nD τ sig) → Buf (Elt Ideal) ℓ)

/-- The three arguments as arrays of extended reals. -/
abbrev Act (c : Dev nD) : FVec Ideal S8320x11008 .bf16 := m ((c : Thread nD τ).loc main_arg0)
abbrev W (c : Dev nD) : FVec Ideal S11008x4096 .bf16 := m ((c : Thread nD τ).loc main_arg1)
abbrev X (c : Dev nD) : FVec Ideal S8320x4096 .f32 := m ((c : Thread nD τ).loc main_arg2)

theorem lt128 (t : Fin cfg0.N) : t.val < 128 := lt_of_lt_of_eq t.isLt N_0

theorem iblk0 (c : Dev nD) (t : Fin cfg0.N) (r : Fin 520) (k : Fin 11008) :
    (iblk m c 0 t : FVec Ideal S520x11008 .bf16) (ix2 r k) = Act m c (ix2 ⟨t.val % 16 * 520 + r.val, by omega⟩ k) := by
  obtain ⟨⟨e0, e1⟩, -⟩ := idx_facts t
  show Act m c (((cfg0.win 0).blk t).view.emb (ix2 r k)) = _
  congr 1; funext a; apply Fin.ext
  match a with
  | ⟨0, _⟩ => show win0_0.index t (0 : Fin 2) * 520 + 1 * r.val = t.val % 16 * 520 + r.val; rw [e0]; omega
  | ⟨1, _⟩ => show win0_0.index t (1 : Fin 2) * 11008 + 1 * k.val = k.val; omega

theorem iblk1 (c : Dev nD) (t : Fin cfg0.N) (k : Fin 11008) (q : Fin 512) :
    (iblk m c 1 t : FVec Ideal S11008x512 .bf16) (ix2 k q) = W m c (ix2 k ⟨t.val / 16 * 512 + q.val, by have := lt128 t; omega⟩) := by
  obtain ⟨-, ⟨e0, e1⟩, -⟩ := idx_facts t
  show W m c (((cfg0.win 1).blk t).view.emb (ix2 k q)) = _
  congr 1; funext a; apply Fin.ext
  match a with
  | ⟨0, _⟩ => show win0_1.index t (0 : Fin 2) * 11008 + 1 * k.val = k.val; omega
  | ⟨1, _⟩ => show win0_1.index t (1 : Fin 2) * 512 + 1 * q.val = t.val / 16 * 512 + q.val; rw [e1]; omega

theorem iblk2 (c : Dev nD) (t : Fin cfg0.N) (r : Fin 520) (q : Fin 512) :
    (iblk m c 2 t : FVec Ideal S520x512 .f32) (ix2 r q)
      = X m c (ix2 ⟨t.val % 16 * 520 + r.val, by omega⟩ ⟨t.val / 16 * 512 + q.val, by have := lt128 t; omega⟩) := by
  obtain ⟨-, -, ⟨e0, e1⟩, -⟩ := idx_facts t
  show X m c (((cfg0.win 2).blk t).view.emb (ix2 r q)) = _
  congr 1; funext a; apply Fin.ext
  match a with
  | ⟨0, _⟩ => show win0_2.index t (0 : Fin 2) * 520 + 1 * r.val = t.val % 16 * 520 + r.val; rw [e0]; omega
  | ⟨1, _⟩ => show win0_2.index t (1 : Fin 2) * 512 + 1 * q.val = t.val / 16 * 512 + q.val; rw [e1]; omega

theorem out3_eq (c : Dev nD) (t : Fin cfg0.N) :
    (outsAt0 m c t.val t.isLt).1 = k0_pay1 (iblk m c 0 t) (iblk m c 1 t) (iblk m c 2 t) := by
  by_cases h0 : t.val % 16 = 15
  · rw [outsAt0_B m c t h0]; dsimp only; rw [out3_B]
  · rw [outsAt0_A m c t h0]; dsimp only; rw [out3_A]

theorem out4_eq (c : Dev nD) (t : Fin cfg0.N) (h0 : t.val % 16 = 15) :
    (outsAt0 m c t.val t.isLt).2 = k0_pay2 (iblk m c 0 t) (iblk m c 1 t) (iblk m c 2 t) := by
  rw [outsAt0_B m c t h0]; dsimp only; rw [out4_B]

open Cert.Reference3Ideal.Read in
/-- The reference's sum at an index. -/
theorem ref5_apply (a : FVec Ideal S8320x11008 .bf16) (w : FVec Ideal S11008x4096 .bf16) (x : FVec Ideal S8320x4096 .f32) (r : Fin 8320) (q : Fin 4096) :
    val_main_v5 (F := Ideal) a w x (ix2 r q) = x (ix2 r q) + ((1 / 2 : ℝ) : EReal) * ∑ k : Fin 11008, a (ix2 r k) * w (ix2 k q) := by
  pointwise [val_main_v5, val_main_v4, val_main_v3, val_main_v2, val_main_v1, val_main_v0, val_main_cst]
  rw [Scalars.bits_half]

open Cert.Reference3Ideal.Read in
theorem ref6_apply (a : FVec Ideal S8320x11008 .bf16) (w : FVec Ideal S11008x4096 .bf16) (x : FVec Ideal S8320x4096 .f32) (r : Fin 8192) (q : Fin 4096) :
    val_main_v6 (F := Ideal) a w x (ix2 r q) = val_main_v5 (F := Ideal) a w x (ix2 ⟨r.val, by omega⟩ q) := by
  pointwise [val_main_v6]

open Cert.Reference3Ideal.Read in
theorem ref7_apply (a : FVec Ideal S8320x11008 .bf16) (w : FVec Ideal S11008x4096 .bf16) (x : FVec Ideal S8320x4096 .f32) (r : Fin 32) (q : Fin 4096) :
    val_main_v7 (F := Ideal) a w x (ix2 r q) = val_main_v5 (F := Ideal) a w x (ix2 ⟨8192 + r.val, by omega⟩ q) := by
  pointwise [val_main_v7]

open Cert.Reference3Ideal.Read in
/-- An element of the block computed at point `t` is the reference's sum, at its place. -/
theorem point (c : Dev nD) (t : Fin cfg0.N) (r : Fin 520) (q : Fin 512) :
    k0_pay1 (iblk m c 0 t) (iblk m c 1 t) (iblk m c 2 t) (ix2 r q)
      = val_main_v5 (F := Ideal) (Act m c) (W m c) (X m c)
          (ix2 ⟨t.val % 16 * 520 + r.val, by omega⟩ ⟨t.val / 16 * 512 + q.val, by have := lt128 t; omega⟩) := by
  rw [pay1_apply, ref5_apply, iblk2]
  simp only [iblk0, iblk1]

theorem mem_blk3 (t : Fin cfg0.N) (i : S8192x4096.Idx) :
    i ∈ ((cfg0.win 3).blk t).view.set ↔ ∀ a : Fin 2, win0_3.index t a * S520x512.size a ≤ (i a).val ∧ (i a).val < win0_3.index t a * S520x512.size a + win0_3.xsize (grid0.coords t) a := by
  show i ∈ ((View.whole main_v0_0).slice (win0_3.rect t)).set ↔ _
  rw [View.set_slice_whole, Rect.mem_set_unit]
  exact Iff.rfl

theorem mem_blk4 (t : Fin cfg0.N) (i : S32x4096.Idx) :
    i ∈ ((cfg0.win 4).blk t).view.set ↔ ∀ a : Fin 2, win0_4.index t a * S32x512.size a ≤ (i a).val ∧ (i a).val < win0_4.index t a * S32x512.size a + S32x512.size a := by
  show i ∈ ((View.whole main_v0_1).slice (win0_4.rect t)).set ↔ _
  rw [View.set_slice_whole, Rect.mem_set_unit]
  exact Iff.rfl

open Cert.Reference3Ideal.Read in
/-- The array of the first result after the run is the reference's. -/
theorem final3 (c : Dev nD) :
    (dats m 0 c).arrAt 3 cfg0.N = val_main_v6 (F := Ideal) (Act m c) (W m c) (X m c) :=
  (dats m 0 c).arrAt_eq_of_cover 3 _ (fun t hf => by
    rw [Kernel3Ideal.Value.flushed3, out3_eq]
    obtain ⟨-, -, -, ⟨e0, e1⟩, -⟩ := idx_facts t
    obtain ⟨z0, z1⟩ := xsize3 t
    funext y
    have hy0 : (y 0).val < win0_3.xsize (grid0.coords t) (0 : Fin 2) := (y 0).isLt
    have hy1 : (y 1).val < win0_3.xsize (grid0.coords t) (1 : Fin 2) := (y 1).isLt
    rw [z1] at hy1
    have hy0' : (y 0).val < 520 ∧ t.val % 16 * 520 + (y 0).val < 8192 := by
      rw [z0] at hy0; split at hy0 <;> omega
    have hx : (cfg0.win 3).xinj (grid0.coords t) y = ix2 ⟨(y 0).val, hy0'.1⟩ ⟨(y 1).val, hy1⟩ := by
      funext a; apply Fin.ext
      match a with
      | ⟨0, _⟩ => rfl
      | ⟨1, _⟩ => rfl
    have he : ((cfg0.win 3).blk t).view.emb y
        = ix2 ⟨t.val % 16 * 520 + (y 0).val, hy0'.2⟩ ⟨t.val / 16 * 512 + (y 1).val, by have := lt128 t; omega⟩ := by
      funext a; apply Fin.ext
      match a with
      | ⟨0, _⟩ => show win0_3.index t (0 : Fin 2) * 520 + 1 * (y 0).val = t.val % 16 * 520 + (y 0).val; rw [e0]; omega
      | ⟨1, _⟩ => show win0_3.index t (1 : Fin 2) * 512 + 1 * (y 1).val = t.val / 16 * 512 + (y 1).val; rw [e1]; omega
    show k0_pay1 (iblk m c 0 t) (iblk m c 1 t) (iblk m c 2 t) ((cfg0.win 3).xinj (grid0.coords t) y)
      = val_main_v6 (F := Ideal) (Act m c) (W m c) (X m c) (((cfg0.win 3).blk t).view.emb y)
    rw [hx, he, ref6_apply]
    exact point m c t _ _) (fun i => by
      have h0 : (i 0).val < 8192 := (i 0).isLt
      have h1 : (i 1).val < 4096 := (i 1).isLt
      let t : Fin cfg0.N := ⟨16 * ((i 1).val / 512) + (i 0).val / 520, lt_of_lt_of_eq (by omega) N_0.symm⟩
      refine ⟨t, flush3 t, ?_⟩
      have ht : t.val = 16 * ((i 1).val / 512) + (i 0).val / 520 := rfl
      obtain ⟨-, -, -, ⟨e0, e1⟩, -⟩ := idx_facts t
      obtain ⟨z0, z1⟩ := xsize3 t
      rw [mem_blk3]
      intro a
      match a with
      | ⟨0, _⟩ =>
        show win0_3.index t (0 : Fin 2) * 520 ≤ (i 0).val ∧ (i 0).val < win0_3.index t (0 : Fin 2) * 520 + win0_3.xsize (grid0.coords t) (0 : Fin 2)
        rw [z0, e0]; split <;> omega
      | ⟨1, _⟩ =>
        show win0_3.index t (1 : Fin 2) * 512 ≤ (i 1).val ∧ (i 1).val < win0_3.index t (1 : Fin 2) * 512 + win0_3.xsize (grid0.coords t) (1 : Fin 2)
        rw [z1, e1]; omega)

open Cert.Reference3Ideal.Read in
/-- The array of the second result after the run is the reference's. -/
theorem final4 (c : Dev nD) :
    (dats m 0 c).arrAt 4 cfg0.N = val_main_v7 (F := Ideal) (Act m c) (W m c) (X m c) :=
  (dats m 0 c).arrAt_eq_of_cover 4 _ (fun t hf => by
    have h15 := (flush4 t).mp hf
    rw [Kernel3Ideal.Value.flushed4, out4_eq m c t h15]
    obtain ⟨-, -, -, -, ⟨e0, e1⟩⟩ := idx_facts t
    funext y
    have hy0 : (y 0).val < 32 := (y 0).isLt
    have hy1 : (y 1).val < 512 := (y 1).isLt
    have hx : (cfg0.win 4).xinj (grid0.coords t) y = ix2 ⟨(y 0).val, hy0⟩ ⟨(y 1).val, hy1⟩ := by
      funext a; apply Fin.ext
      match a with
      | ⟨0, _⟩ => rfl
      | ⟨1, _⟩ => rfl
    have he : ((cfg0.win 4).blk t).view.emb y
        = ix2 ⟨(y 0).val, hy0⟩ ⟨t.val / 16 * 512 + (y 1).val, by have := lt128 t; omega⟩ := by
      funext a; apply Fin.ext
      match a with
      | ⟨0, _⟩ => show win0_4.index t (0 : Fin 2) * 32 + 1 * (y 0).val = (y 0).val; rw [e0]; omega
      | ⟨1, _⟩ => show win0_4.index t (1 : Fin 2) * 512 + 1 * (y 1).val = t.val / 16 * 512 + (y 1).val; rw [e1]; omega
    show k0_pay2 (iblk m c 0 t) (iblk m c 1 t) (iblk m c 2 t) ((cfg0.win 4).xinj (grid0.coords t) y)
      = val_main_v7 (F := Ideal) (Act m c) (W m c) (X m c) (((cfg0.win 4).blk t).view.emb y)
    rw [hx, he, ref7_apply, pay2_apply, point]
    congr 2
    apply Fin.ext
    show t.val % 16 * 520 + (392 + (y 0).val) = 8192 + (y 0).val
    omega) (fun i => by
      have h0 : (i 0).val < 32 := (i 0).isLt
      have h1 : (i 1).val < 4096 := (i 1).isLt
      let t : Fin cfg0.N := ⟨16 * ((i 1).val / 512) + 15, lt_of_lt_of_eq (by omega) N_0.symm⟩
      have ht : t.val = 16 * ((i 1).val / 512) + 15 := rfl
      refine ⟨t, (flush4 t).mpr (by omega), ?_⟩
      obtain ⟨-, -, -, -, ⟨e0, e1⟩⟩ := idx_facts t
      rw [mem_blk4]
      intro a
      match a with
      | ⟨0, _⟩ =>
        show win0_4.index t (0 : Fin 2) * 32 ≤ (i 0).val ∧ (i 0).val < win0_4.index t (0 : Fin 2) * 32 + 32
        omega
      | ⟨1, _⟩ =>
        show win0_4.index t (1 : Fin 2) * 512 ≤ (i 1).val ∧ (i 1).val < win0_4.index t (1 : Fin 2) * 512 + 512
        omega)

open Cert.Reference3Ideal.Read in
/-- THE VALUE CLAIM: on the same arguments both programs end with the same two results. -/
theorem algebraic : Cert.algebraic_Kernel3Ideal_Reference3Ideal := by
  intro m g m' g' _ hagree
  refine ⟨fun c => val_main_v6 (F := Ideal) (Act m c) (W m c) (X m c), fun c => val_main_v7 (F := Ideal) (Act m c) (W m c) (X m c), ?_, ?_⟩
  · refine θ_run_mono (Kernel3Ideal.Value.run_blocks m g) fun r h c => ?_
    obtain ⟨h3, h4, k0, k1, k2⟩ := h c
    exact ⟨h3.trans (final3 m c), h4.trans (final4 m c), k0, k1, k2⟩
  · refine θ_run_mono (Reference3Ideal.Value.run m' g') fun r h c => ?_
    obtain ⟨h3, h4, k0, k1, k2⟩ := h c
    obtain ⟨a0, a1, a2⟩ := hagree c
    refine ⟨h3.trans ((val_main_v6_eq _ _ _).trans ?_), h4.trans ((val_main_v7_eq _ _ _).trans ?_), k0, k1, k2⟩
    · rw [a0, a1, a2]
    · rw [a0, a1, a2]

end Cert.FfnDown

end
-- ==== Proof.SsmSample.lean ====
/- The state space layer's step for the sample's rows: one step of the complex recurrence per channel tile, its read-out,
   and the gelu of it. -/
module

public import proofs.«01_k».proof.Proof.Scalars
public import proofs.«01_k».proof.Proof.Gen.Kernel4Ideal.Value
public import proofs.«01_k».proof.Proof.Gen.Reference4Ideal.Read
public import proofs.«01_k».proof.Proof.Gen.Reference4Ideal.Run
public import proofs.«01_k».proof.Defs
public import Idealize.ShloMosaic.Lib.Pointwise

@[expose] public section

set_option maxRecDepth 16384

noncomputable section

namespace Cert.SsmSample

open Cert.Kernel4Ideal Cert.Kernel4Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The gelu by its tanh form, with the constants as they are printed. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The real part of the next state, from the block's values. -/
theorem pay5_apply (u : FVec Ideal S32x256 .f32) (b : FVec Ideal S1x256x2048 .bf16) (ar ai : FVec Ideal S1x1x1024 .f32) (hr hi : FVec Ideal S32x1024 .f32) (r : Fin 32) (s : Fin 1024) :
    k0_pay5 (F := Ideal) u b ar ai hr hi (ix2 r s)
      = ar (ix3 0 0 s) * hr (ix2 r s) - ai (ix3 0 0 s) * hi (ix2 r s) + ∑ k : Fin 256, u (ix2 r k) * b (ix3 0 k ⟨s.val, by omega⟩) := by
  pointwise [k0_pay5, k0_pay3, k0_pay4, k0_pay2]

/-- The imaginary part. -/
theorem pay6_apply (u : FVec Ideal S32x256 .f32) (b : FVec Ideal S1x256x2048 .bf16) (ar ai : FVec Ideal S1x1x1024 .f32) (hr hi : FVec Ideal S32x1024 .f32) (r : Fin 32) (s : Fin 1024) :
    k0_pay6 (F := Ideal) u b ar ai hr hi (ix2 r s)
      = ar (ix3 0 0 s) * hi (ix2 r s) + ai (ix3 0 0 s) * hr (ix2 r s) + ∑ k : Fin 256, u (ix2 r k) * b (ix3 0 k ⟨1024 + s.val, by omega⟩) := by
  pointwise [k0_pay6, k0_pay3, k0_pay4, k0_pay2]

/-- The read-out's product. -/
theorem pay7_apply (u : FVec Ideal S32x256 .f32) (b : FVec Ideal S1x256x2048 .bf16) (ar ai : FVec Ideal S1x1x1024 .f32) (hr hi : FVec Ideal S32x1024 .f32) (cm : FVec Ideal S1x2048x256 .bf16) (r : Fin 32) (q : Fin 256) :
    k0_pay7 (F := Ideal) u b ar ai hr hi cm (ix2 r q) = ∑ k : Fin 2048,
      (if h : k.val < 1024 then k0_pay5 (F := Ideal) u b ar ai hr hi (ix2 r ⟨k.val, h⟩) else k0_pay6 (F := Ideal) u b ar ai hr hi (ix2 r ⟨k.val - 1024, by omega⟩))
        * cm (ix3 0 k q) := by
  pointwise [k0_pay7]

theorem pay1_apply (u y : FVec Ideal S32x256 .f32) (d : FVec Ideal S1x1x256 .f32) (r : Fin 32) (q : Fin 256) :
    k0_pay1 (F := Ideal) u y d (ix2 r q) = (gelu (y (ix2 r q) + d (ix3 0 0 q) * u (ix2 r q)) : EReal) := by
  pointwise [k0_pay1, gelu]

open Cert.Reference4Ideal.Read in
theorem ref22_apply (u : FVec Ideal S8320x4096 .f32) (hr hi : FVec Ideal S32x16384 .f32) (b : FVec Ideal S16x512x2048 .bf16) (ar ai : FVec Ideal S16x1x1024 .f32)
    (r : Fin 32) (T : Fin 16) (s : Fin 1024) :
    val_main_v22 (F := Ideal) u hr hi b ar ai (ix3 r T s)
      = ar (ix3 T 0 s) * hr (ix2 r ⟨T.val * 1024 + s.val, by omega⟩) - ai (ix3 T 0 s) * hi (ix2 r ⟨T.val * 1024 + s.val, by omega⟩)
        + ∑ k : Fin 256, u (ix2 ⟨8192 + r.val, by omega⟩ ⟨T.val * 256 + k.val, by omega⟩) * b (ix3 T ⟨k.val, by omega⟩ ⟨s.val, by omega⟩) := by
  pointwise [val_main_v22, val_main_v21, val_main_v20, val_main_v19, val_main_v18, val_main_v17, val_main_v16, val_main_v15, val_main_v14, val_main_v13,
    val_main_v11, val_main_v10, val_main_v6, val_main_v5, val_main_v4, val_main_v2, val_main_v1, val_main_v0]
  exact congrArg _ (Finset.sum_congr rfl fun k _ => mul_comm _ _)

open Cert.Reference4Ideal.Read in
theorem ref30_apply (u : FVec Ideal S8320x4096 .f32) (hr hi : FVec Ideal S32x16384 .f32) (b : FVec Ideal S16x512x2048 .bf16) (ar ai : FVec Ideal S16x1x1024 .f32)
    (r : Fin 32) (T : Fin 16) (s : Fin 1024) :
    val_main_v30 (F := Ideal) u hr hi b ar ai (ix3 r T s)
      = ar (ix3 T 0 s) * hi (ix2 r ⟨T.val * 1024 + s.val, by omega⟩) + ai (ix3 T 0 s) * hr (ix2 r ⟨T.val * 1024 + s.val, by omega⟩)
        + ∑ k : Fin 256, u (ix2 ⟨8192 + r.val, by omega⟩ ⟨T.val * 256 + k.val, by omega⟩) * b (ix3 T ⟨k.val, by omega⟩ ⟨1024 + s.val, by omega⟩) := by
  pointwise [val_main_v30, val_main_v29, val_main_v28, val_main_v27, val_main_v26, val_main_v25, val_main_v24, val_main_v23, val_main_v14, val_main_v13,
    val_main_v11, val_main_v10, val_main_v9, val_main_v8, val_main_v7, val_main_v2, val_main_v1, val_main_v0]
  exact congrArg _ (Finset.sum_congr rfl fun k _ => mul_comm _ _)

open Cert.Reference4Ideal.Read in
theorem ref33_apply (u : FVec Ideal S8320x4096 .f32) (hr hi : FVec Ideal S32x16384 .f32) (b : FVec Ideal S16x512x2048 .bf16) (cm : FVec Ideal S16x2048x256 .bf16) (ar ai : FVec Ideal S16x1x1024 .f32)
    (r : Fin 32) (T : Fin 16) (q : Fin 256) :
    val_main_v33 (F := Ideal) u hr hi b cm ar ai (ix3 r T q) = ∑ k : Fin 2048,
      (if h : k.val < 1024 then val_main_v22 (F := Ideal) u hr hi b ar ai (ix3 r T ⟨k.val, h⟩) else val_main_v30 (F := Ideal) u hr hi b ar ai (ix3 r T ⟨k.val - 1024, by omega⟩))
        * cm (ix3 T k q) := by
  pointwise [val_main_v33, val_main_v32, val_main_v31, val_main_v3]
  exact congrArg₂ (α := EReal) (β := EReal) (γ := EReal) (· + ·) (Finset.sum_congr rfl fun k _ => mul_comm (G := EReal) _ _) (Finset.sum_congr rfl fun k _ => mul_comm (G := EReal) _ _)

open Cert.Reference4Ideal.Read in
/-- The reference's read-out plus the skip. -/
theorem ref37_apply (u : FVec Ideal S8320x4096 .f32) (hr hi : FVec Ideal S32x16384 .f32) (b : FVec Ideal S16x512x2048 .bf16) (cm : FVec Ideal S16x2048x256 .bf16) (ar ai : FVec Ideal S16x1x1024 .f32) (d : FVec Ideal S16x1x256 .f32)
    (r : Fin 32) (T : Fin 16) (q : Fin 256) :
    val_main_v37 (F := Ideal) u hr hi b cm ar ai d (ix3 r T q) = val_main_v33 (F := Ideal) u hr hi b cm ar ai (ix3 r T q)
      + d (ix3 T 0 q) * u (ix2 ⟨8192 + r.val, by omega⟩ ⟨T.val * 256 + q.val, by omega⟩) := by
  pointwise [val_main_v37, val_main_v36, val_main_v35, val_main_v34, val_main_v12, val_main_v1, val_main_v0]

open Cert.Reference4Ideal.Read in
theorem ref52_apply (u : FVec Ideal S8320x4096 .f32) (hr hi : FVec Ideal S32x16384 .f32) (b : FVec Ideal S16x512x2048 .bf16) (cm : FVec Ideal S16x2048x256 .bf16) (ar ai : FVec Ideal S16x1x1024 .f32) (d : FVec Ideal S16x1x256 .f32)
    (r : Fin 32) (T : Fin 16) (q : Fin 256) (hq : T.val * 256 + q.val < 4096) :
    (val_main_v52 (F := Ideal) u hr hi b cm ar ai d (ix2 r ⟨T.val * 256 + q.val, hq⟩) : EReal) = gelu (val_main_v37 (F := Ideal) u hr hi b cm ar ai d (ix3 r T q)) := by
  pointwise [val_main_v52, val_main_v51, val_main_v50, val_main_v49, val_main_v48, val_main_v47, val_main_v46, val_main_v45, val_main_v44, val_main_v43,
    val_main_v42, val_main_v41, val_main_v40, val_main_v39, val_main_v38, val_main_cst, val_main_cst_0, val_main_cst_1, val_main_cst_2, gelu]

  exact (mul_left_comm _ _ _).trans (mul_assoc _ _ _).symm

open Cert.Reference4Ideal.Read in
theorem ref53_apply (u : FVec Ideal S8320x4096 .f32) (hr hi : FVec Ideal S32x16384 .f32) (b : FVec Ideal S16x512x2048 .bf16) (ar ai : FVec Ideal S16x1x1024 .f32)
    (r : Fin 32) (T : Fin 16) (s : Fin 1024) (hq : T.val * 1024 + s.val < 16384) :
    val_main_v53 (F := Ideal) u hr hi b ar ai (ix2 r ⟨T.val * 1024 + s.val, hq⟩) = val_main_v22 (F := Ideal) u hr hi b ar ai (ix3 r T s) := by
  pointwise [val_main_v53]

open Cert.Reference4Ideal.Read in
theorem ref54_apply (u : FVec Ideal S8320x4096 .f32) (hr hi : FVec Ideal S32x16384 .f32) (b : FVec Ideal S16x512x2048 .bf16) (ar ai : FVec Ideal S16x1x1024 .f32)
    (r : Fin 32) (T : Fin 16) (s : Fin 1024) (hq : T.val * 1024 + s.val < 16384) :
    val_main_v54 (F := Ideal) u hr hi b ar ai (ix2 r ⟨T.val * 1024 + s.val, hq⟩) = val_main_v30 (F := Ideal) u hr hi b ar ai (ix3 r T s) := by
  pointwise [val_main_v54]

variable {F : FTy → Type} [FloatOps F]

theorem out8_eq (x0 : Vec F S32x256 .f32) (x1 x2 : Vec F S32x1024 .f32) (x3 : Vec F S1x256x2048 .bf16) (x4 : Vec F S1x2048x256 .bf16) (x5 x6 : Vec F S1x1x1024 .f32) (x7 : Vec F S1x1x256 .f32) :
    out0_8 x0 x1 x2 x3 x4 x5 x6 x7 = k0_pay1 x0 (k0_pay7 x0 x3 x5 x6 x1 x2 x4) x7 := by
  unfold out0_8
  rw [View.canon_unit_zero hz2]
  simp only [View.ld_unit_zero (S := S32x256) hz2, View.ld_unit_zero (S := S32x1024) hz2, View.ld_unit_zero (S := S1x256x2048) hz3,
    View.ld_unit_zero (S := S1x2048x256) hz3, View.ld_unit_zero (S := S1x1x1024) hz3, View.ld_unit_zero (S := S1x1x256) hz3]

theorem out9_eq (x0 : Vec F S32x256 .f32) (x1 x2 : Vec F S32x1024 .f32) (x3 : Vec F S1x256x2048 .bf16) (x4 : Vec F S1x2048x256 .bf16) (x5 x6 : Vec F S1x1x1024 .f32) (x7 : Vec F S1x1x256 .f32) :
    out0_9 x0 x1 x2 x3 x4 x5 x6 x7 = k0_pay5 x0 x3 x5 x6 x1 x2 := by
  unfold out0_9
  rw [View.canon_unit_zero hz2]
  simp only [View.ld_unit_zero (S := S32x256) hz2, View.ld_unit_zero (S := S32x1024) hz2, View.ld_unit_zero (S := S1x256x2048) hz3,
    View.ld_unit_zero (S := S1x2048x256) hz3, View.ld_unit_zero (S := S1x1x1024) hz3, View.ld_unit_zero (S := S1x1x256) hz3]

theorem out10_eq (x0 : Vec F S32x256 .f32) (x1 x2 : Vec F S32x1024 .f32) (x3 : Vec F S1x256x2048 .bf16) (x4 : Vec F S1x2048x256 .bf16) (x5 x6 : Vec F S1x1x1024 .f32) (x7 : Vec F S1x1x256 .f32) :
    out0_10 x0 x1 x2 x3 x4 x5 x6 x7 = k0_pay6 x0 x3 x5 x6 x1 x2 := by
  unfold out0_10
  rw [View.canon_unit_zero hz2]
  simp only [View.ld_unit_zero (S := S32x256) hz2, View.ld_unit_zero (S := S32x1024) hz2, View.ld_unit_zero (S := S1x256x2048) hz3,
    View.ld_unit_zero (S := S1x2048x256) hz3, View.ld_unit_zero (S := S1x1x1024) hz3, View.ld_unit_zero (S := S1x1x256) hz3]

/-- Which block each window reads or writes at point `t`, decided over the grid. -/
theorem idx_facts : ∀ t : Fin cfg0.N,
    (win0_0.index t (0 : Fin 2) = 256 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 2) = 0 ∧ win0_8.index t (1 : Fin 2) = t.val)
    ∧ (win0_9.index t (0 : Fin 2) = 0 ∧ win0_9.index t (1 : Fin 2) = t.val)
    ∧ (win0_10.index t (0 : Fin 2) = 0 ∧ win0_10.index t (1 : Fin 2) = t.val) :=
  (by decide +kernel : ∀ t : Fin grid0.N, _)

/-- Every point writes its blocks back. -/
theorem flushes : ∀ t : Fin cfg0.N, (cfg0.win 8).flush t = true ∧ (cfg0.win 9).flush t = true ∧ (cfg0.win 10).flush t = true :=
  (by decide +kernel : ∀ t : Fin grid0.N, win0_8.flush t = true ∧ win0_9.flush t = true ∧ win0_10.flush t = true)

variable (m : (ℓ : Loc nD τ sig) → Buf (Elt Ideal) ℓ)

/-- The arguments as arrays of extended reals. -/
abbrev U (c : Dev nD) : FVec Ideal S8320x4096 .f32 := m ((c : Thread nD τ).loc main_arg0)
abbrev Hr (c : Dev nD) : FVec Ideal S32x16384 .f32 := m ((c : Thread nD τ).loc main_arg1)
abbrev Hi (c : Dev nD) : FVec Ideal S32x16384 .f32 := m ((c : Thread nD τ).loc main_arg2)
abbrev B (c : Dev nD) : FVec Ideal S16x512x2048 .bf16 := m ((c : Thread nD τ).loc main_arg3)
abbrev C (c : Dev nD) : FVec Ideal S16x2048x256 .bf16 := m ((c : Thread nD τ).loc main_arg4)
abbrev Ar (c : Dev nD) : FVec Ideal S16x1x1024 .f32 := m ((c : Thread nD τ).loc main_arg5)
abbrev Ai (c : Dev nD) : FVec Ideal S16x1x1024 .f32 := m ((c : Thread nD τ).loc main_arg6)
abbrev D (c : Dev nD) : FVec Ideal S16x1x256 .f32 := m ((c : Thread nD τ).loc main_arg7)

theorem lt16 (t : Fin cfg0.N) : t.val < 16 := lt_of_lt_of_eq t.isLt N_0
/-- The channel tile of a point. -/
abbrev tile (t : Fin cfg0.N) : Fin 16 := ⟨t.val, lt16 t⟩

theorem iblk0 (c : Dev nD) (t : Fin cfg0.N) (r : Fin 32) (k : Fin 256) :
    (iblk m c 0 t : FVec Ideal S32x256 .f32) (ix2 r k) = U m c (ix2 ⟨8192 + r.val, by omega⟩ ⟨(tile t).val * 256 + k.val, by omega⟩) := by
  have hf := idx_facts t
  obtain ⟨⟨e0, e1⟩, -⟩ := hf
  show U m c (((cfg0.win 0).blk t).view.emb (ix2 r k)) = _
  congr 1; funext a; apply Fin.ext
  match a with
  | ⟨0, _⟩ => show win0_0.index t (0 : Fin 2) * 32 + 1 * r.val = 8192 + r.val; rw [e0]; omega
  | ⟨1, _⟩ => show win0_0.index t (1 : Fin 2) * 256 + 1 * k.val = t.val * 256 + k.val; rw [e1]; omega

theorem iblk1 (c : Dev nD) (t : Fin cfg0.N) (r : Fin 32) (s : Fin 1024) :
    (iblk m c 1 t : FVec Ideal S32x1024 .f32) (ix2 r s) = Hr m c (ix2 r ⟨(tile t).val * 1024 + s.val, by omega⟩) := by
  have hf := idx_facts t
  obtain ⟨-, ⟨e0, e1⟩, -⟩ := hf
  show Hr m c (((cfg0.win 1).blk t).view.emb (ix2 r s)) = _
  congr 1; funext a; apply Fin.ext
  match a with
  | ⟨0, _⟩ => show win0_1.index t (0 : Fin 2) * 32 + 1 * r.val = r.val; rw [e0]; omega
  | ⟨1, _⟩ => show win0_1.index t (1 : Fin 2) * 1024 + 1 * s.val = t.val * 1024 + s.val; rw [e1]; omega

theorem iblk2 (c : Dev nD) (t : Fin cfg0.N) (r : Fin 32) (s : Fin 1024) :
    (iblk m c 2 t : FVec Ideal S32x1024 .f32) (ix2 r s) = Hi m c (ix2 r ⟨(tile t).val * 1024 + s.val, by omega⟩) := by
  have hf := idx_facts t
  obtain ⟨-, -, ⟨e0, e1⟩, -⟩ := hf
  show Hi m c (((cfg0.win 2).blk t).view.emb (ix2 r s)) = _
  congr 1; funext a; apply Fin.ext
  match a with
  | ⟨0, _⟩ => show win0_2.index t (0 : Fin 2) * 32 + 1 * r.val = r.val; rw [e0]; omega
  | ⟨1, _⟩ => show win0_2.index t (1 : Fin 2) * 1024 + 1 * s.val = t.val * 1024 + s.val; rw [e1]; omega

theorem iblk3 (c : Dev nD) (t : Fin cfg0.N) (k : Fin 256) (s : Fin 2048) :
    (iblk m c 3 t : FVec Ideal S1x256x2048 .bf16) (ix3 0 k s) = B m c (ix3 (tile t) ⟨k.val, by omega⟩ s) := by
  have hf := idx_facts t
  obtain ⟨-, -, -, ⟨e0, e1, e2⟩, -⟩ := hf
  show B m c (((cfg0.win 3).blk t).view.emb (ix3 0 k s)) = _
  congr 1; funext a; apply Fin.ext
  match a with
  | ⟨0, _⟩ => show win0_3.index t (0 : Fin 3) * 1 + 1 * 0 = t.val; rw [e0]; omega
  | ⟨1, _⟩ => show win0_3.index t (1 : Fin 3) * 256 + 1 * k.val = k.val; rw [e1]; omega
  | ⟨2, _⟩ => show win0_3.index t (2 : Fin 3) * 2048 + 1 * s.val = s.val; rw [e2]; omega

theorem iblk4 (c : Dev nD) (t : Fin cfg0.N) (k : Fin 2048) (q : Fin 256) :
    (iblk m c 4 t : FVec Ideal S1x2048x256 .bf16) (ix3 0 k q) = C m c (ix3 (tile t) k q) := by
  have hf := idx_facts t
  obtain ⟨-, -, -, -, ⟨e0, e1, e2⟩, -⟩ := hf
  show C m c (((cfg0.win 4).blk t).view.emb (ix3 0 k q)) = _
  congr 1; funext a; apply Fin.ext
  match a with
  | ⟨0, _⟩ => show win0_4.index t (0 : Fin 3) * 1 + 1 * 0 = t.val; rw [e0]; omega
  | ⟨1, _⟩ => show win0_4.index t (1 : Fin 3) * 2048 + 1 * k.val = k.val; rw [e1]; omega
  | ⟨2, _⟩ => show win0_4.index t (2 : Fin 3) * 256 + 1 * q.val = q.val; rw [e2]; omega

theorem iblk5 (c : Dev nD) (t : Fin cfg0.N) (s : Fin 1024) :
    (iblk m c 5 t : FVec Ideal S1x1x1024 .f32) (ix3 0 0 s) = Ar m c (ix3 (tile t) 0 s) := by
  have hf := idx_facts t
  obtain ⟨-, -, -, -, -, ⟨e0, e1, e2⟩, -⟩ := hf
  show Ar m c (((cfg0.win 5).blk t).view.emb (ix3 0 0 s)) = _
  congr 1; funext a; apply Fin.ext
  match a with
  | ⟨0, _⟩ => show win0_5.index t (0 : Fin 3) * 1 + 1 * 0 = t.val; rw [e0]; omega
  | ⟨1, _⟩ => show win0_5.index t (1 : Fin 3) * 1 + 1 * 0 = 0; rw [e1]
  | ⟨2, _⟩ => show win0_5.index t (2 : Fin 3) * 1024 + 1 * s.val = s.val; rw [e2]; omega

theorem iblk6 (c : Dev nD) (t : Fin cfg0.N) (s : Fin 1024) :
    (iblk m c 6 t : FVec Ideal S1x1x1024 .f32) (ix3 0 0 s) = Ai m c (ix3 (tile t) 0 s) := by
  have hf := idx_facts t
  obtain ⟨-, -, -, -, -, -, ⟨e0, e1, e2⟩, -⟩ := hf
  show Ai m c (((cfg0.win 6).blk t).view.emb (ix3 0 0 s)) = _
  congr 1; funext a; apply Fin.ext
  match a with
  | ⟨0, _⟩ => show win0_6.index t (0 : Fin 3) * 1 + 1 * 0 = t.val; rw [e0]; omega
  | ⟨1, _⟩ => show win0_6.index t (1 : Fin 3) * 1 + 1 * 0 = 0; rw [e1]
  | ⟨2, _⟩ => show win0_6.index t (2 : Fin 3) * 1024 + 1 * s.val = s.val; rw [e2]; omega

theorem iblk7 (c : Dev nD) (t : Fin cfg0.N) (s : Fin 256) :
    (iblk m c 7 t : FVec Ideal S1x1x256 .f32) (ix3 0 0 s) = D m c (ix3 (tile t) 0 s) := by
  have hf := idx_facts t
  obtain ⟨-, -, -, -, -, -, -, ⟨e0, e1, e2⟩, -⟩ := hf
  show D m c (((cfg0.win 7).blk t).view.emb (ix3 0 0 s)) = _
  congr 1; funext a; apply Fin.ext
  match a with
  | ⟨0, _⟩ => show win0_7.index t (0 : Fin 3) * 1 + 1 * 0 = t.val; rw [e0]; omega
  | ⟨1, _⟩ => show win0_7.index t (1 : Fin 3) * 1 + 1 * 0 = 0; rw [e1]
  | ⟨2, _⟩ => show win0_7.index t (2 : Fin 3) * 256 + 1 * s.val = s.val; rw [e2]; omega

open Cert.Reference4Ideal.Read in
/-- The real part that point `t` computes is the reference's, at its tile. -/
theorem point9 (c : Dev nD) (t : Fin cfg0.N) (r : Fin 32) (s : Fin 1024) :
    k0_pay5 (F := Ideal) (iblk m c 0 t) (iblk m c 3 t) (iblk m c 5 t) (iblk m c 6 t) (iblk m c 1 t) (iblk m c 2 t) (ix2 r s)
      = val_main_v22 (F := Ideal) (U m c) (Hr m c) (Hi m c) (B m c) (Ar m c) (Ai m c) (ix3 r (tile t) s) := by
  rw [pay5_apply, ref22_apply]
  simp only [iblk0, iblk1, iblk2, iblk3, iblk5, iblk6]

open Cert.Reference4Ideal.Read in
theorem point10 (c : Dev nD) (t : Fin cfg0.N) (r : Fin 32) (s : Fin 1024) :
    k0_pay6 (F := Ideal) (iblk m c 0 t) (iblk m c 3 t) (iblk m c 5 t) (iblk m c 6 t) (iblk m c 1 t) (iblk m c 2 t) (ix2 r s)
      = val_main_v30 (F := Ideal) (U m c) (Hr m c) (Hi m c) (B m c) (Ar m c) (Ai m c) (ix3 r (tile t) s) := by
  rw [pay6_apply, ref30_apply]
  simp only [iblk0, iblk1, iblk2, iblk3, iblk5, iblk6]

open Cert.Reference4Ideal.Read in
theorem point8 (c : Dev nD) (t : Fin cfg0.N) (r : Fin 32) (q : Fin 256) :
    (k0_pay1 (F := Ideal) (iblk m c 0 t) (k0_pay7 (iblk m c 0 t) (iblk m c 3 t) (iblk m c 5 t) (iblk m c 6 t) (iblk m c 1 t) (iblk m c 2 t) (iblk m c 4 t)) (iblk m c 7 t) (ix2 r q) : EReal)
      = gelu (val_main_v37 (F := Ideal) (U m c) (Hr m c) (Hi m c) (B m c) (C m c) (Ar m c) (Ai m c) (D m c) (ix3 r (tile t) q)) := by
  rw [pay1_apply, ref37_apply, pay7_apply, ref33_apply]
  simp only [point9, point10, iblk0, iblk4, iblk7]

open Cert.Reference4Ideal.Read in
/-- The array of result 0 after the run is the reference's. -/
theorem final8 (c : Dev nD) :
    (dats m 0 c).arrAt 8 cfg0.N = val_main_v52 (F := Ideal) (U m c) (Hr m c) (Hi m c) (B m c) (C m c) (Ar m c) (Ai m c) (D m c) :=
  (dats m 0 c).arrAt_eq_of_cover 8 _ (fun t hf => by
    rw [Kernel4Ideal.Value.flushed8, out8_eq]
    obtain ⟨-, -, -, -, -, -, -, -, ⟨e0, e1⟩, -⟩ := idx_facts t
    funext y
    have hy0 : (y 0).val < 32 := (y 0).isLt
    have hy1 : (y 1).val < 256 := (y 1).isLt
    have hx : (cfg0.win 8).xinj (grid0.coords t) y = ix2 ⟨(y 0).val, hy0⟩ ⟨(y 1).val, hy1⟩ := by
      funext a; apply Fin.ext
      match a with
      | ⟨0, _⟩ => rfl
      | ⟨1, _⟩ => rfl
    have hb : (tile t).val * 256 + (y 1).val < 4096 := by have := lt16 t; show t.val * 256 + (y 1).val < 4096; omega
    have he : ((cfg0.win 8).blk t).view.emb y = ix2 ⟨(y 0).val, hy0⟩ ⟨(tile t).val * 256 + (y 1).val, hb⟩ := by
      funext a; apply Fin.ext
      match a with
      | ⟨0, _⟩ => show win0_8.index t (0 : Fin 2) * 32 + 1 * (y 0).val = (y 0).val; rw [e0]; omega
      | ⟨1, _⟩ => show win0_8.index t (1 : Fin 2) * 256 + 1 * (y 1).val = t.val * 256 + (y 1).val; rw [e1]; omega
    show k0_pay1 (F := Ideal) (iblk m c 0 t) (k0_pay7 (iblk m c 0 t) (iblk m c 3 t) (iblk m c 5 t) (iblk m c 6 t) (iblk m c 1 t) (iblk m c 2 t) (iblk m c 4 t)) (iblk m c 7 t) ((cfg0.win 8).xinj (grid0.coords t) y)
      = val_main_v52 (F := Ideal) (U m c) (Hr m c) (Hi m c) (B m c) (C m c) (Ar m c) (Ai m c) (D m c) (((cfg0.win 8).blk t).view.emb y)
    rw [hx, he]
    exact (point8 m c t _ _).trans (ref52_apply (U m c) (Hr m c) (Hi m c) (B m c) (C m c) (Ar m c) (Ai m c) (D m c) ⟨(y 0).val, hy0⟩ (tile t) ⟨(y 1).val, hy1⟩ hb).symm) (fun i => by
      have h0 : (i 0).val < 32 := (i 0).isLt
      have h1 : (i 1).val < 4096 := (i 1).isLt
      let t : Fin cfg0.N := ⟨(i 1).val / 256, lt_of_lt_of_eq (by omega) N_0.symm⟩
      have ht : t.val = (i 1).val / 256 := rfl
      refine ⟨t, (flushes t).1, ?_⟩
      obtain ⟨-, -, -, -, -, -, -, -, ⟨e0, e1⟩, -⟩ := idx_facts t
      show i ∈ ((View.whole main_v0_0).slice (win0_8.rect t)).set
      rw [View.set_slice_whole, Rect.mem_set_unit]
      intro a
      match a with
      | ⟨0, _⟩ =>
        show win0_8.index t (0 : Fin 2) * 32 ≤ (i 0).val ∧ (i 0).val < win0_8.index t (0 : Fin 2) * 32 + 32
        rw [e0]; omega
      | ⟨1, _⟩ =>
        show win0_8.index t (1 : Fin 2) * 256 ≤ (i 1).val ∧ (i 1).val < win0_8.index t (1 : Fin 2) * 256 + 256
        rw [e1]; omega)

open Cert.Reference4Ideal.Read in
/-- The array of result 1 after the run is the reference's. -/
theorem final9 (c : Dev nD) :
    (dats m 0 c).arrAt 9 cfg0.N = val_main_v53 (F := Ideal) (U m c) (Hr m c) (Hi m c) (B m c) (Ar m c) (Ai m c) :=
  (dats m 0 c).arrAt_eq_of_cover 9 _ (fun t hf => by
    rw [Kernel4Ideal.Value.flushed9, out9_eq]
    obtain ⟨-, -, -, -, -, -, -, -, -, ⟨e0, e1⟩, -⟩ := idx_facts t
    funext y
    have hy0 : (y 0).val < 32 := (y 0).isLt
    have hy1 : (y 1).val < 1024 := (y 1).isLt
    have hx : (cfg0.win 9).xinj (grid0.coords t) y = ix2 ⟨(y 0).val, hy0⟩ ⟨(y 1).val, hy1⟩ := by
      funext a; apply Fin.ext
      match a with
      | ⟨0, _⟩ => rfl
      | ⟨1, _⟩ => rfl
    have hb : (tile t).val * 1024 + (y 1).val < 16384 := by have := lt16 t; show t.val * 1024 + (y 1).val < 16384; omega
    have he : ((cfg0.win 9).blk t).view.emb y = ix2 ⟨(y 0).val, hy0⟩ ⟨(tile t).val * 1024 + (y 1).val, hb⟩ := by
      funext a; apply Fin.ext
      match a with
      | ⟨0, _⟩ => show win0_9.index t (0 : Fin 2) * 32 + 1 * (y 0).val = (y 0).val; rw [e0]; omega
      | ⟨1, _⟩ => show win0_9.index t (1 : Fin 2) * 1024 + 1 * (y 1).val = t.val * 1024 + (y 1).val; rw [e1]; omega
    show k0_pay5 (F := Ideal) (iblk m c 0 t) (iblk m c 3 t) (iblk m c 5 t) (iblk m c 6 t) (iblk m c 1 t) (iblk m c 2 t) ((cfg0.win 9).xinj (grid0.coords t) y)
      = val_main_v53 (F := Ideal) (U m c) (Hr m c) (Hi m c) (B m c) (Ar m c) (Ai m c) (((cfg0.win 9).blk t).view.emb y)
    rw [hx, he]
    exact (point9 m c t _ _).trans (ref53_apply (U m c) (Hr m c) (Hi m c) (B m c) (Ar m c) (Ai m c) ⟨(y 0).val, hy0⟩ (tile t) ⟨(y 1).val, hy1⟩ hb).symm) (fun i => by
      have h0 : (i 0).val < 32 := (i 0).isLt
      have h1 : (i 1).val < 16384 := (i 1).isLt
      let t : Fin cfg0.N := ⟨(i 1).val / 1024, lt_of_lt_of_eq (by omega) N_0.symm⟩
      have ht : t.val = (i 1).val / 1024 := rfl
      refine ⟨t, (flushes t).2.1, ?_⟩
      obtain ⟨-, -, -, -, -, -, -, -, -, ⟨e0, e1⟩, -⟩ := idx_facts t
      show i ∈ ((View.whole main_v0_1).slice (win0_9.rect t)).set
      rw [View.set_slice_whole, Rect.mem_set_unit]
      intro a
      match a with
      | ⟨0, _⟩ =>
        show win0_9.index t (0 : Fin 2) * 32 ≤ (i 0).val ∧ (i 0).val < win0_9.index t (0 : Fin 2) * 32 + 32
        rw [e0]; omega
      | ⟨1, _⟩ =>
        show win0_9.index t (1 : Fin 2) * 1024 ≤ (i 1).val ∧ (i 1).val < win0_9.index t (1 : Fin 2) * 1024 + 1024
        rw [e1]; omega)

open Cert.Reference4Ideal.Read in
/-- The array of result 2 after the run is the reference's. -/
theorem final10 (c : Dev nD) :
    (dats m 0 c).arrAt 10 cfg0.N = val_main_v54 (F := Ideal) (U m c) (Hr m c) (Hi m c) (B m c) (Ar m c) (Ai m c) :=
  (dats m 0 c).arrAt_eq_of_cover 10 _ (fun t hf => by
    rw [Kernel4Ideal.Value.flushed10, out10_eq]
    obtain ⟨-, -, -, -, -, -, -, -, -, -, ⟨e0, e1⟩⟩ := idx_facts t
    funext y
    have hy0 : (y 0).val < 32 := (y 0).isLt
    have hy1 : (y 1).val < 1024 := (y 1).isLt
    have hx : (cfg0.win 10).xinj (grid0.coords t) y = ix2 ⟨(y 0).val, hy0⟩ ⟨(y 1).val, hy1⟩ := by
      funext a; apply Fin.ext
      match a with
      | ⟨0, _⟩ => rfl
      | ⟨1, _⟩ => rfl
    have hb : (tile t).val * 1024 + (y 1).val < 16384 := by have := lt16 t; show t.val * 1024 + (y 1).val < 16384; omega
    have he : ((cfg0.win 10).blk t).view.emb y = ix2 ⟨(y 0).val, hy0⟩ ⟨(tile t).val * 1024 + (y 1).val, hb⟩ := by
      funext a; apply Fin.ext
      match a with
      | ⟨0, _⟩ => show win0_10.index t (0 : Fin 2) * 32 + 1 * (y 0).val = (y 0).val; rw [e0]; omega
      | ⟨1, _⟩ => show win0_10.index t (1 : Fin 2) * 1024 + 1 * (y 1).val = t.val * 1024 + (y 1).val; rw [e1]; omega
    show k0_pay6 (F := Ideal) (iblk m c 0 t) (iblk m c 3 t) (iblk m c 5 t) (iblk m c 6 t) (iblk m c 1 t) (iblk m c 2 t) ((cfg0.win 10).xinj (grid0.coords t) y)
      = val_main_v54 (F := Ideal) (U m c) (Hr m c) (Hi m c) (B m c) (Ar m c) (Ai m c) (((cfg0.win 10).blk t).view.emb y)
    rw [hx, he]
    exact (point10 m c t _ _).trans (ref54_apply (U m c) (Hr m c) (Hi m c) (B m c) (Ar m c) (Ai m c) ⟨(y 0).val, hy0⟩ (tile t) ⟨(y 1).val, hy1⟩ hb).symm) (fun i => by
      have h0 : (i 0).val < 32 := (i 0).isLt
      have h1 : (i 1).val < 16384 := (i 1).isLt
      let t : Fin cfg0.N := ⟨(i 1).val / 1024, lt_of_lt_of_eq (by omega) N_0.symm⟩
      have ht : t.val = (i 1).val / 1024 := rfl
      refine ⟨t, (flushes t).2.2, ?_⟩
      obtain ⟨-, -, -, -, -, -, -, -, -, -, ⟨e0, e1⟩⟩ := idx_facts t
      show i ∈ ((View.whole main_v0_2).slice (win0_10.rect t)).set
      rw [View.set_slice_whole, Rect.mem_set_unit]
      intro a
      match a with
      | ⟨0, _⟩ =>
        show win0_10.index t (0 : Fin 2) * 32 ≤ (i 0).val ∧ (i 0).val < win0_10.index t (0 : Fin 2) * 32 + 32
        rw [e0]; omega
      | ⟨1, _⟩ =>
        show win0_10.index t (1 : Fin 2) * 1024 ≤ (i 1).val ∧ (i 1).val < win0_10.index t (1 : Fin 2) * 1024 + 1024
        rw [e1]; omega)

open Cert.Reference4Ideal.Read in
/-- THE VALUE CLAIM: on the same arguments both programs end with the same three results. -/
theorem algebraic : Cert.algebraic_Kernel4Ideal_Reference4Ideal := by
  intro m g m' g' _ hagree
  refine ⟨fun c => val_main_v52 (F := Ideal) (U m c) (Hr m c) (Hi m c) (B m c) (C m c) (Ar m c) (Ai m c) (D m c), fun c => val_main_v53 (F := Ideal) (U m c) (Hr m c) (Hi m c) (B m c) (Ar m c) (Ai m c), fun c => val_main_v54 (F := Ideal) (U m c) (Hr m c) (Hi m c) (B m c) (Ar m c) (Ai m c), ?_, ?_⟩
  · refine θ_run_mono (Kernel4Ideal.Value.run_blocks m g) fun r h c => ?_
    obtain ⟨h8, h9, h10, k⟩ := h c
    exact ⟨h8.trans (final8 m c), h9.trans (final9 m c), h10.trans (final10 m c), k⟩
  · refine θ_run_mono (Reference4Ideal.Value.run m' g') fun r h c => ?_
    obtain ⟨h8, h9, h10, k⟩ := h c
    obtain ⟨a0, a1, a2, a3, a4, a5, a6, a7⟩ := hagree c
    refine ⟨h8.trans ((val_main_v52_eq m' c).trans ?_), h9.trans ((val_main_v53_eq _ _ _ _ _ _).trans ?_), h10.trans ((val_main_v54_eq _ _ _ _ _ _).trans ?_), k⟩
    · rw [a0, a1, a2, a3, a4, a5, a6, a7]
    · rw [a0, a1, a2, a3, a5, a6]
    · rw [a0, a1, a2, a3, a5, a6]

end Cert.SsmSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.SampleCore
public import proofs.«01_k».proof.Proof.FfnDownSide
public import proofs.«01_k».proof.Proof.FfnGuCast
public import proofs.«01_k».proof.Proof.EvenIn
public import proofs.«01_k».proof.Proof.MixOut
public import proofs.«01_k».proof.Proof.OddIn
public import proofs.«01_k».proof.Proof.OddGate
public import proofs.«01_k».proof.Proof.RmsNorm
public import proofs.«01_k».proof.Proof.MergeNorm
public import proofs.«01_k».proof.Proof.SsmPrep
public import proofs.«01_k».proof.Proof.SsmLayout
public import proofs.«01_k».proof.Proof.FfnGu
public import proofs.«01_k».proof.Proof.FfnDown
public import proofs.«01_k».proof.Proof.SsmSample
public import Idealize.ShloMosaic.Adequacy
public import Idealize.ShloMosaic.Init

@[expose] public section

noncomputable section

namespace Cert.Proof

open Idealize.ShloMosaic Idealize.SL.Sem

/-- The attention core's reference terminates, keeps its arguments and leaves every semaphore at zero. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

/-- The same of the gate-and-up projection's reference. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- The same of the down projection's reference. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The same of the state-space step's reference. -/
theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

/-- The same of the reference of the down projection in front of another feed-forward. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

/-- The same of the reference of the gate-and-up projection behind another feed-forward. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The same of the reference of the even layer's input projection. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The same of the reference of the output projection. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The same of the reference of the odd layer's input projection. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The same of the reference of the odd layer's gate. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- The same of the reference of the norm in front of a projection. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- The same of the reference of the first norm. -/
theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run m ρ)

/-- The same of the reference of the state-space step's discretisation. -/
theorem frame_reference13 : Cert.quiescent_Reference13Ideal := fun m ρ _ =>
  (θ_run Cert.Reference13Ideal.defs _ _).mono (fun r h => ⟨fun c => (h c).2.2.2.2.2.2, sem_eq_zero_of_no_sems (by decide) r.2⟩)
    (Cert.Reference13Ideal.Value.run m ρ)

/-- The same of the reference of the state-space step's layout. -/
theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run m ρ)

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    trivial, Cert.SampleCore.algebraic, trivial, Cert.FfnGu.algebraic, trivial, Cert.FfnDown.algebraic, trivial, Cert.SsmSample.algebraic,
    trivial, Cert.FfnDownSide.algebraic, trivial, Cert.FfnGuCast.algebraic, trivial, Cert.EvenIn.algebraic, trivial, Cert.MixOut.algebraic, trivial, Cert.OddIn.algebraic, trivial, Cert.OddGate.algebraic,
    trivial, Cert.RmsNorm.algebraic, trivial, Cert.MergeNorm.algebraic, trivial, Cert.SsmPrep.algebraic, trivial, Cert.SsmLayout.algebraic⟩

end Cert.Proof

end
